-- ==== Defs.lean ====
def Pre_Kernel [hPre_ranges : Cert.Pre_ranges.Facts] (m : (ℓ : Loc Cert.Kernel.nD Cert.Kernel.τ Cert.Kernel.sig) → Buf (Elt Bits) ℓ) : Prop :=
  ∀ c : Dev Cert.Kernel.nD,
    (Cert.Pre_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_ReferenceBIdeal (m : (ℓ : Loc Cert.ReferenceBIdeal.nD Cert.ReferenceBIdeal.τ Cert.ReferenceBIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelM [hPre_places : Cert.Pre_places.Facts] (m : (ℓ : Loc Cert.KernelM.nD Cert.KernelM.τ Cert.KernelM.sig) → Buf (Elt Bits) ℓ) : Prop :=
  ∀ c : Dev Cert.KernelM.nD,
    (Cert.Pre_places.fn (F := Bits) (m ((c.tc : Thread Cert.KernelM.nD Cert.KernelM.τ).loc Cert.KernelM.main_arg0)) (m ((c.tc : Thread Cert.KernelM.nD Cert.KernelM.τ).loc Cert.KernelM.main_arg1)) (m ((c.tc : Thread Cert.KernelM.nD Cert.KernelM.τ).loc Cert.KernelM.main_arg2)) (m ((c.tc : Thread Cert.KernelM.nD Cert.KernelM.τ).loc Cert.KernelM.main_arg3)) (m ((c.tc : Thread Cert.KernelM.nD Cert.KernelM.τ).loc Cert.KernelM.main_arg4)) (m ((c.tc : Thread Cert.KernelM.nD Cert.KernelM.τ).loc Cert.KernelM.main_arg5))) = (fun _ => 1#1)

def Pre_KernelMIdeal [hPre_places : Cert.Pre_places.Facts] (m : (ℓ : Loc Cert.KernelMIdeal.nD Cert.KernelMIdeal.τ Cert.KernelMIdeal.sig) → Buf (Elt Ideal) ℓ) : Prop :=
  ∀ c : Dev Cert.KernelMIdeal.nD,
    (Cert.Pre_places.fn (F := Ideal) (m ((c.tc : Thread Cert.KernelMIdeal.nD Cert.KernelMIdeal.τ).loc Cert.KernelMIdeal.main_arg0)) (m ((c.tc : Thread Cert.KernelMIdeal.nD Cert.KernelMIdeal.τ).loc Cert.KernelMIdeal.main_arg1)) (m ((c.tc : Thread Cert.KernelMIdeal.nD Cert.KernelMIdeal.τ).loc Cert.KernelMIdeal.main_arg2)) (m ((c.tc : Thread Cert.KernelMIdeal.nD Cert.KernelMIdeal.τ).loc Cert.KernelMIdeal.main_arg3)) (m ((c.tc : Thread Cert.KernelMIdeal.nD Cert.KernelMIdeal.τ).loc Cert.KernelMIdeal.main_arg4)) (m ((c.tc : Thread Cert.KernelMIdeal.nD Cert.KernelMIdeal.τ).loc Cert.KernelMIdeal.main_arg5))) = (fun _ => 1#1)

def Pre_ReferenceMIdeal (m : (ℓ : Loc Cert.ReferenceMIdeal.nD Cert.ReferenceMIdeal.τ Cert.ReferenceMIdeal.sig) → Buf (Elt Ideal) ℓ) : Prop :=
  True

def Pre_ReferenceMIdeal_places [hPre_places : Cert.Pre_places.Facts] (m : (ℓ : Loc Cert.ReferenceMIdeal.nD Cert.ReferenceMIdeal.τ Cert.ReferenceMIdeal.sig) → Buf (Elt Ideal) ℓ) : Prop :=
  ∀ c : Dev Cert.ReferenceMIdeal.nD,
    (Cert.Pre_places.fn (F := Ideal) (m ((c.tc : Thread Cert.ReferenceMIdeal.nD Cert.ReferenceMIdeal.τ).loc Cert.ReferenceMIdeal.main_arg0)) (m ((c.tc : Thread Cert.ReferenceMIdeal.nD Cert.ReferenceMIdeal.τ).loc Cert.ReferenceMIdeal.main_arg1)) (m ((c.tc : Thread Cert.ReferenceMIdeal.nD Cert.ReferenceMIdeal.τ).loc Cert.ReferenceMIdeal.main_arg2)) (m ((c.tc : Thread Cert.ReferenceMIdeal.nD Cert.ReferenceMIdeal.τ).loc Cert.ReferenceMIdeal.main_arg3)) (m ((c.tc : Thread Cert.ReferenceMIdeal.nD Cert.ReferenceMIdeal.τ).loc Cert.ReferenceMIdeal.main_arg4)) (m ((c.tc : Thread Cert.ReferenceMIdeal.nD Cert.ReferenceMIdeal.τ).loc Cert.ReferenceMIdeal.main_arg5))) = (fun _ => 1#1)

def Pre_KernelN (m : (ℓ : Loc Cert.KernelN.nD Cert.KernelN.τ Cert.KernelN.sig) → Buf (Elt Bits) ℓ) : Prop :=
  True

def Pre_KernelNIdeal (m : (ℓ : Loc Cert.KernelNIdeal.nD Cert.KernelNIdeal.τ Cert.KernelNIdeal.sig) → Buf (Elt Ideal) ℓ) : Prop :=
  True

def Pre_ReferenceNIdeal (m : (ℓ : Loc Cert.ReferenceNIdeal.nD Cert.ReferenceNIdeal.τ Cert.ReferenceNIdeal.sig) → Buf (Elt Ideal) ℓ) : Prop :=
  True

def Pre_KernelR (m : (ℓ : Loc Cert.KernelR.nD Cert.KernelR.τ Cert.KernelR.sig) → Buf (Elt Bits) ℓ) : Prop :=
  True

def Pre_KernelRIdeal (m : (ℓ : Loc Cert.KernelRIdeal.nD Cert.KernelRIdeal.τ Cert.KernelRIdeal.sig) → Buf (Elt Ideal) ℓ) : Prop :=
  True

def Pre_KernelRIdeal_finite [hPre_finite : Cert.Pre_finite.Facts] (m : (ℓ : Loc Cert.KernelRIdeal.nD Cert.KernelRIdeal.τ Cert.KernelRIdeal.sig) → Buf (Elt Ideal) ℓ) : Prop :=
  ∀ c : Dev Cert.KernelRIdeal.nD,
    (Cert.Pre_finite.fn (F := Ideal) (m ((c.tc : Thread Cert.KernelRIdeal.nD Cert.KernelRIdeal.τ).loc Cert.KernelRIdeal.main_arg0)) (m ((c.tc : Thread Cert.KernelRIdeal.nD Cert.KernelRIdeal.τ).loc Cert.KernelRIdeal.main_arg1)) (m ((c.tc : Thread Cert.KernelRIdeal.nD Cert.KernelRIdeal.τ).loc Cert.KernelRIdeal.main_arg2))) = (fun _ => 1#1)

def Pre_ReferenceRIdeal (m : (ℓ : Loc Cert.ReferenceRIdeal.nD Cert.ReferenceRIdeal.τ Cert.ReferenceRIdeal.sig) → Buf (Elt Ideal) ℓ) : Prop :=
  True

def Pre_ReferenceRIdeal_finite [hPre_finite : Cert.Pre_finite.Facts] (m : (ℓ : Loc Cert.ReferenceRIdeal.nD Cert.ReferenceRIdeal.τ Cert.ReferenceRIdeal.sig) → Buf (Elt Ideal) ℓ) : Prop :=
  ∀ c : Dev Cert.ReferenceRIdeal.nD,
    (Cert.Pre_finite.fn (F := Ideal) (m ((c.tc : Thread Cert.ReferenceRIdeal.nD Cert.ReferenceRIdeal.τ).loc Cert.ReferenceRIdeal.main_arg0)) (m ((c.tc : Thread Cert.ReferenceRIdeal.nD Cert.ReferenceRIdeal.τ).loc Cert.ReferenceRIdeal.main_arg1)) (m ((c.tc : Thread Cert.ReferenceRIdeal.nD Cert.ReferenceRIdeal.τ).loc Cert.ReferenceRIdeal.main_arg2))) = (fun _ => 1#1)

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_ReferenceFIdeal (m : (ℓ : Loc Cert.ReferenceFIdeal.nD Cert.ReferenceFIdeal.τ Cert.ReferenceFIdeal.sig) → Buf (Elt Ideal) ℓ) : Prop :=
  True

def quiescent_Kernel [hKernel : Cert.Kernel.Facts] [hPre_ranges : Cert.Pre_ranges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ranges [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4)
      ∧ r.2.mem ((c.tc : Thread Cert.KernelO.nD Cert.KernelO.τ).loc Cert.KernelO.main_arg5) = m ((c.tc : Thread Cert.KernelO.nD Cert.KernelO.τ).loc Cert.KernelO.main_arg5)
      ∧ r.2.mem ((c.tc : Thread Cert.KernelO.nD Cert.KernelO.τ).loc Cert.KernelO.main_arg6) = m ((c.tc : Thread Cert.KernelO.nD Cert.KernelO.τ).loc Cert.KernelO.main_arg6)
      ∧ r.2.mem ((c.tc : Thread Cert.KernelO.nD Cert.KernelO.τ).loc Cert.KernelO.main_arg7) = m ((c.tc : Thread Cert.KernelO.nD Cert.KernelO.τ).loc Cert.KernelO.main_arg7)
      ∧ r.2.mem ((c.tc : Thread Cert.KernelO.nD Cert.KernelO.τ).loc Cert.KernelO.main_arg8) = m ((c.tc : Thread Cert.KernelO.nD Cert.KernelO.τ).loc Cert.KernelO.main_arg8)
      ∧ r.2.mem ((c.tc : Thread Cert.KernelO.nD Cert.KernelO.τ).loc Cert.KernelO.main_arg9) = m ((c.tc : Thread Cert.KernelO.nD Cert.KernelO.τ).loc Cert.KernelO.main_arg9))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
      ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5)
      ∧ r.2.mem ((c.tc : Thread Cert.KernelOIdeal.nD Cert.KernelOIdeal.τ).loc Cert.KernelOIdeal.main_arg6) = m ((c.tc : Thread Cert.KernelOIdeal.nD Cert.KernelOIdeal.τ).loc Cert.KernelOIdeal.main_arg6)
      ∧ r.2.mem ((c.tc : Thread Cert.KernelOIdeal.nD Cert.KernelOIdeal.τ).loc Cert.KernelOIdeal.main_arg7) = m ((c.tc : Thread Cert.KernelOIdeal.nD Cert.KernelOIdeal.τ).loc Cert.KernelOIdeal.main_arg7)
      ∧ r.2.mem ((c.tc : Thread Cert.KernelOIdeal.nD Cert.KernelOIdeal.τ).loc Cert.KernelOIdeal.main_arg8) = m ((c.tc : Thread Cert.KernelOIdeal.nD Cert.KernelOIdeal.τ).loc Cert.KernelOIdeal.main_arg8)
      ∧ r.2.mem ((c.tc : Thread Cert.KernelOIdeal.nD Cert.KernelOIdeal.τ).loc Cert.KernelOIdeal.main_arg9) = m ((c.tc : Thread Cert.KernelOIdeal.nD Cert.KernelOIdeal.τ).loc Cert.KernelOIdeal.main_arg9))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4)
      ∧ r.2.mem ((c.tc : Thread Cert.ReferenceOIdeal.nD Cert.ReferenceOIdeal.τ).loc Cert.ReferenceOIdeal.main_arg5) = m ((c.tc : Thread Cert.ReferenceOIdeal.nD Cert.ReferenceOIdeal.τ).loc Cert.ReferenceOIdeal.main_arg5)
      ∧ r.2.mem ((c.tc : Thread Cert.ReferenceOIdeal.nD Cert.ReferenceOIdeal.τ).loc Cert.ReferenceOIdeal.main_arg6) = m ((c.tc : Thread Cert.ReferenceOIdeal.nD Cert.ReferenceOIdeal.τ).loc Cert.ReferenceOIdeal.main_arg6)
      ∧ r.2.mem ((c.tc : Thread Cert.ReferenceOIdeal.nD Cert.ReferenceOIdeal.τ).loc Cert.ReferenceOIdeal.main_arg7) = m ((c.tc : Thread Cert.ReferenceOIdeal.nD Cert.ReferenceOIdeal.τ).loc Cert.ReferenceOIdeal.main_arg7)
      ∧ r.2.mem ((c.tc : Thread Cert.ReferenceOIdeal.nD Cert.ReferenceOIdeal.τ).loc Cert.ReferenceOIdeal.main_arg8) = m ((c.tc : Thread Cert.ReferenceOIdeal.nD Cert.ReferenceOIdeal.τ).loc Cert.ReferenceOIdeal.main_arg8)
      ∧ r.2.mem ((c.tc : Thread Cert.ReferenceOIdeal.nD Cert.ReferenceOIdeal.τ).loc Cert.ReferenceOIdeal.main_arg9) = m ((c.tc : Thread Cert.ReferenceOIdeal.nD Cert.ReferenceOIdeal.τ).loc Cert.ReferenceOIdeal.main_arg9))
      ∧ r.2.sem = fun _ => 0)

def quiescent_KernelM [hKernelM : Cert.KernelM.Facts] [hPre_places : Cert.Pre_places.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2)
      ∧ r.2.mem ((c.tc : Thread Cert.KernelM.nD Cert.KernelM.τ).loc Cert.KernelM.main_arg3) = m ((c.tc : Thread Cert.KernelM.nD Cert.KernelM.τ).loc Cert.KernelM.main_arg3)
      ∧ r.2.mem ((c.tc : Thread Cert.KernelM.nD Cert.KernelM.τ).loc Cert.KernelM.main_arg4) = m ((c.tc : Thread Cert.KernelM.nD Cert.KernelM.τ).loc Cert.KernelM.main_arg4)
      ∧ r.2.mem ((c.tc : Thread Cert.KernelM.nD Cert.KernelM.τ).loc Cert.KernelM.main_arg5) = m ((c.tc : Thread Cert.KernelM.nD Cert.KernelM.τ).loc Cert.KernelM.main_arg5))
      ∧ r.2.sem = fun _ => 0)

def quiescent_KernelMIdeal [hKernelMIdeal : Cert.KernelMIdeal.Facts] [hPre_places : Cert.Pre_places.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
      ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
      ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
      ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4)
      ∧ r.2.mem ((c.tc : Thread Cert.ReferenceMIdeal.nD Cert.ReferenceMIdeal.τ).loc Cert.ReferenceMIdeal.main_arg5) = m ((c.tc : Thread Cert.ReferenceMIdeal.nD Cert.ReferenceMIdeal.τ).loc Cert.ReferenceMIdeal.main_arg5))
      ∧ r.2.sem = fun _ => 0)

def quiescent_ReferenceMIdeal_pre_places [hReferenceMIdeal : Cert.ReferenceMIdeal.Facts] [hPre_places : Cert.Pre_places.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal_places m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4)
      ∧ r.2.mem ((c.tc : Thread Cert.ReferenceMIdeal.nD Cert.ReferenceMIdeal.τ).loc Cert.ReferenceMIdeal.main_arg5) = m ((c.tc : Thread Cert.ReferenceMIdeal.nD Cert.ReferenceMIdeal.τ).loc Cert.ReferenceMIdeal.main_arg5))
      ∧ r.2.sem = fun _ => 0)

def quiescent_KernelN [hKernelN : Cert.KernelN.Facts] : Prop :=
  ∀ (m : (ℓ : Loc Cert.KernelN.nD Cert.KernelN.τ Cert.KernelN.sig) → Buf (Elt Bits) ℓ) (g : Dev Cert.KernelN.nD → PrngReg), Pre_KernelN m →
    θ_run (Cert.KernelN.defs (F := Bits)) (onTc (τ := Cert.KernelN.τ) (Cert.KernelN.main (F := Bits))) ⟨m, fun _ => 0, g⟩ (fun r => (∀ c : Dev Cert.KernelN.nD,
      r.2.mem ((c.tc : Thread Cert.KernelN.nD Cert.KernelN.τ).loc Cert.KernelN.main_arg0) = m ((c.tc : Thread Cert.KernelN.nD Cert.KernelN.τ).loc Cert.KernelN.main_arg0)
      ∧ r.2.mem ((c.tc : Thread Cert.KernelN.nD Cert.KernelN.τ).loc Cert.KernelN.main_arg1) = m ((c.tc : Thread Cert.KernelN.nD Cert.KernelN.τ).loc Cert.KernelN.main_arg1)
      ∧ r.2.mem ((c.tc : Thread Cert.KernelN.nD Cert.KernelN.τ).loc Cert.KernelN.main_arg2) = m ((c.tc : Thread Cert.KernelN.nD Cert.KernelN.τ).loc Cert.KernelN.main_arg2)
      ∧ r.2.mem ((c.tc : Thread Cert.KernelN.nD Cert.KernelN.τ).loc Cert.KernelN.main_arg3) = m ((c.tc : Thread Cert.KernelN.nD Cert.KernelN.τ).loc Cert.KernelN.main_arg3))
      ∧ r.2.sem = fun _ => 0)

def quiescent_KernelNIdeal [hKernelNIdeal : Cert.KernelNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg), Pre_KernelNIdeal m →
    θ_run (Cert.KernelNIdeal.defs (F := Ideal)) (onTc (τ := Cert.KernelNIdeal.τ) (Cert.KernelNIdeal.main (F := Ideal))) ⟨m, fun _ => 0, g⟩ (fun r => (∀ c : Dev Cert.KernelNIdeal.nD,
      r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
      ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
      ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
      ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3))
      ∧ r.2.sem = fun _ => 0)

def quiescent_ReferenceNIdeal [hReferenceNIdeal : Cert.ReferenceNIdeal.Facts] : Prop :=
  ∀ (m : (ℓ : Loc Cert.ReferenceNIdeal.nD Cert.ReferenceNIdeal.τ Cert.ReferenceNIdeal.sig) → Buf (Elt Ideal) ℓ) (g : Dev Cert.ReferenceNIdeal.nD → PrngReg), Pre_ReferenceNIdeal m →
    θ_run (Cert.ReferenceNIdeal.defs (F := Ideal)) (onTc (τ := Cert.ReferenceNIdeal.τ) (Cert.ReferenceNIdeal.main (F := Ideal))) ⟨m, fun _ => 0, g⟩ (fun r => (∀ c : Dev Cert.ReferenceNIdeal.nD,
      r.2.mem ((c.tc : Thread Cert.ReferenceNIdeal.nD Cert.ReferenceNIdeal.τ).loc Cert.ReferenceNIdeal.main_arg0) = m ((c.tc : Thread Cert.ReferenceNIdeal.nD Cert.ReferenceNIdeal.τ).loc Cert.ReferenceNIdeal.main_arg0)
      ∧ r.2.mem ((c.tc : Thread Cert.ReferenceNIdeal.nD Cert.ReferenceNIdeal.τ).loc Cert.ReferenceNIdeal.main_arg1) = m ((c.tc : Thread Cert.ReferenceNIdeal.nD Cert.ReferenceNIdeal.τ).loc Cert.ReferenceNIdeal.main_arg1)
      ∧ r.2.mem ((c.tc : Thread Cert.ReferenceNIdeal.nD Cert.ReferenceNIdeal.τ).loc Cert.ReferenceNIdeal.main_arg2) = m ((c.tc : Thread Cert.ReferenceNIdeal.nD Cert.ReferenceNIdeal.τ).loc Cert.ReferenceNIdeal.main_arg2)
      ∧ r.2.mem ((c.tc : Thread Cert.ReferenceNIdeal.nD Cert.ReferenceNIdeal.τ).loc Cert.ReferenceNIdeal.main_arg3) = m ((c.tc : Thread Cert.ReferenceNIdeal.nD Cert.ReferenceNIdeal.τ).loc Cert.ReferenceNIdeal.main_arg3))
      ∧ r.2.sem = fun _ => 0)

def quiescent_KernelR [hKernelR : Cert.KernelR.Facts] : Prop :=
  ∀ (m : (ℓ : Loc Cert.KernelR.nD Cert.KernelR.τ Cert.KernelR.sig) → Buf (Elt Bits) ℓ) (g : Dev Cert.KernelR.nD → PrngReg), Pre_KernelR m →
    θ_run (Cert.KernelR.defs (F := Bits)) (onTc (τ := Cert.KernelR.τ) (Cert.KernelR.main (F := Bits))) ⟨m, fun _ => 0, g⟩ (fun r => (∀ c : Dev Cert.KernelR.nD,
      r.2.mem ((c.tc : Thread Cert.KernelR.nD Cert.KernelR.τ).loc Cert.KernelR.main_arg0) = m ((c.tc : Thread Cert.KernelR.nD Cert.KernelR.τ).loc Cert.KernelR.main_arg0)
      ∧ r.2.mem ((c.tc : Thread Cert.KernelR.nD Cert.KernelR.τ).loc Cert.KernelR.main_arg1) = m ((c.tc : Thread Cert.KernelR.nD Cert.KernelR.τ).loc Cert.KernelR.main_arg1)
      ∧ r.2.mem ((c.tc : Thread Cert.KernelR.nD Cert.KernelR.τ).loc Cert.KernelR.main_arg2) = m ((c.tc : Thread Cert.KernelR.nD Cert.KernelR.τ).loc Cert.KernelR.main_arg2))
      ∧ r.2.sem = fun _ => 0)

def quiescent_KernelRIdeal [hKernelRIdeal : Cert.KernelRIdeal.Facts] : Prop :=
  ∀ (m : (ℓ : Loc Cert.KernelRIdeal.nD Cert.KernelRIdeal.τ Cert.KernelRIdeal.sig) → Buf (Elt Ideal) ℓ) (g : Dev Cert.KernelRIdeal.nD → PrngReg), Pre_KernelRIdeal m →
    θ_run (Cert.KernelRIdeal.defs (F := Ideal)) (onTc (τ := Cert.KernelRIdeal.τ) (Cert.KernelRIdeal.main (F := Ideal))) ⟨m, fun _ => 0, g⟩ (fun r => (∀ c : Dev Cert.KernelRIdeal.nD,
      r.2.mem ((c.tc : Thread Cert.KernelRIdeal.nD Cert.KernelRIdeal.τ).loc Cert.KernelRIdeal.main_arg0) = m ((c.tc : Thread Cert.KernelRIdeal.nD Cert.KernelRIdeal.τ).loc Cert.KernelRIdeal.main_arg0)
      ∧ r.2.mem ((c.tc : Thread Cert.KernelRIdeal.nD Cert.KernelRIdeal.τ).loc Cert.KernelRIdeal.main_arg1) = m ((c.tc : Thread Cert.KernelRIdeal.nD Cert.KernelRIdeal.τ).loc Cert.KernelRIdeal.main_arg1)
      ∧ r.2.mem ((c.tc : Thread Cert.KernelRIdeal.nD Cert.KernelRIdeal.τ).loc Cert.KernelRIdeal.main_arg2) = m ((c.tc : Thread Cert.KernelRIdeal.nD Cert.KernelRIdeal.τ).loc Cert.KernelRIdeal.main_arg2))
      ∧ r.2.sem = fun _ => 0)

def quiescent_KernelRIdeal_pre_finite [hKernelRIdeal : Cert.KernelRIdeal.Facts] [hPre_finite : Cert.Pre_finite.Facts] : Prop :=
  ∀ (m : (ℓ : Loc Cert.KernelRIdeal.nD Cert.KernelRIdeal.τ Cert.KernelRIdeal.sig) → Buf (Elt Ideal) ℓ) (g : Dev Cert.KernelRIdeal.nD → PrngReg), Pre_KernelRIdeal_finite m →
    θ_run (Cert.KernelRIdeal.defs (F := Ideal)) (onTc (τ := Cert.KernelRIdeal.τ) (Cert.KernelRIdeal.main (F := Ideal))) ⟨m, fun _ => 0, g⟩ (fun r => (∀ c : Dev Cert.KernelRIdeal.nD,
      r.2.mem ((c.tc : Thread Cert.KernelRIdeal.nD Cert.KernelRIdeal.τ).loc Cert.KernelRIdeal.main_arg0) = m ((c.tc : Thread Cert.KernelRIdeal.nD Cert.KernelRIdeal.τ).loc Cert.KernelRIdeal.main_arg0)
      ∧ r.2.mem ((c.tc : Thread Cert.KernelRIdeal.nD Cert.KernelRIdeal.τ).loc Cert.KernelRIdeal.main_arg1) = m ((c.tc : Thread Cert.KernelRIdeal.nD Cert.KernelRIdeal.τ).loc Cert.KernelRIdeal.main_arg1)
      ∧ r.2.mem ((c.tc : Thread Cert.KernelRIdeal.nD Cert.KernelRIdeal.τ).loc Cert.KernelRIdeal.main_arg2) = m ((c.tc : Thread Cert.KernelRIdeal.nD Cert.KernelRIdeal.τ).loc Cert.KernelRIdeal.main_arg2))
      ∧ r.2.sem = fun _ => 0)

def quiescent_ReferenceRIdeal [hReferenceRIdeal : Cert.ReferenceRIdeal.Facts] : Prop :=
  ∀ (m : (ℓ : Loc Cert.ReferenceRIdeal.nD Cert.ReferenceRIdeal.τ Cert.ReferenceRIdeal.sig) → Buf (Elt Ideal) ℓ) (g : Dev Cert.ReferenceRIdeal.nD → PrngReg), Pre_ReferenceRIdeal m →
    θ_run (Cert.ReferenceRIdeal.defs (F := Ideal)) (onTc (τ := Cert.ReferenceRIdeal.τ) (Cert.ReferenceRIdeal.main (F := Ideal))) ⟨m, fun _ => 0, g⟩ (fun r => (∀ c : Dev Cert.ReferenceRIdeal.nD,
      r.2.mem ((c.tc : Thread Cert.ReferenceRIdeal.nD Cert.ReferenceRIdeal.τ).loc Cert.ReferenceRIdeal.main_arg0) = m ((c.tc : Thread Cert.ReferenceRIdeal.nD Cert.ReferenceRIdeal.τ).loc Cert.ReferenceRIdeal.main_arg0)
      ∧ r.2.mem ((c.tc : Thread Cert.ReferenceRIdeal.nD Cert.ReferenceRIdeal.τ).loc Cert.ReferenceRIdeal.main_arg1) = m ((c.tc : Thread Cert.ReferenceRIdeal.nD Cert.ReferenceRIdeal.τ).loc Cert.ReferenceRIdeal.main_arg1)
      ∧ r.2.mem ((c.tc : Thread Cert.ReferenceRIdeal.nD Cert.ReferenceRIdeal.τ).loc Cert.ReferenceRIdeal.main_arg2) = m ((c.tc : Thread Cert.ReferenceRIdeal.nD Cert.ReferenceRIdeal.τ).loc Cert.ReferenceRIdeal.main_arg2))
      ∧ r.2.sem = fun _ => 0)

def quiescent_ReferenceRIdeal_pre_finite [hReferenceRIdeal : Cert.ReferenceRIdeal.Facts] [hPre_finite : Cert.Pre_finite.Facts] : Prop :=
  ∀ (m : (ℓ : Loc Cert.ReferenceRIdeal.nD Cert.ReferenceRIdeal.τ Cert.ReferenceRIdeal.sig) → Buf (Elt Ideal) ℓ) (g : Dev Cert.ReferenceRIdeal.nD → PrngReg), Pre_ReferenceRIdeal_finite m →
    θ_run (Cert.ReferenceRIdeal.defs (F := Ideal)) (onTc (τ := Cert.ReferenceRIdeal.τ) (Cert.ReferenceRIdeal.main (F := Ideal))) ⟨m, fun _ => 0, g⟩ (fun r => (∀ c : Dev Cert.ReferenceRIdeal.nD,
      r.2.mem ((c.tc : Thread Cert.ReferenceRIdeal.nD Cert.ReferenceRIdeal.τ).loc Cert.ReferenceRIdeal.main_arg0) = m ((c.tc : Thread Cert.ReferenceRIdeal.nD Cert.ReferenceRIdeal.τ).loc Cert.ReferenceRIdeal.main_arg0)
      ∧ r.2.mem ((c.tc : Thread Cert.ReferenceRIdeal.nD Cert.ReferenceRIdeal.τ).loc Cert.ReferenceRIdeal.main_arg1) = m ((c.tc : Thread Cert.ReferenceRIdeal.nD Cert.ReferenceRIdeal.τ).loc Cert.ReferenceRIdeal.main_arg1)
      ∧ r.2.mem ((c.tc : Thread Cert.ReferenceRIdeal.nD Cert.ReferenceRIdeal.τ).loc Cert.ReferenceRIdeal.main_arg2) = m ((c.tc : Thread Cert.ReferenceRIdeal.nD Cert.ReferenceRIdeal.τ).loc Cert.ReferenceRIdeal.main_arg2))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2)
      ∧ r.2.mem ((c.tc : Thread Cert.KernelF.nD Cert.KernelF.τ).loc Cert.KernelF.main_arg3) = m ((c.tc : Thread Cert.KernelF.nD Cert.KernelF.τ).loc Cert.KernelF.main_arg3)
      ∧ r.2.mem ((c.tc : Thread Cert.KernelF.nD Cert.KernelF.τ).loc Cert.KernelF.main_arg4) = m ((c.tc : Thread Cert.KernelF.nD Cert.KernelF.τ).loc Cert.KernelF.main_arg4)
      ∧ r.2.mem ((c.tc : Thread Cert.KernelF.nD Cert.KernelF.τ).loc Cert.KernelF.main_arg5) = m ((c.tc : Thread Cert.KernelF.nD Cert.KernelF.τ).loc Cert.KernelF.main_arg5)
      ∧ r.2.mem ((c.tc : Thread Cert.KernelF.nD Cert.KernelF.τ).loc Cert.KernelF.main_arg6) = m ((c.tc : Thread Cert.KernelF.nD Cert.KernelF.τ).loc Cert.KernelF.main_arg6)
      ∧ r.2.mem ((c.tc : Thread Cert.KernelF.nD Cert.KernelF.τ).loc Cert.KernelF.main_arg7) = m ((c.tc : Thread Cert.KernelF.nD Cert.KernelF.τ).loc Cert.KernelF.main_arg7))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
      ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
      ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5)
      ∧ r.2.mem ((c.tc : Thread Cert.KernelFIdeal.nD Cert.KernelFIdeal.τ).loc Cert.KernelFIdeal.main_arg6) = m ((c.tc : Thread Cert.KernelFIdeal.nD Cert.KernelFIdeal.τ).loc Cert.KernelFIdeal.main_arg6)
      ∧ r.2.mem ((c.tc : Thread Cert.KernelFIdeal.nD Cert.KernelFIdeal.τ).loc Cert.KernelFIdeal.main_arg7) = m ((c.tc : Thread Cert.KernelFIdeal.nD Cert.KernelFIdeal.τ).loc Cert.KernelFIdeal.main_arg7))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3)
      ∧ r.2.mem ((c.tc : Thread Cert.ReferenceFIdeal.nD Cert.ReferenceFIdeal.τ).loc Cert.ReferenceFIdeal.main_arg4) = m ((c.tc : Thread Cert.ReferenceFIdeal.nD Cert.ReferenceFIdeal.τ).loc Cert.ReferenceFIdeal.main_arg4)
      ∧ r.2.mem ((c.tc : Thread Cert.ReferenceFIdeal.nD Cert.ReferenceFIdeal.τ).loc Cert.ReferenceFIdeal.main_arg5) = m ((c.tc : Thread Cert.ReferenceFIdeal.nD Cert.ReferenceFIdeal.τ).loc Cert.ReferenceFIdeal.main_arg5)
      ∧ r.2.mem ((c.tc : Thread Cert.ReferenceFIdeal.nD Cert.ReferenceFIdeal.τ).loc Cert.ReferenceFIdeal.main_arg6) = m ((c.tc : Thread Cert.ReferenceFIdeal.nD Cert.ReferenceFIdeal.τ).loc Cert.ReferenceFIdeal.main_arg6)
      ∧ r.2.mem ((c.tc : Thread Cert.ReferenceFIdeal.nD Cert.ReferenceFIdeal.τ).loc Cert.ReferenceFIdeal.main_arg7) = m ((c.tc : Thread Cert.ReferenceFIdeal.nD Cert.ReferenceFIdeal.τ).loc Cert.ReferenceFIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)) →
    ∃ (v0 : (c : Dev Cert.KernelAIdeal.nD) → Buf (Elt Ideal) ((c.tc : Thread Cert.KernelAIdeal.nD Cert.KernelAIdeal.τ).loc Cert.KernelAIdeal.main_v13)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v13) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v8) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2))

def preserves_KernelB_KernelBIdeal : Prop :=
  True

def algebraic_KernelBIdeal_ReferenceBIdeal [hKernelBIdeal : Cert.KernelBIdeal.Facts] [hReferenceBIdeal : Cert.ReferenceBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)) →
    ∃ (v0 : (c : Dev Cert.KernelBIdeal.nD) → Buf (Elt Ideal) ((c.tc : Thread Cert.KernelBIdeal.nD Cert.KernelBIdeal.τ).loc Cert.KernelBIdeal.main_v5)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v5) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v5) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)) →
    ∃ (v0 : (c : Dev Cert.KernelCIdeal.nD) → Buf (Elt Ideal) ((c.tc : Thread Cert.KernelCIdeal.nD Cert.KernelCIdeal.τ).loc Cert.KernelCIdeal.main_v5)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v5) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v4) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)
      ∧ m' ((c.tc : Thread Cert.ReferenceOIdeal.nD Cert.ReferenceOIdeal.τ).loc Cert.ReferenceOIdeal.main_arg5) = m ((c.tc : Thread Cert.KernelOIdeal.nD Cert.KernelOIdeal.τ).loc Cert.KernelOIdeal.main_arg5)
      ∧ m' ((c.tc : Thread Cert.ReferenceOIdeal.nD Cert.ReferenceOIdeal.τ).loc Cert.ReferenceOIdeal.main_arg6) = m ((c.tc : Thread Cert.KernelOIdeal.nD Cert.KernelOIdeal.τ).loc Cert.KernelOIdeal.main_arg6)
      ∧ m' ((c.tc : Thread Cert.ReferenceOIdeal.nD Cert.ReferenceOIdeal.τ).loc Cert.ReferenceOIdeal.main_arg7) = m ((c.tc : Thread Cert.KernelOIdeal.nD Cert.KernelOIdeal.τ).loc Cert.KernelOIdeal.main_arg7)
      ∧ m' ((c.tc : Thread Cert.ReferenceOIdeal.nD Cert.ReferenceOIdeal.τ).loc Cert.ReferenceOIdeal.main_arg8) = m ((c.tc : Thread Cert.KernelOIdeal.nD Cert.KernelOIdeal.τ).loc Cert.KernelOIdeal.main_arg8)
      ∧ m' ((c.tc : Thread Cert.ReferenceOIdeal.nD Cert.ReferenceOIdeal.τ).loc Cert.ReferenceOIdeal.main_arg9) = m ((c.tc : Thread Cert.KernelOIdeal.nD Cert.KernelOIdeal.τ).loc Cert.KernelOIdeal.main_arg9)) →
    ∃ (v0 : (c : Dev Cert.KernelOIdeal.nD) → Buf (Elt Ideal) ((c.tc : Thread Cert.KernelOIdeal.nD Cert.KernelOIdeal.τ).loc Cert.KernelOIdeal.main_v13_0)) (v1 : (c : Dev Cert.KernelOIdeal.nD) → Buf (Elt Ideal) ((c.tc : Thread Cert.KernelOIdeal.nD Cert.KernelOIdeal.τ).loc Cert.KernelOIdeal.main_v13_1)) (v2 : (c : Dev Cert.KernelOIdeal.nD) → Buf (Elt Ideal) ((c.tc : Thread Cert.KernelOIdeal.nD Cert.KernelOIdeal.τ).loc Cert.KernelOIdeal.main_v13_2)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v13_0) = v0 c
          ∧ r.2.mem ((c.tc : Thread Cert.KernelOIdeal.nD Cert.KernelOIdeal.τ).loc Cert.KernelOIdeal.main_v13_1) = v1 c
          ∧ r.2.mem ((c.tc : Thread Cert.KernelOIdeal.nD Cert.KernelOIdeal.τ).loc Cert.KernelOIdeal.main_v13_2) = v2 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
          ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5)
          ∧ r.2.mem ((c.tc : Thread Cert.KernelOIdeal.nD Cert.KernelOIdeal.τ).loc Cert.KernelOIdeal.main_arg6) = m ((c.tc : Thread Cert.KernelOIdeal.nD Cert.KernelOIdeal.τ).loc Cert.KernelOIdeal.main_arg6)
          ∧ r.2.mem ((c.tc : Thread Cert.KernelOIdeal.nD Cert.KernelOIdeal.τ).loc Cert.KernelOIdeal.main_arg7) = m ((c.tc : Thread Cert.KernelOIdeal.nD Cert.KernelOIdeal.τ).loc Cert.KernelOIdeal.main_arg7)
          ∧ r.2.mem ((c.tc : Thread Cert.KernelOIdeal.nD Cert.KernelOIdeal.τ).loc Cert.KernelOIdeal.main_arg8) = m ((c.tc : Thread Cert.KernelOIdeal.nD Cert.KernelOIdeal.τ).loc Cert.KernelOIdeal.main_arg8)
          ∧ r.2.mem ((c.tc : Thread Cert.KernelOIdeal.nD Cert.KernelOIdeal.τ).loc Cert.KernelOIdeal.main_arg9) = m ((c.tc : Thread Cert.KernelOIdeal.nD Cert.KernelOIdeal.τ).loc Cert.KernelOIdeal.main_arg9))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v31) = v0 c
          ∧ r.2.mem ((c.tc : Thread Cert.ReferenceOIdeal.nD Cert.ReferenceOIdeal.τ).loc Cert.ReferenceOIdeal.main_v36) = v1 c
          ∧ r.2.mem ((c.tc : Thread Cert.ReferenceOIdeal.nD Cert.ReferenceOIdeal.τ).loc Cert.ReferenceOIdeal.main_v35) = v2 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4)
          ∧ r.2.mem ((c.tc : Thread Cert.ReferenceOIdeal.nD Cert.ReferenceOIdeal.τ).loc Cert.ReferenceOIdeal.main_arg5) = m' ((c.tc : Thread Cert.ReferenceOIdeal.nD Cert.ReferenceOIdeal.τ).loc Cert.ReferenceOIdeal.main_arg5)
          ∧ r.2.mem ((c.tc : Thread Cert.ReferenceOIdeal.nD Cert.ReferenceOIdeal.τ).loc Cert.ReferenceOIdeal.main_arg6) = m' ((c.tc : Thread Cert.ReferenceOIdeal.nD Cert.ReferenceOIdeal.τ).loc Cert.ReferenceOIdeal.main_arg6)
          ∧ r.2.mem ((c.tc : Thread Cert.ReferenceOIdeal.nD Cert.ReferenceOIdeal.τ).loc Cert.ReferenceOIdeal.main_arg7) = m' ((c.tc : Thread Cert.ReferenceOIdeal.nD Cert.ReferenceOIdeal.τ).loc Cert.ReferenceOIdeal.main_arg7)
          ∧ r.2.mem ((c.tc : Thread Cert.ReferenceOIdeal.nD Cert.ReferenceOIdeal.τ).loc Cert.ReferenceOIdeal.main_arg8) = m' ((c.tc : Thread Cert.ReferenceOIdeal.nD Cert.ReferenceOIdeal.τ).loc Cert.ReferenceOIdeal.main_arg8)
          ∧ r.2.mem ((c.tc : Thread Cert.ReferenceOIdeal.nD Cert.ReferenceOIdeal.τ).loc Cert.ReferenceOIdeal.main_arg9) = m' ((c.tc : Thread Cert.ReferenceOIdeal.nD Cert.ReferenceOIdeal.τ).loc Cert.ReferenceOIdeal.main_arg9))

def preserves_KernelM_KernelMIdeal : Prop :=
  True

def algebraic_KernelMIdeal_ReferenceMIdeal [hKernelMIdeal : Cert.KernelMIdeal.Facts] [hReferenceMIdeal : Cert.ReferenceMIdeal.Facts] [hPre_places : Cert.Pre_places.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)
      ∧ m' ((c.tc : Thread Cert.ReferenceMIdeal.nD Cert.ReferenceMIdeal.τ).loc Cert.ReferenceMIdeal.main_arg3) = m ((c.tc : Thread Cert.KernelMIdeal.nD Cert.KernelMIdeal.τ).loc Cert.KernelMIdeal.main_arg3)
      ∧ m' ((c.tc : Thread Cert.ReferenceMIdeal.nD Cert.ReferenceMIdeal.τ).loc Cert.ReferenceMIdeal.main_arg4) = m ((c.tc : Thread Cert.KernelMIdeal.nD Cert.KernelMIdeal.τ).loc Cert.KernelMIdeal.main_arg4)
      ∧ m' ((c.tc : Thread Cert.ReferenceMIdeal.nD Cert.ReferenceMIdeal.τ).loc Cert.ReferenceMIdeal.main_arg5) = m ((c.tc : Thread Cert.KernelMIdeal.nD Cert.KernelMIdeal.τ).loc Cert.KernelMIdeal.main_arg5)) →
    ∃ (v0 : (c : Dev Cert.KernelMIdeal.nD) → Buf (Elt Ideal) ((c.tc : Thread Cert.KernelMIdeal.nD Cert.KernelMIdeal.τ).loc Cert.KernelMIdeal.main_v2_0)) (v1 : (c : Dev Cert.KernelMIdeal.nD) → Buf (Elt Ideal) ((c.tc : Thread Cert.KernelMIdeal.nD Cert.KernelMIdeal.τ).loc Cert.KernelMIdeal.main_v2_1)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v2_0) = v0 c
          ∧ r.2.mem ((c.tc : Thread Cert.KernelMIdeal.nD Cert.KernelMIdeal.τ).loc Cert.KernelMIdeal.main_v2_1) = v1 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
          ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
          ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
          ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v49) = v0 c
          ∧ r.2.mem ((c.tc : Thread Cert.ReferenceMIdeal.nD Cert.ReferenceMIdeal.τ).loc Cert.ReferenceMIdeal.main_v50) = v1 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2)
          ∧ r.2.mem ((c.tc : Thread Cert.ReferenceMIdeal.nD Cert.ReferenceMIdeal.τ).loc Cert.ReferenceMIdeal.main_arg3) = m' ((c.tc : Thread Cert.ReferenceMIdeal.nD Cert.ReferenceMIdeal.τ).loc Cert.ReferenceMIdeal.main_arg3)
          ∧ r.2.mem ((c.tc : Thread Cert.ReferenceMIdeal.nD Cert.ReferenceMIdeal.τ).loc Cert.ReferenceMIdeal.main_arg4) = m' ((c.tc : Thread Cert.ReferenceMIdeal.nD Cert.ReferenceMIdeal.τ).loc Cert.ReferenceMIdeal.main_arg4)
          ∧ r.2.mem ((c.tc : Thread Cert.ReferenceMIdeal.nD Cert.ReferenceMIdeal.τ).loc Cert.ReferenceMIdeal.main_arg5) = m' ((c.tc : Thread Cert.ReferenceMIdeal.nD Cert.ReferenceMIdeal.τ).loc Cert.ReferenceMIdeal.main_arg5))

def preserves_KernelN_KernelNIdeal : Prop :=
  True

def algebraic_KernelNIdeal_ReferenceNIdeal [hKernelNIdeal : Cert.KernelNIdeal.Facts] [hReferenceNIdeal : Cert.ReferenceNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg)
    (m' : (ℓ : Loc Cert.ReferenceNIdeal.nD Cert.ReferenceNIdeal.τ Cert.ReferenceNIdeal.sig) → Buf (Elt Ideal) ℓ) (g' : Dev Cert.ReferenceNIdeal.nD → PrngReg), Pre_KernelNIdeal m →
    (∀ c : Dev Cert.KernelNIdeal.nD,
      m' ((c.tc : Thread Cert.ReferenceNIdeal.nD Cert.ReferenceNIdeal.τ).loc Cert.ReferenceNIdeal.main_arg0) = m ((c.tc : Thread Cert.KernelNIdeal.nD Cert.KernelNIdeal.τ).loc Cert.KernelNIdeal.main_arg0)
      ∧ m' ((c.tc : Thread Cert.ReferenceNIdeal.nD Cert.ReferenceNIdeal.τ).loc Cert.ReferenceNIdeal.main_arg1) = m ((c.tc : Thread Cert.KernelNIdeal.nD Cert.KernelNIdeal.τ).loc Cert.KernelNIdeal.main_arg1)
      ∧ m' ((c.tc : Thread Cert.ReferenceNIdeal.nD Cert.ReferenceNIdeal.τ).loc Cert.ReferenceNIdeal.main_arg2) = m ((c.tc : Thread Cert.KernelNIdeal.nD Cert.KernelNIdeal.τ).loc Cert.KernelNIdeal.main_arg2)
      ∧ m' ((c.tc : Thread Cert.ReferenceNIdeal.nD Cert.ReferenceNIdeal.τ).loc Cert.ReferenceNIdeal.main_arg3) = m ((c.tc : Thread Cert.KernelNIdeal.nD Cert.KernelNIdeal.τ).loc Cert.KernelNIdeal.main_arg3)) →
    ∃ (v0 : (c : Dev Cert.KernelNIdeal.nD) → Buf (Elt Ideal) ((c.tc : Thread Cert.KernelNIdeal.nD Cert.KernelNIdeal.τ).loc Cert.KernelNIdeal.main_v6_0)) (v1 : (c : Dev Cert.KernelNIdeal.nD) → Buf (Elt Ideal) ((c.tc : Thread Cert.KernelNIdeal.nD Cert.KernelNIdeal.τ).loc Cert.KernelNIdeal.main_v6_1)),
      θ_run (Cert.KernelNIdeal.defs (F := Ideal)) (onTc (τ := Cert.KernelNIdeal.τ) (Cert.KernelNIdeal.main (F := Ideal))) ⟨m, fun _ => 0, g⟩ (fun r => ∀ c : Dev Cert.KernelNIdeal.nD,
          r.2.mem ((c.tc : Thread Cert.KernelNIdeal.nD Cert.KernelNIdeal.τ).loc Cert.KernelNIdeal.main_v6_0) = v0 c
          ∧ r.2.mem ((c.tc : Thread Cert.KernelNIdeal.nD Cert.KernelNIdeal.τ).loc Cert.KernelNIdeal.main_v6_1) = v1 c
          ∧ r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
          ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
          ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
          ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3))
      ∧ θ_run (Cert.ReferenceNIdeal.defs (F := Ideal)) (onTc (τ := Cert.ReferenceNIdeal.τ) (Cert.ReferenceNIdeal.main (F := Ideal))) ⟨m', fun _ => 0, g'⟩ (fun r => ∀ c : Dev Cert.ReferenceNIdeal.nD,
          r.2.mem ((c.tc : Thread Cert.ReferenceNIdeal.nD Cert.ReferenceNIdeal.τ).loc Cert.ReferenceNIdeal.main_v27) = v0 c
          ∧ r.2.mem ((c.tc : Thread Cert.ReferenceNIdeal.nD Cert.ReferenceNIdeal.τ).loc Cert.ReferenceNIdeal.main_v28) = v1 c
          ∧ r.2.mem ((c.tc : Thread Cert.ReferenceNIdeal.nD Cert.ReferenceNIdeal.τ).loc Cert.ReferenceNIdeal.main_arg0) = m' ((c.tc : Thread Cert.ReferenceNIdeal.nD Cert.ReferenceNIdeal.τ).loc Cert.ReferenceNIdeal.main_arg0)
          ∧ r.2.mem ((c.tc : Thread Cert.ReferenceNIdeal.nD Cert.ReferenceNIdeal.τ).loc Cert.ReferenceNIdeal.main_arg1) = m' ((c.tc : Thread Cert.ReferenceNIdeal.nD Cert.ReferenceNIdeal.τ).loc Cert.ReferenceNIdeal.main_arg1)
          ∧ r.2.mem ((c.tc : Thread Cert.ReferenceNIdeal.nD Cert.ReferenceNIdeal.τ).loc Cert.ReferenceNIdeal.main_arg2) = m' ((c.tc : Thread Cert.ReferenceNIdeal.nD Cert.ReferenceNIdeal.τ).loc Cert.ReferenceNIdeal.main_arg2)
          ∧ r.2.mem ((c.tc : Thread Cert.ReferenceNIdeal.nD Cert.ReferenceNIdeal.τ).loc Cert.ReferenceNIdeal.main_arg3) = m' ((c.tc : Thread Cert.ReferenceNIdeal.nD Cert.ReferenceNIdeal.τ).loc Cert.ReferenceNIdeal.main_arg3))

def preserves_KernelR_KernelRIdeal : Prop :=
  IdealRules.named_const.Statement Cert.KernelRIdeal.κ "mask" .f32 0xF149F2CA#32 ⊥

def algebraic_KernelRIdeal_ReferenceRIdeal_pre_finite [hKernelRIdeal : Cert.KernelRIdeal.Facts] [hReferenceRIdeal : Cert.ReferenceRIdeal.Facts] [hPre_finite : Cert.Pre_finite.Facts] : Prop :=
  ∀ (m : (ℓ : Loc Cert.KernelRIdeal.nD Cert.KernelRIdeal.τ Cert.KernelRIdeal.sig) → Buf (Elt Ideal) ℓ) (g : Dev Cert.KernelRIdeal.nD → PrngReg)
    (m' : (ℓ : Loc Cert.ReferenceRIdeal.nD Cert.ReferenceRIdeal.τ Cert.ReferenceRIdeal.sig) → Buf (Elt Ideal) ℓ) (g' : Dev Cert.ReferenceRIdeal.nD → PrngReg), Pre_KernelRIdeal_finite m →
    (∀ c : Dev Cert.KernelRIdeal.nD,
      m' ((c.tc : Thread Cert.ReferenceRIdeal.nD Cert.ReferenceRIdeal.τ).loc Cert.ReferenceRIdeal.main_arg0) = m ((c.tc : Thread Cert.KernelRIdeal.nD Cert.KernelRIdeal.τ).loc Cert.KernelRIdeal.main_arg0)
      ∧ m' ((c.tc : Thread Cert.ReferenceRIdeal.nD Cert.ReferenceRIdeal.τ).loc Cert.ReferenceRIdeal.main_arg1) = m ((c.tc : Thread Cert.KernelRIdeal.nD Cert.KernelRIdeal.τ).loc Cert.KernelRIdeal.main_arg1)
      ∧ m' ((c.tc : Thread Cert.ReferenceRIdeal.nD Cert.ReferenceRIdeal.τ).loc Cert.ReferenceRIdeal.main_arg2) = m ((c.tc : Thread Cert.KernelRIdeal.nD Cert.KernelRIdeal.τ).loc Cert.KernelRIdeal.main_arg2)) →
    ∃ (v0 : (c : Dev Cert.KernelRIdeal.nD) → Buf (Elt Ideal) ((c.tc : Thread Cert.KernelRIdeal.nD Cert.KernelRIdeal.τ).loc Cert.KernelRIdeal.main_v7)),
      θ_run (Cert.KernelRIdeal.defs (F := Ideal)) (onTc (τ := Cert.KernelRIdeal.τ) (Cert.KernelRIdeal.main (F := Ideal))) ⟨m, fun _ => 0, g⟩ (fun r => ∀ c : Dev Cert.KernelRIdeal.nD,
          r.2.mem ((c.tc : Thread Cert.KernelRIdeal.nD Cert.KernelRIdeal.τ).loc Cert.KernelRIdeal.main_v7) = v0 c
          ∧ r.2.mem ((c.tc : Thread Cert.KernelRIdeal.nD Cert.KernelRIdeal.τ).loc Cert.KernelRIdeal.main_arg0) = m ((c.tc : Thread Cert.KernelRIdeal.nD Cert.KernelRIdeal.τ).loc Cert.KernelRIdeal.main_arg0)
          ∧ r.2.mem ((c.tc : Thread Cert.KernelRIdeal.nD Cert.KernelRIdeal.τ).loc Cert.KernelRIdeal.main_arg1) = m ((c.tc : Thread Cert.KernelRIdeal.nD Cert.KernelRIdeal.τ).loc Cert.KernelRIdeal.main_arg1)
          ∧ r.2.mem ((c.tc : Thread Cert.KernelRIdeal.nD Cert.KernelRIdeal.τ).loc Cert.KernelRIdeal.main_arg2) = m ((c.tc : Thread Cert.KernelRIdeal.nD Cert.KernelRIdeal.τ).loc Cert.KernelRIdeal.main_arg2))
      ∧ θ_run (Cert.ReferenceRIdeal.defs (F := Ideal)) (onTc (τ := Cert.ReferenceRIdeal.τ) (Cert.ReferenceRIdeal.main (F := Ideal))) ⟨m', fun _ => 0, g'⟩ (fun r => ∀ c : Dev Cert.ReferenceRIdeal.nD,
          r.2.mem ((c.tc : Thread Cert.ReferenceRIdeal.nD Cert.ReferenceRIdeal.τ).loc Cert.ReferenceRIdeal.main_v47) = v0 c
          ∧ r.2.mem ((c.tc : Thread Cert.ReferenceRIdeal.nD Cert.ReferenceRIdeal.τ).loc Cert.ReferenceRIdeal.main_arg0) = m' ((c.tc : Thread Cert.ReferenceRIdeal.nD Cert.ReferenceRIdeal.τ).loc Cert.ReferenceRIdeal.main_arg0)
          ∧ r.2.mem ((c.tc : Thread Cert.ReferenceRIdeal.nD Cert.ReferenceRIdeal.τ).loc Cert.ReferenceRIdeal.main_arg1) = m' ((c.tc : Thread Cert.ReferenceRIdeal.nD Cert.ReferenceRIdeal.τ).loc Cert.ReferenceRIdeal.main_arg1)
          ∧ r.2.mem ((c.tc : Thread Cert.ReferenceRIdeal.nD Cert.ReferenceRIdeal.τ).loc Cert.ReferenceRIdeal.main_arg2) = m' ((c.tc : Thread Cert.ReferenceRIdeal.nD Cert.ReferenceRIdeal.τ).loc Cert.ReferenceRIdeal.main_arg2))

def preserves_KernelF_KernelFIdeal : Prop :=
  True

def algebraic_KernelFIdeal_ReferenceFIdeal [hKernelFIdeal : Cert.KernelFIdeal.Facts] [hReferenceFIdeal : Cert.ReferenceFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)
      ∧ m' ((c.tc : Thread Cert.ReferenceFIdeal.nD Cert.ReferenceFIdeal.τ).loc Cert.ReferenceFIdeal.main_arg3) = m ((c.tc : Thread Cert.KernelFIdeal.nD Cert.KernelFIdeal.τ).loc Cert.KernelFIdeal.main_arg3)
      ∧ m' ((c.tc : Thread Cert.ReferenceFIdeal.nD Cert.ReferenceFIdeal.τ).loc Cert.ReferenceFIdeal.main_arg4) = m ((c.tc : Thread Cert.KernelFIdeal.nD Cert.KernelFIdeal.τ).loc Cert.KernelFIdeal.main_arg4)
      ∧ m' ((c.tc : Thread Cert.ReferenceFIdeal.nD Cert.ReferenceFIdeal.τ).loc Cert.ReferenceFIdeal.main_arg5) = m ((c.tc : Thread Cert.KernelFIdeal.nD Cert.KernelFIdeal.τ).loc Cert.KernelFIdeal.main_arg5)
      ∧ m' ((c.tc : Thread Cert.ReferenceFIdeal.nD Cert.ReferenceFIdeal.τ).loc Cert.ReferenceFIdeal.main_arg6) = m ((c.tc : Thread Cert.KernelFIdeal.nD Cert.KernelFIdeal.τ).loc Cert.KernelFIdeal.main_arg6)
      ∧ m' ((c.tc : Thread Cert.ReferenceFIdeal.nD Cert.ReferenceFIdeal.τ).loc Cert.ReferenceFIdeal.main_arg7) = m ((c.tc : Thread Cert.KernelFIdeal.nD Cert.KernelFIdeal.τ).loc Cert.KernelFIdeal.main_arg7)) →
    ∃ (v0 : (c : Dev Cert.KernelFIdeal.nD) → Buf (Elt Ideal) ((c.tc : Thread Cert.KernelFIdeal.nD Cert.KernelFIdeal.τ).loc Cert.KernelFIdeal.main_v9_0)) (v1 : (c : Dev Cert.KernelFIdeal.nD) → Buf (Elt Ideal) ((c.tc : Thread Cert.KernelFIdeal.nD Cert.KernelFIdeal.τ).loc Cert.KernelFIdeal.main_v9_1)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v9_0) = v0 c
          ∧ r.2.mem ((c.tc : Thread Cert.KernelFIdeal.nD Cert.KernelFIdeal.τ).loc Cert.KernelFIdeal.main_v9_1) = v1 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
          ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
          ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
          ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5)
          ∧ r.2.mem ((c.tc : Thread Cert.KernelFIdeal.nD Cert.KernelFIdeal.τ).loc Cert.KernelFIdeal.main_arg6) = m ((c.tc : Thread Cert.KernelFIdeal.nD Cert.KernelFIdeal.τ).loc Cert.KernelFIdeal.main_arg6)
          ∧ r.2.mem ((c.tc : Thread Cert.KernelFIdeal.nD Cert.KernelFIdeal.τ).loc Cert.KernelFIdeal.main_arg7) = m ((c.tc : Thread Cert.KernelFIdeal.nD Cert.KernelFIdeal.τ).loc Cert.KernelFIdeal.main_arg7))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v42) = v0 c
          ∧ r.2.mem ((c.tc : Thread Cert.ReferenceFIdeal.nD Cert.ReferenceFIdeal.τ).loc Cert.ReferenceFIdeal.main_v43) = v1 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2)
          ∧ r.2.mem ((c.tc : Thread Cert.ReferenceFIdeal.nD Cert.ReferenceFIdeal.τ).loc Cert.ReferenceFIdeal.main_arg3) = m' ((c.tc : Thread Cert.ReferenceFIdeal.nD Cert.ReferenceFIdeal.τ).loc Cert.ReferenceFIdeal.main_arg3)
          ∧ r.2.mem ((c.tc : Thread Cert.ReferenceFIdeal.nD Cert.ReferenceFIdeal.τ).loc Cert.ReferenceFIdeal.main_arg4) = m' ((c.tc : Thread Cert.ReferenceFIdeal.nD Cert.ReferenceFIdeal.τ).loc Cert.ReferenceFIdeal.main_arg4)
          ∧ r.2.mem ((c.tc : Thread Cert.ReferenceFIdeal.nD Cert.ReferenceFIdeal.τ).loc Cert.ReferenceFIdeal.main_arg5) = m' ((c.tc : Thread Cert.ReferenceFIdeal.nD Cert.ReferenceFIdeal.τ).loc Cert.ReferenceFIdeal.main_arg5)
          ∧ r.2.mem ((c.tc : Thread Cert.ReferenceFIdeal.nD Cert.ReferenceFIdeal.τ).loc Cert.ReferenceFIdeal.main_arg6) = m' ((c.tc : Thread Cert.ReferenceFIdeal.nD Cert.ReferenceFIdeal.τ).loc Cert.ReferenceFIdeal.main_arg6)
          ∧ r.2.mem ((c.tc : Thread Cert.ReferenceFIdeal.nD Cert.ReferenceFIdeal.τ).loc Cert.ReferenceFIdeal.main_arg7) = m' ((c.tc : Thread Cert.ReferenceFIdeal.nD Cert.ReferenceFIdeal.τ).loc Cert.ReferenceFIdeal.main_arg7))

def Claim : Prop :=
  ∃ (hKernel : Cert.Kernel.Facts) (hKernelIdeal : Cert.KernelIdeal.Facts) (hReferenceIdeal : Cert.ReferenceIdeal.Facts) (hKernelA : Cert.KernelA.Facts) (hKernelAIdeal : Cert.KernelAIdeal.Facts) (hReferenceAIdeal : Cert.ReferenceAIdeal.Facts) (hKernelB : Cert.KernelB.Facts) (hKernelBIdeal : Cert.KernelBIdeal.Facts) (hReferenceBIdeal : Cert.ReferenceBIdeal.Facts) (hKernelC : Cert.KernelC.Facts) (hKernelCIdeal : Cert.KernelCIdeal.Facts) (hReferenceCIdeal : Cert.ReferenceCIdeal.Facts) (hKernelO : Cert.KernelO.Facts) (hKernelOIdeal : Cert.KernelOIdeal.Facts) (hReferenceOIdeal : Cert.ReferenceOIdeal.Facts) (hKernelM : Cert.KernelM.Facts) (hKernelMIdeal : Cert.KernelMIdeal.Facts) (hReferenceMIdeal : Cert.ReferenceMIdeal.Facts) (hKernelN : Cert.KernelN.Facts) (hKernelNIdeal : Cert.KernelNIdeal.Facts) (hReferenceNIdeal : Cert.ReferenceNIdeal.Facts) (hKernelR : Cert.KernelR.Facts) (hKernelRIdeal : Cert.KernelRIdeal.Facts) (hReferenceRIdeal : Cert.ReferenceRIdeal.Facts) (hKernelF : Cert.KernelF.Facts) (hKernelFIdeal : Cert.KernelFIdeal.Facts) (hReferenceFIdeal : Cert.ReferenceFIdeal.Facts) (hPre_ranges : Cert.Pre_ranges.Facts) (hPre_places : Cert.Pre_places.Facts) (hPre_finite : Cert.Pre_finite.Facts),
    quiescent_Kernel (hKernel := hKernel) (hPre_ranges := hPre_ranges)
    ∧ quiescent_KernelIdeal (hKernelIdeal := hKernelIdeal) (hPre_ranges := hPre_ranges)
    ∧ quiescent_ReferenceIdeal (hReferenceIdeal := hReferenceIdeal)
    ∧ quiescent_ReferenceIdeal_pre_ranges (hReferenceIdeal := hReferenceIdeal) (hPre_ranges := hPre_ranges)
    ∧ quiescent_KernelA (hKernelA := hKernelA)
    ∧ quiescent_KernelAIdeal (hKernelAIdeal := hKernelAIdeal)
    ∧ quiescent_ReferenceAIdeal (hReferenceAIdeal := hReferenceAIdeal)
    ∧ quiescent_KernelB (hKernelB := hKernelB)
    ∧ quiescent_KernelBIdeal (hKernelBIdeal := hKernelBIdeal)
    ∧ quiescent_ReferenceBIdeal (hReferenceBIdeal := hReferenceBIdeal)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelM (hKernelM := hKernelM) (hPre_places := hPre_places)
    ∧ quiescent_KernelMIdeal (hKernelMIdeal := hKernelMIdeal) (hPre_places := hPre_places)
    ∧ quiescent_ReferenceMIdeal (hReferenceMIdeal := hReferenceMIdeal)
    ∧ quiescent_ReferenceMIdeal_pre_places (hReferenceMIdeal := hReferenceMIdeal) (hPre_places := hPre_places)
    ∧ quiescent_KernelN (hKernelN := hKernelN)
    ∧ quiescent_KernelNIdeal (hKernelNIdeal := hKernelNIdeal)
    ∧ quiescent_ReferenceNIdeal (hReferenceNIdeal := hReferenceNIdeal)
    ∧ quiescent_KernelR (hKernelR := hKernelR)
    ∧ quiescent_KernelRIdeal (hKernelRIdeal := hKernelRIdeal)
    ∧ quiescent_KernelRIdeal_pre_finite (hKernelRIdeal := hKernelRIdeal) (hPre_finite := hPre_finite)
    ∧ quiescent_ReferenceRIdeal (hReferenceRIdeal := hReferenceRIdeal)
    ∧ quiescent_ReferenceRIdeal_pre_finite (hReferenceRIdeal := hReferenceRIdeal) (hPre_finite := hPre_finite)
    ∧ quiescent_KernelF (hKernelF := hKernelF)
    ∧ quiescent_KernelFIdeal (hKernelFIdeal := hKernelFIdeal)
    ∧ quiescent_ReferenceFIdeal (hReferenceFIdeal := hReferenceFIdeal)
    ∧ preserves_Kernel_KernelIdeal
    ∧ algebraic_KernelIdeal_ReferenceIdeal (hKernelIdeal := hKernelIdeal) (hReferenceIdeal := hReferenceIdeal) (hPre_ranges := hPre_ranges)
    ∧ preserves_KernelA_KernelAIdeal
    ∧ algebraic_KernelAIdeal_ReferenceAIdeal (hKernelAIdeal := hKernelAIdeal) (hReferenceAIdeal := hReferenceAIdeal)
    ∧ preserves_KernelB_KernelBIdeal
    ∧ algebraic_KernelBIdeal_ReferenceBIdeal (hKernelBIdeal := hKernelBIdeal) (hReferenceBIdeal := hReferenceBIdeal)
    ∧ preserves_KernelC_KernelCIdeal
    ∧ algebraic_KernelCIdeal_ReferenceCIdeal (hKernelCIdeal := hKernelCIdeal) (hReferenceCIdeal := hReferenceCIdeal)
    ∧ preserves_KernelO_KernelOIdeal
    ∧ algebraic_KernelOIdeal_ReferenceOIdeal (hKernelOIdeal := hKernelOIdeal) (hReferenceOIdeal := hReferenceOIdeal)
    ∧ preserves_KernelM_KernelMIdeal
    ∧ algebraic_KernelMIdeal_ReferenceMIdeal (hKernelMIdeal := hKernelMIdeal) (hReferenceMIdeal := hReferenceMIdeal) (hPre_places := hPre_places)
    ∧ preserves_KernelN_KernelNIdeal
    ∧ algebraic_KernelNIdeal_ReferenceNIdeal (hKernelNIdeal := hKernelNIdeal) (hReferenceNIdeal := hReferenceNIdeal)
    ∧ preserves_KernelR_KernelRIdeal
    ∧ algebraic_KernelRIdeal_ReferenceRIdeal_pre_finite (hKernelRIdeal := hKernelRIdeal) (hReferenceRIdeal := hReferenceRIdeal) (hPre_finite := hPre_finite)
    ∧ preserves_KernelF_KernelFIdeal
    ∧ algebraic_KernelFIdeal_ReferenceFIdeal (hKernelFIdeal := hKernelFIdeal) (hReferenceFIdeal := hReferenceFIdeal)
-- ==== Pre_finite.lean ====
abbrev S16512x128 : Shape := ⟨2, ![16512, 128]⟩
abbrev S4 : Shape := ⟨1, ![4]⟩
abbrev S16 : Shape := ⟨1, ![16]⟩
abbrev S_ : Shape := ⟨0, ![]⟩

class Facts : Prop where
  bcast_S_S16512x128 : S_.BroadcastsInDim S16512x128 (![] : Fin 0 → Fin S16512x128.rank)
  reducesTo_S16512x128_S_d0_1 : S16512x128.ReducesTo [0, 1] S_
  h_S_ : 0 < S_.numel
  bcast_S_S4 : S_.BroadcastsInDim S4 (![] : Fin 0 → Fin S4.rank)
  reducesTo_S4_S_d0 : S4.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg2 : FVec F S16 .f32) (main_v12 : IVec S_ 1) (main_v14 : IVec S16 1) (main_v15 : FVec F S16 .f32) : IVec S_ 1 :=
  let main_v16 : IVec S16 1 := cmpf .olt main_arg2 main_v15
  let main_v17 : IVec S16 1 := andi main_v14 main_v16
  let main_c_6 : IVec S_ 1 := constantI S_ 1 1#1
  let main_v18 : IVec S_ 1 := (fun x v => Host.reduce IntOp.andi x v reducesTo_S16_S_d0 h_S_) main_v17 main_c_6
  let main_v19 : IVec S_ 1 := andi main_v12 main_v18
  main_v19

def fn {F : FTy → Type} [FloatOps F] (main_arg0 : FVec F S16512x128 .f32) (main_arg1 : FVec F S4 .f32) (main_arg2 : FVec F S16 .f32) : IVec S_ 1 :=
  let main_cst : FVec F S_ .f32 := constant S_ .f32 0xFF800000#32
  let main_v0 : FVec F S16512x128 .f32 := broadcastInDim S16512x128 ![] bcast_S_S16512x128 main_cst
  let main_v1 : IVec S16512x128 1 := cmpf .ogt main_arg0 main_v0
  let main_cst_0 : FVec F S_ .f32 := constant S_ .f32 0x7F800000#32
  let main_v2 : FVec F S16512x128 .f32 := broadcastInDim S16512x128 ![] bcast_S_S16512x128 main_cst_0
  let main_v3 : IVec S16512x128 1 := cmpf .olt main_arg0 main_v2
  let main_v4 : IVec S16512x128 1 := andi main_v1 main_v3
  let main_c : IVec S_ 1 := constantI S_ 1 1#1
  let main_v5 : IVec S_ 1 := (fun x v => Host.reduce IntOp.andi x v reducesTo_S16512x128_S_d0_1 h_S_) main_v4 main_c
  let main_cst_1 : FVec F S_ .f32 := constant S_ .f32 0xFF800000#32
  let main_v6 : FVec F S4 .f32 := broadcastInDim S4 ![] bcast_S_S4 main_cst_1
  let main_v7 : IVec S4 1 := cmpf .ogt main_arg1 main_v6
  let main_cst_2 : FVec F S_ .f32 := constant S_ .f32 0x7F800000#32
  let main_v8 : FVec F S4 .f32 := broadcastInDim S4 ![] bcast_S_S4 main_cst_2
  let main_v9 : IVec S4 1 := cmpf .olt main_arg1 main_v8
  let main_v10 : IVec S4 1 := andi main_v7 main_v9
  let main_c_3 : IVec S_ 1 := constantI S_ 1 1#1
  let main_v11 : IVec S_ 1 := (fun x v => Host.reduce IntOp.andi x v reducesTo_S4_S_d0 h_S_) main_v10 main_c_3
  let main_v12 : IVec S_ 1 := andi main_v5 main_v11
  let main_cst_4 : FVec F S_ .f32 := constant S_ .f32 0xFF800000#32
  let main_v13 : FVec F S16 .f32 := broadcastInDim S16 ![] bcast_S_S16 main_cst_4
  let main_v14 : IVec S16 1 := cmpf .ogt main_arg2 main_v13
  let main_cst_5 : FVec F S_ .f32 := constant S_ .f32 0x7F800000#32
  let main_v15 : FVec F S16 .f32 := broadcastInDim S16 ![] bcast_S_S16 main_cst_5
  fn_part1 (F := F) main_arg2 main_v12 main_v14 main_v15
-- ==== Pre_places.lean ====
abbrev S33024 : Shape := ⟨1, ![33024]⟩
abbrev S37120x2048 : Shape := ⟨2, ![37120, 2048]⟩
abbrev S16512x2048 : Shape := ⟨2, ![16512, 2048]⟩
abbrev S16512x128 : Shape := ⟨2, ![16512, 128]⟩
abbrev S2048 : Shape := ⟨1, ![2048]⟩
abbrev S_ : Shape := ⟨0, ![]⟩

class Facts : Prop where
  bcast_S_S33024 : S_.BroadcastsInDim S33024 (![] : Fin 0 → Fin S33024.rank)
  reducesTo_S33024_S_d0 : S33024.ReducesTo [0] S_
  h_S_ : 0 < S_.numel

variable [Facts]

def fn {F : FTy → Type} [FloatOps F] (main_arg0 : IVec S33024 32) (main_arg1 : FVec F S37120x2048 .f32) (main_arg2 : FVec F S16512x2048 .f32) (main_arg3 : FVec F S16512x128 .f32) (main_arg4 : FVec F S2048 .f32) (main_arg5 : FVec F S2048 .f32) : IVec S_ 1 :=
  let main_c : IVec S_ 32 := constantI S_ 32 0#32
  let main_v0 : IVec S33024 32 := broadcastInDim S33024 ![] bcast_S_S33024 main_c
  let main_v1 : IVec S33024 1 := cmpi .sge main_arg0 main_v0
  let main_c_0 : IVec S_ 1 := constantI S_ 1 1#1
  let main_v2 : IVec S_ 1 := (fun x v => Host.reduce IntOp.andi x v reducesTo_S33024_S_d0 h_S_) main_v1 main_c_0
  let main_c_1 : IVec S_ 32 := constantI S_ 32 37120#32
  let main_v3 : IVec S33024 32 := broadcastInDim S33024 ![] bcast_S_S33024 main_c_1
  let main_v4 : IVec S33024 1 := cmpi .slt main_arg0 main_v3
  let main_c_2 : IVec S_ 1 := constantI S_ 1 1#1
  let main_v5 : IVec S_ 1 := (fun x v => Host.reduce IntOp.andi x v reducesTo_S33024_S_d0 h_S_) main_v4 main_c_2
  let main_v6 : IVec S_ 1 := andi main_v2 main_v5
  main_v6
-- ==== Pre_ranges.lean ====
abbrev S16512x2048 : Shape := ⟨2, ![16512, 2048]⟩
abbrev S16x2048x1024 : Shape := ⟨3, ![16, 2048, 1024]⟩
abbrev S16x1024x2048 : Shape := ⟨3, ![16, 1024, 2048]⟩
abbrev S145 : Shape := ⟨1, ![145]⟩
abbrev S1 : Shape := ⟨1, ![1]⟩
abbrev S37120 : Shape := ⟨1, ![37120]⟩
abbrev S_ : Shape := ⟨0, ![]⟩

class Facts : Prop where
  bcast_S_S145 : S_.BroadcastsInDim S145 (![] : Fin 0 → Fin S145.rank)
  reducesTo_S145_S_d0 : S145.ReducesTo [0] S_
  h_S_ : 0 < S_.numel
  bcast_S_S1 : S_.BroadcastsInDim S1 (![] : Fin 0 → Fin S1.rank)
  reducesTo_S1_S_d0 : S1.ReducesTo [0] S_
  bcast_S_S37120 : S_.BroadcastsInDim S37120 (![] : Fin 0 → Fin S37120.rank)
  reducesTo_S37120_S_d0 : S37120.ReducesTo [0] S_

variable [Facts]

def fn_part1 {F : FTy → Type} [FloatOps F] (main_arg6 : IVec S37120 32) (main_v14 : IVec S_ 1) (main_c_7 : IVec S_ 32) : IVec S_ 1 :=
  let main_v15 : IVec S37120 32 := broadcastInDim S37120 ![] bcast_S_S37120 main_c_7
  let main_v16 : IVec S37120 1 := cmpi .sge main_arg6 main_v15
  let main_c_8 : IVec S_ 1 := constantI S_ 1 1#1
  let main_v17 : IVec S_ 1 := (fun x v => Host.reduce IntOp.andi x v reducesTo_S37120_S_d0 h_S_) main_v16 main_c_8
  let main_v18 : IVec S_ 1 := andi main_v14 main_v17
  let main_c_9 : IVec S_ 32 := constantI S_ 32 16512#32
  let main_v19 : IVec S37120 32 := broadcastInDim S37120 ![] bcast_S_S37120 main_c_9
  let main_v20 : IVec S37120 1 := cmpi .slt main_arg6 main_v19
  let main_c_10 : IVec S_ 1 := constantI S_ 1 1#1
  let main_v21 : IVec S_ 1 := (fun x v => Host.reduce IntOp.andi x v reducesTo_S37120_S_d0 h_S_) main_v20 main_c_10
  let main_v22 : IVec S_ 1 := andi main_v18 main_v21
  main_v22

def fn {F : FTy → Type} [FloatOps F] (main_arg0 : FVec F S16512x2048 .f32) (main_arg1 : FVec F S16x2048x1024 .f32) (main_arg2 : FVec F S16x2048x1024 .f32) (main_arg3 : FVec F S16x1024x2048 .f32) (main_arg4 : IVec S145 32) (main_arg5 : IVec S1 32) (main_arg6 : IVec S37120 32) : IVec S_ 1 :=
  let main_c : IVec S_ 32 := constantI S_ 32 0#32
  let main_v0 : IVec S145 32 := broadcastInDim S145 ![] bcast_S_S145 main_c
  let main_v1 : IVec S145 1 := cmpi .sge main_arg4 main_v0
  let main_c_0 : IVec S_ 1 := constantI S_ 1 1#1
  let main_v2 : IVec S_ 1 := (fun x v => Host.reduce IntOp.andi x v reducesTo_S145_S_d0 h_S_) main_v1 main_c_0
  let main_c_1 : IVec S_ 32 := constantI S_ 32 16#32
  let main_v3 : IVec S145 32 := broadcastInDim S145 ![] bcast_S_S145 main_c_1
  let main_v4 : IVec S145 1 := cmpi .slt main_arg4 main_v3
  let main_c_2 : IVec S_ 1 := constantI S_ 1 1#1
  let main_v5 : IVec S_ 1 := (fun x v => Host.reduce IntOp.andi x v reducesTo_S145_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg5 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 145#32
  let main_v11 : IVec S1 32 := broadcastInDim S1 ![] bcast_S_S1 main_c_5
  let main_v12 : IVec S1 1 := cmpi .sle main_arg5 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  let main_c_7 : IVec S_ 32 := constantI S_ 32 0#32
  fn_part1 (F := F) main_arg6 main_v14 main_c_7
-- ==== Kernel.lean ====
abbrev S16512x2048 : Shape := ⟨2, ![16512, 2048]⟩
abbrev S16x2048x1024 : Shape := ⟨3, ![16, 2048, 1024]⟩
abbrev S16x1024x2048 : Shape := ⟨3, ![16, 1024, 2048]⟩
abbrev S145 : Shape := ⟨1, ![145]⟩
abbrev S1 : Shape := ⟨1, ![1]⟩
abbrev S37120 : Shape := ⟨1, ![37120]⟩
abbrev S37120x2048 : Shape := ⟨2, ![37120, 2048]⟩
abbrev S1x2048x1024 : Shape := ⟨3, ![1, 2048, 1024]⟩
abbrev S1x1024x2048 : Shape := ⟨3, ![1, 1024, 2048]⟩
abbrev S256x2048 : Shape := ⟨2, ![256, 2048]⟩
abbrev S2x256x2048 : Shape := ⟨3, ![2, 256, 2048]⟩
abbrev S2 : Shape := ⟨1, ![2]⟩
abbrev S_ : Shape := ⟨0, ![]⟩
abbrev S1x1x2048 : Shape := ⟨3, ![1, 1, 2048]⟩
abbrev S1x2048 : Shape := ⟨2, ![1, 2048]⟩
abbrev S1x256x2048 : Shape := ⟨3, ![1, 256, 2048]⟩
abbrev S2048x1024 : Shape := ⟨2, ![2048, 1024]⟩
abbrev S256x1024 : Shape := ⟨2, ![256, 1024]⟩
abbrev S1024x2048 : Shape := ⟨2, ![1024, 2048]⟩

abbrev nBuf : Space → Nat
  | .hbm => 8
  | .vmem => 9
  | .smem => 3
  | _ => 0

abbrev bufTy : (tb : Table) → Fin (tcTables nBuf tb) → BufTy
  | .hbm, ⟨0, _⟩ => ⟨S16512x2048, .f32⟩
  | .hbm, ⟨1, _⟩ => ⟨S16x2048x1024, .f32⟩
  | .hbm, ⟨2, _⟩ => ⟨S16x2048x1024, .f32⟩
  | .hbm, ⟨3, _⟩ => ⟨S16x1024x2048, .f32⟩
  | .hbm, ⟨4, _⟩ => ⟨S16x2048x1024, .bf16⟩
  | .hbm, ⟨5, _⟩ => ⟨S16x2048x1024, .bf16⟩
  | .hbm, ⟨6, _⟩ => ⟨S16x1024x2048, .bf16⟩
  | .hbm, ⟨7, _⟩ => ⟨S37120x2048, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S256x2048, .f32⟩
  | .local _ .vmem, ⟨7, _⟩ => ⟨S256x2048, .f32⟩
  | .local _ .vmem, ⟨8, _⟩ => ⟨S2x256x2048, .f32⟩
  | .local _ .smem, ⟨0, _⟩ => ⟨S145, .i32⟩
  | .local _ .smem, ⟨1, _⟩ => ⟨S1, .i32⟩
  | .local _ .smem, ⟨2, _⟩ => ⟨S37120, .i32⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg4 : Ref sig .tc := ⟨.smem, 0, rfl⟩
abbrev main_arg5 : Ref sig .tc := ⟨.smem, 1, rfl⟩
abbrev main_arg6 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![145], ![false]⟩

abbrev pre0 : Pipeline.Prefetch sig := ⟨3, ![main_arg4.idx, main_arg5.idx, main_arg6.idx], fun | 0 => main_arg4.names | 1 => main_arg5.names | 2 => main_arg6.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_4 : BitVec 32 := 0#32
  let c256_i32 : BitVec 32 := 256#32
  let v14 : BitVec 32 := Scalar.addi c0_i32_4 c256_i32
  let c1_i32_5 : BitVec 32 := 1#32
  ⟨c0_i32_4, v14, c1_i32_5⟩
def k0_off2 (k0_t1 : Fin k0_t1_loop.trips) : Fin 1 → Nat :=
  let c0_i32_7 : BitVec 32 := 0#32
  let c0_i32_4 : BitVec 32 := 0#32
  let c1_i32_5 : BitVec 32 := 1#32
  let arg11 : BitVec 32 := Scf.iv c0_i32_4 c1_i32_5 k0_t1
  let v15 : BitVec 32 := Scalar.addi c0_i32_7 arg11
  let v16 : Index := Scalar.indexCast v15
  ![v16.toNat]
def k0_off3 (k0_t1 : Fin k0_t1_loop.trips) : Fin 3 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c0_i32_10 : BitVec 32 := 0#32
  ![0, arg11.toNat, 0]
def k0_off4 (v17 : BitVec 32) : Fin 2 → Nat :=
  let c0_i32_11 : BitVec 32 := 0#32
  ![v17.toNat, 0]

def k0_chk1 (i : grid0.Coords) (v17 : BitVec 32) : Prop :=
  (∀ (k0_h1 : k0_cond1 i = 1#1), ∀ a, (k0_off4 v17) a + S1x2048.size a ≤ S16512x2048.size a)
theorem k0_off4_inb : ∀ (i : grid0.Coords) (v17 : BitVec 32) (k0_hw1 : k0_chk1 i v17), ∀ (k0_h1 : k0_cond1 i = 1#1), ∀ a, (k0_off4 v17) a + S1x2048.size a ≤ S16512x2048.size a := fun i v17 k0_hw1 k0_h1 => k0_hw1 k0_h1

@[reducible] def k0_t2_loop : Scf.Loop 32 :=
  let c0_i32_11 : BitVec 32 := 0#32
  let c256_i32 : BitVec 32 := 256#32
  let v26 : BitVec 32 := Scalar.addi c0_i32_11 c256_i32
  let c1_i32_12 : BitVec 32 := 1#32
  ⟨c0_i32_11, v26, c1_i32_12⟩
def k0_off5 (i : grid0.Coords) (k0_t2 : Fin k0_t2_loop.trips) : Fin 1 → Nat :=
  let arg0 : BitVec 32 := BitVec.ofNat 32 (i 0).val
  let c1_i32_4 : BitVec 32 := 1#32
  let v14 : BitVec 32 := Scalar.addi arg0 c1_i32_4
  let c256_i32_14 : BitVec 32 := 256#32
  let v27 : BitVec 32 := Scalar.muli v14 c256_i32_14
  let c0_i32_11 : BitVec 32 := 0#32
  let c1_i32_12 : BitVec 32 := 1#32
  let arg11 : BitVec 32 := Scf.iv c0_i32_11 c1_i32_12 k0_t2
  let v28 : BitVec 32 := Scalar.addi v27 arg11
  let v29 : Index := Scalar.indexCast v28
  ![v29.toNat]
def k0_cond2 (i : grid0.Coords) (v0 : BitVec 32) : BitVec 1 :=
  let arg0 : BitVec 32 := BitVec.ofNat 32 (i 0).val
  let c1_i32 : BitVec 32 := 1#32
  let v4 : BitVec 32 := Scalar.addi arg0 c1_i32
  let v5 : BitVec 1 := Scalar.cmpi .slt v4 v0
  let v6 : BitVec 32 := Scalar.extui v5
  let c0_i32_1 : BitVec 32 := 0#32
  let v7 : BitVec 1 := Scalar.cmpi .ne v6 c0_i32_1
  v7

def k0_chk2 (i : grid0.Coords) (v0 : BitVec 32) : Prop :=
  (∀ k0_t2 : Fin k0_t2_loop.trips, ∀ (k0_h2 : k0_cond2 i v0 = 1#1), ∀ a, (k0_off5 i k0_t2) a + S1.size a ≤ S37120.size a)
theorem k0_off5_inb : ∀ (i : grid0.Coords) (v0 : BitVec 32) (k0_hw2 : k0_chk2 i v0) (k0_t2 : Fin k0_t2_loop.trips), ∀ (k0_h2 : k0_cond2 i v0 = 1#1), ∀ a, (k0_off5 i k0_t2) a + S1.size a ≤ S37120.size a := fun i v0 k0_hw2 k0_t2 k0_h2 => k0_hw2 k0_t2 k0_h2

def k0_off6 (i : grid0.Coords) : Fin 1 → Nat :=
  let arg0 : BitVec 32 := BitVec.ofNat 32 (i 0).val
  let c1_i32_5 : BitVec 32 := 1#32
  let v15 : BitVec 32 := Scalar.addi arg0 c1_i32_5
  let c2_i32 : BitVec 32 := 2#32
  let c0_i32_6 : BitVec 32 := 0#32
  let v16 : BitVec 1 := Scalar.cmpi .eq c2_i32 c0_i32_6
  let c1_i32_7 : BitVec 32 := 1#32
  let v17 : BitVec 32 := Scalar.select v16 c1_i32_7 c2_i32
  let v18 : BitVec 32 := Scalar.remsi v15 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  ![v25.toNat]
def k0_off7 (i : grid0.Coords) (k0_t2 : Fin k0_t2_loop.trips) : Fin 3 → Nat :=
  let arg0 : BitVec 32 := BitVec.ofNat 32 (i 0).val
  let c1_i32_5 : BitVec 32 := 1#32
  let v15 : BitVec 32 := Scalar.addi arg0 c1_i32_5
  let c2_i32 : BitVec 32 := 2#32
  let c0_i32_6 : BitVec 32 := 0#32
  let v16 : BitVec 1 := Scalar.cmpi .eq c2_i32 c0_i32_6
  let c1_i32_7 : BitVec 32 := 1#32
  let v17 : BitVec 32 := Scalar.select v16 c1_i32_7 c2_i32
  let v18 : BitVec 32 := Scalar.remsi v15 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let c0_i32_11 : BitVec 32 := 0#32
  let c1_i32_12 : BitVec 32 := 1#32
  let arg11 : BitVec 32 := Scf.iv c0_i32_11 c1_i32_12 k0_t2
  let c0_i32_15 : BitVec 32 := 0#32
  ![v25.toNat, arg11.toNat, 0]
def k0_off8 (v30 : BitVec 32) : Fin 2 → Nat :=
  let c0_i32_16 : BitVec 32 := 0#32
  ![v30.toNat, 0]

def k0_chk3 (i : grid0.Coords) (v0 : BitVec 32) (v30 : BitVec 32) : Prop :=
  (∀ (k0_h2 : k0_cond2 i v0 = 1#1), ∀ a, (k0_off8 v30) a + S1x2048.size a ≤ S16512x2048.size a)
theorem k0_off8_inb : ∀ (i : grid0.Coords) (v0 : BitVec 32) (v30 : BitVec 32) (k0_hw3 : k0_chk3 i v0 v30), ∀ (k0_h2 : k0_cond2 i v0 = 1#1), ∀ a, (k0_off8 v30) a + S1x2048.size a ≤ S16512x2048.size a := fun i v0 v30 k0_hw3 k0_h2 => k0_hw3 k0_h2

@[reducible] def k0_t3_loop : Scf.Loop 32 :=
  let c0_i32_9 : BitVec 32 := 0#32
  let c256_i32 : BitVec 32 := 256#32
  let v24 : BitVec 32 := Scalar.addi c0_i32_9 c256_i32
  let c1_i32_10 : BitVec 32 := 1#32
  ⟨c0_i32_9, v24, c1_i32_10⟩
def k0_off9 (i : grid0.Coords) : Fin 1 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  ![v23.toNat]
def k0_off10 (i : grid0.Coords) (k0_t3 : Fin k0_t3_loop.trips) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let c0_i32_9 : BitVec 32 := 0#32
  let c1_i32_10 : BitVec 32 := 1#32
  let arg11 : BitVec 32 := Scf.iv c0_i32_9 c1_i32_10 k0_t3
  let c0_i32_30 : BitVec 32 := 0#32
  ![v23.toNat, arg11.toNat, 0]
def k0_off11 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v25 : Index := Scalar.indexCast v23
  let c0_12 : Index := 0#32
  let c0_13 : Index := 0#32
  ![v25.toNat, 0, 0]
def k0_cond3 (i : grid0.Coords) (v0 : BitVec 32) : BitVec 1 :=
  let arg0 : BitVec 32 := BitVec.ofNat 32 (i 0).val
  let v8 : BitVec 1 := Scalar.cmpi .slt arg0 v0
  let v9 : BitVec 32 := Scalar.extui v8
  let c0_i32_2 : BitVec 32 := 0#32
  let v10 : BitVec 1 := Scalar.cmpi .ne v9 c0_i32_2
  v10

def k0_cond4 (i : grid0.Coords) (v0 : BitVec 32) : BitVec 1 :=
  let arg0 : BitVec 32 := BitVec.ofNat 32 (i 0).val
  let v11 : BitVec 1 := Scalar.cmpi .sge arg0 v0
  let v12 : BitVec 32 := Scalar.extui v11
  let c0_i32_3 : BitVec 32 := 0#32
  let v13 : BitVec 1 := Scalar.cmpi .ne v12 c0_i32_3
  v13

def cc0_transform_1 (k0_off1_inb : ∀ i : grid0.Coords, ∀ a, (k0_off1 i) a + S1.size a ≤ S145.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S145) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S145.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S145) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S145.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S145) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16512x2048 : Shape := ⟨2, ![16512, 2048]⟩
abbrev S16x2048x1024 : Shape := ⟨3, ![16, 2048, 1024]⟩
abbrev S16x1024x2048 : Shape := ⟨3, ![16, 1024, 2048]⟩
abbrev S145 : Shape := ⟨1, ![145]⟩
abbrev S1 : Shape := ⟨1, ![1]⟩
abbrev S37120 : Shape := ⟨1, ![37120]⟩
abbrev S_ : Shape := ⟨0, ![]⟩
abbrev S37120x1 : Shape := ⟨2, ![37120, 1]⟩
abbrev S37120x2048 : Shape := ⟨2, ![37120, 2048]⟩
abbrev S145x256 : Shape := ⟨2, ![145, 256]⟩
abbrev S1x16 : Shape := ⟨2, ![1, 16]⟩
abbrev S37120x16 : Shape := ⟨2, ![37120, 16]⟩
abbrev S37120x16x1024 : Shape := ⟨3, ![37120, 16, 1024]⟩
abbrev S16x37120x2048 : Shape := ⟨3, ![16, 37120, 2048]⟩
abbrev S16x37120 : Shape := ⟨2, ![16, 37120]⟩
abbrev S16x37120x1 : Shape := ⟨3, ![16, 37120, 1]⟩

abbrev nBuf : Space → Nat
  | .hbm => 55
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S16x2048x1024, .f32⟩
  | .hbm, ⟨2, _⟩ => ⟨S16x2048x1024, .f32⟩
  | .hbm, ⟨3, _⟩ => ⟨S16x1024x2048, .f32⟩
  | .hbm, ⟨4, _⟩ => ⟨S145, .i32⟩
  | .hbm, ⟨5, _⟩ => ⟨S1, .i32⟩
  | .hbm, ⟨6, _⟩ => ⟨S37120, .i32⟩
  | .hbm, ⟨7, _⟩ => ⟨S37120, .i32⟩
  | .hbm, ⟨8, _⟩ => ⟨S_, .i32⟩
  | .hbm, ⟨9, _⟩ => ⟨S37120, .i32⟩
  | .hbm, ⟨10, _⟩ => ⟨S37120, .i1⟩
  | .hbm, ⟨11, _⟩ => ⟨S_, .i32⟩
  | .hbm, ⟨12, _⟩ => ⟨S37120, .i32⟩
  | .hbm, ⟨13, _⟩ => ⟨S37120, .i32⟩
  | .hbm, ⟨14, _⟩ => ⟨S37120, .i32⟩
  | .hbm, ⟨15, _⟩ => ⟨S37120x1, .i32⟩
  | .hbm, ⟨16, _⟩ => ⟨S37120x2048, .f32⟩
  | .hbm, ⟨17, _⟩ => ⟨S145x256, .i32⟩
  | .hbm, ⟨18, _⟩ => ⟨S37120, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S37120, .i32⟩
  | .hbm, ⟨23, _⟩ => ⟨S37120, .i1⟩
  | .hbm, ⟨24, _⟩ => ⟨S37120x1, .i1⟩
  | .hbm, ⟨25, _⟩ => ⟨S37120x1, .i32⟩
  | .hbm, ⟨26, _⟩ => ⟨S1x16, .i32⟩
  | .hbm, ⟨27, _⟩ => ⟨S37120x16, .i32⟩
  | .hbm, ⟨28, _⟩ => ⟨S37120x16, .i32⟩
  | .hbm, ⟨29, _⟩ => ⟨S37120x16, .i1⟩
  | .hbm, ⟨30, _⟩ => ⟨S37120x16, .f32⟩
  | .hbm, ⟨31, _⟩ => ⟨S_, .f32⟩
  | .hbm, ⟨32, _⟩ => ⟨S_, .f32⟩
  | .hbm, ⟨33, _⟩ => ⟨S37120x16, .i1⟩
  | .hbm, ⟨34, _⟩ => ⟨S37120x16, .f32⟩
  | .hbm, ⟨35, _⟩ => ⟨S37120x16, .f32⟩
  | .hbm, ⟨36, _⟩ => ⟨S37120x16x1024, .f32⟩
  | .hbm, ⟨37, _⟩ => ⟨S37120x16x1024, .f32⟩
  | .hbm, ⟨38, _⟩ => ⟨S37120x16x1024, .f32⟩
  | .hbm, ⟨39, _⟩ => ⟨S_, .f32⟩
  | .hbm, ⟨40, _⟩ => ⟨S37120x16x1024, .f32⟩
  | .hbm, ⟨41, _⟩ => ⟨S37120x16x1024, .f32⟩
  | .hbm, ⟨42, _⟩ => ⟨S_, .f32⟩
  | .hbm, ⟨43, _⟩ => ⟨S37120x16x1024, .f32⟩
  | .hbm, ⟨44, _⟩ => ⟨S37120x16x1024, .f32⟩
  | .hbm, ⟨45, _⟩ => ⟨S37120x16x1024, .f32⟩
  | .hbm, ⟨46, _⟩ => ⟨S37120x16x1024, .f32⟩
  | .hbm, ⟨47, _⟩ => ⟨S37120x16x1024, .f32⟩
  | .hbm, ⟨48, _⟩ => ⟨S16x37120x2048, .f32⟩
  | .hbm, ⟨49, _⟩ => ⟨S16x37120, .f32⟩
  | .hbm, ⟨50, _⟩ => ⟨S16x37120x1, .f32⟩
  | .hbm, ⟨51, _⟩ => ⟨S16x37120x2048, .f32⟩
  | .hbm, ⟨52, _⟩ => ⟨S16x37120x2048, .f32⟩
  | .hbm, ⟨53, _⟩ => ⟨S_, .f32⟩
  | .hbm, ⟨54, _⟩ => ⟨S37120x2048, .f32⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_2 : Ref sig .tc := ⟨.hbm, 53, rfl⟩
abbrev main_v26 : Ref sig .tc := ⟨.hbm, 54, rfl⟩

abbrev nD : Nat := 1
abbrev τ : Topo := Topo.v7x

variable {F : FTy → Type} [FloatOps F]
-- ==== KernelA.lean ====
abbrev S16512x2048 : Shape := ⟨2, ![16512, 2048]⟩
abbrev S2048x4640 : Shape := ⟨2, ![2048, 4640]⟩
abbrev S4640 : Shape := ⟨1, ![4640]⟩
abbrev S2048x1024 : Shape := ⟨2, ![2048, 1024]⟩
abbrev S2048x512 : Shape := ⟨2, ![2048, 512]⟩
abbrev S2048x32 : Shape := ⟨2, ![2048, 32]⟩
abbrev S_ : Shape := ⟨0, ![]⟩
abbrev S2048x96 : Shape := ⟨2, ![2048, 96]⟩
abbrev S2048x1664 : Shape := ⟨2, ![2048, 1664]⟩
abbrev S1024 : Shape := ⟨1, ![1024]⟩
abbrev S512 : Shape := ⟨1, ![512]⟩
abbrev S32 : Shape := ⟨1, ![32]⟩
abbrev S96 : Shape := ⟨1, ![96]⟩
abbrev S1664 : Shape := ⟨1, ![1664]⟩
abbrev S1x1664 : Shape := ⟨2, ![1, 1664]⟩
abbrev S16512x1664 : Shape := ⟨2, ![16512, 1664]⟩
abbrev S384x2048 : Shape := ⟨2, ![384, 2048]⟩
abbrev S384x1664 : Shape := ⟨2, ![384, 1664]⟩

abbrev nBuf : Space → Nat
  | .hbm => 19
  | .vmem => 6
  | .smem => 0
  | _ => 0

abbrev bufTy : (tb : Table) → Fin (tcTables nBuf tb) → BufTy
  | .hbm, ⟨0, _⟩ => ⟨S16512x2048, .f32⟩
  | .hbm, ⟨1, _⟩ => ⟨S2048x4640, .f32⟩
  | .hbm, ⟨2, _⟩ => ⟨S4640, .f32⟩
  | .hbm, ⟨3, _⟩ => ⟨S2048x1024, .f32⟩
  | .hbm, ⟨4, _⟩ => ⟨S2048x512, .f32⟩
  | .hbm, ⟨5, _⟩ => ⟨S2048x32, .f32⟩
  | .hbm, ⟨6, _⟩ => ⟨S_, .f32⟩
  | .hbm, ⟨7, _⟩ => ⟨S2048x96, .f32⟩
  | .hbm, ⟨8, _⟩ => ⟨S2048x1664, .f32⟩
  | .hbm, ⟨9, _⟩ => ⟨S2048x1664, .bf16⟩
  | .hbm, ⟨10, _⟩ => ⟨S1024, .f32⟩
  | .hbm, ⟨11, _⟩ => ⟨S512, .f32⟩
  | .hbm, ⟨12, _⟩ => ⟨S32, .f32⟩
  | .hbm, ⟨13, _⟩ => ⟨S_, .f32⟩
  | .hbm, ⟨14, _⟩ => ⟨S96, .f32⟩
  | .hbm, ⟨15, _⟩ => ⟨S1664, .f32⟩
  | .hbm, ⟨16, _⟩ => ⟨S16512x2048, .bf16⟩
  | .hbm, ⟨17, _⟩ => ⟨S1x1664, .f32⟩
  | .hbm, ⟨18, _⟩ => ⟨S16512x1664, .f32⟩
  | .local _ .vmem, ⟨0, _⟩ => ⟨S384x2048, .bf16⟩
  | .local _ .vmem, ⟨1, _⟩ => ⟨S384x2048, .bf16⟩
  | .local _ .vmem, ⟨2, _⟩ => ⟨S2048x1664, .bf16⟩
  | .local _ .vmem, ⟨3, _⟩ => ⟨S1x1664, .f32⟩
  | .local _ .vmem, ⟨4, _⟩ => ⟨S384x1664, .f32⟩
  | .local _ .vmem, ⟨5, _⟩ => ⟨S384x1664, .f32⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceAIdeal.lean ====
abbrev S16512x2048 : Shape := ⟨2, ![16512, 2048]⟩
abbrev S2048x4640 : Shape := ⟨2, ![2048, 4640]⟩
abbrev S4640 : Shape := ⟨1, ![4640]⟩
abbrev S16512x4640 : Shape := ⟨2, ![16512, 4640]⟩
abbrev S1x4640 : Shape := ⟨2, ![1, 4640]⟩
abbrev S16512x1024 : Shape := ⟨2, ![16512, 1024]⟩
abbrev S16512x32 : Shape := ⟨2, ![16512, 32]⟩
abbrev S16512x512 : Shape := ⟨2, ![16512, 512]⟩
abbrev S_ : Shape := ⟨0, ![]⟩
abbrev S16512x96 : Shape := ⟨2, ![16512, 96]⟩
abbrev S16512x1664 : Shape := ⟨2, ![16512, 1664]⟩

abbrev nBuf : Space → Nat
  | .hbm => 13
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S2048x4640, .f32⟩
  | .hbm, ⟨2, _⟩ => ⟨S4640, .f32⟩
  | .hbm, ⟨3, _⟩ => ⟨S16512x4640, .f32⟩
  | .hbm, ⟨4, _⟩ => ⟨S1x4640, .f32⟩
  | .hbm, ⟨5, _⟩ => ⟨S16512x4640, .f32⟩
  | .hbm, ⟨6, _⟩ => ⟨S16512x4640, .f32⟩
  | .hbm, ⟨7, _⟩ => ⟨S16512x1024, .f32⟩
  | .hbm, ⟨8, _⟩ => ⟨S16512x32, .f32⟩
  | .hbm, ⟨9, _⟩ => ⟨S16512x512, .f32⟩
  | .hbm, ⟨10, _⟩ => ⟨S_, .f32⟩
  | .hbm, ⟨11, _⟩ => ⟨S16512x96, .f32⟩
  | .hbm, ⟨12, _⟩ => ⟨S16512x1664, .f32⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelB.lean ====
abbrev S16512x2048 : Shape := ⟨2, ![16512, 2048]⟩
abbrev S2048x4640 : Shape := ⟨2, ![2048, 4640]⟩
abbrev S4640 : Shape := ⟨1, ![4640]⟩
abbrev S2048x1536 : Shape := ⟨2, ![2048, 1536]⟩
abbrev S1536 : Shape := ⟨1, ![1536]⟩
abbrev S1x1536 : Shape := ⟨2, ![1, 1536]⟩
abbrev S16512x1536 : Shape := ⟨2, ![16512, 1536]⟩
abbrev S384x2048 : Shape := ⟨2, ![384, 2048]⟩
abbrev S384x1536 : Shape := ⟨2, ![384, 1536]⟩

abbrev nBuf : Space → Nat
  | .hbm => 9
  | .vmem => 6
  | .smem => 0
  | _ => 0

abbrev bufTy : (tb : Table) → Fin (tcTables nBuf tb) → BufTy
  | .hbm, ⟨0, _⟩ => ⟨S16512x2048, .f32⟩
  | .hbm, ⟨1, _⟩ => ⟨S2048x4640, .f32⟩
  | .hbm, ⟨2, _⟩ => ⟨S4640, .f32⟩
  | .hbm, ⟨3, _⟩ => ⟨S16512x2048, .bf16⟩
  | .hbm, ⟨4, _⟩ => ⟨S2048x1536, .f32⟩
  | .hbm, ⟨5, _⟩ => ⟨S2048x1536, .bf16⟩
  | .hbm, ⟨6, _⟩ => ⟨S1536, .f32⟩
  | .hbm, ⟨7, _⟩ => ⟨S1x1536, .f32⟩
  | .hbm, ⟨8, _⟩ => ⟨S16512x1536, .bf16⟩
  | .local _ .vmem, ⟨0, _⟩ => ⟨S384x2048, .bf16⟩
  | .local _ .vmem, ⟨1, _⟩ => ⟨S384x2048, .bf16⟩
  | .local _ .vmem, ⟨2, _⟩ => ⟨S2048x1536, .bf16⟩
  | .local _ .vmem, ⟨3, _⟩ => ⟨S1x1536, .f32⟩
  | .local _ .vmem, ⟨4, _⟩ => ⟨S384x1536, .bf16⟩
  | .local _ .vmem, ⟨5, _⟩ => ⟨S384x1536, .bf16⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceBIdeal.lean ====
abbrev S16512x2048 : Shape := ⟨2, ![16512, 2048]⟩
abbrev S2048x4640 : Shape := ⟨2, ![2048, 4640]⟩
abbrev S4640 : Shape := ⟨1, ![4640]⟩
abbrev S16512x4640 : Shape := ⟨2, ![16512, 4640]⟩
abbrev S1x4640 : Shape := ⟨2, ![1, 4640]⟩
abbrev S16512x1536 : Shape := ⟨2, ![16512, 1536]⟩

abbrev nBuf : Space → Nat
  | .hbm => 9
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S2048x4640, .f32⟩
  | .hbm, ⟨2, _⟩ => ⟨S4640, .f32⟩
  | .hbm, ⟨3, _⟩ => ⟨S16512x4640, .f32⟩
  | .hbm, ⟨4, _⟩ => ⟨S1x4640, .f32⟩
  | .hbm, ⟨5, _⟩ => ⟨S16512x4640, .f32⟩
  | .hbm, ⟨6, _⟩ => ⟨S16512x4640, .f32⟩
  | .hbm, ⟨7, _⟩ => ⟨S16512x1536, .f32⟩
  | .hbm, ⟨8, _⟩ => ⟨S16512x1536, .bf16⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelC.lean ====
abbrev S16512x2048 : Shape := ⟨2, ![16512, 2048]⟩
abbrev S2048x4640 : Shape := ⟨2, ![2048, 4640]⟩
abbrev S4640 : Shape := ⟨1, ![4640]⟩
abbrev S2048x1536 : Shape := ⟨2, ![2048, 1536]⟩
abbrev S1536 : Shape := ⟨1, ![1536]⟩
abbrev S1x1536 : Shape := ⟨2, ![1, 1536]⟩
abbrev S16512x1536 : Shape := ⟨2, ![16512, 1536]⟩
abbrev S384x2048 : Shape := ⟨2, ![384, 2048]⟩
abbrev S384x1536 : Shape := ⟨2, ![384, 1536]⟩

abbrev nBuf : Space → Nat
  | .hbm => 9
  | .vmem => 6
  | .smem => 0
  | _ => 0

abbrev bufTy : (tb : Table) → Fin (tcTables nBuf tb) → BufTy
  | .hbm, ⟨0, _⟩ => ⟨S16512x2048, .f32⟩
  | .hbm, ⟨1, _⟩ => ⟨S2048x4640, .f32⟩
  | .hbm, ⟨2, _⟩ => ⟨S4640, .f32⟩
  | .hbm, ⟨3, _⟩ => ⟨S16512x2048, .bf16⟩
  | .hbm, ⟨4, _⟩ => ⟨S2048x1536, .f32⟩
  | .hbm, ⟨5, _⟩ => ⟨S2048x1536, .bf16⟩
  | .hbm, ⟨6, _⟩ => ⟨S1536, .f32⟩
  | .hbm, ⟨7, _⟩ => ⟨S1x1536, .f32⟩
  | .hbm, ⟨8, _⟩ => ⟨S16512x1536, .f32⟩
  | .local _ .vmem, ⟨0, _⟩ => ⟨S384x2048, .bf16⟩
  | .local _ .vmem, ⟨1, _⟩ => ⟨S384x2048, .bf16⟩
  | .local _ .vmem, ⟨2, _⟩ => ⟨S2048x1536, .bf16⟩
  | .local _ .vmem, ⟨3, _⟩ => ⟨S1x1536, .f32⟩
  | .local _ .vmem, ⟨4, _⟩ => ⟨S384x1536, .f32⟩
  | .local _ .vmem, ⟨5, _⟩ => ⟨S384x1536, .f32⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceCIdeal.lean ====
abbrev S16512x2048 : Shape := ⟨2, ![16512, 2048]⟩
abbrev S2048x4640 : Shape := ⟨2, ![2048, 4640]⟩
abbrev S4640 : Shape := ⟨1, ![4640]⟩
abbrev S16512x4640 : Shape := ⟨2, ![16512, 4640]⟩
abbrev S1x4640 : Shape := ⟨2, ![1, 4640]⟩
abbrev S16512x1536 : Shape := ⟨2, ![16512, 1536]⟩

abbrev nBuf : Space → Nat
  | .hbm => 8
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S2048x4640, .f32⟩
  | .hbm, ⟨2, _⟩ => ⟨S4640, .f32⟩
  | .hbm, ⟨3, _⟩ => ⟨S16512x4640, .f32⟩
  | .hbm, ⟨4, _⟩ => ⟨S1x4640, .f32⟩
  | .hbm, ⟨5, _⟩ => ⟨S16512x4640, .f32⟩
  | .hbm, ⟨6, _⟩ => ⟨S16512x4640, .f32⟩
  | .hbm, ⟨7, _⟩ => ⟨S16512x1536, .f32⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelO.lean ====
abbrev S16512x512 : Shape := ⟨2, ![16512, 512]⟩
abbrev S16512x1024 : Shape := ⟨2, ![16512, 1024]⟩
abbrev S16512x2048 : Shape := ⟨2, ![16512, 2048]⟩
abbrev S2048x2048 : Shape := ⟨2, ![2048, 2048]⟩
abbrev S2048 : Shape := ⟨1, ![2048]⟩
abbrev S2048x4 : Shape := ⟨2, ![2048, 4]⟩
abbrev S2048x16 : Shape := ⟨2, ![2048, 16]⟩
abbrev S_ : Shape := ⟨0, ![]⟩
abbrev S2048x128 : Shape := ⟨2, ![2048, 128]⟩
abbrev S1 : Shape := ⟨1, ![1]⟩
abbrev S1x2048 : Shape := ⟨2, ![1, 2048]⟩
abbrev S16512x128 : Shape := ⟨2, ![16512, 128]⟩
abbrev S384x512 : Shape := ⟨2, ![384, 512]⟩
abbrev S384x1024 : Shape := ⟨2, ![384, 1024]⟩
abbrev S384x2048 : Shape := ⟨2, ![384, 2048]⟩
abbrev S384x128 : Shape := ⟨2, ![384, 128]⟩
abbrev S512x2048 : Shape := ⟨2, ![512, 2048]⟩
abbrev S1024x2048 : Shape := ⟨2, ![1024, 2048]⟩
abbrev S384 : Shape := ⟨1, ![384]⟩
abbrev S384x1 : Shape := ⟨2, ![384, 1]⟩

abbrev nBuf : Space → Nat
  | .hbm => 29
  | .vmem => 19
  | .smem => 0
  | _ => 0

abbrev bufTy : (tb : Table) → Fin (tcTables nBuf tb) → BufTy
  | .hbm, ⟨0, _⟩ => ⟨S16512x512, .f32⟩
  | .hbm, ⟨1, _⟩ => ⟨S16512x1024, .f32⟩
  | .hbm, ⟨2, _⟩ => ⟨S16512x512, .f32⟩
  | .hbm, ⟨3, _⟩ => ⟨S16512x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048x4, .f32⟩
  | .hbm, ⟨9, _⟩ => ⟨S2048x16, .f32⟩
  | .hbm, ⟨10, _⟩ => ⟨S_, .f32⟩
  | .hbm, ⟨11, _⟩ => ⟨S2048x128, .f32⟩
  | .hbm, ⟨12, _⟩ => ⟨S_, .i32⟩
  | .hbm, ⟨13, _⟩ => ⟨S1, .i32⟩
  | .hbm, ⟨14, _⟩ => ⟨S2048x128, .f32⟩
  | .hbm, ⟨15, _⟩ => ⟨S_, .i32⟩
  | .hbm, ⟨16, _⟩ => ⟨S1, .i32⟩
  | .hbm, ⟨17, _⟩ => ⟨S2048x128, .f32⟩
  | .hbm, ⟨18, _⟩ => ⟨S2048x128, .bf16⟩
  | .hbm, ⟨19, _⟩ => ⟨S16512x512, .bf16⟩
  | .hbm, ⟨20, _⟩ => ⟨S16512x1024, .bf16⟩
  | .hbm, ⟨21, _⟩ => ⟨S16512x512, .bf16⟩
  | .hbm, ⟨22, _⟩ => ⟨S2048x2048, .bf16⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S16512x2048, .f32⟩
  | .hbm, ⟨27, _⟩ => ⟨S16512x2048, .bf16⟩
  | .hbm, ⟨28, _⟩ => ⟨S16512x128, .f32⟩
  | .local _ .vmem, ⟨0, _⟩ => ⟨S384x512, .bf16⟩
  | .local _ .vmem, ⟨1, _⟩ => ⟨S384x512, .bf16⟩
  | .local _ .vmem, ⟨2, _⟩ => ⟨S384x1024, .bf16⟩
  | .local _ .vmem, ⟨3, _⟩ => ⟨S384x1024, .bf16⟩
  | .local _ .vmem, ⟨4, _⟩ => ⟨S384x512, .bf16⟩
  | .local _ .vmem, ⟨5, _⟩ => ⟨S384x512, .bf16⟩
  | .local _ .vmem, ⟨6, _⟩ => ⟨S384x2048, .f32⟩
  | .local _ .vmem, ⟨7, _⟩ => ⟨S384x2048, .f32⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S2048x128, .bf16⟩
  | .local _ .vmem, ⟨13, _⟩ => ⟨S384x2048, .f32⟩
  | .local _ .vmem, ⟨14, _⟩ => ⟨S384x2048, .f32⟩
  | .local _ .vmem, ⟨15, _⟩ => ⟨S384x2048, .bf16⟩
  | .local _ .vmem, ⟨16, _⟩ => ⟨S384x2048, .bf16⟩
  | .local _ .vmem, ⟨17, _⟩ => ⟨S384x128, .f32⟩
  | .local _ .vmem, ⟨18, _⟩ => ⟨S384x128, .f32⟩
  | _, _ => ⟨S16512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceOIdeal.lean ====
abbrev S16512x512 : Shape := ⟨2, ![16512, 512]⟩
abbrev S16512x1024 : Shape := ⟨2, ![16512, 1024]⟩
abbrev S16512x2048 : Shape := ⟨2, ![16512, 2048]⟩
abbrev S2048x2048 : Shape := ⟨2, ![2048, 2048]⟩
abbrev S2048 : Shape := ⟨1, ![2048]⟩
abbrev S2048x4 : Shape := ⟨2, ![2048, 4]⟩
abbrev S2048x16 : Shape := ⟨2, ![2048, 16]⟩
abbrev S_ : Shape := ⟨0, ![]⟩
abbrev S1x2048 : Shape := ⟨2, ![1, 2048]⟩
abbrev S16512 : Shape := ⟨1, ![16512]⟩
abbrev S16512x1 : Shape := ⟨2, ![16512, 1]⟩
abbrev S16512x4 : Shape := ⟨2, ![16512, 4]⟩
abbrev S16512x16 : Shape := ⟨2, ![16512, 16]⟩
abbrev S16512x108 : Shape := ⟨2, ![16512, 108]⟩
abbrev S16512x128 : Shape := ⟨2, ![16512, 128]⟩

abbrev nBuf : Space → Nat
  | .hbm => 54
  | .vmem => 0
  | .smem => 0
  | _ => 0

abbrev bufTy : (tb : Table) → Fin (tcTables nBuf tb) → BufTy
  | .hbm, ⟨0, _⟩ => ⟨S16512x512, .f32⟩
  | .hbm, ⟨1, _⟩ => ⟨S16512x1024, .f32⟩
  | .hbm, ⟨2, _⟩ => ⟨S16512x512, .f32⟩
  | .hbm, ⟨3, _⟩ => ⟨S16512x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048x4, .f32⟩
  | .hbm, ⟨9, _⟩ => ⟨S2048x16, .f32⟩
  | .hbm, ⟨10, _⟩ => ⟨S_, .f32⟩
  | .hbm, ⟨11, _⟩ => ⟨S16512x2048, .f32⟩
  | .hbm, ⟨12, _⟩ => ⟨S16512x2048, .f32⟩
  | .hbm, ⟨13, _⟩ => ⟨S16512x2048, .f32⟩
  | .hbm, ⟨14, _⟩ => ⟨S16512x2048, .f32⟩
  | .hbm, ⟨15, _⟩ => ⟨S1x2048, .f32⟩
  | .hbm, ⟨16, _⟩ => ⟨S16512x2048, .f32⟩
  | .hbm, ⟨17, _⟩ => ⟨S16512x2048, .f32⟩
  | .hbm, ⟨18, _⟩ => ⟨S16512x2048, .f32⟩
  | .hbm, ⟨19, _⟩ => ⟨S_, .f32⟩
  | .hbm, ⟨20, _⟩ => ⟨S16512, .f32⟩
  | .hbm, ⟨21, _⟩ => ⟨S16512x1, .f32⟩
  | .hbm, ⟨22, _⟩ => ⟨S_, .f32⟩
  | .hbm, ⟨23, _⟩ => ⟨S16512x1, .f32⟩
  | .hbm, ⟨24, _⟩ => ⟨S16512x1, .f32⟩
  | .hbm, ⟨25, _⟩ => ⟨S16512x2048, .f32⟩
  | .hbm, ⟨26, _⟩ => ⟨S16512x2048, .f32⟩
  | .hbm, ⟨27, _⟩ => ⟨S16512x2048, .f32⟩
  | .hbm, ⟨28, _⟩ => ⟨S_, .f32⟩
  | .hbm, ⟨29, _⟩ => ⟨S16512, .f32⟩
  | .hbm, ⟨30, _⟩ => ⟨S16512x1, .f32⟩
  | .hbm, ⟨31, _⟩ => ⟨S_, .f32⟩
  | .hbm, ⟨32, _⟩ => ⟨S16512x1, .f32⟩
  | .hbm, ⟨33, _⟩ => ⟨S16512x1, .f32⟩
  | .hbm, ⟨34, _⟩ => ⟨S16512x2048, .f32⟩
  | .hbm, ⟨35, _⟩ => ⟨S16512x2048, .f32⟩
  | .hbm, ⟨36, _⟩ => ⟨S_, .f32⟩
  | .hbm, ⟨37, _⟩ => ⟨S16512x1, .f32⟩
  | .hbm, ⟨38, _⟩ => ⟨S16512x1, .f32⟩
  | .hbm, ⟨39, _⟩ => ⟨S16512x1, .f32⟩
  | .hbm, ⟨40, _⟩ => ⟨S16512x2048, .f32⟩
  | .hbm, ⟨41, _⟩ => ⟨S16512x2048, .f32⟩
  | .hbm, ⟨42, _⟩ => ⟨S1x2048, .f32⟩
  | .hbm, ⟨43, _⟩ => ⟨S16512x2048, .f32⟩
  | .hbm, ⟨44, _⟩ => ⟨S16512x2048, .f32⟩
  | .hbm, ⟨45, _⟩ => ⟨S1x2048, .f32⟩
  | .hbm, ⟨46, _⟩ => ⟨S16512x2048, .f32⟩
  | .hbm, ⟨47, _⟩ => ⟨S16512x2048, .f32⟩
  | .hbm, ⟨48, _⟩ => ⟨S16512x4, .f32⟩
  | .hbm, ⟨49, _⟩ => ⟨S16512x16, .f32⟩
  | .hbm, ⟨50, _⟩ => ⟨S_, .f32⟩
  | .hbm, ⟨51, _⟩ => ⟨S16512x108, .f32⟩
  | .hbm, ⟨52, _⟩ => ⟨S16512x128, .f32⟩
  | .hbm, ⟨53, _⟩ => ⟨S16512x2048, .bf16⟩
  | _, _ => ⟨S16512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== KernelM.lean ====
abbrev S33024 : Shape := ⟨1, ![33024]⟩
abbrev S37120x2048 : Shape := ⟨2, ![37120, 2048]⟩
abbrev S16512x2048 : Shape := ⟨2, ![16512, 2048]⟩
abbrev S16512x128 : Shape := ⟨2, ![16512, 128]⟩
abbrev S2048 : Shape := ⟨1, ![2048]⟩
abbrev S1x2048 : Shape := ⟨2, ![1, 2048]⟩
abbrev S384x2048 : Shape := ⟨2, ![384, 2048]⟩
abbrev S384x128 : Shape := ⟨2, ![384, 128]⟩
abbrev S2x2x384x2048 : Shape := ⟨4, ![2, 2, 384, 2048]⟩
abbrev S2 : Shape := ⟨1, ![2]⟩
abbrev S1 : Shape := ⟨1, ![1]⟩
abbrev S_ : Shape := ⟨0, ![]⟩
abbrev S1x1x1x2048 : Shape := ⟨4, ![1, 1, 1, 2048]⟩
abbrev S1x1x384x2048 : Shape := ⟨4, ![1, 1, 384, 2048]⟩
abbrev S384x1 : Shape := ⟨2, ![384, 1]⟩
abbrev S384 : Shape := ⟨1, ![384]⟩

abbrev nBuf : Space → Nat
  | .hbm => 9
  | .vmem => 11
  | .smem => 1
  | _ => 0

abbrev bufTy : (tb : Table) → Fin (tcTables nBuf tb) → BufTy
  | .hbm, ⟨0, _⟩ => ⟨S37120x2048, .f32⟩
  | .hbm, ⟨1, _⟩ => ⟨S16512x2048, .f32⟩
  | .hbm, ⟨2, _⟩ => ⟨S16512x128, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16512x2048, .f32⟩
  | .hbm, ⟨8, _⟩ => ⟨S16512x2048, .bf16⟩
  | .local _ .vmem, ⟨0, _⟩ => ⟨S384x2048, .f32⟩
  | .local _ .vmem, ⟨1, _⟩ => ⟨S384x2048, .f32⟩
  | .local _ .vmem, ⟨2, _⟩ => ⟨S384x128, .f32⟩
  | .local _ .vmem, ⟨3, _⟩ => ⟨S384x128, .f32⟩
  | .local _ .vmem, ⟨4, _⟩ => ⟨S1x2048, .f32⟩
  | .local _ .vmem, ⟨5, _⟩ => ⟨S1x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .bf16⟩
  | .local _ .vmem, ⟨9, _⟩ => ⟨S384x2048, .bf16⟩
  | .local _ .vmem, ⟨10, _⟩ => ⟨S2x2x384x2048, .f32⟩
  | .local _ .smem, ⟨0, _⟩ => ⟨S33024, .i32⟩
  | _, _ => ⟨S37120x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![43], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_31 : BitVec 32 := 0#32
  let c384_i32_32 : BitVec 32 := 384#32
  let v63 : BitVec 32 := Scalar.addi c0_i32_31 c384_i32_32
  let c1_i32_33 : BitVec 32 := 1#32
  ⟨c0_i32_31, v63, c1_i32_33⟩
def k0_off1 (k0_t1 : Fin k0_t1_loop.trips) : Fin 1 → Nat :=
  let c0_i32_35 : BitVec 32 := 0#32
  let c0_i32_31 : BitVec 32 := 0#32
  let c1_i32_33 : BitVec 32 := 1#32
  let arg11 : BitVec 32 := Scf.iv c0_i32_31 c1_i32_33 k0_t1
  let v64 : BitVec 32 := Scalar.addi c0_i32_35 arg11
  let c2_i32_36 : BitVec 32 := 2#32
  let v65 : BitVec 32 := Scalar.muli v64 c2_i32_36
  let c0_i32_37 : BitVec 32 := 0#32
  let v66 : BitVec 32 := Scalar.addi v65 c0_i32_37
  let v67 : Index := Scalar.indexCast v66
  ![v67.toNat]
def k0_off2 (k0_t1 : Fin k0_t1_loop.trips) : Fin 4 → Nat :=
  let c0_i32_38 : BitVec 32 := 0#32
  let c0_i32_39 : BitVec 32 := 0#32
  let c0_i32_31 : BitVec 32 := 0#32
  let c1_i32_33 : BitVec 32 := 1#32
  let arg11 : BitVec 32 := Scf.iv c0_i32_31 c1_i32_33 k0_t1
  let c0_i32_41 : BitVec 32 := 0#32
  ![0, 0, arg11.toNat, 0]
def k0_off3 (v68 : BitVec 32) : Fin 2 → Nat :=
  let c0_i32_42 : BitVec 32 := 0#32
  ![v68.toNat, 0]

def k0_chk1 (i : grid0.Coords) (v68 : BitVec 32) : Prop :=
  (∀ (k0_h1 : k0_cond1 i = 1#1), ∀ a, (k0_off3 v68) a + S1x2048.size a ≤ S37120x2048.size a)
theorem k0_off3_inb : ∀ (i : grid0.Coords) (v68 : BitVec 32) (k0_hw1 : k0_chk1 i v68), ∀ (k0_h1 : k0_cond1 i = 1#1), ∀ a, (k0_off3 v68) a + S1x2048.size a ≤ S37120x2048.size a := fun i v68 k0_hw1 k0_h1 => k0_hw1 k0_h1

def k0_off4 (k0_t1 : Fin k0_t1_loop.trips) : Fin 1 → Nat :=
  let c0_i32_43 : BitVec 32 := 0#32
  let c0_i32_31 : BitVec 32 := 0#32
  let c1_i32_33 : BitVec 32 := 1#32
  let arg11 : BitVec 32 := Scf.iv c0_i32_31 c1_i32_33 k0_t1
  let v74 : BitVec 32 := Scalar.addi c0_i32_43 arg11
  let c2_i32_44 : BitVec 32 := 2#32
  let v75 : BitVec 32 := Scalar.muli v74 c2_i32_44
  let c1_i32_45 : BitVec 32 := 1#32
  let v76 : BitVec 32 := Scalar.addi v75 c1_i32_45
  let v77 : Index := Scalar.indexCast v76
  ![v77.toNat]
def k0_off5 (k0_t1 : Fin k0_t1_loop.trips) : Fin 4 → Nat :=
  let c0_i32_46 : BitVec 32 := 0#32
  let c1_i32_47 : BitVec 32 := 1#32
  let c0_i32_31 : BitVec 32 := 0#32
  let c1_i32_33 : BitVec 32 := 1#32
  let arg11 : BitVec 32 := Scf.iv c0_i32_31 c1_i32_33 k0_t1
  let c0_i32_49 : BitVec 32 := 0#32
  ![0, 1, arg11.toNat, 0]
def k0_off6 (v78 : BitVec 32) : Fin 2 → Nat :=
  let c0_i32_50 : BitVec 32 := 0#32
  ![v78.toNat, 0]

def k0_chk2 (i : grid0.Coords) (v78 : BitVec 32) : Prop :=
  (∀ (k0_h1 : k0_cond1 i = 1#1), ∀ a, (k0_off6 v78) a + S1x2048.size a ≤ S37120x2048.size a)
theorem k0_off6_inb : ∀ (i : grid0.Coords) (v78 : BitVec 32) (k0_hw2 : k0_chk2 i v78), ∀ (k0_h1 : k0_cond1 i = 1#1), ∀ a, (k0_off6 v78) a + S1x2048.size a ≤ S37120x2048.size a := fun i v78 k0_hw2 k0_h1 => k0_hw2 k0_h1

def k0_cond2 (i : grid0.Coords) : BitVec 1 :=
  let arg0 : BitVec 32 := BitVec.ofNat 32 (i 0).val
  let c1_i32 : BitVec 32 := 1#32
  let v3 : BitVec 32 := Scalar.addi arg0 c1_i32
  let c43_i32 : BitVec 32 := 43#32
  let v4 : BitVec 1 := Scalar.cmpi .slt v3 c43_i32
  let v5 : BitVec 32 := Scalar.extui v4
  let c0_i32_1 : BitVec 32 := 0#32
  let v6 : BitVec 1 := Scalar.cmpi .ne v5 c0_i32_1
  v6

@[reducible] def k0_t2_loop : Scf.Loop 32 :=
  let c0_i32_39 : BitVec 32 := 0#32
  let c384_i32_40 : BitVec 32 := 384#32
  let v75 : BitVec 32 := Scalar.addi c0_i32_39 c384_i32_40
  let c1_i32_41 : BitVec 32 := 1#32
  ⟨c0_i32_39, v75, c1_i32_41⟩
def k0_off7 (i : grid0.Coords) (k0_t2 : Fin k0_t2_loop.trips) : Fin 1 → Nat :=
  let arg0 : BitVec 32 := BitVec.ofNat 32 (i 0).val
  let c1_i32_31 : BitVec 32 := 1#32
  let v63 : BitVec 32 := Scalar.addi arg0 c1_i32_31
  let c384_i32_43 : BitVec 32 := 384#32
  let v76 : BitVec 32 := Scalar.muli v63 c384_i32_43
  let c0_i32_39 : BitVec 32 := 0#32
  let c1_i32_41 : BitVec 32 := 1#32
  let arg11 : BitVec 32 := Scf.iv c0_i32_39 c1_i32_41 k0_t2
  let v77 : BitVec 32 := Scalar.addi v76 arg11
  let c2_i32_44 : BitVec 32 := 2#32
  let v78 : BitVec 32 := Scalar.muli v77 c2_i32_44
  let c0_i32_45 : BitVec 32 := 0#32
  let v79 : BitVec 32 := Scalar.addi v78 c0_i32_45
  let v80 : Index := Scalar.indexCast v79
  ![v80.toNat]
def k0_off8 (i : grid0.Coords) : Fin 1 → Nat :=
  let arg0 : BitVec 32 := BitVec.ofNat 32 (i 0).val
  let c1_i32_32 : BitVec 32 := 1#32
  let v64 : BitVec 32 := Scalar.addi arg0 c1_i32_32
  let c2_i32_33 : BitVec 32 := 2#32
  let c0_i32_34 : BitVec 32 := 0#32
  let v65 : BitVec 1 := Scalar.cmpi .eq c2_i32_33 c0_i32_34
  let c1_i32_35 : BitVec 32 := 1#32
  let v66 : BitVec 32 := Scalar.select v65 c1_i32_35 c2_i32_33
  let v67 : BitVec 32 := Scalar.remsi v64 v66
  let c0_i32_37 : BitVec 32 := 0#32
  let v69 : BitVec 1 := Scalar.cmpi .slt v67 c0_i32_37
  let c0_i32_38 : BitVec 32 := 0#32
  let v70 : BitVec 1 := Scalar.cmpi .slt v66 c0_i32_38
  let v71 : BitVec 1 := Scalar.xori v69 v70
  let c0_i32_36 : BitVec 32 := 0#32
  let v68 : BitVec 1 := Scalar.cmpi .ne v67 c0_i32_36
  let v72 : BitVec 1 := Scalar.andi v71 v68
  let v73 : BitVec 32 := Scalar.addi v67 v66
  let v74 : BitVec 32 := Scalar.select v72 v73 v67
  ![v74.toNat]
def k0_off9 (i : grid0.Coords) (k0_t2 : Fin k0_t2_loop.trips) : Fin 4 → Nat :=
  let arg0 : BitVec 32 := BitVec.ofNat 32 (i 0).val
  let c1_i32_32 : BitVec 32 := 1#32
  let v64 : BitVec 32 := Scalar.addi arg0 c1_i32_32
  let c2_i32_33 : BitVec 32 := 2#32
  let c0_i32_34 : BitVec 32 := 0#32
  let v65 : BitVec 1 := Scalar.cmpi .eq c2_i32_33 c0_i32_34
  let c1_i32_35 : BitVec 32 := 1#32
  let v66 : BitVec 32 := Scalar.select v65 c1_i32_35 c2_i32_33
  let v67 : BitVec 32 := Scalar.remsi v64 v66
  let c0_i32_37 : BitVec 32 := 0#32
  let v69 : BitVec 1 := Scalar.cmpi .slt v67 c0_i32_37
  let c0_i32_38 : BitVec 32 := 0#32
  let v70 : BitVec 1 := Scalar.cmpi .slt v66 c0_i32_38
  let v71 : BitVec 1 := Scalar.xori v69 v70
  let c0_i32_36 : BitVec 32 := 0#32
  let v68 : BitVec 1 := Scalar.cmpi .ne v67 c0_i32_36
  let v72 : BitVec 1 := Scalar.andi v71 v68
  let v73 : BitVec 32 := Scalar.addi v67 v66
  let v74 : BitVec 32 := Scalar.select v72 v73 v67
  let c0_i32_46 : BitVec 32 := 0#32
  let c0_i32_39 : BitVec 32 := 0#32
  let c1_i32_41 : BitVec 32 := 1#32
  let arg11 : BitVec 32 := Scf.iv c0_i32_39 c1_i32_41 k0_t2
  let c0_i32_47 : BitVec 32 := 0#32
  ![v74.toNat, 0, arg11.toNat, 0]
def k0_off10 (v81 : BitVec 32) : Fin 2 → Nat :=
  let c0_i32_48 : BitVec 32 := 0#32
  ![v81.toNat, 0]

def k0_chk3 (i : grid0.Coords) (v81 : BitVec 32) : Prop :=
  (∀ (k0_h2 : k0_cond2 i = 1#1), ∀ a, (k0_off10 v81) a + S1x2048.size a ≤ S37120x2048.size a)
theorem k0_off10_inb : ∀ (i : grid0.Coords) (v81 : BitVec 32) (k0_hw3 : k0_chk3 i v81), ∀ (k0_h2 : k0_cond2 i = 1#1), ∀ a, (k0_off10 v81) a + S1x2048.size a ≤ S37120x2048.size a := fun i v81 k0_hw3 k0_h2 => k0_hw3 k0_h2

def k0_off11 (i : grid0.Coords) (k0_t2 : Fin k0_t2_loop.trips) : Fin 1 → Nat :=
  let arg0 : BitVec 32 := BitVec.ofNat 32 (i 0).val
  let c1_i32_31 : BitVec 32 := 1#32
  let v63 : BitVec 32 := Scalar.addi arg0 c1_i32_31
  let c384_i32_49 : BitVec 32 := 384#32
  let v87 : BitVec 32 := Scalar.muli v63 c384_i32_49
  let c0_i32_39 : BitVec 32 := 0#32
  let c1_i32_41 : BitVec 32 := 1#32
  let arg11 : BitVec 32 := Scf.iv c0_i32_39 c1_i32_41 k0_t2
  let v88 : BitVec 32 := Scalar.addi v87 arg11
  let c2_i32_50 : BitVec 32 := 2#32
  let v89 : BitVec 32 := Scalar.muli v88 c2_i32_50
  let c1_i32_51 : BitVec 32 := 1#32
  let v90 : BitVec 32 := Scalar.addi v89 c1_i32_51
  let v91 : Index := Scalar.indexCast v90
  ![v91.toNat]
def k0_off12 (i : grid0.Coords) : Fin 1 → Nat :=
  let arg0 : BitVec 32 := BitVec.ofNat 32 (i 0).val
  let c1_i32_32 : BitVec 32 := 1#32
  let v64 : BitVec 32 := Scalar.addi arg0 c1_i32_32
  let c2_i32_33 : BitVec 32 := 2#32
  let c0_i32_34 : BitVec 32 := 0#32
  let v65 : BitVec 1 := Scalar.cmpi .eq c2_i32_33 c0_i32_34
  let c1_i32_35 : BitVec 32 := 1#32
  let v66 : BitVec 32 := Scalar.select v65 c1_i32_35 c2_i32_33
  let v67 : BitVec 32 := Scalar.remsi v64 v66
  let c0_i32_37 : BitVec 32 := 0#32
  let v69 : BitVec 1 := Scalar.cmpi .slt v67 c0_i32_37
  let c0_i32_38 : BitVec 32 := 0#32
  let v70 : BitVec 1 := Scalar.cmpi .slt v66 c0_i32_38
  let v71 : BitVec 1 := Scalar.xori v69 v70
  let c0_i32_36 : BitVec 32 := 0#32
  let v68 : BitVec 1 := Scalar.cmpi .ne v67 c0_i32_36
  let v72 : BitVec 1 := Scalar.andi v71 v68
  let v73 : BitVec 32 := Scalar.addi v67 v66
  let v74 : BitVec 32 := Scalar.select v72 v73 v67
  ![v74.toNat]
def k0_off13 (i : grid0.Coords) (k0_t2 : Fin k0_t2_loop.trips) : Fin 4 → Nat :=
  let arg0 : BitVec 32 := BitVec.ofNat 32 (i 0).val
  let c1_i32_32 : BitVec 32 := 1#32
  let v64 : BitVec 32 := Scalar.addi arg0 c1_i32_32
  let c2_i32_33 : BitVec 32 := 2#32
  let c0_i32_34 : BitVec 32 := 0#32
  let v65 : BitVec 1 := Scalar.cmpi .eq c2_i32_33 c0_i32_34
  let c1_i32_35 : BitVec 32 := 1#32
  let v66 : BitVec 32 := Scalar.select v65 c1_i32_35 c2_i32_33
  let v67 : BitVec 32 := Scalar.remsi v64 v66
  let c0_i32_37 : BitVec 32 := 0#32
  let v69 : BitVec 1 := Scalar.cmpi .slt v67 c0_i32_37
  let c0_i32_38 : BitVec 32 := 0#32
  let v70 : BitVec 1 := Scalar.cmpi .slt v66 c0_i32_38
  let v71 : BitVec 1 := Scalar.xori v69 v70
  let c0_i32_36 : BitVec 32 := 0#32
  let v68 : BitVec 1 := Scalar.cmpi .ne v67 c0_i32_36
  let v72 : BitVec 1 := Scalar.andi v71 v68
  let v73 : BitVec 32 := Scalar.addi v67 v66
  let v74 : BitVec 32 := Scalar.select v72 v73 v67
  let c1_i32_52 : BitVec 32 := 1#32
  let c0_i32_39 : BitVec 32 := 0#32
  let c1_i32_41 : BitVec 32 := 1#32
  let arg11 : BitVec 32 := Scf.iv c0_i32_39 c1_i32_41 k0_t2
  let c0_i32_53 : BitVec 32 := 0#32
  ![v74.toNat, 1, arg11.toNat, 0]
def k0_off14 (v92 : BitVec 32) : Fin 2 → Nat :=
  let c0_i32_54 : BitVec 32 := 0#32
  ![v92.toNat, 0]

def k0_chk4 (i : grid0.Coords) (v92 : BitVec 32) : Prop :=
  (∀ (k0_h2 : k0_cond2 i = 1#1), ∀ a, (k0_off14 v92) a + S1x2048.size a ≤ S37120x2048.size a)
theorem k0_off14_inb : ∀ (i : grid0.Coords) (v92 : BitVec 32) (k0_hw4 : k0_chk4 i v92), ∀ (k0_h2 : k0_cond2 i = 1#1), ∀ a, (k0_off14 v92) a + S1x2048.size a ≤ S37120x2048.size a := fun i v92 k0_hw4 k0_h2 => k0_hw4 k0_h2

@[reducible] def k0_t3_loop : Scf.Loop 32 :=
  let c0_i32_7 : BitVec 32 := 0#32
  let c384_i32 : BitVec 32 := 384#32
  let v17 : BitVec 32 := Scalar.addi c0_i32_7 c384_i32
  let c1_i32_8 : BitVec 32 := 1#32
  ⟨c0_i32_7, v17, c1_i32_8⟩
def k0_off15 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off16 (i : grid0.Coords) (k0_t3 : Fin k0_t3_loop.trips) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_31 : BitVec 32 := 0#32
  let c0_i32_7 : BitVec 32 := 0#32
  let c1_i32_8 : BitVec 32 := 1#32
  let arg11 : BitVec 32 := Scf.iv c0_i32_7 c1_i32_8 k0_t3
  let c0_i32_32 : BitVec 32 := 0#32
  ![v16.toNat, 0, arg11.toNat, 0]
def k0_off17 (i : grid0.Coords) (k0_t3 : Fin k0_t3_loop.trips) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_35 : BitVec 32 := 1#32
  let c0_i32_7 : BitVec 32 := 0#32
  let c1_i32_8 : BitVec 32 := 1#32
  let arg11 : BitVec 32 := Scf.iv c0_i32_7 c1_i32_8 k0_t3
  let c0_i32_36 : BitVec 32 := 0#32
  ![v16.toNat, 1, arg11.toNat, 0]
def k0_off18 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v19 : Index := Scalar.indexCast v16
  let c0_11 : Index := 0#32
  let c0_12 : Index := 0#32
  let c0_13 : Index := 0#32
  ![v19.toNat, 0, 0, 0]
def k0_off19 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v25 : Index := Scalar.indexCast v16
  let c1 : Index := 1#32
  let c0_14 : Index := 0#32
  let c0_15 : Index := 0#32
  ![v25.toNat, 1, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceMIdeal.lean ====
abbrev S33024 : Shape := ⟨1, ![33024]⟩
abbrev S37120x2048 : Shape := ⟨2, ![37120, 2048]⟩
abbrev S16512x2048 : Shape := ⟨2, ![16512, 2048]⟩
abbrev S16512x128 : Shape := ⟨2, ![16512, 128]⟩
abbrev S2048 : Shape := ⟨1, ![2048]⟩
abbrev S16512x1 : Shape := ⟨2, ![16512, 1]⟩
abbrev S16512 : Shape := ⟨1, ![16512]⟩
abbrev S_ : Shape := ⟨0, ![]⟩
abbrev S1x2048 : Shape := ⟨2, ![1, 2048]⟩

abbrev nBuf : Space → Nat
  | .hbm => 67
  | .vmem => 0
  | .smem => 0
  | _ => 0

abbrev bufTy : (tb : Table) → Fin (tcTables nBuf tb) → BufTy
  | .hbm, ⟨0, _⟩ => ⟨S33024, .i32⟩
  | .hbm, ⟨1, _⟩ => ⟨S37120x2048, .f32⟩
  | .hbm, ⟨2, _⟩ => ⟨S16512x2048, .f32⟩
  | .hbm, ⟨3, _⟩ => ⟨S16512x128, .f32⟩
  | .hbm, ⟨4, _⟩ => ⟨S2048, .f32⟩
  | .hbm, ⟨5, _⟩ => ⟨S2048, .f32⟩
  | .hbm, ⟨6, _⟩ => ⟨S16512x1, .f32⟩
  | .hbm, ⟨7, _⟩ => ⟨S16512, .i32⟩
  | .hbm, ⟨8, _⟩ => ⟨S_, .i32⟩
  | .hbm, ⟨9, _⟩ => ⟨S16512, .i32⟩
  | .hbm, ⟨10, _⟩ => ⟨S16512, .i1⟩
  | .hbm, ⟨11, _⟩ => ⟨S_, .i32⟩
  | .hbm, ⟨12, _⟩ => ⟨S16512, .i32⟩
  | .hbm, ⟨13, _⟩ => ⟨S16512, .i32⟩
  | .hbm, ⟨14, _⟩ => ⟨S16512, .i32⟩
  | .hbm, ⟨15, _⟩ => ⟨S16512x1, .i32⟩
  | .hbm, ⟨16, _⟩ => ⟨S16512x2048, .f32⟩
  | .hbm, ⟨17, _⟩ => ⟨S16512x2048, .f32⟩
  | .hbm, ⟨18, _⟩ => ⟨S16512x2048, .f32⟩
  | .hbm, ⟨19, _⟩ => ⟨S16512x1, .f32⟩
  | .hbm, ⟨20, _⟩ => ⟨S16512, .i32⟩
  | .hbm, ⟨21, _⟩ => ⟨S_, .i32⟩
  | .hbm, ⟨22, _⟩ => ⟨S16512, .i32⟩
  | .hbm, ⟨23, _⟩ => ⟨S16512, .i1⟩
  | .hbm, ⟨24, _⟩ => ⟨S_, .i32⟩
  | .hbm, ⟨25, _⟩ => ⟨S16512, .i32⟩
  | .hbm, ⟨26, _⟩ => ⟨S16512, .i32⟩
  | .hbm, ⟨27, _⟩ => ⟨S16512, .i32⟩
  | .hbm, ⟨28, _⟩ => ⟨S16512x1, .i32⟩
  | .hbm, ⟨29, _⟩ => ⟨S16512x2048, .f32⟩
  | .hbm, ⟨30, _⟩ => ⟨S16512x2048, .f32⟩
  | .hbm, ⟨31, _⟩ => ⟨S16512x2048, .f32⟩
  | .hbm, ⟨32, _⟩ => ⟨S16512x2048, .f32⟩
  | .hbm, ⟨33, _⟩ => ⟨S_, .f32⟩
  | .hbm, ⟨34, _⟩ => ⟨S16512x2048, .f32⟩
  | .hbm, ⟨35, _⟩ => ⟨S16512x2048, .f32⟩
  | .hbm, ⟨36, _⟩ => ⟨S16512x2048, .f32⟩
  | .hbm, ⟨37, _⟩ => ⟨S_, .f32⟩
  | .hbm, ⟨38, _⟩ => ⟨S16512, .f32⟩
  | .hbm, ⟨39, _⟩ => ⟨S16512x1, .f32⟩
  | .hbm, ⟨40, _⟩ => ⟨S_, .f32⟩
  | .hbm, ⟨41, _⟩ => ⟨S16512x1, .f32⟩
  | .hbm, ⟨42, _⟩ => ⟨S16512x1, .f32⟩
  | .hbm, ⟨43, _⟩ => ⟨S16512x2048, .f32⟩
  | .hbm, ⟨44, _⟩ => ⟨S16512x2048, .f32⟩
  | .hbm, ⟨45, _⟩ => ⟨S16512x2048, .f32⟩
  | .hbm, ⟨46, _⟩ => ⟨S_, .f32⟩
  | .hbm, ⟨47, _⟩ => ⟨S16512, .f32⟩
  | .hbm, ⟨48, _⟩ => ⟨S16512x1, .f32⟩
  | .hbm, ⟨49, _⟩ => ⟨S_, .f32⟩
  | .hbm, ⟨50, _⟩ => ⟨S16512x1, .f32⟩
  | .hbm, ⟨51, _⟩ => ⟨S16512x1, .f32⟩
  | .hbm, ⟨52, _⟩ => ⟨S16512x2048, .f32⟩
  | .hbm, ⟨53, _⟩ => ⟨S16512x2048, .f32⟩
  | .hbm, ⟨54, _⟩ => ⟨S_, .f32⟩
  | .hbm, ⟨55, _⟩ => ⟨S16512x1, .f32⟩
  | .hbm, ⟨56, _⟩ => ⟨S16512x1, .f32⟩
  | .hbm, ⟨57, _⟩ => ⟨S16512x1, .f32⟩
  | .hbm, ⟨58, _⟩ => ⟨S16512x2048, .f32⟩
  | .hbm, ⟨59, _⟩ => ⟨S16512x2048, .f32⟩
  | .hbm, ⟨60, _⟩ => ⟨S1x2048, .f32⟩
  | .hbm, ⟨61, _⟩ => ⟨S16512x2048, .f32⟩
  | .hbm, ⟨62, _⟩ => ⟨S16512x2048, .f32⟩
  | .hbm, ⟨63, _⟩ => ⟨S1x2048, .f32⟩
  | .hbm, ⟨64, _⟩ => ⟨S16512x2048, .f32⟩
  | .hbm, ⟨65, _⟩ => ⟨S16512x2048, .f32⟩
  | .hbm, ⟨66, _⟩ => ⟨S16512x2048, .bf16⟩
  | _, _ => ⟨S33024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== KernelN.lean ====
abbrev S8x2048x2048 : Shape := ⟨3, ![8, 2048, 2048]⟩
abbrev S16x2048 : Shape := ⟨2, ![16, 2048]⟩
abbrev S2048 : Shape := ⟨1, ![2048]⟩
abbrev S1x16x2048 : Shape := ⟨3, ![1, 16, 2048]⟩
abbrev S8x16x2048 : Shape := ⟨3, ![8, 16, 2048]⟩
abbrev S8x2064x2048 : Shape := ⟨3, ![8, 2064, 2048]⟩
abbrev S16512x2048 : Shape := ⟨2, ![16512, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩

abbrev nBuf : Space → Nat
  | .hbm => 12
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S16x2048, .f32⟩
  | .hbm, ⟨2, _⟩ => ⟨S2048, .f32⟩
  | .hbm, ⟨3, _⟩ => ⟨S2048, .f32⟩
  | .hbm, ⟨4, _⟩ => ⟨S1x16x2048, .f32⟩
  | .hbm, ⟨5, _⟩ => ⟨S8x16x2048, .f32⟩
  | .hbm, ⟨6, _⟩ => ⟨S8x2064x2048, .f32⟩
  | .hbm, ⟨7, _⟩ => ⟨S16512x2048, .f32⟩
  | .hbm, ⟨8, _⟩ => ⟨S1x2048, .f32⟩
  | .hbm, ⟨9, _⟩ => ⟨S1x2048, .f32⟩
  | .hbm, ⟨10, _⟩ => ⟨S16512x2048, .f32⟩
  | .hbm, ⟨11, _⟩ => ⟨S16512x2048, .bf16⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S1x2048, .f32⟩
  | .local _ .vmem, ⟨4, _⟩ => ⟨S384x2048, .f32⟩
  | .local _ .vmem, ⟨5, _⟩ => ⟨S384x2048, .f32⟩
  | .local _ .vmem, ⟨6, _⟩ => ⟨S384x2048, .bf16⟩
  | .local _ .vmem, ⟨7, _⟩ => ⟨S384x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNIdeal.lean ====
abbrev S8x2048x2048 : Shape := ⟨3, ![8, 2048, 2048]⟩
abbrev S16x2048 : Shape := ⟨2, ![16, 2048]⟩
abbrev S2048 : Shape := ⟨1, ![2048]⟩
abbrev S1x16x2048 : Shape := ⟨3, ![1, 16, 2048]⟩
abbrev S8x16x2048 : Shape := ⟨3, ![8, 16, 2048]⟩
abbrev S8x2064x2048 : Shape := ⟨3, ![8, 2064, 2048]⟩
abbrev S16512x2048 : Shape := ⟨2, ![16512, 2048]⟩
abbrev S_ : Shape := ⟨0, ![]⟩
abbrev S16512 : Shape := ⟨1, ![16512]⟩
abbrev S16512x1 : Shape := ⟨2, ![16512, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S16x2048, .f32⟩
  | .hbm, ⟨2, _⟩ => ⟨S2048, .f32⟩
  | .hbm, ⟨3, _⟩ => ⟨S2048, .f32⟩
  | .hbm, ⟨4, _⟩ => ⟨S1x16x2048, .f32⟩
  | .hbm, ⟨5, _⟩ => ⟨S8x16x2048, .f32⟩
  | .hbm, ⟨6, _⟩ => ⟨S8x2064x2048, .f32⟩
  | .hbm, ⟨7, _⟩ => ⟨S16512x2048, .f32⟩
  | .hbm, ⟨8, _⟩ => ⟨S_, .f32⟩
  | .hbm, ⟨9, _⟩ => ⟨S16512, .f32⟩
  | .hbm, ⟨10, _⟩ => ⟨S16512x1, .f32⟩
  | .hbm, ⟨11, _⟩ => ⟨S_, .f32⟩
  | .hbm, ⟨12, _⟩ => ⟨S16512x1, .f32⟩
  | .hbm, ⟨13, _⟩ => ⟨S16512x1, .f32⟩
  | .hbm, ⟨14, _⟩ => ⟨S16512x2048, .f32⟩
  | .hbm, ⟨15, _⟩ => ⟨S16512x2048, .f32⟩
  | .hbm, ⟨16, _⟩ => ⟨S16512x2048, .f32⟩
  | .hbm, ⟨17, _⟩ => ⟨S_, .f32⟩
  | .hbm, ⟨18, _⟩ => ⟨S16512, .f32⟩
  | .hbm, ⟨19, _⟩ => ⟨S16512x1, .f32⟩
  | .hbm, ⟨20, _⟩ => ⟨S_, .f32⟩
  | .hbm, ⟨21, _⟩ => ⟨S16512x1, .f32⟩
  | .hbm, ⟨22, _⟩ => ⟨S16512x1, .f32⟩
  | .hbm, ⟨23, _⟩ => ⟨S16512x2048, .f32⟩
  | .hbm, ⟨24, _⟩ => ⟨S16512x2048, .f32⟩
  | .hbm, ⟨25, _⟩ => ⟨S_, .f32⟩
  | .hbm, ⟨26, _⟩ => ⟨S16512x1, .f32⟩
  | .hbm, ⟨27, _⟩ => ⟨S16512x1, .f32⟩
  | .hbm, ⟨28, _⟩ => ⟨S16512x1, .f32⟩
  | .hbm, ⟨29, _⟩ => ⟨S16512x2048, .f32⟩
  | .hbm, ⟨30, _⟩ => ⟨S16512x2048, .f32⟩
  | .hbm, ⟨31, _⟩ => ⟨S1x2048, .f32⟩
  | .hbm, ⟨32, _⟩ => ⟨S16512x2048, .f32⟩
  | .hbm, ⟨33, _⟩ => ⟨S16512x2048, .f32⟩
  | .hbm, ⟨34, _⟩ => ⟨S1x2048, .f32⟩
  | .hbm, ⟨35, _⟩ => ⟨S16512x2048, .f32⟩
  | .hbm, ⟨36, _⟩ => ⟨S16512x2048, .f32⟩
  | .hbm, ⟨37, _⟩ => ⟨S16512x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== KernelR.lean ====
abbrev S16512x128 : Shape := ⟨2, ![16512, 128]⟩
abbrev S4 : Shape := ⟨1, ![4]⟩
abbrev S16 : Shape := ⟨1, ![16]⟩
abbrev S_ : Shape := ⟨0, ![]⟩
abbrev S1x128 : Shape := ⟨2, ![1, 128]⟩
abbrev S1 : Shape := ⟨1, ![1]⟩
abbrev S1x4 : Shape := ⟨2, ![1, 4]⟩
abbrev S1x16 : Shape := ⟨2, ![1, 16]⟩
abbrev S384x128 : Shape := ⟨2, ![384, 128]⟩
abbrev S384 : Shape := ⟨1, ![384]⟩
abbrev S384x1 : Shape := ⟨2, ![384, 1]⟩

abbrev nBuf : Space → Nat
  | .hbm => 14
  | .vmem => 5
  | .smem => 0
  | _ => 0

abbrev bufTy : (tb : Table) → Fin (tcTables nBuf tb) → BufTy
  | .hbm, ⟨0, _⟩ => ⟨S16512x128, .f32⟩
  | .hbm, ⟨1, _⟩ => ⟨S4, .f32⟩
  | .hbm, ⟨2, _⟩ => ⟨S16, .f32⟩
  | .hbm, ⟨3, _⟩ => ⟨S_, .f32⟩
  | .hbm, ⟨4, _⟩ => ⟨S1x128, .f32⟩
  | .hbm, ⟨5, _⟩ => ⟨S_, .i32⟩
  | .hbm, ⟨6, _⟩ => ⟨S1, .i32⟩
  | .hbm, ⟨7, _⟩ => ⟨S1x4, .f32⟩
  | .hbm, ⟨8, _⟩ => ⟨S1x128, .f32⟩
  | .hbm, ⟨9, _⟩ => ⟨S_, .i32⟩
  | .hbm, ⟨10, _⟩ => ⟨S1, .i32⟩
  | .hbm, ⟨11, _⟩ => ⟨S1x16, .f32⟩
  | .hbm, ⟨12, _⟩ => ⟨S1x128, .f32⟩
  | .hbm, ⟨13, _⟩ => ⟨S16512x128, .f32⟩
  | .local _ .vmem, ⟨0, _⟩ => ⟨S384x128, .f32⟩
  | .local _ .vmem, ⟨1, _⟩ => ⟨S384x128, .f32⟩
  | .local _ .vmem, ⟨2, _⟩ => ⟨S1x128, .f32⟩
  | .local _ .vmem, ⟨3, _⟩ => ⟨S384x128, .f32⟩
  | .local _ .vmem, ⟨4, _⟩ => ⟨S384x128, .f32⟩
  | _, _ => ⟨S16512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelRIdeal.lean ====
variable {F : FTy → Type} [FloatOps F] [Named F]
def κ : String → Option EReal := fun
  | "mask" => some ⊥
  | _ => none
-- ==== ReferenceRIdeal.lean ====
abbrev S16512x128 : Shape := ⟨2, ![16512, 128]⟩
abbrev S4 : Shape := ⟨1, ![4]⟩
abbrev S16 : Shape := ⟨1, ![16]⟩
abbrev S16512x4 : Shape := ⟨2, ![16512, 4]⟩
abbrev S1x4 : Shape := ⟨2, ![1, 4]⟩
abbrev S_ : Shape := ⟨0, ![]⟩
abbrev S16512 : Shape := ⟨1, ![16512]⟩
abbrev S16512x1 : Shape := ⟨2, ![16512, 1]⟩
abbrev S16512x16 : Shape := ⟨2, ![16512, 16]⟩
abbrev S1x16 : Shape := ⟨2, ![1, 16]⟩
abbrev S16512x4x4 : Shape := ⟨3, ![16512, 4, 4]⟩
abbrev S1x4x1 : Shape := ⟨3, ![1, 4, 1]⟩
abbrev S16512x1x1 : Shape := ⟨3, ![16512, 1, 1]⟩
abbrev S16512x4x1 : Shape := ⟨3, ![16512, 4, 1]⟩
abbrev S16512x2 : Shape := ⟨2, ![16512, 2]⟩
abbrev S16512x124 : Shape := ⟨2, ![16512, 124]⟩

abbrev nBuf : Space → Nat
  | .hbm => 68
  | .vmem => 0
  | .smem => 0
  | _ => 0

abbrev bufTy : (tb : Table) → Fin (tcTables nBuf tb) → BufTy
  | .hbm, ⟨0, _⟩ => ⟨S16512x128, .f32⟩
  | .hbm, ⟨1, _⟩ => ⟨S4, .f32⟩
  | .hbm, ⟨2, _⟩ => ⟨S16, .f32⟩
  | .hbm, ⟨3, _⟩ => ⟨S16512x4, .f32⟩
  | .hbm, ⟨4, _⟩ => ⟨S1x4, .f32⟩
  | .hbm, ⟨5, _⟩ => ⟨S16512x4, .f32⟩
  | .hbm, ⟨6, _⟩ => ⟨S16512x4, .f32⟩
  | .hbm, ⟨7, _⟩ => ⟨S_, .f32⟩
  | .hbm, ⟨8, _⟩ => ⟨S16512, .f32⟩
  | .hbm, ⟨9, _⟩ => ⟨S_, .f32⟩
  | .hbm, ⟨10, _⟩ => ⟨S16512, .f32⟩
  | .hbm, ⟨11, _⟩ => ⟨S16512, .f32⟩
  | .hbm, ⟨12, _⟩ => ⟨S16512x1, .f32⟩
  | .hbm, ⟨13, _⟩ => ⟨S16512x4, .f32⟩
  | .hbm, ⟨14, _⟩ => ⟨S16512x4, .f32⟩
  | .hbm, ⟨15, _⟩ => ⟨S16512x4, .f32⟩
  | .hbm, ⟨16, _⟩ => ⟨S_, .f32⟩
  | .hbm, ⟨17, _⟩ => ⟨S16512, .f32⟩
  | .hbm, ⟨18, _⟩ => ⟨S16512x1, .f32⟩
  | .hbm, ⟨19, _⟩ => ⟨S16512x4, .f32⟩
  | .hbm, ⟨20, _⟩ => ⟨S16512x4, .f32⟩
  | .hbm, ⟨21, _⟩ => ⟨S16512x1, .f32⟩
  | .hbm, ⟨22, _⟩ => ⟨S16512x1, .i32⟩
  | .hbm, ⟨23, _⟩ => ⟨S16512x16, .f32⟩
  | .hbm, ⟨24, _⟩ => ⟨S1x16, .f32⟩
  | .hbm, ⟨25, _⟩ => ⟨S16512x16, .f32⟩
  | .hbm, ⟨26, _⟩ => ⟨S16512x16, .f32⟩
  | .hbm, ⟨27, _⟩ => ⟨S16512x4x4, .f32⟩
  | .hbm, ⟨28, _⟩ => ⟨S4, .i32⟩
  | .hbm, ⟨29, _⟩ => ⟨S1x4x1, .i32⟩
  | .hbm, ⟨30, _⟩ => ⟨S16512x1x1, .i32⟩
  | .hbm, ⟨31, _⟩ => ⟨S16512x4x1, .i32⟩
  | .hbm, ⟨32, _⟩ => ⟨S16512x4x1, .i32⟩
  | .hbm, ⟨33, _⟩ => ⟨S16512x4x1, .i1⟩
  | .hbm, ⟨34, _⟩ => ⟨S_, .f32⟩
  | .hbm, ⟨35, _⟩ => ⟨S_, .f32⟩
  | .hbm, ⟨36, _⟩ => ⟨S16512x4x4, .i1⟩
  | .hbm, ⟨37, _⟩ => ⟨S16512x4x4, .f32⟩
  | .hbm, ⟨38, _⟩ => ⟨S16512x4x4, .f32⟩
  | .hbm, ⟨39, _⟩ => ⟨S_, .f32⟩
  | .hbm, ⟨40, _⟩ => ⟨S16512x4, .f32⟩
  | .hbm, ⟨41, _⟩ => ⟨S16512x2, .f32⟩
  | .hbm, ⟨42, _⟩ => ⟨S16512x2, .i32⟩
  | .hbm, ⟨43, _⟩ => ⟨S_, .f32⟩
  | .hbm, ⟨44, _⟩ => ⟨S16512, .f32⟩
  | .hbm, ⟨45, _⟩ => ⟨S_, .f32⟩
  | .hbm, ⟨46, _⟩ => ⟨S16512, .f32⟩
  | .hbm, ⟨47, _⟩ => ⟨S16512, .f32⟩
  | .hbm, ⟨48, _⟩ => ⟨S16512x1, .f32⟩
  | .hbm, ⟨49, _⟩ => ⟨S16512x2, .f32⟩
  | .hbm, ⟨50, _⟩ => ⟨S16512x2, .f32⟩
  | .hbm, ⟨51, _⟩ => ⟨S16512x2, .f32⟩
  | .hbm, ⟨52, _⟩ => ⟨S_, .f32⟩
  | .hbm, ⟨53, _⟩ => ⟨S16512, .f32⟩
  | .hbm, ⟨54, _⟩ => ⟨S16512x1, .f32⟩
  | .hbm, ⟨55, _⟩ => ⟨S16512x2, .f32⟩
  | .hbm, ⟨56, _⟩ => ⟨S16512x2, .f32⟩
  | .hbm, ⟨57, _⟩ => ⟨S16512x2, .f32⟩
  | .hbm, ⟨58, _⟩ => ⟨S16512x2, .f32⟩
  | .hbm, ⟨59, _⟩ => ⟨S_, .i32⟩
  | .hbm, ⟨60, _⟩ => ⟨S16512x1, .i32⟩
  | .hbm, ⟨61, _⟩ => ⟨S16512x1, .i32⟩
  | .hbm, ⟨62, _⟩ => ⟨S16512x2, .i32⟩
  | .hbm, ⟨63, _⟩ => ⟨S16512x2, .i32⟩
  | .hbm, ⟨64, _⟩ => ⟨S16512x2, .f32⟩
  | .hbm, ⟨65, _⟩ => ⟨S_, .f32⟩
  | .hbm, ⟨66, _⟩ => ⟨S16512x124, .f32⟩
  | .hbm, ⟨67, _⟩ => ⟨S16512x128, .f32⟩
  | _, _ => ⟨S16512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_values_4 : Ref sig .tc := ⟨.hbm, 41, rfl⟩
abbrev main_indices_5 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== KernelF.lean ====
abbrev S2064x33 : Shape := ⟨2, ![2064, 33]⟩
abbrev S512 : Shape := ⟨1, ![512]⟩
abbrev S4x33x64 : Shape := ⟨3, ![4, 33, 64]⟩
abbrev S4x64 : Shape := ⟨2, ![4, 64]⟩
abbrev S4x2x64 : Shape := ⟨3, ![4, 2, 64]⟩
abbrev S4x64x64 : Shape := ⟨3, ![4, 64, 64]⟩
abbrev S4x64x1024 : Shape := ⟨3, ![4, 64, 1024]⟩
abbrev S_ : Shape := ⟨0, ![]⟩
abbrev S2064x128 : Shape := ⟨2, ![2064, 128]⟩
abbrev S1 : Shape := ⟨1, ![1]⟩
abbrev S4x128x64 : Shape := ⟨3, ![4, 128, 64]⟩
abbrev S1x512 : Shape := ⟨2, ![1, 512]⟩
abbrev S4x1x64 : Shape := ⟨3, ![4, 1, 64]⟩
abbrev S4x2064x512 : Shape := ⟨3, ![4, 2064, 512]⟩
abbrev S1x128x64 : Shape := ⟨3, ![1, 128, 64]⟩
abbrev S1x1x64 : Shape := ⟨3, ![1, 1, 64]⟩
abbrev S1x2x64 : Shape := ⟨3, ![1, 2, 64]⟩
abbrev S1x64x64 : Shape := ⟨3, ![1, 64, 64]⟩
abbrev S1x64x1024 : Shape := ⟨3, ![1, 64, 1024]⟩
abbrev S1x2064x512 : Shape := ⟨3, ![1, 2064, 512]⟩
abbrev S1x64 : Shape := ⟨2, ![1, 64]⟩
abbrev S128x64 : Shape := ⟨2, ![128, 64]⟩
abbrev S2064x64 : Shape := ⟨2, ![2064, 64]⟩
abbrev S64x64 : Shape := ⟨2, ![64, 64]⟩
abbrev S64x1024 : Shape := ⟨2, ![64, 1024]⟩
abbrev S2064x1024 : Shape := ⟨2, ![2064, 1024]⟩
abbrev S2064x1 : Shape := ⟨2, ![2064, 1]⟩
abbrev S2064x512 : Shape := ⟨2, ![2064, 512]⟩

abbrev nBuf : Space → Nat
  | .hbm => 23
  | .vmem => 18
  | .smem => 0
  | _ => 0

abbrev bufTy : (tb : Table) → Fin (tcTables nBuf tb) → BufTy
  | .hbm, ⟨0, _⟩ => ⟨S2064x33, .f32⟩
  | .hbm, ⟨1, _⟩ => ⟨S512, .f32⟩
  | .hbm, ⟨2, _⟩ => ⟨S4x33x64, .f32⟩
  | .hbm, ⟨3, _⟩ => ⟨S4x64, .f32⟩
  | .hbm, ⟨4, _⟩ => ⟨S4x2x64, .f32⟩
  | .hbm, ⟨5, _⟩ => ⟨S4x64x64, .f32⟩
  | .hbm, ⟨6, _⟩ => ⟨S4x64, .f32⟩
  | .hbm, ⟨7, _⟩ => ⟨S4x64x1024, .f32⟩
  | .hbm, ⟨8, _⟩ => ⟨S_, .f32⟩
  | .hbm, ⟨9, _⟩ => ⟨S2064x128, .f32⟩
  | .hbm, ⟨10, _⟩ => ⟨S_, .i32⟩
  | .hbm, ⟨11, _⟩ => ⟨S1, .i32⟩
  | .hbm, ⟨12, _⟩ => ⟨S2064x128, .f32⟩
  | .hbm, ⟨13, _⟩ => ⟨S_, .f32⟩
  | .hbm, ⟨14, _⟩ => ⟨S4x128x64, .f32⟩
  | .hbm, ⟨15, _⟩ => ⟨S_, .i32⟩
  | .hbm, ⟨16, _⟩ => ⟨S1, .i32⟩
  | .hbm, ⟨17, _⟩ => ⟨S4x128x64, .f32⟩
  | .hbm, ⟨18, _⟩ => ⟨S1x512, .f32⟩
  | .hbm, ⟨19, _⟩ => ⟨S4x1x64, .f32⟩
  | .hbm, ⟨20, _⟩ => ⟨S4x1x64, .f32⟩
  | .hbm, ⟨21, _⟩ => ⟨S4x2064x512, .f32⟩
  | .hbm, ⟨22, _⟩ => ⟨S4x2064x512, .f32⟩
  | .local _ .vmem, ⟨0, _⟩ => ⟨S2064x128, .f32⟩
  | .local _ .vmem, ⟨1, _⟩ => ⟨S1x512, .f32⟩
  | .local _ .vmem, ⟨2, _⟩ => ⟨S1x128x64, .f32⟩
  | .local _ .vmem, ⟨3, _⟩ => ⟨S1x128x64, .f32⟩
  | .local _ .vmem, ⟨4, _⟩ => ⟨S1x1x64, .f32⟩
  | .local _ .vmem, ⟨5, _⟩ => ⟨S1x1x64, .f32⟩
  | .local _ .vmem, ⟨6, _⟩ => ⟨S1x2x64, .f32⟩
  | .local _ .vmem, ⟨7, _⟩ => ⟨S1x2x64, .f32⟩
  | .local _ .vmem, ⟨8, _⟩ => ⟨S1x64x64, .f32⟩
  | .local _ .vmem, ⟨9, _⟩ => ⟨S1x64x64, .f32⟩
  | .local _ .vmem, ⟨10, _⟩ => ⟨S1x1x64, .f32⟩
  | .local _ .vmem, ⟨11, _⟩ => ⟨S1x1x64, .f32⟩
  | .local _ .vmem, ⟨12, _⟩ => ⟨S1x64x1024, .f32⟩
  | .local _ .vmem, ⟨13, _⟩ => ⟨S1x64x1024, .f32⟩
  | .local _ .vmem, ⟨14, _⟩ => ⟨S1x2064x512, .f32⟩
  | .local _ .vmem, ⟨15, _⟩ => ⟨S1x2064x512, .f32⟩
  | .local _ .vmem, ⟨16, _⟩ => ⟨S1x2064x512, .f32⟩
  | .local _ .vmem, ⟨17, _⟩ => ⟨S1x2064x512, .f32⟩
  | _, _ => ⟨S2064x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2064x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2064x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2064x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFIdeal.lean ====
abbrev S2064x33 : Shape := ⟨2, ![2064, 33]⟩
abbrev S512 : Shape := ⟨1, ![512]⟩
abbrev S4x33x64 : Shape := ⟨3, ![4, 33, 64]⟩
abbrev S4x64 : Shape := ⟨2, ![4, 64]⟩
abbrev S4x2x64 : Shape := ⟨3, ![4, 2, 64]⟩
abbrev S4x64x64 : Shape := ⟨3, ![4, 64, 64]⟩
abbrev S4x64x1024 : Shape := ⟨3, ![4, 64, 1024]⟩
abbrev S4x1x64 : Shape := ⟨3, ![4, 1, 64]⟩
abbrev S4x64x2064 : Shape := ⟨3, ![4, 64, 2064]⟩
abbrev S4x2064x64 : Shape := ⟨3, ![4, 2064, 64]⟩
abbrev S4x2064x1024 : Shape := ⟨3, ![4, 2064, 1024]⟩
abbrev S2064x1 : Shape := ⟨2, ![2064, 1]⟩
abbrev S1x512 : Shape := ⟨2, ![1, 512]⟩
abbrev S2064x512 : Shape := ⟨2, ![2064, 512]⟩
abbrev S4x2064x2x512 : Shape := ⟨4, ![4, 2064, 2, 512]⟩
abbrev S1x2064x1x512 : Shape := ⟨4, ![1, 2064, 1, 512]⟩
abbrev S4x2064x1x512 : Shape := ⟨4, ![4, 2064, 1, 512]⟩
abbrev S4x2064x512 : Shape := ⟨3, ![4, 2064, 512]⟩
abbrev S2064 : Shape := ⟨1, ![2064]⟩
abbrev S1x2064x1 : Shape := ⟨3, ![1, 2064, 1]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S2064x33, .f32⟩
  | .hbm, ⟨1, _⟩ => ⟨S512, .f32⟩
  | .hbm, ⟨2, _⟩ => ⟨S4x33x64, .f32⟩
  | .hbm, ⟨3, _⟩ => ⟨S4x64, .f32⟩
  | .hbm, ⟨4, _⟩ => ⟨S4x2x64, .f32⟩
  | .hbm, ⟨5, _⟩ => ⟨S4x64x64, .f32⟩
  | .hbm, ⟨6, _⟩ => ⟨S4x64, .f32⟩
  | .hbm, ⟨7, _⟩ => ⟨S4x64x1024, .f32⟩
  | .hbm, ⟨8, _⟩ => ⟨S4x1x64, .f32⟩
  | .hbm, ⟨9, _⟩ => ⟨S4x64, .f32⟩
  | .hbm, ⟨10, _⟩ => ⟨S4x1x64, .f32⟩
  | .hbm, ⟨11, _⟩ => ⟨S4x64x2064, .f32⟩
  | .hbm, ⟨12, _⟩ => ⟨S4x2064x64, .f32⟩
  | .hbm, ⟨13, _⟩ => ⟨S4x1x64, .f32⟩
  | .hbm, ⟨14, _⟩ => ⟨S4x2064x64, .f32⟩
  | .hbm, ⟨15, _⟩ => ⟨S4x2064x64, .f32⟩
  | .hbm, ⟨16, _⟩ => ⟨S4x2064x64, .f32⟩
  | .hbm, ⟨17, _⟩ => ⟨S4x2064x64, .f32⟩
  | .hbm, ⟨18, _⟩ => ⟨S4x2064x64, .f32⟩
  | .hbm, ⟨19, _⟩ => ⟨S4x1x64, .f32⟩
  | .hbm, ⟨20, _⟩ => ⟨S4x64, .f32⟩
  | .hbm, ⟨21, _⟩ => ⟨S4x1x64, .f32⟩
  | .hbm, ⟨22, _⟩ => ⟨S4x2064x64, .f32⟩
  | .hbm, ⟨23, _⟩ => ⟨S4x1x64, .f32⟩
  | .hbm, ⟨24, _⟩ => ⟨S4x2064x64, .f32⟩
  | .hbm, ⟨25, _⟩ => ⟨S4x2064x64, .f32⟩
  | .hbm, ⟨26, _⟩ => ⟨S4x2064x64, .f32⟩
  | .hbm, ⟨27, _⟩ => ⟨S4x2064x64, .f32⟩
  | .hbm, ⟨28, _⟩ => ⟨S4x2064x64, .f32⟩
  | .hbm, ⟨29, _⟩ => ⟨S4x2064x1024, .f32⟩
  | .hbm, ⟨30, _⟩ => ⟨S2064x1, .f32⟩
  | .hbm, ⟨31, _⟩ => ⟨S2064x1, .f32⟩
  | .hbm, ⟨32, _⟩ => ⟨S1x512, .f32⟩
  | .hbm, ⟨33, _⟩ => ⟨S2064x512, .f32⟩
  | .hbm, ⟨34, _⟩ => ⟨S2064x512, .f32⟩
  | .hbm, ⟨35, _⟩ => ⟨S2064x512, .f32⟩
  | .hbm, ⟨36, _⟩ => ⟨S2064x512, .f32⟩
  | .hbm, ⟨37, _⟩ => ⟨S4x2064x2x512, .f32⟩
  | .hbm, ⟨38, _⟩ => ⟨S1x2064x1x512, .f32⟩
  | .hbm, ⟨39, _⟩ => ⟨S4x2064x2x512, .f32⟩
  | .hbm, ⟨40, _⟩ => ⟨S4x2064x2x512, .f32⟩
  | .hbm, ⟨41, _⟩ => ⟨S4x2064x1x512, .f32⟩
  | .hbm, ⟨42, _⟩ => ⟨S4x2064x512, .f32⟩
  | .hbm, ⟨43, _⟩ => ⟨S4x2064x1x512, .f32⟩
  | .hbm, ⟨44, _⟩ => ⟨S4x2064x512, .f32⟩
  | .hbm, ⟨45, _⟩ => ⟨S2064, .i32⟩
  | .hbm, ⟨46, _⟩ => ⟨S1x2064x1, .i32⟩
  | .hbm, ⟨47, _⟩ => ⟨S_, .i32⟩
  | .hbm, ⟨48, _⟩ => ⟨S1x2064x1, .i32⟩
  | .hbm, ⟨49, _⟩ => ⟨S1x2064x1, .i1⟩
  | .hbm, ⟨50, _⟩ => ⟨S_, .f32⟩
  | .hbm, ⟨51, _⟩ => ⟨S_, .f32⟩
  | .hbm, ⟨52, _⟩ => ⟨S4x2064x512, .i1⟩
  | .hbm, ⟨53, _⟩ => ⟨S4x2064x512, .f32⟩
  | .hbm, ⟨54, _⟩ => ⟨S4x2064x512, .f32⟩
  | .hbm, ⟨55, _⟩ => ⟨S4x2064x512, .f32⟩
  | .hbm, ⟨56, _⟩ => ⟨S4x2064x512, .f32⟩
  | _, _ => ⟨S2064x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c : Ref sig .tc := ⟨.hbm, 47, rfl⟩
abbrev main_v39 : Ref sig .tc := ⟨.hbm, 48, rfl⟩
abbrev main_v40 : Ref sig .tc := ⟨.hbm, 49, rfl⟩
abbrev main_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Proof.InProjA.lean ====
module

public import proofs.«01_k».proof.Defs
public import proofs.«01_k».proof.Proof.Gen.KernelAIdeal.Value
public import proofs.«01_k».proof.Proof.Gen.ReferenceAIdeal.Run
public import Idealize.ShloMosaic.Lib.Pipeline.ValueKit
public import Idealize.ShloMosaic.Lib.Claim
public import Idealize.ShloMosaic.Lib.StableHlo.Run

/-!
  The input projection's columns of the gated linear attention: every block of rows that the kernel writes is the
  reference's, over the extended reals.
-/

@[expose] public section

set_option maxRecDepth 16384

noncomputable section
namespace Cert.Proof.InProjA
open Idealize.ShloMosaic Idealize.ShloMosaic.TcCoe Idealize.SL.Sem
open Cert.KernelAIdeal Cert.KernelAIdeal.Gen

/-- The whole input projection of the tokens, by the weights and the bias. -/
def refAll (h : FVec Ideal S16512x2048 .f32) (w : FVec Ideal S2048x4640 .f32) (b : FVec Ideal S4640 .f32) :
    FVec Ideal Cert.ReferenceAIdeal.S16512x4640 .f32 :=
  addf (Host.dotGeneral Cert.ReferenceAIdeal.dot_S16512x2048_S2048x4640_S16512x4640_1_0_0_1_n_n none h w)
    (broadcastInDim Cert.ReferenceAIdeal.S16512x4640 ![0, 1] Cert.ReferenceAIdeal.Gen.bcast_S1x4640_S16512x4640_0_1
      (broadcastInDim Cert.ReferenceAIdeal.S1x4640 ![1] Cert.ReferenceAIdeal.Gen.bcast_S4640_S1x4640_1 b))

/-- The columns of that part, in the order of the result, and zeros. -/
def refOut (h : FVec Ideal S16512x2048 .f32) (w : FVec Ideal S2048x4640 .f32) (b : FVec Ideal S4640 .f32) : FVec Ideal S16512x1664 .f32 :=
  concatenate Cert.ReferenceAIdeal.S16512x1664 1
    [⟨Cert.ReferenceAIdeal.S16512x1024, extractStridedSlice Cert.ReferenceAIdeal.S16512x1024 ![0, 0] (refAll h w b) Cert.ReferenceAIdeal.Gen.slices_S16512x4640_S16512x1024_0_0⟩,
     ⟨Cert.ReferenceAIdeal.S16512x512, extractStridedSlice Cert.ReferenceAIdeal.S16512x512 ![0, 1056] (refAll h w b) Cert.ReferenceAIdeal.Gen.slices_S16512x4640_S16512x512_0_1056⟩,
     ⟨Cert.ReferenceAIdeal.S16512x32, extractStridedSlice Cert.ReferenceAIdeal.S16512x32 ![0, 1024] (refAll h w b) Cert.ReferenceAIdeal.Gen.slices_S16512x4640_S16512x32_0_1024⟩,
     ⟨Cert.ReferenceAIdeal.S16512x96, broadcastInDim Cert.ReferenceAIdeal.S16512x96 ![] Cert.ReferenceAIdeal.Gen.bcast_S_S16512x96 (constant (F := Ideal) Cert.ReferenceAIdeal.S_ .f32 0x00000000#32)⟩]
    Cert.ReferenceAIdeal.Gen.concatenates_S16512x1024_S16512x512_S16512x32_S16512x96_S16512x1664_d1

/-- The column of the projection that stands at a column of the result. -/
def src (q : Fin 1664) : Fin 4640 := ⟨if q.val < 1024 then q.val else if q.val < 1536 then q.val + 32 else q.val - 512, by
  have := q.isLt
  split_ifs <;> omega⟩

/-- A value chosen by the part in which a column lies is the value at its source. -/
theorem ladder (q : Fin 1664) (f : Fin 4640 → EReal) (a : q.val < 1024 → q.val < 4640) (b : q.val - 1024 < 512 → 1056 + (q.val - 1024) < 4640)
    (d : q.val - 1024 - 512 < 32 → 1024 + (q.val - 1024 - 512) < 4640) :
    (if h : q.val < 1024 then f ⟨q.val, a h⟩ else if h : q.val - 1024 < 512 then f ⟨1056 + (q.val - 1024), b h⟩
      else if h : q.val - 1024 - 512 < 32 then f ⟨1024 + (q.val - 1024 - 512), d h⟩ else 0) = if q.val < 1568 then f (src q) else 0 := by
  have hs : (src q).val = if q.val < 1024 then q.val else if q.val < 1536 then q.val + 32 else q.val - 512 := rfl
  have key : ∀ p : Fin 4640, p = src q → f p = f (src q) := fun p e => by rw [e]
  by_cases h1 : q.val < 1024
  · rw [dif_pos h1, if_pos (by omega)]
    exact key _ (Fin.ext (by rw [hs, if_pos h1]))
  rw [dif_neg h1]
  by_cases h2 : q.val - 1024 < 512
  · rw [dif_pos h2, if_pos (by omega)]
    refine key _ (Fin.ext ?_)
    rw [hs, if_neg h1, if_pos (by omega)]
    show 1056 + (q.val - 1024) = _
    omega
  rw [dif_neg h2]
  by_cases h3 : q.val - 1024 - 512 < 32
  · rw [dif_pos h3, if_pos (by omega)]
    refine key _ (Fin.ext ?_)
    rw [hs, if_neg h1, if_neg (by omega)]
    show 1024 + (q.val - 1024 - 512) = _
    omega
  rw [dif_neg h3, if_neg (by omega)]

/-- A product of a row and a column, plus a bias. -/
def affine (x w : Fin 2048 → EReal) (b : EReal) : EReal := (∑ k, x k * w k) + b

/-- The reference at a row and a column. -/
theorem refOut_apply (h : FVec Ideal S16512x2048 .f32) (w : FVec Ideal S2048x4640 .f32) (b : FVec Ideal S4640 .f32) (r : Fin 16512) (q : Fin 1664) :
    refOut h w b (ix2 r q) = if q.val < 1568 then affine (fun k => h (ix2 r k)) (fun k => w (ix2 k (src q))) (b (ix1 (src q))) else 0 := by
  unfold refOut refAll affine
  pointwise
  exact ladder q (fun p => (∑ k, h (ix2 r k) * w (ix2 k p)) + b (ix1 p)) (fun _ => by omega) (fun _ => by omega) (fun _ => by omega)

/-- The weights as the kernel lays them out. -/
def colsW (w : FVec Ideal S2048x4640 .f32) : FVec Ideal S2048x1664 .bf16 :=
  truncf .bf16 (concatenate S2048x1664 1
    [⟨S2048x1024, extractStridedSlice S2048x1024 ![0, 0] w slices_S2048x4640_S2048x1024_0_0⟩,
     ⟨S2048x512, extractStridedSlice S2048x512 ![0, 1056] w slices_S2048x4640_S2048x512_0_1056⟩,
     ⟨S2048x32, extractStridedSlice S2048x32 ![0, 1024] w slices_S2048x4640_S2048x32_0_1024⟩,
     ⟨S2048x96, broadcastInDim S2048x96 ![] bcast_S_S2048x96 (constant (F := Ideal) S_ .f32 0x00000000#32)⟩]
    concatenates_S2048x1024_S2048x512_S2048x32_S2048x96_S2048x1664_d1) bitsLt_bf16_f32

/-- The bias as the kernel lays it out. -/
def colsB (b : FVec Ideal S4640 .f32) : FVec Ideal S1664 .f32 :=
  concatenate S1664 0
    [⟨S1024, extractStridedSlice S1024 ![0] b slices_S4640_S1024_0⟩, ⟨S512, extractStridedSlice S512 ![1056] b slices_S4640_S512_1056⟩,
     ⟨S32, extractStridedSlice S32 ![1024] b slices_S4640_S32_1024⟩,
     ⟨S96, broadcastInDim S96 ![] bcast_S_S96 (constant (F := Ideal) S_ .f32 0x00000000#32)⟩]
    concatenates_S1024_S512_S32_S96_S1664_d0

/-- The laid out weights at a row and a column. -/
theorem colsW_apply (w : FVec Ideal S2048x4640 .f32) (k : Fin 2048) (q : Fin 1664) :
    colsW w (ix2 k q) = if q.val < 1568 then w (ix2 k (src q)) else 0 := by
  unfold colsW
  pointwise
  exact ladder q (fun p => w (ix2 k p)) (fun _ => by omega) (fun _ => by omega) (fun _ => by omega)

/-- The laid out bias at a column. -/
theorem colsB_apply (b : FVec Ideal S4640 .f32) (q : Fin 1664) : colsB b (ix1 q) = if q.val < 1568 then b (ix1 (src q)) else 0 := by
  unfold colsB
  pointwise
  exact ladder q (fun p => b (ix1 p)) (fun _ => by omega) (fun _ => by omega) (fun _ => by omega)

/-- Which block of each array a grid point takes. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

variable (m : (ℓ : Loc nD τ sig) → Buf (Elt Ideal) ℓ)

/-- The laid out weights are what the call receives. -/
theorem V_weights (c : Dev nD) : V m c main_v5 = colsW (m ((c : Thread nD τ).loc main_arg1)) := by
  show StableHlo.after hostOps0 (fun b => m (c, b)) _ = _
  after_results <;> rfl
/-- The laid out bias is what the call receives. -/
theorem V_bias (c : Dev nD) : V m c main_v12 = shapeCast S1x1664 (colsB (m ((c : Thread nD τ).loc main_arg2))) shapeCasts_S1664_S1x1664 := by
  show StableHlo.after hostOps0 (fun b => m (c, b)) _ = _
  after_results <;> rfl

/-- Every grid point takes the weights whole. -/
theorem iblk_weights (c : Dev nD) (t : Fin cfg0.N) : iblk m c 1 t = colsW (m ((c : Thread nD τ).loc main_arg1)) := by
  rw [← V_weights]
  blk_ext! [iblk, idx t]
/-- Every grid point takes the bias whole. -/
theorem iblk_bias (c : Dev nD) (t : Fin cfg0.N) :
    iblk m c 2 t = shapeCast S1x1664 (colsB (m ((c : Thread nD τ).loc main_arg2))) shapeCasts_S1664_S1x1664 := by
  rw [← V_bias]
  blk_ext! [iblk, idx t]

/-- A product with the laid out weights, at a column. -/
theorem pay_apply (x : FVec Ideal S384x2048 .bf16) (w : FVec Ideal S2048x4640 .f32) (b : FVec Ideal S4640 .f32) (p : Fin 384) (q : Fin 1664) :
    k0_pay1 (F := Ideal) x (colsW w) (shapeCast S1x1664 (colsB b) shapeCasts_S1664_S1x1664) (ix2 p q)
      = if q.val < 1568 then affine (fun k => x (ix2 p k)) (fun k => w (ix2 k (src q))) (b (ix1 (src q))) else 0 := by
  unfold affine
  pointwise [k0_pay1]
  simp only [colsW_apply, colsB_apply]
  by_cases h : q.val < 1568
  · simp only [if_pos h]
  · simp only [if_neg h, mul_zero, Finset.sum_const_zero, add_zero]

/-- What a grid point stores is the reference's block. -/
theorem point (c : Dev nD) (t : Fin cfg0.N) (y : S384x1664.Idx) : k0_pay1 (iblk m c 0 t) (iblk m c 1 t) (iblk m c 2 t) y
    = refOut (m ((c : Thread nD τ).loc main_arg0)) (m ((c : Thread nD τ).loc main_arg1)) (m ((c : Thread nD τ).loc main_arg2)) (((cfg0.win 3).blk t).view.emb y) := by
  obtain ⟨p, q, rfl⟩ : ∃ (p : Fin 384) (q : Fin 1664), y = ix2 p q := ⟨y 0, y 1, eq_ix2 y⟩
  have ht : t.val < 43 := t.isLt
  have hp := p.isLt
  have he : ((cfg0.win 3).blk t).view.emb (ix2 p q) = ix2 (⟨t.val * 384 + p.val, by omega⟩ : Fin 16512) q := by
    blk_ext [idx t]
  rw [iblk_weights, iblk_bias, pay_apply, he]
  refine Eq.trans ?_ (refOut_apply _ _ _ _ _).symm
  have hx : ∀ k : Fin 2048, iblk m c 0 t (ix2 p k) = (m ((c : Thread nD τ).loc main_arg0) : S16512x2048.Idx → EReal) (ix2 (⟨t.val * 384 + p.val, by omega⟩ : Fin 16512) k) := fun k => by
    blk_ext [iblk, V, idx t]
  simp only [hx]

/-- The result array after the run. -/
theorem final (c : Dev nD) : (dats m 0 c).arrAt 3 (cfgs 0).N
    = refOut (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The value claim of that part. -/
theorem algebraic : Cert.algebraic_KernelAIdeal_ReferenceAIdeal := by
  intro m g m' g' _ hag
  refine ⟨fun c => refOut (m ((c : Thread nD τ).loc main_arg0)) (m ((c : Thread nD τ).loc main_arg1))
    (m ((c : Thread nD τ).loc main_arg2)), (θ_run _ _ _).mono (fun r k c => ⟨(k c).1.trans (final m c), (k c).2⟩)
      (Cert.KernelAIdeal.Value.run_blocks m g), ?_⟩
  refine (θ_run Cert.ReferenceAIdeal.defs _ _).mono (fun r k c => ⟨(k c).1.trans ?_, (k c).2⟩) (Cert.ReferenceAIdeal.Value.run m' g')
  obtain ⟨h0, h1, h2⟩ := hag c
  rw [h0, h1, h2]
  rfl

end Cert.Proof.InProjA
end
-- ==== Proof.InProjB.lean ====
module

public import proofs.«01_k».proof.Defs
public import proofs.«01_k».proof.Proof.Gen.KernelBIdeal.Value
public import proofs.«01_k».proof.Proof.Gen.ReferenceBIdeal.Run
public import Idealize.ShloMosaic.Lib.Pipeline.ValueKit
public import Idealize.ShloMosaic.Lib.Claim

/-!
  The input projection's columns of the windowed attention: every block of rows that the kernel writes is the
  reference's, over the extended reals.
-/

@[expose] public section

set_option maxRecDepth 16384

noncomputable section
namespace Cert.Proof.InProjB
open Idealize.ShloMosaic Idealize.ShloMosaic.TcCoe Idealize.SL.Sem
open Cert.KernelBIdeal Cert.KernelBIdeal.Gen

/-- The reference's result of the tokens, the weights and the bias. -/
abbrev refOut (h : FVec Ideal S16512x2048 .f32) (w : FVec Ideal S2048x4640 .f32) (b : FVec Ideal S4640 .f32) : FVec Ideal S16512x1536 .bf16 :=
  truncf .bf16 (extractStridedSlice Cert.ReferenceBIdeal.S16512x1536 ![0, 1568] (addf (Host.dotGeneral Cert.ReferenceBIdeal.dot_S16512x2048_S2048x4640_S16512x4640_1_0_0_1_n_n none h w) (broadcastInDim Cert.ReferenceBIdeal.S16512x4640 ![0, 1] Cert.ReferenceBIdeal.Gen.bcast_S1x4640_S16512x4640_0_1 (broadcastInDim Cert.ReferenceBIdeal.S1x4640 ![1] Cert.ReferenceBIdeal.Gen.bcast_S4640_S1x4640_1 b))) Cert.ReferenceBIdeal.Gen.slices_S16512x4640_S16512x1536_0_1568) Cert.ReferenceBIdeal.Gen.bitsLt_bf16_f32

/-- Which block of each array a grid point takes. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

variable (m : (ℓ : Loc nD τ sig) → Buf (Elt Ideal) ℓ)

/-- What a grid point stores is the reference's block. -/
theorem point (c : Dev nD) (t : Fin cfg0.N) (y) : k0_pay1 (iblk m c 0 t) (iblk m c 1 t) (iblk m c 2 t) y
    = refOut (m ((c : Thread nD τ).loc main_arg0)) (m ((c : Thread nD τ).loc main_arg1)) (m ((c : Thread nD τ).loc main_arg2)) (((cfg0.win 3).blk t).view.emb y) := by
  pointwise [k0_pay1, refOut]
  blk_point [iblk, V, idx t]

/-- The result array after the run. -/
theorem final (c : Dev nD) : (dats m 0 c).arrAt 3 (cfgs 0).N
    = refOut (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The value claim of that part. -/
theorem algebraic : Cert.algebraic_KernelBIdeal_ReferenceBIdeal := by
  pair_intro
  · run_from Cert.KernelBIdeal.Value.run_blocks m g
  · run_from Cert.ReferenceBIdeal.Value.run m' g'
    exact (final m c).symm

end Cert.Proof.InProjB
end
-- ==== Proof.InProjC.lean ====
module

public import proofs.«01_k».proof.Defs
public import proofs.«01_k».proof.Proof.Gen.KernelCIdeal.Value
public import proofs.«01_k».proof.Proof.Gen.ReferenceCIdeal.Run
public import Idealize.ShloMosaic.Lib.Pipeline.ValueKit
public import Idealize.ShloMosaic.Lib.Claim

/-!
  The input projection's columns of the long convolution: every block of rows that the kernel writes is the
  reference's, over the extended reals.
-/

@[expose] public section

set_option maxRecDepth 16384

noncomputable section
namespace Cert.Proof.InProjC
open Idealize.ShloMosaic Idealize.ShloMosaic.TcCoe Idealize.SL.Sem
open Cert.KernelCIdeal Cert.KernelCIdeal.Gen

/-- The reference's result of the tokens, the weights and the bias. -/
abbrev refOut (h : FVec Ideal S16512x2048 .f32) (w : FVec Ideal S2048x4640 .f32) (b : FVec Ideal S4640 .f32) : FVec Ideal S16512x1536 .f32 :=
  extractStridedSlice Cert.ReferenceCIdeal.S16512x1536 ![0, 3104]
    (addf (Host.dotGeneral Cert.ReferenceCIdeal.dot_S16512x2048_S2048x4640_S16512x4640_1_0_0_1_n_n none h w)
      (broadcastInDim Cert.ReferenceCIdeal.S16512x4640 ![0, 1] Cert.ReferenceCIdeal.Gen.bcast_S1x4640_S16512x4640_0_1
        (broadcastInDim Cert.ReferenceCIdeal.S1x4640 ![1] Cert.ReferenceCIdeal.Gen.bcast_S4640_S1x4640_1 b)))
    Cert.ReferenceCIdeal.Gen.slices_S16512x4640_S16512x1536_0_3104

/-- Which block of each array a grid point takes. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

variable (m : (ℓ : Loc nD τ sig) → Buf (Elt Ideal) ℓ)

/-- What a grid point stores is the reference's block. -/
theorem point (c : Dev nD) (t : Fin cfg0.N) (y) : k0_pay1 (iblk m c 0 t) (iblk m c 1 t) (iblk m c 2 t) y
    = refOut (m ((c : Thread nD τ).loc main_arg0)) (m ((c : Thread nD τ).loc main_arg1)) (m ((c : Thread nD τ).loc main_arg2)) (((cfg0.win 3).blk t).view.emb y) := by
  pointwise [k0_pay1, refOut]
  blk_point [iblk, V, idx t]

/-- The result array after the run. -/
theorem final (c : Dev nD) : (dats m 0 c).arrAt 3 (cfgs 0).N
    = refOut (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The value claim of that part. -/
theorem algebraic : Cert.algebraic_KernelCIdeal_ReferenceCIdeal := by
  pair_intro
  · run_from Cert.KernelCIdeal.Value.run_blocks m g
  · run_from Cert.ReferenceCIdeal.Value.run m' g'
    exact (final m c).symm

end Cert.Proof.InProjC
end
-- ==== Proof.OutProj.lean ====
module

public import proofs.«01_k».proof.Defs
public import proofs.«01_k».proof.Proof.Gen.KernelOIdeal.Value
public import proofs.«01_k».proof.Proof.Gen.ReferenceOIdeal.Run
public import Idealize.ShloMosaic.Lib.Pipeline.ValueKit
public import Idealize.ShloMosaic.Lib.Claim
public import Idealize.ShloMosaic.Lib.StableHlo.Run
public import Idealize.ShloMosaic.Lib.Routing.OpsOne

/-!
  The output projection of the mixers with its residual and norm, and the routers' products of the normed rows: every
  block of rows that the kernel writes is the reference's, over the extended reals.
-/

@[expose] public section

set_option maxRecDepth 16384

noncomputable section
namespace Cert.Proof.OutProj
open Idealize.ShloMosaic Idealize.ShloMosaic.TcCoe Idealize.SL.Sem
open Cert.KernelOIdeal Cert.KernelOIdeal.Gen

/-- The three mixers' results side by side. -/
def refY (ya : FVec Ideal S16512x512 .f32) (yb : FVec Ideal S16512x1024 .f32) (yc : FVec Ideal S16512x512 .f32) : FVec Ideal S16512x2048 .f32 :=
  concatenate S16512x2048 1 [⟨S16512x512, ya⟩, ⟨S16512x1024, yb⟩, ⟨S16512x512, yc⟩]
    Cert.ReferenceOIdeal.Gen.concatenates_S16512x512_S16512x1024_S16512x512_S16512x2048_d1

/-- A vector over the columns, at every row. -/
def refCols (b : FVec Ideal S2048 .f32) : FVec Ideal S16512x2048 .f32 :=
  broadcastInDim S16512x2048 ![0, 1] Cert.ReferenceOIdeal.Gen.bcast_S1x2048_S16512x2048_0_1
    (broadcastInDim S1x2048 ![1] Cert.ReferenceOIdeal.Gen.bcast_S2048_S1x2048_1 b)

/-- A vector over the rows, at every column. -/
def refRowsOf (u : FVec Ideal Cert.ReferenceOIdeal.S16512x1 .f32) : FVec Ideal S16512x2048 .f32 :=
  broadcastInDim S16512x2048 ![0, 1] Cert.ReferenceOIdeal.Gen.bcast_S16512x1_S16512x2048_0_1 u

/-- The mean of every row. -/
def refMean (z : FVec Ideal S16512x2048 .f32) : FVec Ideal Cert.ReferenceOIdeal.S16512x1 .f32 :=
  Host.divf (broadcastInDim Cert.ReferenceOIdeal.S16512x1 ![0] Cert.ReferenceOIdeal.Gen.bcast_S16512_S16512x1_0
      (Host.reduceAdd z (constant (F := Ideal) S_ .f32 0x00000000#32) Cert.ReferenceOIdeal.Gen.reducesTo_S16512x2048_S16512_d1 Cert.ReferenceOIdeal.Gen.h_S_))
    (broadcastInDim Cert.ReferenceOIdeal.S16512x1 ![] Cert.ReferenceOIdeal.Gen.bcast_S_S16512x1 (constant (F := Ideal) S_ .f32 0x45000000#32))

/-- The rows before the norm: the scaled residual plus the projection. -/
def refZ (y h : FVec Ideal S16512x2048 .f32) (w : FVec Ideal S2048x2048 .f32) (b : FVec Ideal S2048 .f32) : FVec Ideal S16512x2048 .f32 :=
  addf (mulf (broadcastInDim S16512x2048 ![] Cert.ReferenceOIdeal.Gen.bcast_S_S16512x2048 (constant (F := Ideal) S_ .f32 0x3FD744FD#32)) h)
    (addf (Host.dotGeneral Cert.ReferenceOIdeal.dot_S16512x2048_S2048x2048_S16512x2048_1_0_0_1_n_n none y w) (refCols b))

/-- Rows with their means taken off, squared. -/
def refSq (z : FVec Ideal S16512x2048 .f32) : FVec Ideal S16512x2048 .f32 :=
  mulf (subf z (refRowsOf (refMean z))) (subf z (refRowsOf (refMean z)))

/-- The norm of every row. -/
def refNorm (z : FVec Ideal S16512x2048 .f32) (g be : FVec Ideal S2048 .f32) : FVec Ideal S16512x2048 .f32 :=
  addf (mulf (mulf (subf z (refRowsOf (refMean z)))
    (refRowsOf (Host.rsqrt (addf (refMean (refSq z))
      (broadcastInDim Cert.ReferenceOIdeal.S16512x1 ![] Cert.ReferenceOIdeal.Gen.bcast_S_S16512x1 (constant (F := Ideal) S_ .f32 0x3727C5AC#32))))))
    (refCols g)) (refCols be)

/-- The routers' products side by side, then zeros. -/
def refLogits (h1 : FVec Ideal S16512x2048 .f32) (wg : FVec Ideal S2048x4 .f32) (we : FVec Ideal S2048x16 .f32) : FVec Ideal S16512x128 .f32 :=
  concatenate S16512x128 1
    [⟨Cert.ReferenceOIdeal.S16512x4, Host.dotGeneral Cert.ReferenceOIdeal.dot_S16512x2048_S2048x4_S16512x4_1_0_0_1_n_n none h1 wg⟩,
     ⟨Cert.ReferenceOIdeal.S16512x16, Host.dotGeneral Cert.ReferenceOIdeal.dot_S16512x2048_S2048x16_S16512x16_1_0_0_1_n_n none h1 we⟩,
     ⟨Cert.ReferenceOIdeal.S16512x108, broadcastInDim Cert.ReferenceOIdeal.S16512x108 ![] Cert.ReferenceOIdeal.Gen.bcast_S_S16512x108 (constant (F := Ideal) S_ .f32 0x00000000#32)⟩]
    Cert.ReferenceOIdeal.Gen.concatenates_S16512x4_S16512x16_S16512x108_S16512x128_d1

/-- The mean of a row. -/
def meanRow (z : Fin 2048 → EReal) : EReal := Ideal.div (∑ x, z x) (Ideal.ofBits .f32 0x45000000#32)

/-- The norm of a row at a column, by the column's scale and shift. -/
def lnRow (z : Fin 2048 → EReal) (g be : EReal) (q : Fin 2048) : EReal :=
  (z q - meanRow z) * Ideal.rsqrt (meanRow (fun x => (z x - meanRow z) * (z x - meanRow z)) + Ideal.ofBits .f32 0x3727C5AC#32) * g + be

/-- The scaled residual plus the product of a row and a column and the bias. -/
def resid (y w : Fin 2048 → EReal) (h b : EReal) : EReal := Ideal.ofBits .f32 0x3FD744FD#32 * h + ((∑ k, y k * w k) + b)

/-- Three pieces of a row, side by side. -/
def join (a : Fin 512 → EReal) (b : Fin 1024 → EReal) (d : Fin 512 → EReal) (q : Fin 2048) : EReal :=
  if h : q.val < 512 then a ⟨q.val, h⟩
  else if h' : q.val - 512 < 1024 then b ⟨q.val - 512, h'⟩ else d ⟨q.val - 512 - 1024, by have := q.isLt; omega⟩

/-- A product with the joined row is the sum of the three pieces' products. -/
theorem sum_join (a : Fin 512 → EReal) (b : Fin 1024 → EReal) (d : Fin 512 → EReal) (w : Fin 2048 → EReal) :
    ∑ k, join a b d k * w k = (∑ k : Fin 512, a k * w ⟨k.val, by omega⟩) + (∑ k : Fin 1024, b k * w ⟨512 + k.val, by omega⟩)
      + ∑ k : Fin 512, d k * w ⟨1536 + k.val, by omega⟩ := by
  rw [show (∑ k, join a b d k * w k) = ∑ k : Fin (512 + 1024 + 512), join a b d k * w k from rfl, Fin.sum_univ_add, Fin.sum_univ_add]
  refine congrArg₂ (· + ·) (congrArg₂ (· + ·) (Finset.sum_congr rfl fun k _ => ?_) (Finset.sum_congr rfl fun k _ => ?_)) (Finset.sum_congr rfl fun k _ => ?_)
  · refine congrArg₂ (· * ·) ?_ rfl
    exact dif_pos k.isLt
  · refine congrArg₂ (· * ·) ?_ rfl
    have h1 : ¬ 512 + k.val < 512 := by omega
    have h2 : 512 + k.val - 512 < 1024 := by omega
    refine (dif_neg h1).trans ((dif_pos h2).trans (congrArg b (Fin.ext ?_)))
    show 512 + k.val - 512 = k.val
    omega
  · refine congrArg₂ (· * ·) ?_ rfl
    have h1 : ¬ 512 + 1024 + k.val < 512 := by omega
    have h2 : ¬ 512 + 1024 + k.val - 512 < 1024 := by omega
    refine (dif_neg h1).trans ((dif_neg h2).trans (congrArg d (Fin.ext ?_)))
    show 512 + 1024 + k.val - 512 - 1024 = k.val
    omega

/-- The router's product at a column of the logits. -/
def logit (x : Fin 2048 → EReal) (wg : Fin 2048 → Fin 4 → EReal) (we : Fin 2048 → Fin 16 → EReal) (q : Fin 128) : EReal :=
  if h : q.val < 4 then ∑ k, x k * wg k ⟨q.val, h⟩ else if h' : q.val - 4 < 16 then ∑ k, x k * we k ⟨q.val - 4, h'⟩ else 0

/-- The mixers' results at a row and a column. -/
theorem refY_apply (ya : FVec Ideal S16512x512 .f32) (yb : FVec Ideal S16512x1024 .f32) (yc : FVec Ideal S16512x512 .f32) (r : Fin 16512) (q : Fin 2048) :
    refY ya yb yc (ix2 r q) = join (fun k => ya (ix2 r k)) (fun k => yb (ix2 r k)) (fun k => yc (ix2 r k)) q := by
  unfold refY
  pointwise
  rfl

/-- The rows before the norm, at a row and a column. -/
theorem refZ_apply (y h : FVec Ideal S16512x2048 .f32) (w : FVec Ideal S2048x2048 .f32) (b : FVec Ideal S2048 .f32) (r : Fin 16512) (q : Fin 2048) :
    refZ y h w b (ix2 r q) = resid (fun k => y (ix2 r k)) (fun k => w (ix2 k q)) (h (ix2 r q)) (b (ix1 q)) := by
  unfold refZ refCols
  pointwise
  rfl

/-- The normed rows at a row and a column. -/
theorem refNorm_apply (z : FVec Ideal S16512x2048 .f32) (g be : FVec Ideal S2048 .f32) (r : Fin 16512) (q : Fin 2048) :
    refNorm z g be (ix2 r q) = lnRow (fun x => z (ix2 r x)) (g (ix1 q)) (be (ix1 q)) q := by
  unfold refNorm refSq refCols refRowsOf refMean
  pointwise
  rfl

/-- The reference's logits at a row and a column. -/
theorem refLogits_apply (h1 : FVec Ideal S16512x2048 .f32) (wg : FVec Ideal S2048x4 .f32) (we : FVec Ideal S2048x16 .f32) (r : Fin 16512) (q : Fin 128) :
    refLogits h1 wg we (ix2 r q) = logit (fun k => h1 (ix2 r k)) (fun k j => wg (ix2 k j)) (fun k j => we (ix2 k j)) q := by
  unfold refLogits
  pointwise
  rfl

/-- The kernel's rows before the norm, at a row of the tile and a column. -/
theorem pay4_apply (x0 : FVec Ideal S384x512 .bf16) (w0 : FVec Ideal S512x2048 .bf16) (x1 : FVec Ideal S384x1024 .bf16) (w1 : FVec Ideal S1024x2048 .bf16)
    (x2 : FVec Ideal S384x512 .bf16) (w2 : FVec Ideal S512x2048 .bf16) (b : FVec Ideal S1x2048 .f32) (h : FVec Ideal S384x2048 .f32) (p : Fin 384) (q : Fin 2048)
    (w : Fin 2048 → EReal) (h0 : ∀ k : Fin 512, w0 (ix2 k q) = w ⟨k.val, by omega⟩) (h1 : ∀ k : Fin 1024, w1 (ix2 k q) = w ⟨512 + k.val, by omega⟩)
    (h2 : ∀ k : Fin 512, w2 (ix2 k q) = w ⟨1536 + k.val, by omega⟩) :
    k0_pay4 (F := Ideal) x0 w0 x1 w1 x2 w2 b h (ix2 p q)
      = resid (join (fun k => x0 (ix2 p k)) (fun k => x1 (ix2 p k)) (fun k => x2 (ix2 p k))) w (h (ix2 p q)) (b (ix2 (0 : Fin 1) q)) := by
  unfold resid
  rw [sum_join]
  pointwise [k0_pay4]
  simp only [h0, h1, h2]

/-- The kernel's normed rows, at a row of the tile and a column. -/
theorem pay1_apply (x0 : FVec Ideal S384x512 .bf16) (w0 : FVec Ideal S512x2048 .bf16) (x1 : FVec Ideal S384x1024 .bf16) (w1 : FVec Ideal S1024x2048 .bf16)
    (x2 : FVec Ideal S384x512 .bf16) (w2 : FVec Ideal S512x2048 .bf16) (b g be : FVec Ideal S1x2048 .f32) (h : FVec Ideal S384x2048 .f32) (p : Fin 384) (q : Fin 2048) :
    k0_pay1 (F := Ideal) (k0_pay4 x0 w0 x1 w1 x2 w2 b h) (k0_pay5 g) (k0_pay6 be) (k0_pay7 x0 w0 x1 w1 x2 w2 b h) (ix2 p q)
      = lnRow (fun x => k0_pay4 (F := Ideal) x0 w0 x1 w1 x2 w2 b h (ix2 p x)) (g (ix2 (0 : Fin 1) q)) (be (ix2 (0 : Fin 1) q)) q := by
  generalize hz : k0_pay4 (F := Ideal) x0 w0 x1 w1 x2 w2 b h = z
  have h7 : ∀ p, k0_pay7 (F := Ideal) x0 w0 x1 w1 x2 w2 b h (ix2 p (0 : Fin 1)) = meanRow fun x => z (ix2 p x) := fun p => by
    pointwise [k0_pay7]
    rw [hz]
    rfl
  pointwise [k0_pay1, k0_pay5, k0_pay6]
  simp only [h7]
  rfl

/-- The kernel's logits are the products of the stored rows. -/
theorem pay3_apply (v24 : FVec Ideal S384x2048 .f32) (v26 v28 : FVec Ideal S1x2048 .f32) (v32 : FVec Ideal S384x1 .f32) (w : FVec Ideal S2048x128 .bf16) (p : Fin 384) (q : Fin 128) :
    k0_pay3 (F := Ideal) v24 v26 v28 v32 w (ix2 p q) = ∑ k : Fin 2048, k0_pay1 (F := Ideal) v24 v26 v28 v32 (ix2 p k) * (w : S2048x128.Idx → EReal) (ix2 k q) := by
  pointwise [k0_pay3, k0_pay2]

/-- Which block of each array a grid point takes. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] :=
  (by decide +kernel : ∀ t : Fin grid0.N, _)

variable (m : (ℓ : Loc nD τ sig) → Buf (Elt Ideal) ℓ)

/-- An update of a block of columns lands at its row, at the block's first column plus its own. -/
theorem lands_cols {A N U : Nat} (d : ScatterDims (Routing.shape2 A N) (Routing.shape1 1) (Routing.shape2 A U)) (huw : d.updateWindowDims = [0, 1])
    (hiw : d.insertedWindowDims = []) (hsd : d.scatterDimsToOperandDims = [1]) (ix : IVec (Routing.shape1 1) 32) (k : Nat)
    (hix : (ix (ValueIdx.ix1 0)).toInt = (k : Int)) (w' w : Fin A) (u : Fin U) (e : Fin N) :
    d.resultIdx? (ValueIdx.ix2 w' u) ix = some (ValueIdx.ix2 w e) ↔ w' = w ∧ e.val = k + u.val := by
  have hm : (1 : Fin 2) ∈ d.scatterDimsToOperandDims := by rw [hsd]; exact List.mem_singleton.2 rfl
  have hkept : d.sKept = [0, 1] := by
    show (Routing.shape2 A N).kept d.insertedWindowDims = _
    rw [hiw]
    rfl
  have pos0 : ∀ (l l' : List (Fin 2)) (h : l.idxOf 0 < l'.length), l = [0, 1] → l' = [0, 1] → l'[l.idxOf 0] = 0 := by
    rintro _ _ h rfl rfl
    rfl
  have pos1 : ∀ (l l' : List (Fin 2)) (h : l.idxOf 1 < l'.length), l = [0, 1] → l' = [0, 1] → l'[l.idxOf 1] = 1 := by
    rintro _ _ h rfl rfl
    rfl
  have hwin0 : d.window (ValueIdx.ix2 w' u) 0 = w'.val := by
    unfold ScatterDims.window
    rw [dif_pos (by rw [hkept]; exact List.mem_cons_self)]
    exact (congrArg (fun a => (ValueIdx.ix2 w' u a).val) (pos0 _ _ _ hkept huw)).trans rfl
  have hwin1 : d.window (ValueIdx.ix2 w' u) 1 = u.val := by
    unfold ScatterDims.window
    rw [dif_pos (by rw [hkept]; exact List.mem_cons_of_mem _ (List.mem_singleton.2 rfl))]
    exact (congrArg (fun a => (ValueIdx.ix2 w' u a).val) (pos1 _ _ _ hkept huw)).trans rfl
  have hstart0 : d.start (ValueIdx.ix2 w' u) ix 0 = 0 := by
    unfold ScatterDims.start
    rw [dif_neg fun h => by rw [hsd] at h; exact absurd (List.mem_singleton.1 h) (by decide : (0 : Fin 2) ≠ 1)]
  have hstart1 : d.start (ValueIdx.ix2 w' u) ix 1 = (k : Int) := by
    unfold ScatterDims.start
    rw [dif_pos hm]
    have hsi : d.siIdx (ValueIdx.ix2 w' u) ⟨d.scatterDimsToOperandDims.idxOf 1, List.idxOf_lt_length_iff.2 hm⟩ = ValueIdx.ix1 (0 : Fin 1) := by
      funext b'
      match b' with
      | ⟨0, _⟩ => exact Subsingleton.elim (α := Fin 1) _ _
    rw [hsi, hix]
  rw [Fin.ext_iff, Routing.resultIdx?_ix2, hstart0, hwin0, hstart1, hwin1]
  omega

/-- An array with a block of its columns set, at a row and a column. -/
theorem scatter_cols {α : Type} {A N U : Nat} (d : ScatterDims (Routing.shape2 A N) (Routing.shape1 1) (Routing.shape2 A U)) (huw : d.updateWindowDims = [0, 1])
    (hiw : d.insertedWindowDims = []) (hsd : d.scatterDimsToOperandDims = [1]) (ix : IVec (Routing.shape1 1) 32) (k : Nat)
    (hix : (ix (ValueIdx.ix1 0)).toInt = (k : Int)) (x : (Routing.shape2 A N).Idx → α) (v : (Routing.shape2 A U).Idx → α) (w : Fin A) (e : Fin N) :
    Host.scatter d (fun _ b => b) x ix v (ValueIdx.ix2 w e)
      = if h : k ≤ e.val ∧ e.val - k < U then v (ValueIdx.ix2 w ⟨e.val - k, h.2⟩) else x (ValueIdx.ix2 w e) := by
  have lands : ∀ j : (Routing.shape2 A U).Idx, d.resultIdx? j ix = some (ValueIdx.ix2 w e) → j 0 = w ∧ e.val = k + (j 1).val := fun j hj =>
    (lands_cols d huw hiw hsd ix k hix (j 0) w (j 1) e).1 ((congrArg (fun t => d.resultIdx? t ix) (ValueIdx.eq_ix2 j).symm).trans hj)
  by_cases h : k ≤ e.val ∧ e.val - k < U
  · rw [dif_pos h]
    refine Routing.scatter_set_hit d x ix v _ _ (fun j hj => ?_) (ValueIdx.ix2 w ⟨e.val - k, h.2⟩)
      ((lands_cols d huw hiw hsd ix k hix w w _ e).2 ⟨rfl, by show e.val = k + (e.val - k); omega⟩)
    obtain ⟨a, b⟩ := lands j hj
    refine congrArg v ((ValueIdx.eq_ix2 j).trans (congrArg₂ ValueIdx.ix2 a (Fin.ext ?_)))
    show (j 1).val = e.val - k
    omega
  · rw [dif_neg h]
    refine Routing.scatter_set_miss d x ix v _ fun j hj => h ?_
    obtain ⟨_, b⟩ := lands j hj
    have hj1 : (j 1).val < U := (j 1).isLt
    omega

/-- The routers' weights as the kernel lays them out. -/
def cols (wg : FVec Ideal S2048x4 .f32) (we : FVec Ideal S2048x16 .f32) : FVec Ideal S2048x128 .bf16 :=
  truncf .bf16 (Host.scatter scatter_S2048x128_S1_S2048x16_01_n_1_0 (fun _ b => b)
    (Host.scatter scatter_S2048x128_S1_S2048x4_01_n_1_0 (fun _ b => b)
      (broadcastInDim S2048x128 ![] bcast_S_S2048x128 (constant (F := Ideal) S_ .f32 0x00000000#32))
      (broadcastInDim S1 ![] bcast_S_S1 (constantI S_ 32 0#32)) wg)
    (broadcastInDim S1 ![] bcast_S_S1 (constantI S_ 32 4#32)) we) bitsLt_bf16_f32

/-- The laid out routers' weights at a row and a column. -/
theorem cols_apply (wg : FVec Ideal S2048x4 .f32) (we : FVec Ideal S2048x16 .f32) (k : Fin 2048) (q : Fin 128) :
    cols wg we (ix2 k q) = if h : q.val < 4 then wg (ix2 k ⟨q.val, h⟩) else if h' : q.val - 4 < 16 then we (ix2 k ⟨q.val - 4, h'⟩) else 0 := by
  have i4 : ((broadcastInDim S1 ![] bcast_S_S1 (constantI S_ 32 4#32) : IVec S1 32) (ValueIdx.ix1 (0 : Fin 1))).toInt = ((4 : Nat) : Int) := by
    rw [← ix1_eq_valueIdx]
    pointwise
    rfl
  have i0 : ((broadcastInDim S1 ![] bcast_S_S1 (constantI S_ 32 0#32) : IVec S1 32) (ValueIdx.ix1 (0 : Fin 1))).toInt = ((0 : Nat) : Int) := by
    rw [← ix1_eq_valueIdx]
    pointwise
    rfl
  simp only [ix2_eq_valueIdx]
  unfold cols
  rw [truncf_apply]
  refine (scatter_cols scatter_S2048x128_S1_S2048x16_01_n_1_0 rfl rfl rfl _ 4 i4 _ we k q).trans ?_
  rw [scatter_cols scatter_S2048x128_S1_S2048x4_01_n_1_0 rfl rfl rfl _ 0 i0 _ wg k q]
  by_cases h : q.val < 4
  · rw [dif_neg (by omega), dif_pos (by omega), dif_pos h]
    rfl
  · rw [dif_neg h]
    by_cases h' : q.val - 4 < 16
    · rw [dif_pos (by omega), dif_pos h']
    · rw [dif_neg (by omega), dif_neg (by omega), dif_neg h']
      exact Ideal.ofBits_zero_f32

/-- A product with the laid out routers' weights is the router's product at that column. -/
theorem sum_cols (x : Fin 2048 → EReal) (wg : FVec Ideal S2048x4 .f32) (we : FVec Ideal S2048x16 .f32) (q : Fin 128) :
    ∑ k, x k * (cols wg we : S2048x128.Idx → EReal) (ix2 k q) = logit x (fun k j => wg (ix2 k j)) (fun k j => we (ix2 k j)) q := by
  unfold logit
  simp only [cols_apply]
  by_cases h : q.val < 4
  · simp only [dif_pos h]
  · simp only [dif_neg h]
    by_cases h' : q.val - 4 < 16
    · simp only [dif_pos h']
    · simp only [dif_neg h', mul_zero, Finset.sum_const_zero]

/-- The laid out routers' weights are what the call receives. -/
theorem V_cols (c : Dev nD) : V m c main_v5 = cols (m ((c : Thread nD τ).loc main_arg8)) (m ((c : Thread nD τ).loc main_arg9)) := by
  show StableHlo.after hostOps0 (fun b => m (c, b)) _ = _
  after_results <;> rfl

/-- Every grid point takes the routers' weights whole. -/
theorem iblk_cols (c : Dev nD) (t : Fin cfg0.N) : iblk m c 8 t = cols (m ((c : Thread nD τ).loc main_arg8)) (m ((c : Thread nD τ).loc main_arg9)) := by
  rw [← V_cols]
  have h : ∀ W : Vec Ideal S2048x128 .bf16, ((cfg0.win 8).blk t).view.read (Elt Ideal) W = W := fun W => by blk_ext! [idx t]
  exact h _

/-- The normed rows of the arguments. -/
def outH (c : Dev nD) : FVec Ideal S16512x2048 .f32 :=
  refNorm (refZ (refY (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5)))
    (m ((c : Thread nD τ).loc main_arg6)) (m ((c : Thread nD τ).loc main_arg7))

/-- Rows loaded from the projection's matrix, at a row and a column. -/
theorem ld_rows {n : Nat} (X : Vec Ideal S2048x2048 .bf16) (o : Nat) (inb : ∀ a, ![o, 0] a + (⟨2, ![n, 2048]⟩ : Shape).size a ≤ S2048x2048.size a)
    (k : Fin n) (x : Fin 2048) (hk : o + k.val < 2048) :
    (View.ld X (Rect.unit (s := S2048x2048) ![o, 0] (⟨2, ![n, 2048]⟩ : Shape).size inb) : (⟨2, ![n, 2048]⟩ : Shape).Idx → EReal) (ix2 k x)
      = X (ix2 (⟨o + k.val, hk⟩ : Fin 2048) x) := by
  rw [View.ld_unit_apply_of X ![o, 0] _ inb (ix2 k x) (ix2 (⟨o + k.val, hk⟩ : Fin 2048) x)]
  intro a
  match a with
  | ⟨0, _⟩ => rfl
  | ⟨1, _⟩ => exact (Nat.zero_add _).symm

/-- The projection's matrix is what the call receives. -/
theorem iblk_w (c : Dev nD) (t : Fin cfg0.N) (k x : Fin 2048) :
    (iblk m c 4 t : S2048x2048.Idx → EReal) (ix2 k x) = (m ((c : Thread nD τ).loc main_arg4) : S2048x2048.Idx → EReal) (ix2 k x) := by
  blk_ext [iblk, V, idx t]

/-- The bias is what the call receives. -/
theorem V_b (c : Dev nD) : V m c main_v10 = shapeCast S1x2048 (m ((c : Thread nD τ).loc main_arg5)) shapeCasts_S2048_S1x2048 := by
  show StableHlo.after hostOps0 (fun b => m (c, b)) _ = _
  after_results <;> rfl
/-- The norm's scale is what the call receives. -/
theorem V_g (c : Dev nD) : V m c main_v11 = shapeCast S1x2048 (m ((c : Thread nD τ).loc main_arg6)) shapeCasts_S2048_S1x2048 := by
  show StableHlo.after hostOps0 (fun b => m (c, b)) _ = _
  after_results <;> rfl
/-- The norm's shift is what the call receives. -/
theorem V_be (c : Dev nD) : V m c main_v12 = shapeCast S1x2048 (m ((c : Thread nD τ).loc main_arg7)) shapeCasts_S2048_S1x2048 := by
  show StableHlo.after hostOps0 (fun b => m (c, b)) _ = _
  after_results <;> rfl

/-- Every grid point takes the bias whole. -/
theorem iblk_b (c : Dev nD) (t : Fin cfg0.N) : iblk m c 5 t = shapeCast S1x2048 (m ((c : Thread nD τ).loc main_arg5)) shapeCasts_S2048_S1x2048 := by
  rw [← V_b]
  blk_ext! [iblk, idx t]
/-- Every grid point takes the norm's scale whole. -/
theorem iblk_g (c : Dev nD) (t : Fin cfg0.N) : iblk m c 6 t = shapeCast S1x2048 (m ((c : Thread nD τ).loc main_arg6)) shapeCasts_S2048_S1x2048 := by
  rw [← V_g]
  blk_ext! [iblk, idx t]
/-- Every grid point takes the norm's shift whole. -/
theorem iblk_be (c : Dev nD) (t : Fin cfg0.N) : iblk m c 7 t = shapeCast S1x2048 (m ((c : Thread nD τ).loc main_arg7)) shapeCasts_S2048_S1x2048 := by
  rw [← V_be]
  blk_ext! [iblk, idx t]

/-- A vector as a row, at a column. -/
theorem row_apply (b : FVec Ideal S2048 .f32) (x : Fin 2048) : shapeCast S1x2048 b shapeCasts_S2048_S1x2048 (ix2 (0 : Fin 1) x) = b (ix1 x) := by
  pointwise

/-- The first mixer's rows that a grid point takes. -/
theorem iblk_ya (c : Dev nD) (t : Fin cfg0.N) (p : Fin 384) (r : Fin 16512) (hr : r.val = t.val * 384 + p.val) (k : Fin 512) :
    (iblk m c 0 t : S384x512.Idx → EReal) (ix2 p k) = (m ((c : Thread nD τ).loc main_arg0) : S16512x512.Idx → EReal) (ix2 r k) := by
  blk_ext [iblk, V, idx t]
/-- The second mixer's rows that a grid point takes. -/
theorem iblk_yb (c : Dev nD) (t : Fin cfg0.N) (p : Fin 384) (r : Fin 16512) (hr : r.val = t.val * 384 + p.val) (k : Fin 1024) :
    (iblk m c 1 t : S384x1024.Idx → EReal) (ix2 p k) = (m ((c : Thread nD τ).loc main_arg1) : S16512x1024.Idx → EReal) (ix2 r k) := by
  blk_ext [iblk, V, idx t]
/-- The third mixer's rows that a grid point takes. -/
theorem iblk_yc (c : Dev nD) (t : Fin cfg0.N) (p : Fin 384) (r : Fin 16512) (hr : r.val = t.val * 384 + p.val) (k : Fin 512) :
    (iblk m c 2 t : S384x512.Idx → EReal) (ix2 p k) = (m ((c : Thread nD τ).loc main_arg2) : S16512x512.Idx → EReal) (ix2 r k) := by
  blk_ext [iblk, V, idx t]
/-- The layer's rows that a grid point takes. -/
theorem iblk_h (c : Dev nD) (t : Fin cfg0.N) (p : Fin 384) (r : Fin 16512) (hr : r.val = t.val * 384 + p.val) (k : Fin 2048) :
    (iblk m c 3 t : S384x2048.Idx → EReal) (ix2 p k) = (m ((c : Thread nD τ).loc main_arg3) : S16512x2048.Idx → EReal) (ix2 r k) := by
  blk_ext [iblk, V, idx t]

/-- The loads of whole blocks leave the blocks. -/
theorem pays (x0 : Vec Ideal S384x512 .bf16) (x1 : Vec Ideal S384x1024 .bf16) (x2 : Vec Ideal S384x512 .bf16) (x3 : Vec Ideal S384x2048 .f32)
    (x4 : Vec Ideal S2048x2048 .bf16) (x5 x6 x7 : Vec Ideal S1x2048 .f32) (x8 : Vec Ideal S2048x128 .bf16) :
    k0_pay1 (F := Ideal) (k0_pay8 x0 x1 x2 x3 x4 x5 x6 x7 x8) (k0_pay9 x0 x1 x2 x3 x4 x5 x6 x7 x8) (k0_pay10 x0 x1 x2 x3 x4 x5 x6 x7 x8) (k0_pay11 x0 x1 x2 x3 x4 x5 x6 x7 x8)
      = k0_pay1 (k0_pay4 x0 (View.ld x4 r0_1) x1 (View.ld x4 r0_3) x2 (View.ld x4 r0_4) x5 x3) (k0_pay5 x6) (k0_pay6 x7)
        (k0_pay7 x0 (View.ld x4 r0_1) x1 (View.ld x4 r0_3) x2 (View.ld x4 r0_4) x5 x3) := by
  unfold k0_pay8 k0_pay9 k0_pay10 k0_pay11
  rw [View.ld_unit_lit _ x0 (by decide), View.ld_unit_lit _ x1 (by decide), View.ld_unit_lit _ x2 (by decide), View.ld_unit_lit _ x3 (by decide),
    View.ld_unit_lit _ x5 (by decide), View.ld_unit_lit _ x6 (by decide), View.ld_unit_lit _ x7 (by decide)]

/-- What a grid point stores of the normed rows is the reference's block. -/
theorem point (c : Dev nD) (t : Fin cfg0.N) (p : Fin 384) (q : Fin 2048) (r : Fin 16512) (hr : r.val = t.val * 384 + p.val) :
    k0_pay1 (F := Ideal)
      (k0_pay8 (iblk m c 0 t) (iblk m c 1 t) (iblk m c 2 t) (iblk m c 3 t) (iblk m c 4 t) (iblk m c 5 t) (iblk m c 6 t) (iblk m c 7 t) (iblk m c 8 t))
      (k0_pay9 (iblk m c 0 t) (iblk m c 1 t) (iblk m c 2 t) (iblk m c 3 t) (iblk m c 4 t) (iblk m c 5 t) (iblk m c 6 t) (iblk m c 7 t) (iblk m c 8 t))
      (k0_pay10 (iblk m c 0 t) (iblk m c 1 t) (iblk m c 2 t) (iblk m c 3 t) (iblk m c 4 t) (iblk m c 5 t) (iblk m c 6 t) (iblk m c 7 t) (iblk m c 8 t))
      (k0_pay11 (iblk m c 0 t) (iblk m c 1 t) (iblk m c 2 t) (iblk m c 3 t) (iblk m c 4 t) (iblk m c 5 t) (iblk m c 6 t) (iblk m c 7 t) (iblk m c 8 t))
      (ix2 p q) = outH m c (ix2 r q) := by
  rw [pays, iblk_b, iblk_g, iblk_be]
  unfold outH
  refine (pay1_apply _ _ _ _ _ _ _ _ _ _ p q).trans (Eq.trans ?_ (refNorm_apply _ _ _ _ _).symm)
  rw [row_apply, row_apply]
  refine congrArg (fun z => lnRow z _ _ q) (funext fun x => ?_)
  refine (pay4_apply _ _ _ _ _ _ _ _ p x (fun k => (m ((c : Thread nD τ).loc main_arg4) : S2048x2048.Idx → EReal) (ix2 k x))
    (fun k => (ld_rows _ 0 _ k x (by omega)).trans ?_) (fun k => (ld_rows _ 512 _ k x (by omega)).trans (iblk_w m c t _ x))
    (fun k => (ld_rows _ 1536 _ k x (by omega)).trans (iblk_w m c t _ x))).trans (Eq.trans ?_ (refZ_apply _ _ _ _ _ _).symm)
  · rw [iblk_w]
    exact congrArg (fun k' => (m ((c : Thread nD τ).loc main_arg4) : S2048x2048.Idx → EReal) (ix2 k' x)) (Fin.ext (Nat.zero_add _))
  rw [row_apply, iblk_h m c t p r hr]
  refine congrArg (fun y => resid y _ _ _) (funext fun k => ?_)
  rw [refY_apply]
  simp only [iblk_ya m c t p r hr, iblk_yb m c t p r hr, iblk_yc m c t p r hr]

/-- The normed rows after the run. -/
theorem final9 (c : Dev nD) : (dats m 0 c).arrAt 9 (cfgs 0).N = outH m c := by
  refine (dats m 0 c).arrAt_eq_of_covers 9 _ (by decide +kernel) fun t _ y => ?_
  blk_simp
  rw [after0_9]; frame_out
  obtain ⟨p, q, rfl⟩ : ∃ (p : Fin 384) (q : Fin 2048), y = ix2 p q := ⟨y 0, y 1, eq_ix2 y⟩
  have ht : t.val < 43 := t.isLt
  have hp := p.isLt
  have he : ((cfg0.win 9).blk t).view.emb (ix2 p q) = ix2 (⟨t.val * 384 + p.val, by omega⟩ : Fin 16512) q := by
    blk_ext [idx t]
  exact (point m c t p q _ rfl).trans (congrArg (outH m c) he.symm)

/-- The normed rows cast, after the run. -/
theorem final10 (c : Dev nD) : (dats m 0 c).arrAt 10 (cfgs 0).N = truncf .bf16 (outH m c) bitsLt_bf16_f32 := by
  refine (dats m 0 c).arrAt_eq_of_covers 10 _ (by decide +kernel) fun t _ y => ?_
  blk_simp
  rw [after0_10]; frame_out
  obtain ⟨p, q, rfl⟩ : ∃ (p : Fin 384) (q : Fin 2048), y = ix2 p q := ⟨y 0, y 1, eq_ix2 y⟩
  have ht : t.val < 43 := t.isLt
  have hp := p.isLt
  have he : ((cfg0.win 10).blk t).view.emb (ix2 p q) = ix2 (⟨t.val * 384 + p.val, by omega⟩ : Fin 16512) q := by
    blk_ext [idx t]
  exact (point m c t p q _ rfl).trans (congrArg (outH m c) he.symm)

/-- The logits after the run. -/
theorem final11 (c : Dev nD) : (dats m 0 c).arrAt 11 (cfgs 0).N
    = refLogits (outH m c) (m ((c : Thread nD τ).loc main_arg8)) (m ((c : Thread nD τ).loc main_arg9)) := by
  refine (dats m 0 c).arrAt_eq_of_covers 11 _ (by decide +kernel) fun t _ y => ?_
  blk_simp
  rw [after0_11]; frame_out
  obtain ⟨p, q, rfl⟩ : ∃ (p : Fin 384) (q : Fin 128), y = ix2 p q := ⟨y 0, y 1, eq_ix2 y⟩
  have ht : t.val < 43 := t.isLt
  have hp := p.isLt
  have he : ((cfg0.win 11).blk t).view.emb (ix2 p q) = ix2 (⟨t.val * 384 + p.val, by omega⟩ : Fin 16512) q := by
    blk_ext [idx t]
  refine (pay3_apply _ _ _ _ _ p q).trans (Eq.trans ?_ ((refLogits_apply _ _ _ _ q).symm.trans (congrArg (refLogits (outH m c) _ _) he.symm)))
  rw [iblk_cols, sum_cols]
  refine congrArg (fun x => logit x _ _ q) (funext fun k => ?_)
  rw [← iblk_cols]
  exact point m c t p k _ rfl

/-- The value claim of the output projection. -/
theorem algebraic : Cert.algebraic_KernelOIdeal_ReferenceOIdeal := by
  intro m g m' g' _ hag
  refine ⟨fun c => outH m c, fun c => truncf .bf16 (outH m c) bitsLt_bf16_f32,
    fun c => refLogits (outH m c) (m ((c : Thread nD τ).loc main_arg8)) (m ((c : Thread nD τ).loc main_arg9)),
    (θ_run _ _ _).mono (fun r k c => ⟨(k c).1.trans (final9 m c), (k c).2.1.trans (final10 m c), (k c).2.2.1.trans (final11 m c), (k c).2.2.2⟩)
      (Cert.KernelOIdeal.Value.run_blocks m g), ?_⟩
  refine (θ_run Cert.ReferenceOIdeal.defs _ _).mono (fun r k c => ⟨(k c).1.trans ?_, (k c).2.1.trans ?_, (k c).2.2.1.trans ?_, (k c).2.2.2⟩)
    (Cert.ReferenceOIdeal.Value.run m' g')
  all_goals
    obtain ⟨h0, h1, h2, h3, h4, h5, h6, h7, h8, h9⟩ := hag c
    unfold outH
    simp only [← h0, ← h1, ← h2, ← h3, ← h4, ← h5, ← h6, ← h7, ← h8, ← h9]
    rfl

end Cert.Proof.OutProj
end
-- ==== Proof.Gather.lean ====
module

public import proofs.«01_k».proof.Proof.Gen.KernelIdeal.Loops
public import Idealize.ShloMosaic.Lib.Batch
public import Idealize.ShloMosaic.Lib.Ring
public import Idealize.ShloMosaic.Lib.ValueLayout
public import Idealize.ShloMosaic.Lib.Pipeline.Frame

/-! # Names of the gather: rows of the scratch buffer, rows of the token array, shares, cells

The kernel copies, row by row, the 256 token rows of one tile into one of the two slots of a scratch
buffer. This file names the element sets of those rows, the value a slot holds once the copies have
landed, and the resources that stand for an idle slot and for a slot being filled. -/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

/-- The resources of the proof: the pipeline's and the counters of the transfers. -/
local notation "𝕄" => MT nD τ sig Unit (Elt F) ℕ (Pipeline.UD sig nD τ) ℕ

/-! ## Element sets -/

/-- Row `r` of slot `s` of the scratch buffer. -/
def rowSet (s r : ℕ) : Finset S2x256x2048.Idx := Finset.univ.filter fun y => (y 0).val = s ∧ (y 1).val = r
/-- Slot `s` of the scratch buffer. -/
def slotSet (s : ℕ) : Finset S2x256x2048.Idx := Finset.univ.filter fun y => (y 0).val = s
/-- Row `v` of the token array. -/
def xSet (v : ℕ) : Finset S16512x2048.Idx := Finset.univ.filter fun y => (y 0).val = v

theorem mem_rowSet {s r : ℕ} {y : S2x256x2048.Idx} : y ∈ rowSet s r ↔ (y 0).val = s ∧ (y 1).val = r := by
  simp only [rowSet, Finset.mem_filter, Finset.mem_univ, true_and]
theorem mem_slotSet {s : ℕ} {y : S2x256x2048.Idx} : y ∈ slotSet s ↔ (y 0).val = s := by
  simp only [slotSet, Finset.mem_filter, Finset.mem_univ, true_and]
theorem mem_xSet {v : ℕ} {y : S16512x2048.Idx} : y ∈ xSet v ↔ (y 0).val = v := by
  simp only [xSet, Finset.mem_filter, Finset.mem_univ, true_and]

theorem rowSet_disjoint (s : ℕ) : ∀ r r' : Fin 256, r ≠ r' → Disjoint (rowSet s r.val) (rowSet s r'.val) := by
  intro r r' hne
  rw [Finset.disjoint_left]
  intro y hy hy'
  rw [mem_rowSet] at hy hy'
  exact hne (Fin.ext (by omega))

theorem rowSet_cover (s : ℕ) : (Finset.univ : Finset (Fin 256)).biUnion (fun r => rowSet s r.val) = slotSet s := by
  ext y
  simp only [Finset.mem_biUnion, Finset.mem_univ, true_and, mem_rowSet, mem_slotSet]
  exact ⟨fun ⟨r, h⟩ => h.1, fun h => ⟨y 1, h, rfl⟩⟩

theorem slotSet_cover : slotSet 0 ∪ slotSet 1 = (Finset.univ : Finset S2x256x2048.Idx) := by
  ext y
  have h : (y 0).val < 2 := (y 0).isLt
  simp only [Finset.mem_union, mem_slotSet, Finset.mem_univ, iff_true]
  omega

theorem slotSet_disjoint : Disjoint (slotSet 0) (slotSet 1) := by
  rw [Finset.disjoint_left]
  intro y hy hy'
  rw [mem_slotSet] at hy hy'
  omega

/-! ## The memrefs the copies name -/

/-- One row of the scratch buffer, as the kernel slices and squeezes it. -/
def dstRow (off : Fin 3 → ℕ) (h : ∀ a, off a + S1x1x2048.size a ≤ S2x256x2048.size a) : Memref sig .tc .vmem S1x2048 .f32 :=
  ((Memref.whole cc0_scratch0 : Memref sig .tc .vmem S2x256x2048 .f32).slice (Rect.unit (s := S2x256x2048) off S1x1x2048.size h) (fun _ => rfl)).squeeze S1x2048 squeezes_S1x1x2048_S1x2048
/-- One row of the token array, as the kernel slices it. -/
def srcRow (off : Fin 2 → ℕ) (h : ∀ a, off a + S1x2048.size a ≤ S16512x2048.size a) : Memref sig .tc .hbm S1x2048 .f32 :=
  (Memref.whole main_arg0 : Memref sig .tc .hbm S16512x2048 .f32).slice (Rect.unit (s := S16512x2048) off S1x2048.size h) (fun _ => rfl)

theorem dstRow_set {off : Fin 3 → ℕ} {h} {s r : ℕ} (e : off = ![s, r, 0]) : (dstRow off h).view.set = rowSet s r := by
  subst e
  refine ((View.set_reshape _ _).trans (View.set_slice_whole _ _)).trans ?_
  ext y
  have h2 : (y 2).val < 2048 := (y 2).isLt
  rw [Rect.mem_set_unit, mem_rowSet]
  constructor
  · intro H
    have a0 : s ≤ (y 0).val ∧ (y 0).val < s + 1 := H 0
    have a1 : r ≤ (y 1).val ∧ (y 1).val < r + 1 := H 1
    omega
  · intro H a
    fin_cases a
    · show s ≤ (y 0).val ∧ (y 0).val < s + 1; omega
    · show r ≤ (y 1).val ∧ (y 1).val < r + 1; omega
    · show 0 ≤ (y 2).val ∧ (y 2).val < 0 + 2048; omega

theorem srcRow_set {off : Fin 2 → ℕ} {h} {v : ℕ} (e : off = ![v, 0]) : (srcRow off h).view.set = xSet v := by
  subst e
  refine (View.set_slice_whole _ _).trans ?_
  ext y
  have h2 : (y 1).val < 2048 := (y 1).isLt
  rw [Rect.mem_set_unit, mem_xSet]
  constructor
  · intro H
    have a0 : v ≤ (y 0).val ∧ (y 0).val < v + 1 := H 0
    omega
  · intro H a
    fin_cases a
    · show v ≤ (y 0).val ∧ (y 0).val < v + 1; omega
    · show 0 ≤ (y 1).val ∧ (y 1).val < 0 + 2048; omega

/-! ## What a slot holds -/

/-- The token row the routing table names for row `r` of tile `p`. -/
def tokRow (rt : S37120.Idx → BitVec 32) (p r : ℕ) : ℕ :=
  (rt (ix1 (⟨(p * 256 + r) % 37120, Nat.mod_lt _ (by decide)⟩ : Fin 37120))).toNat

/-- The gathered rows of tile `p`, as a slot holds them. -/
def gath (fx : S16512x2048.Idx → Elt F .f32) (rt : S37120.Idx → BitVec 32) (p : ℕ) : S2x256x2048.Idx → Elt F .f32 :=
  fun y => fx (ix2 (⟨tokRow rt p (y 1).val % 16512, Nat.mod_lt _ (by decide)⟩ : Fin 16512) (y 2))

/-- What one copy leaves in its row of the slot is the gathered row. -/
theorem write_row (fx : S16512x2048.Idx → Elt F .f32) (rt : S37120.Idx → BitVec 32) {offd offs hd hs} {p s r : ℕ}
    (ed : offd = ![s, r, 0]) (es : offs = ![tokRow rt p r, 0]) (fd : S2x256x2048.Idx → Elt F .f32) :
    ∀ y ∈ rowSet s r, ((dstRow offd hd).view.write (Elt F) fd ((srcRow offs hs).view.read (Elt F) fx) Finset.univ) y = gath fx rt p y := by
  intro y hy
  have hv : tokRow rt p r < 16512 := by
    have h0 := hs 0
    rw [es] at h0
    have h0' : tokRow rt p r + 1 ≤ 16512 := h0
    omega
  have hr := hy
  rw [mem_rowSet] at hr
  have key : ∀ q : Fin 2048, q = y 2 → (dstRow offd hd).view.emb (ix2 (⟨0, Nat.one_pos⟩ : Fin 1) q : S1x2048.Idx) = y := by
    intro q hq
    subst ed
    refine (show (dstRow ![s, r, 0] hd).view.emb (ix2 (⟨0, Nat.one_pos⟩ : Fin 1) q : S1x2048.Idx)
      = (Rect.unit (s := S2x256x2048) ![s, r, 0] S1x1x2048.size hd).emb (Shape.reshapeEquiv squeezes_S1x1x2048_S1x2048.numel_eq (ix2 (⟨0, Nat.one_pos⟩ : Fin 1) q : S1x2048.Idx)) from rfl).trans ?_
    refine (congrArg (Rect.unit (s := S2x256x2048) ![s, r, 0] S1x1x2048.size hd).emb
      (reshapeEquiv_ix2_1ab (a := 1) (b := 2048) squeezes_S1x1x2048_S1x2048.numel_eq ⟨0, Nat.one_pos⟩ q)).trans ?_
    funext a
    fin_cases a
    · apply Fin.ext; show s + 1 * 0 = (y 0).val; omega
    · apply Fin.ext; show r + 1 * 0 = (y 1).val; omega
    · apply Fin.ext; show 0 + 1 * q.val = (y 2).val; rw [hq]; omega
  have hw := View.write_emb_of_mem (Val := Elt F) (v := (dstRow offd hd).view) fd ((srcRow offs hs).view.read (Elt F) fx)
    (Finset.mem_univ (ix2 (⟨0, Nat.one_pos⟩ : Fin 1) (y 2) : S1x2048.Idx))
  rw [key (y 2) rfl] at hw
  refine hw.trans ?_
  show fx ((srcRow offs hs).view.emb (ix2 (⟨0, Nat.one_pos⟩ : Fin 1) (y 2) : S1x2048.Idx)) = _
  unfold gath
  congr 1
  subst es
  funext a
  fin_cases a
  · apply Fin.ext
    show tokRow rt p r + 1 * 0 = tokRow rt p (y 1).val % 16512
    rw [hr.2, Nat.mod_eq_of_lt hv]; omega
  · apply Fin.ext
    show 0 + 1 * (y 2).val = (y 2).val
    omega

/-! ## Resources -/

section Res

variable (c : Dev nD)

/-- The scratch buffer's elements `S`, owned at contents `f`. -/
abbrev sc (S : Finset S2x256x2048.Idx) (f : S2x256x2048.Idx → Elt F .f32) : sProp 𝕄 :=
  (Memref.whole cc0_scratch0 : Memref sig .tc .vmem S2x256x2048 .f32).view.loc (c : Thread nD τ) ↦[S]{fullShare} f

/-- The token array's elements `S`, read under share number `k`. -/
abbrev xTok (fx : S16512x2048.Idx → Elt F .f32) (k : ℕ) (S : Finset S16512x2048.Idx) : sProp 𝕄 :=
  (Memref.whole main_arg0 : Memref sig .tc .hbm S16512x2048 .f32).view.loc (c : Thread nD τ) ↦[S]{Transfers.shareTokN fullShare k} fx

/-- The semaphore of slot `s`. -/
def cell (s : ℕ) : DmaSem sig := ⟨8 + s % 2, by have := Nat.mod_lt s (show 0 < 2 by decide); show 8 + s % 2 < 10; omega⟩

/-- The units one row's copy signals. -/
def rowUnits : ℕ := (dstRow ![0, 0, 0] (by decide)).view.dmaCredit

theorem dstRow_units (off : Fin 3 → ℕ) (h) : (dstRow off h).view.dmaCredit = rowUnits := rfl
theorem rowUnits_pos : 0 < rowUnits := View.dmaCredit_pos _ (by decide)

variable (fx : S16512x2048.Idx → Elt F .f32) (rt : S37120.Idx → BitVec 32)

/-- What the copy of row `r` of tile `p` delivers: the row, and the share of the token row it read. -/
def deliv (p : ℕ) (r : Fin 256) : sProp 𝕄 :=
  iprop(sc c (rowSet (p % 2) r.val) (gath fx rt p) ∗ xTok c fx (256 * (p % 2) + r.val) (xSet (tokRow rt p r.val)))

instance deliv_storable (p : ℕ) (r : Fin 256) : BI.Storable (upEmb : UEmb _ 𝕄) (deliv c fx rt p r) := by
  unfold deliv; infer_instance

/-- What the copy of row `r` of tile `p` leaves of its share of the token array. -/
def left (p : ℕ) (r : Fin 256) : sProp 𝕄 :=
  xTok c fx (256 * (p % 2) + r.val) (Finset.univ \ xSet (tokRow rt p r.val))

/-- The copies of tile `p`: `j` issued, `u` units consumed. -/
abbrev batch (p j u : ℕ) : sProp 𝕄 :=
  Transfers.Batch (countersEmb (U := Pipeline.UD sig nD τ)) (c : Thread nD τ) (.dma (cell p)) () rowUnits (deliv c fx rt p) j u

/-- A slot at rest: owned, its semaphore at zero, its 256 shares of the token array whole. -/
def idle (s : ℕ) : sProp 𝕄 :=
  iprop((∃ f, sc c (slotSet (s % 2)) f) ∗ semVal ((c : Thread nD τ), SemLoc.dma (cell s)) 0
    ∗ bigSep Finset.univ (fun r : Fin 256 => xTok c fx (256 * (s % 2) + r.val) Finset.univ))

/-- A slot being filled with tile `p`. -/
def flight (p : ℕ) : sProp 𝕄 :=
  iprop(batch c fx rt p 256 0 ∗ bigSep Finset.univ (left c fx rt p))

end Res

end Cert.Proof

end
-- ==== Proof.Closed.lean ====
module

public import proofs.«01_k».proof.Proof.Gather
public import Idealize.ShloMosaic.Lib.WordArith.Masks

/-! # Closed forms of the kernel's offsets and conditions -/

@[expose] public section

set_option maxRecDepth 16384

namespace Cert.Proof

open Idealize.ShloMosaic Idealize.ShloMosaic.TcCoe
open Cert.KernelIdeal Cert.KernelIdeal.Gen

theorem trips1 : k0_t1_loop.trips = 256 := by decide +kernel
theorem trips2 : k0_t2_loop.trips = 256 := by decide +kernel
theorem trips3 : k0_t3_loop.trips = 256 := by decide +kernel

theorem off5_eq (i : grid0.Coords) (k : Fin k0_t2_loop.trips) : k0_off5 i k = ![((i 0).val + 1) * 256 + k.val] := by
  have r0 : (i 0).val < 145 := (i 0).isLt
  have rk : k.val < 256 := trips2 ▸ k.isLt
  have h0 : Affine.IsInt (BitVec.ofNat 32 (i 0).val) ((i 0).val : Int) := Affine.ofNat _ (by omega)
  have h1 : Affine.IsInt 1#32 1 := Affine.ofNat _ (by omega)
  have h14 : Affine.IsInt _ (((i 0).val : Int) + 1) := Affine.addi h0 h1 (by omega)
  have h256 : Affine.IsInt 256#32 256 := Affine.ofNat _ (by omega)
  have h27 : Affine.IsInt _ ((((i 0).val : Int) + 1) * 256) := Affine.muli h14 h256 (by omega)
  have hz : Affine.IsInt 0#32 0 := Affine.ofNat _ (by omega)
  have h11 : Affine.IsInt _ (k.val : Int) := Affine.iv hz h1 k.val (by omega)
  have h28 : Affine.IsInt _ ((((i 0).val : Int) + 1) * 256 + k.val) := Affine.addi h27 h11 (by omega)
  exact Affine.vec_cons (Affine.indexCast h28) (by push_cast; omega) <| Affine.vec_nil

theorem off6_eq : ∀ i : grid0.Coords, k0_off6 i = ![((i 0).val + 1) % 2] := by decide +kernel
theorem off9_eq : ∀ i : grid0.Coords, k0_off9 i = ![(i 0).val % 2] := by decide +kernel
theorem off11_eq : ∀ i : grid0.Coords, k0_off11 i = ![(i 0).val % 2, 0, 0] := by decide +kernel

theorem off7_eq (i : grid0.Coords) (k : Fin k0_t2_loop.trips) : k0_off7 i k = ![((i 0).val + 1) % 2, k.val, 0] := by
  have rk : k.val < 256 := trips2 ▸ k.isLt
  have e0 : k0_off7 i k 0 = ((i 0).val + 1) % 2 := (show k0_off7 i k 0 = k0_off6 i 0 from rfl).trans (congrFun (off6_eq i) 0)
  have e1 : k0_off7 i k 1 = k.val := (show k0_off7 i k 1 = (Scf.iv 0#32 1#32 k.val).toNat from rfl).trans (WordArith.toNat_iv_zero_one k.val (by omega))
  funext a
  fin_cases a
  · exact e0
  · exact e1
  · rfl

theorem off10_eq (i : grid0.Coords) (k : Fin k0_t3_loop.trips) : k0_off10 i k = ![(i 0).val % 2, k.val, 0] := by
  have rk : k.val < 256 := trips3 ▸ k.isLt
  have e0 : k0_off10 i k 0 = (i 0).val % 2 := (show k0_off10 i k 0 = k0_off9 i 0 from rfl).trans (congrFun (off9_eq i) 0)
  have e1 : k0_off10 i k 1 = k.val := (show k0_off10 i k 1 = (Scf.iv 0#32 1#32 k.val).toNat from rfl).trans (WordArith.toNat_iv_zero_one k.val (by omega))
  funext a
  fin_cases a
  · exact e0
  · exact e1
  · rfl

/-! ## Conditions -/

theorem flag (b : BitVec 1) : Scalar.cmpi .ne (Scalar.extui b : BitVec 32) 0#32 = b := by revert b; decide

theorem slt_iff (a b : BitVec 32) : Scalar.cmpi .slt a b = 1#1 ↔ a.toInt < b.toInt := by
  rw [← BitVec.slt_iff_toInt_lt]
  show BitVec.ofBool (a.slt b) = 1#1 ↔ _
  cases a.slt b <;> decide
theorem sge_iff (a b : BitVec 32) : Scalar.cmpi .sge a b = 1#1 ↔ b.toInt ≤ a.toInt := by
  rw [← BitVec.sle_iff_toInt_le]
  show BitVec.ofBool (b.sle a) = 1#1 ↔ _
  cases b.sle a <;> decide

theorem cond1_iff : ∀ i : grid0.Coords, k0_cond1 i = 1#1 ↔ (i 0).val = 0 := by decide +kernel

theorem ofNat_toInt (n : ℕ) (h : n < 1000) : (BitVec.ofNat 32 n).toInt = n := by
  rw [BitVec.toInt_ofNat', Int.bmod_def]; push_cast; split <;> omega

theorem cond2_iff (i : grid0.Coords) (v : BitVec 32) (n : ℕ) (hv : v.toInt = n) : k0_cond2 i v = 1#1 ↔ (i 0).val + 1 < n := by
  have r0 : (i 0).val < 145 := (i 0).isLt
  refine (show k0_cond2 i v = 1#1 ↔ Scalar.cmpi .slt (Scalar.addi (BitVec.ofNat 32 (i 0).val) 1#32) v = 1#1 from by
    rw [← flag (Scalar.cmpi .slt (Scalar.addi (BitVec.ofNat 32 (i 0).val) 1#32) v)]; rfl).trans ?_
  rw [slt_iff, hv]
  have e : (Scalar.addi (BitVec.ofNat 32 (i 0).val) 1#32) = BitVec.ofNat 32 ((i 0).val + 1) := by
    show BitVec.ofNat 32 (i 0).val + 1#32 = _
    rw [BitVec.ofNat_add]
  rw [e, ofNat_toInt _ (by omega)]
  omega

theorem cond3_iff (i : grid0.Coords) (v : BitVec 32) (n : ℕ) (hv : v.toInt = n) : k0_cond3 i v = 1#1 ↔ (i 0).val < n := by
  have r0 : (i 0).val < 145 := (i 0).isLt
  refine (show k0_cond3 i v = 1#1 ↔ Scalar.cmpi .slt (BitVec.ofNat 32 (i 0).val) v = 1#1 from by
    rw [← flag (Scalar.cmpi .slt (BitVec.ofNat 32 (i 0).val) v)]; rfl).trans ?_
  rw [slt_iff, hv, ofNat_toInt _ (by omega)]
  omega

theorem cond4_iff (i : grid0.Coords) (v : BitVec 32) (n : ℕ) (hv : v.toInt = n) : k0_cond4 i v = 1#1 ↔ n ≤ (i 0).val := by
  have r0 : (i 0).val < 145 := (i 0).isLt
  refine (show k0_cond4 i v = 1#1 ↔ Scalar.cmpi .sge (BitVec.ofNat 32 (i 0).val) v = 1#1 from by
    rw [← flag (Scalar.cmpi .sge (BitVec.ofNat 32 (i 0).val) v)]; rfl).trans ?_
  rw [sge_iff, hv, ofNat_toInt _ (by omega)]
  omega

/-! ## The semaphores -/

theorem sem_ix : ∀ x : S2.Idx, (cc0_scratch1.ix x).val = 8 + (x 0).val := by decide +kernel

theorem sem_eq {off : Fin 1 → ℕ} {h : ∀ a, off a + S1.size a ≤ S2.size a} {s : ℕ} (e : off = ![s % 2]) :
    ((cc0_scratch1.slice (Rect.unit (s := S2) off S1.size h)).squeeze S_ squeezes_S1_S_).sem = cell s := by
  apply Fin.ext
  refine (sem_ix _).trans ?_
  have key : ∀ y : S1.Idx, ((Rect.unit (s := S2) off S1.size h).emb y 0).val = s % 2 := by
    intro y
    show off 0 + 1 * (y 0).val = s % 2
    have h1 : (y 0).val < 1 := (y 0).isLt
    have h2 : off 0 = s % 2 := congrFun e 0
    omega
  exact congrArg (8 + ·) (key _)

end Cert.Proof
-- ==== Proof.Issue.lean ====
module

public import proofs.«01_k».proof.Proof.Closed

/-! # The gather's loops: filling a slot and draining it -/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

/-- The resources of the proof: the pipeline's and the counters of the transfers. -/
local notation "𝕄" => MT nD τ sig Unit (Elt F) ℕ (Pipeline.UD sig nD τ) ℕ

variable (c : Dev nD) (fx : S16512x2048.Idx → Elt F .f32) (rt : S37120.Idx → BitVec 32)

/-- Row `r` of tile `p`'s slot, ready to be filled: the row at any contents, and its share of the token array. -/
def ready (p : ℕ) (r : Fin 256) : sProp 𝕄 :=
  iprop((∃ f, sc c (rowSet (p % 2) r.val) f) ∗ xTok c fx (256 * (p % 2) + r.val) Finset.univ)

/-- The routing table, held at share `q`. -/
abbrev table (q : PosShare TreeShare) : sProp 𝕄 :=
  (Memref.whole main_arg6 : Memref sig .tc .smem S37120 .i32).view.loc (c : Thread nD τ) ↦[Finset.univ]{q} rt

/-- The word of the routing table a one-element read returns. -/
theorem table_word {off : Fin 1 → ℕ} {h : ∀ a, off a + S1.size a ≤ S37120.size a} {k : ℕ} (e : off = ![k]) (hk : k < 37120) (x : S1.Idx) :
    ((Memref.whole main_arg6 : Memref sig .tc .smem S37120 .i32).access (Rect.unit (s := S37120) off S1.size h)).read (Elt F) rt x
      = rt (ix1 (⟨k, hk⟩ : Fin 37120)) := by
  refine congrArg rt ?_
  funext a
  fin_cases a
  apply Fin.ext
  show off 0 + 1 * (x 0).val = k
  have h1 : (x 0).val < 1 := (x 0).isLt
  have h2 : off 0 = k := congrFun e 0
  omega

section Rules

variable {Λ : Labels} {defs : Defs nD τ sig (Elt F) Λ} (𝒱 : Variants) (bd : Option 𝒱.V)

/-- Issuing the copy of row `r` of tile `p`. -/
theorem wp_row {p r : ℕ} (hr : r < 256) {offd : Fin 3 → ℕ} {hd} {offs : Fin 2 → ℕ} {hs}
    (ed : offd = ![p % 2, r, 0]) (es : offs = ![tokRow rt p r, 0]) {sm : DmaSem sig} (hsm : sm = cell p)
    {h1 h2 h3} {α : Type} {k : PUnit → Prog (TpuEff nD τ sig (Elt F) Λ .tc) α} {Q : α → sProp 𝕄} :
    iprop(ready c fx p ⟨r, hr⟩ ∗ batch c fx rt p r 0)
      ⊢ iprop((batch c fx rt p (r + 1) 0 ∗ left c fx rt p ⟨r, hr⟩ -∗ wp frame (wpE defs 𝒱 (c : Thread nD τ) bd) Set.univ (k ⟨⟩) Q)
        -∗ wp frame (wpE defs 𝒱 (c : Thread nD τ) bd) Set.univ (.op (.enqueueDmaAs (srcRow offs hs) (.here (dstRow offd hd)) .same (.dma sm) h1 h2 h3) k) Q) := by
  subst hsm
  have hset := dstRow_set (h := hd) ed
  have hsrc := srcRow_set (h := hs) es
  iintro ⟨Hr, HB⟩ Hk
  unfold ready
  icases Hr with ⟨⟨%fd, Hd⟩, Hx⟩
  ihave Hx' := (pointsTo_split_subset (Finset.subset_univ (xSet (tokRow rt p r)))).1 $$ Hx
  icases Hx' with ⟨Hx, Hl⟩
  iapply (Transfers.wp_dmaBatch (countersEmb (U := Pipeline.UD sig nD τ)) 𝒱 (c : Thread nD τ) bd (src := srcRow offs hs) (dst := dstRow offd hd)
    (via := .same) (fs := fx) (fd := fd) (Sd := rowSet (p % 2) r) (q := Transfers.shareTokN fullShare (256 * (p % 2) + r))
    () rowUnits (show (dstRow offd hd).view.amount (.dma (cell p)) = rowUnits from rfl) (le_of_eq hset) (D := deliv c fx rt p) (j := r) (u := 0) hr (Nat.zero_le _) (by
      unfold deliv
      refine BIClass.sep_mono ?_ ?_
      · exact Entails.of_eq (pointsTo_congr (fun y hy => write_row fx rt ed es fd y hy))
      · rw [hsrc]; exact .rfl)) $$ [Hd Hx HB]
  · isplitl [Hx]; · rw [hsrc]; iexact Hx
    isplitl [Hd]; · iexact Hd
    iexact HB
  iintro HB
  iapply Hk
  isplitl [HB]; · iexact HB
  unfold left
  iexact Hl

/-- The invariant of the loop that fills a slot: `k` copies issued. -/
def filling (q : PosShare TreeShare) (p k : ℕ) : sProp 𝕄 :=
  iprop(batch c fx rt p k 0 ∗ bigSep (Transfers.pending k) (ready c fx p)
    ∗ bigSep (Finset.univ.filter fun r : Fin 256 => r.val < k) (left c fx rt p) ∗ table c rt q)

/-- The invariant with the table set apart. -/
theorem filling_table (q : PosShare TreeShare) (p k : ℕ) :
    filling c fx rt q p k ⊢ iprop((batch c fx rt p k 0 ∗ bigSep (Transfers.pending k) (ready c fx p)
      ∗ bigSep (Finset.univ.filter fun r : Fin 256 => r.val < k) (left c fx rt p)) ∗ table c rt q) := by
  unfold filling
  iintro ⟨H1, H2, H3, H4⟩
  isplitr [H4]
  · isplitl [H1]; · iexact H1
    isplitl [H2]; · iexact H2
    iexact H3
  iexact H4

theorem filter_succ {k : ℕ} (hk : k < 256) (D : Fin 256 → sProp 𝕄) :
    bigSep (Finset.univ.filter fun r : Fin 256 => r.val < k + 1) D
      = iprop(D ⟨k, hk⟩ ∗ bigSep (Finset.univ.filter fun r : Fin 256 => r.val < k) D) := by
  have e : (Finset.univ.filter fun r : Fin 256 => r.val < k + 1) = insert ⟨k, hk⟩ (Finset.univ.filter fun r : Fin 256 => r.val < k) := by
    ext r
    simp only [Finset.mem_filter, Finset.mem_univ, true_and, Finset.mem_insert, Fin.ext_iff]
    omega
  rw [e, BI.bigSep_insert (by simp)]
  rfl

/-- One trip of a filling loop, from the word of the table on. -/
theorem filling_step (q : PosShare TreeShare) {p k : ℕ} (hk : k < 256) {offd : Fin 3 → ℕ} {hd} {offs : Fin 2 → ℕ} {hs}
    (ed : offd = ![p % 2, k, 0]) (es : offs = ![tokRow rt p k, 0]) {sm : DmaSem sig} (hsm : sm = cell p) {h1 h2 h3} :
    iprop(batch c fx rt p k 0 ∗ bigSep (Transfers.pending k) (ready c fx p)
        ∗ bigSep (Finset.univ.filter fun r : Fin 256 => r.val < k) (left c fx rt p) ∗ table c rt q)
      ⊢ wp frame (wpE defs 𝒱 (c : Thread nD τ) bd) Set.univ
          (.op (.enqueueDmaAs (srcRow offs hs) (.here (dstRow offd hd)) .same (.dma sm) h1 h2 h3) fun _ => .ret ⟨⟩)
          (fun _ : Unit => filling c fx rt q p (k + 1)) := by
  rw [Transfers.bigSep_pending_step _ k hk]
  iintro ⟨HB, ⟨Hr, Hp⟩, Hl, Ht⟩
  iapply (wp_row c fx rt 𝒱 bd hk ed es hsm) $$ [Hr HB]
  · isplitl [Hr]; · iexact Hr
    iexact HB
  iintro ⟨HB, Hn⟩
  rw [wp_ret]
  imodintro
  unfold filling
  rw [filter_succ hk]
  isplitl [HB]; · iexact HB
  isplitl [Hp]; · iexact Hp
  isplitr [Ht]
  · isplitl [Hn]; · iexact Hn
    iexact Hl
  iexact Ht

variable {defs1 : Defs nD τ sig (Elt F) Λ₀}
/-- Reading one word of the routing table at the head of a program. -/
theorem trip_load (q : PosShare TreeShare) {off : Fin 1 → ℕ} {h : ∀ a, off a + S1.size a ≤ S37120.size a} {k : ℕ} (e : off = ![k]) (hk : k < 37120) {hw} {x : S1.Idx}
    {α : Type} {cont : BitVec 32 → Prog (TpuEff nD τ sig (Elt F) Λ₀ .tc) α} {Q : α → sProp 𝕄} {R : sProp 𝕄}
    (H : iprop(R ∗ table c rt q) ⊢ wp frame (wpE defs1 𝒱 (c : Thread nD τ) bd) Set.univ (cont (rt (ix1 (⟨k, hk⟩ : Fin 37120)))) Q) :
    iprop(R ∗ table c rt q) ⊢ wp frame (wpE defs1 𝒱 (c : Thread nD τ) bd) Set.univ
      (smemLoadElt (Memref.whole main_arg6 : Memref sig .tc .smem S37120 .i32) (Rect.unit (s := S37120) off S1.size h) hw x cont) Q := by
  iintro ⟨HR, Ht⟩
  iapply (wp_smemLoadElt 𝒱 (c : Thread nD τ) bd Set.univ (m := (Memref.whole main_arg6 : Memref sig .tc .smem S37120 .i32))
    (r := Rect.unit (s := S37120) off S1.size h) (x := x) (S := Finset.univ) (q := q) (f := rt) (Finset.subset_univ _)) $$ [Ht]
  · iexact Ht
  iintro Ht
  rw [table_word rt (k := k) e hk]
  iapply H
  isplitl [HR]; · iexact HR
  iexact Ht

variable (hrt : ∀ x, (rt x).toNat < 16512)
variable (arg5 : Memref sig .tc .vmem S1x2048x1024 .bf16) (harg5 : arg5.IsWhole) (arg6 : Memref sig .tc .vmem S1x2048x1024 .bf16) (harg6 : arg6.IsWhole)
  (arg7 : Memref sig .tc .vmem S1x1024x2048 .bf16) (harg7 : arg7.IsWhole) (arg8 : Memref sig .tc .vmem S256x2048 .f32) (harg8 : arg8.IsWhole)
variable (h1 : (Memref.whole main_arg4 : Memref sig .tc .smem S145 .i32).IsWhole) (h2 : (Memref.whole main_arg5 : Memref sig .tc .smem S1 .i32).IsWhole)
  (h3 : (Memref.whole main_arg6 : Memref sig .tc .smem S37120 .i32).IsWhole) (h4 : (Memref.whole main_arg0 : Memref sig .tc .hbm S16512x2048 .f32).IsWhole)
  (h9 : (Memref.whole cc0_scratch0 : Memref sig .tc .vmem S2x256x2048 .f32).IsWhole)

include hrt in
theorem row_in (p r : ℕ) : ∀ a, (![tokRow rt p r, 0] : Fin 2 → ℕ) a + S1x2048.size a ≤ S16512x2048.size a := by
  intro a
  have h := hrt (ix1 (⟨(p * 256 + r) % 37120, Nat.mod_lt _ (by decide)⟩ : Fin 37120))
  fin_cases a
  · show tokRow rt p r + 1 ≤ 16512
    exact h
  · show 0 + 2048 ≤ 2048
    omega

theorem tokRow_word {p k : ℕ} (hk : p * 256 + k < 37120) : (rt (ix1 (⟨p * 256 + k, hk⟩ : Fin 37120))).toNat = tokRow rt p k := by
  unfold tokRow
  congr 3
  apply Fin.ext
  exact (Nat.mod_eq_of_lt hk).symm

include hrt in
/-- The first loop fills slot 0 with tile 0. -/
theorem fill_first (q : PosShare TreeShare) (i : grid0.Coords) (hc : k0_cond1 i = 1#1) (k : Fin k0_t1_loop.trips) (acc : Unit) :
    filling c fx rt q 0 k.val
      ⊢ wp frame (wpE defs1 𝒱 (c : Thread nD τ) bd) Set.univ
          (k0_t1_body (F := F) i (Memref.whole main_arg4) h1 (Memref.whole main_arg5) h2 (Memref.whole main_arg6) h3 (Memref.whole main_arg0) h4
            arg5 harg5 arg6 harg6 arg7 harg7 arg8 harg8 (Memref.whole cc0_scratch0) h9 cc0_scratch1 hc k acc)
          (fun _ => filling c fx rt q 0 (k.val + 1)) := by
  have hk : k.val < 256 := trips1 ▸ k.isLt
  unfold k0_t1_body smemLoad
  rw [smemLoadElt_bind]
  refine (filling_table c fx rt q 0 k.val).trans ?_
  refine trip_load c rt 𝒱 bd q (k0_off2_eq k) (show k.val < 37120 by omega) ?_
  have ew : (rt (ix1 (⟨k.val, by omega⟩ : Fin 37120))).toNat = tokRow rt 0 k.val := by
    rw [← tokRow_word rt (p := 0) (k := k.val) (by omega)]
    congr 3
    apply Fin.ext
    show k.val = 0 * 256 + k.val
    omega
  have es : k0_off4 (rt (ix1 (⟨k.val, by omega⟩ : Fin 37120))) = ![tokRow rt 0 k.val, 0] := by
    rw [← ew]; rfl
  refine BIBase.Entails.trans ?_ (wp_assume 𝒱 (c : Thread nD τ) bd Set.univ
    (show k0_chk1 i (rt (ix1 (⟨k.val, by omega⟩ : Fin 37120))) from fun _ => by rw [es]; exact row_in rt hrt 0 k.val))
  refine BIBase.Entails.trans ?_ (filling_step c fx rt 𝒱 bd q (p := 0) hk (k0_off3_eq k) es (sem_eq (s := 0) rfl))
  iintro ⟨⟨H1, H2, H3⟩, H4⟩
  isplitl [H1]; · iexact H1
  isplitl [H2]; · iexact H2
  isplitl [H3]; · iexact H3
  iexact H4

include hrt in
/-- The second loop fills the other slot with the next tile. -/
theorem fill_next (q : PosShare TreeShare) (i : grid0.Coords) (v0 : Elt F .i32) (hw2 : k0_chk2 i v0) (hc : k0_cond2 i v0 = 1#1)
    (hp : (i 0).val + 1 < 145) (k : Fin k0_t2_loop.trips) (acc : Unit) :
    filling c fx rt q ((i 0).val + 1) k.val
      ⊢ wp frame (wpE defs1 𝒱 (c : Thread nD τ) bd) Set.univ
          (k0_t2_body (F := F) i (Memref.whole main_arg4) h1 (Memref.whole main_arg5) h2 (Memref.whole main_arg6) h3 (Memref.whole main_arg0) h4
            arg5 harg5 arg6 harg6 arg7 harg7 arg8 harg8 (Memref.whole cc0_scratch0) h9 cc0_scratch1 v0 hw2 hc k acc)
          (fun _ => filling c fx rt q ((i 0).val + 1) (k.val + 1)) := by
  have hk : k.val < 256 := trips2 ▸ k.isLt
  have hb : ((i 0).val + 1) * 256 + k.val < 37120 := by omega
  unfold k0_t2_body smemLoad
  rw [smemLoadElt_bind]
  refine (filling_table c fx rt q _ k.val).trans ?_
  refine trip_load c rt 𝒱 bd q (off5_eq i k) hb ?_
  have es : k0_off8 (rt (ix1 (⟨((i 0).val + 1) * 256 + k.val, hb⟩ : Fin 37120))) = ![tokRow rt ((i 0).val + 1) k.val, 0] := by
    rw [← tokRow_word rt (p := (i 0).val + 1) (k := k.val) hb]; rfl
  refine BIBase.Entails.trans ?_ (wp_assume 𝒱 (c : Thread nD τ) bd Set.univ
    (show k0_chk3 i v0 (rt (ix1 (⟨((i 0).val + 1) * 256 + k.val, hb⟩ : Fin 37120))) from fun _ => by rw [es]; exact row_in rt hrt _ k.val))
  refine BIBase.Entails.trans ?_ (filling_step c fx rt 𝒱 bd q (p := (i 0).val + 1) hk (off7_eq i k) es (sem_eq (off6_eq i)))
  iintro ⟨⟨H1, H2, H3⟩, H4⟩
  isplitl [H1]; · iexact H1
  isplitl [H2]; · iexact H2
  isplitl [H3]; · iexact H3
  iexact H4

/-- One wait of the draining loop. -/
theorem drain_step {p k : ℕ} (hk : k < 256) {sm : DmaSem sig} (hsm : sm = cell p) {offd : Fin 3 → ℕ} {hd} {offs : Fin 2 → ℕ} {hs} {h1 h2} :
    iprop(batch c fx rt p 256 (rowUnits * k) ∗ ∃ W', owes (c : Thread nD τ) 0 W')
      ⊢ wp frame (wpE defs1 𝒱 (c : Thread nD τ) bd) Set.univ
          (.op (.waitDma2 sm (srcRow offs hs) (dstRow offd hd) h1 h2) fun _ => .ret ⟨⟩)
          (fun _ : Unit => iprop(batch c fx rt p 256 (rowUnits * (k + 1)) ∗ ∃ W', owes (c : Thread nD τ) 0 W')) := by
  subst hsm
  iintro ⟨HB, ⟨%W, HO⟩⟩
  iapply (Transfers.wp_waitBatchMul (countersEmb (U := Pipeline.UD sig nD τ)) 𝒱 (c : Thread nD τ) bd (srcw := srcRow offs hs) (dstw := dstRow offd hd)
    (D := deliv c fx rt p) () (N := rowUnits) 1 (by rw [one_mul]; rfl) (j := 256) (u := rowUnits * k) (by
      rw [one_mul, ← Nat.mul_succ]; exact Nat.mul_le_mul_left _ hk) (W := W)) $$ [HB HO]
  · isplitl [HB]; · iexact HB
    iexact HO
  iintro ⟨HB, HO⟩
  rw [wp_ret]
  imodintro
  rw [one_mul, ← Nat.mul_succ]
  isplitl [HB]; · iexact HB
  iexists _
  iexact HO

/-- The third loop consumes the units of the tile's copies, one row at a time. -/
theorem drain_trip (i : grid0.Coords) (arg0 : BitVec 32) (k : Fin k0_t3_loop.trips) (acc : Unit) :
    iprop(batch c fx rt (i 0).val 256 (rowUnits * k.val) ∗ ∃ W', owes (c : Thread nD τ) 0 W')
      ⊢ wp frame (wpE defs1 𝒱 (c : Thread nD τ) bd) Set.univ
          (k0_t3_body (F := F) i (Memref.whole main_arg4) h1 (Memref.whole main_arg5) h2 (Memref.whole main_arg6) h3 (Memref.whole main_arg0) h4
            arg5 harg5 arg6 harg6 arg7 harg7 arg8 harg8 (Memref.whole cc0_scratch0) h9 cc0_scratch1 arg0 k acc)
          (fun _ => iprop(batch c fx rt (i 0).val 256 (rowUnits * (k.val + 1)) ∗ ∃ W', owes (c : Thread nD τ) 0 W')) := by
  have hk : k.val < 256 := trips3 ▸ k.isLt
  have hs := sem_eq (h := k0_off9_inb i) (s := (i 0).val) (off9_eq i)
  exact drain_step c fx rt 𝒱 bd hk hs

/-! ## Whole loops -/

/-- A slot that holds tile `p`: the gathered rows, the semaphore at zero, the shares of the token array whole. -/
def full (p : ℕ) : sProp 𝕄 :=
  iprop(sc c (slotSet (p % 2)) (gath fx rt p) ∗ semVal ((c : Thread nD τ), SemLoc.dma (cell p)) 0
    ∗ bigSep Finset.univ (fun r : Fin 256 => xTok c fx (256 * (p % 2) + r.val) Finset.univ))

theorem full_idle (p : ℕ) : full c fx rt p ⊢ idle c fx p := by
  unfold full idle
  iintro ⟨H1, H2, H3⟩
  isplitl [H1]; · iexists _; iexact H1
  isplitl [H2]; · iexact H2
  iexact H3

theorem slot_rows (p : ℕ) (f : S2x256x2048.Idx → Elt F .f32) :
    sc c (slotSet (p % 2)) f = bigSep Finset.univ fun r : Fin 256 => sc c (rowSet (p % 2) r.val) f := by
  refine Ring.pointsTo_sub_blocks (ℓ := (Memref.whole cc0_scratch0 : Memref sig .tc .vmem S2x256x2048 .f32).view.loc (c : Thread nD τ))
    (fun r : Fin 256 => rowSet (p % 2) r.val) (fun r r' h => ?_) (slotSet (p % 2)) ?_ f
  · exact rowSet_disjoint (p % 2) r r' h
  · ext y
    rw [Finset.mem_biUnion]
    refine ⟨fun ⟨r, _, h⟩ => mem_slotSet.2 (mem_rowSet.1 h).1, fun h => ⟨(show S2x256x2048.Idx from y) 1, Finset.mem_univ _, mem_rowSet.2 ⟨mem_slotSet.1 h, rfl⟩⟩⟩

theorem rows_ready (p : ℕ) (f : S2x256x2048.Idx → Elt F .f32) :
    iprop(sc c (slotSet (p % 2)) f ∗ bigSep Finset.univ (fun r : Fin 256 => xTok c fx (256 * (p % 2) + r.val) Finset.univ))
      ⊢ (bigSep Finset.univ (ready c fx p) : sProp 𝕄) := by
  have key : ∀ r : Fin 256, iprop(sc c (rowSet (p % 2) r.val) f ∗ xTok c fx (256 * (p % 2) + r.val) Finset.univ) ⊢ ready c fx p r := by
    intro r
    unfold ready
    iintro ⟨H1, H2⟩
    isplitl [H1]; · iexists f; iexact H1
    iexact H2
  rw [slot_rows, ← bigSep_sep']
  exact BI.bigSep_mono fun r _ => key r

theorem fill_start (q : PosShare TreeShare) (p : ℕ) :
    iprop(idle c fx p ∗ table c rt q) ⊢ |={Set.univ}=> filling c fx rt q p 0 := by
  unfold idle
  iintro ⟨⟨⟨%f, Hs⟩, Hv, Hx⟩, Ht⟩
  imod (Transfers.batch_alloc' (Lvl := ℕ) (countersEmb (U := Pipeline.UD sig nD τ)) (c : Thread nD τ) () rowUnits (deliv c fx rt p) (sm := .dma (cell p)) (E := Set.univ)) $$ Hv with HB
  imodintro
  unfold filling
  isplitl [HB]; · iexact HB
  isplitr [Ht]
  · rw [Transfers.pending_zero]
    ihave H := (rows_ready c fx p f) $$ [Hs Hx]
    · isplitl [Hs]; · iexact Hs
      iexact Hx
    iexact H
  isplitr [Ht]
  · rw [show (Finset.univ.filter fun r : Fin 256 => r.val < 0) = ∅ from by ext r; simp, BI.bigSep_empty]
    iempintro
  iexact Ht

theorem fill_end (q : PosShare TreeShare) (p : ℕ) : filling c fx rt q p 256 ⊢ iprop(flight c fx rt p ∗ table c rt q) := by
  unfold filling flight
  iintro ⟨HB, -, Hl, Ht⟩
  rw [show (Finset.univ.filter fun r : Fin 256 => r.val < 256) = Finset.univ from by ext r; simp [r.isLt]]
  isplitr [Ht]
  · isplitl [HB]; · iexact HB
    iexact Hl
  iexact Ht

theorem drain_end (p : ℕ) :
    iprop(batch c fx rt p 256 (rowUnits * 256) ∗ bigSep Finset.univ (left c fx rt p)) ⊢ |={Set.univ}=> full c fx rt p := by
  iintro ⟨HB, Hl⟩
  imod (Transfers.batch_collect' (countersEmb (U := Pipeline.UD sig nD τ)) (c : Thread nD τ) (sm := .dma (cell p)) (ι := ()) rowUnits_pos (D := deliv c fx rt p)) $$ HB with ⟨HD, Hv⟩
  imodintro
  unfold full
  ihave H := (show iprop(bigSep Finset.univ (deliv c fx rt p) ∗ bigSep Finset.univ (left c fx rt p))
      ⊢ iprop(sc c (slotSet (p % 2)) (gath fx rt p) ∗ bigSep Finset.univ (fun r : Fin 256 => xTok c fx (256 * (p % 2) + r.val) Finset.univ)) from by
    have key : ∀ r : Fin 256, iprop(deliv c fx rt p r ∗ left c fx rt p r)
        ⊢ iprop(sc c (rowSet (p % 2) r.val) (gath fx rt p) ∗ xTok c fx (256 * (p % 2) + r.val) Finset.univ) := by
      intro r
      unfold deliv left
      iintro ⟨⟨H1, H2⟩, H3⟩
      isplitl [H1]; · iexact H1
      iapply (pointsTo_split_subset (Finset.subset_univ (xSet (tokRow rt p r.val)))).2
      isplitl [H2]; · iexact H2
      iexact H3
    rw [slot_rows, ← bigSep_sep', ← bigSep_sep']
    exact BI.bigSep_mono fun r _ => key r) $$ [HD Hl]
  · isplitl [HD]; · iexact HD
    iexact Hl
  icases H with ⟨H1, H2⟩
  isplitl [H1]; · iexact H1
  isplitl [Hv]; · iexact Hv
  iexact H2

end Rules

end Cert.Proof

end
-- ==== Proof.Body.lean ====
module

public import proofs.«01_k».proof.Proof.Issue

/-! # The body of the kernel at one grid point

The body is four conditional steps: fill slot 0 with tile 0 (first point only), fill the other slot
with the next tile (while there is one), compute this tile (while it is used), and write zeros
(otherwise). Each step has its own specification; the body's is their composition. -/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

/-- The resources of the proof: the pipeline's and the counters of the transfers. -/
local notation "𝕄" => MT nD τ sig Unit (Elt F) ℕ (Pipeline.UD sig nD τ) ℕ

variable (c : Dev nD) (fx : S16512x2048.Idx → Elt F .f32) (rt : S37120.Idx → BitVec 32)

/-! ## Reading and writing a whole window -/

section Window

variable {sp : Space} {s : Shape} {e : EltTy} (m : Memref sig .tc sp s e)

theorem emb_all {off : Fin s.rank → ℕ} (ho : ∀ a, off a = 0) (h : ∀ a, off a + s.size a ≤ s.size a) (y : s.Idx) :
    (Rect.unit (s := s) off s.size h).emb y = y := by
  funext a
  apply Fin.ext
  show off a + 1 * (y a).val = (y a).val
  rw [ho a]; omega

theorem access_sub (r : Rect s) : (m.access r).set ⊆ m.view.set := by
  refine (show (m.view.slice r).set ⊆ m.view.set from ?_)
  rw [View.set_slice]
  exact Finset.map_subset_map.2 (Finset.subset_univ _)

theorem read_all {off : Fin s.rank → ℕ} (ho : ∀ a, off a = 0) (h : ∀ a, off a + s.size a ≤ s.size a) (f : m.view.ty.Contents (Elt F)) :
    (m.access (Rect.unit (s := s) off s.size h)).read (Elt F) f = m.view.read (Elt F) f := by
  funext y
  exact congrArg (m.view.read (Elt F) f) (emb_all ho h y)

theorem read_write_all {off : Fin s.rank → ℕ} (ho : ∀ a, off a = 0) (h : ∀ a, off a + s.size a ≤ s.size a) (f : m.view.ty.Contents (Elt F))
    (w : s.Idx → Elt F e) :
    m.view.read (Elt F) ((m.access (Rect.unit (s := s) off s.size h)).write (Elt F) f w Finset.univ) = w :=
  (read_all m ho h _).symm.trans (View.read_write_univ (v := m.access (Rect.unit (s := s) off s.size h)) f w)

end Window

section Steps

variable {Λ : Labels} {defs : Defs nD τ sig (Elt F) Λ} (𝒱 : Variants) (bd : Option 𝒱.V)

/-- One step of a program beside what the step does not touch. -/
theorem wp_seq {α : Type} {P P' R : sProp 𝕄} {Q : α → sProp 𝕄} {m : Prog (TpuEff nD τ sig (Elt F) Λ .tc) PUnit}
    {k : PUnit → Prog (TpuEff nD τ sig (Elt F) Λ .tc) α}
    (h1 : P ⊢ wp frame (wpE defs 𝒱 (c : Thread nD τ) bd) Set.univ m (fun _ => P'))
    (h2 : iprop(P' ∗ R) ⊢ wp frame (wpE defs 𝒱 (c : Thread nD τ) bd) Set.univ (k ⟨⟩) Q) :
    iprop(P ∗ R) ⊢ wp frame (wpE defs 𝒱 (c : Thread nD τ) bd) Set.univ (m >>= k) Q := by
  rw [wp_bind]
  refine BIBase.Entails.trans (BIClass.sep_mono h1 .rfl) ?_
  exact (wp_frame_r _ _ _).trans (wp_mono _ _ _ fun _ => h2)

/-- Loading a whole window that is owned. -/
theorem wp_load_all {cs : CoreSpace} {s : Shape} {e : EltTy} (m : Memref sig .tc cs s e) {off : Fin s.rank → ℕ} (ho : ∀ a, off a = 0)
    {h : ∀ a, off a + s.size a ≤ s.size a} {hl} {X : s.Idx → Elt F e} {q : PosShare TreeShare}
    {α : Type} {k : (s.Idx → Elt F e) → Prog (TpuEff nD τ sig (Elt F) Λ .tc) α} {Q : α → sProp 𝕄} :
    owns (c : Thread nD τ) m q X
      ⊢ iprop((owns (c : Thread nD τ) m q X -∗ wp frame (wpE defs 𝒱 (c : Thread nD τ) bd) Set.univ (k X) Q)
        -∗ wp frame (wpE defs 𝒱 (c : Thread nD τ) bd) Set.univ (.op (.load m (Rect.unit (s := s) off s.size h).toLoadRect hl) k) Q) := by
  unfold owns
  iintro ⟨%f, %hf, H⟩ Hk
  iapply (wp_load_rect 𝒱 (c : Thread nD τ) bd Set.univ (m := m) (r := Rect.unit (s := s) off s.size h) (S := m.view.set) (q := q) (f := f) (access_sub m _)) $$ [H]
  · iexact H
  iintro H
  rw [read_all m ho h f, hf]
  iapply Hk
  iexists f
  isplitr
  · ipureintro; exact hf
  iexact H

/-- Storing a whole window that is owned. -/
theorem wp_store_all {cs : CoreSpace} {s : Shape} {e : EltTy} (m : Memref sig .tc cs s e) {off : Fin s.rank → ℕ} (ho : ∀ a, off a = 0)
    {h : ∀ a, off a + s.size a ≤ s.size a} {w : s.Idx → Elt F e} {hx hm} {X : s.Idx → Elt F e}
    {α : Type} {k : PUnit → Prog (TpuEff nD τ sig (Elt F) Λ .tc) α} {Q : α → sProp 𝕄} :
    owns (c : Thread nD τ) m fullShare X
      ⊢ iprop((owns (c : Thread nD τ) m fullShare w -∗ wp frame (wpE defs 𝒱 (c : Thread nD τ) bd) Set.univ (k ⟨⟩) Q)
        -∗ wp frame (wpE defs 𝒱 (c : Thread nD τ) bd) Set.univ (.op (.store m (Rect.unit (s := s) off s.size h) w Finset.univ hx hm) k) Q) := by
  unfold owns
  iintro ⟨%f, %hf, H⟩ Hk
  iapply (wp_store 𝒱 (c : Thread nD τ) bd Set.univ (m := m) (r := Rect.unit (s := s) off s.size h) (S := m.view.set) (f := f) (access_sub m _)) $$ [H]
  · iexact H
  iintro H
  iapply Hk
  iexists _
  isplitr
  · ipureintro; exact read_write_all m ho h f w
  iexact H

end Steps

section Steps2

variable {defs1 : Defs nD τ sig (Elt F) Λ₀} (𝒱 : Variants) (bd : Option 𝒱.V)
variable (hrt : ∀ x, (rt x).toNat < 16512)
variable (arg5 : Memref sig .tc .vmem S1x2048x1024 .bf16) (harg5 : arg5.IsWhole) (arg6 : Memref sig .tc .vmem S1x2048x1024 .bf16) (harg6 : arg6.IsWhole)
  (arg7 : Memref sig .tc .vmem S1x1024x2048 .bf16) (harg7 : arg7.IsWhole) (arg8 : Memref sig .tc .vmem S256x2048 .f32) (harg8 : arg8.IsWhole)
variable (h1 : (Memref.whole main_arg4 : Memref sig .tc .smem S145 .i32).IsWhole) (h2 : (Memref.whole main_arg5 : Memref sig .tc .smem S1 .i32).IsWhole)
  (h3 : (Memref.whole main_arg6 : Memref sig .tc .smem S37120 .i32).IsWhole) (h4 : (Memref.whole main_arg0 : Memref sig .tc .hbm S16512x2048 .f32).IsWhole)
  (h9 : (Memref.whole cc0_scratch0 : Memref sig .tc .vmem S2x256x2048 .f32).IsWhole)

/-! ## The slots between the steps -/

/-- The slot of tile `p` when the point of tile `p` begins: in flight, unless the tile is the first or past the used ones. -/
def before (n p : ℕ) : sProp 𝕄 := if 0 < p ∧ p < n then flight c fx rt p else idle c fx p
/-- The slot of tile `p` once the first step of its point has run. -/
def begun (n p : ℕ) : sProp 𝕄 := if p < n then flight c fx rt p else idle c fx p

theorem idle_mod {s s' : ℕ} (h : s % 2 = s' % 2) : (idle c fx s : sProp 𝕄) = idle c fx s' := by
  unfold idle cell
  simp only [h]

/-- The gathered rows of tile `p`, as they are loaded from the slot. -/
def slotRows (p : ℕ) : Vec F S1x256x2048 .f32 :=
  fun y => fx (ix2 (⟨tokRow rt p (y 1).val % 16512, Nat.mod_lt _ (by decide)⟩ : Fin 16512) (y 2))

/-- What a used tile's point computes. -/
def tileVal (p : ℕ) (x5 x6 : Vec F S1x2048x1024 .bf16) (x7 : Vec F S1x1024x2048 .bf16) : Vec F S256x2048 .f32 :=
  k0_pay1 (k0_pay3 (slotRows fx rt p) x5 x6) (k0_pay4 x7)

include hrt in
/-- The first step: at the first point, the first tile's copies are issued. -/
theorem step_first (q : PosShare TreeShare) (i : grid0.Coords) (n : ℕ) (hn : 0 < n) (k : Prog (TpuEff nD τ sig (Elt F) Λ₀ .tc) PUnit)
    {Q : PUnit → sProp 𝕄} {R : sProp 𝕄}
    (H : iprop((begun c fx rt n (i 0).val ∗ table c rt q) ∗ R) ⊢ wp frame (wpE defs1 𝒱 (c : Thread nD τ) bd) Set.univ k Q) :
    iprop((before c fx rt n (i 0).val ∗ table c rt q) ∗ R) ⊢ wp frame (wpE defs1 𝒱 (c : Thread nD τ) bd) Set.univ
      (if hc : k0_cond1 i = 1#1 then do
        Scf.Loop.for k0_t1_loop (k0_t1_ok i hc) ⟨⟩ (k0_t1_body (F := F) i (Memref.whole main_arg4) h1 (Memref.whole main_arg5) h2 (Memref.whole main_arg6) h3 (Memref.whole main_arg0) h4
            arg5 harg5 arg6 harg6 arg7 harg7 arg8 harg8 (Memref.whole cc0_scratch0) h9 cc0_scratch1 hc)
        k
      else k) Q := by
  by_cases hc : k0_cond1 i = 1#1
  · rw [dif_pos hc]
    have hp := (cond1_iff i).1 hc
    unfold before begun at *
    rw [hp] at H ⊢
    rw [if_neg (by omega)]
    rw [if_pos hn] at H
    iintro ⟨H1, HR⟩
    imod (fill_start c fx rt q 0) $$ H1 with HF
    iapply (Scf.wp_for_bind frame (wpE defs1 𝒱 (c : Thread nD τ) bd) Set.univ _ _ _ (k0_t1_ok i hc) ⟨⟩ _
      (fun k _ => filling c fx rt q 0 k) (fun k acc => fill_first c fx rt 𝒱 bd hrt arg5 harg5 arg6 harg6 arg7 harg7 arg8 harg8 h1 h2 h3 h4 h9 q i hc k acc)) $$ [HF]
    · iexact HF
    iintro %acc HF
    iapply H
    isplitl [HF]
    · iapply (fill_end c fx rt q 0)
      iexact HF
    iexact HR
  · rw [dif_neg hc]
    have hp : (i 0).val ≠ 0 := fun h => hc ((cond1_iff i).2 h)
    refine BIBase.Entails.trans ?_ H
    unfold before begun
    by_cases hpn : (i 0).val < n
    · rw [if_pos ⟨by omega, hpn⟩, if_pos hpn]
    · rw [if_neg (by omega), if_neg hpn]

include hrt in
/-- The second step: while there is a next tile, its copies are issued into the other slot. -/
theorem step_next (q : PosShare TreeShare) (i : grid0.Coords) (n : ℕ) (hn : n ≤ 145) (v0 : Elt F .i32) (hv : BitVec.toInt v0 = n) (hw2 : k0_chk2 i v0)
    (k : Prog (TpuEff nD τ sig (Elt F) Λ₀ .tc) PUnit) {Q : PUnit → sProp 𝕄} {R : sProp 𝕄}
    (H : iprop((before c fx rt n ((i 0).val + 1) ∗ table c rt q) ∗ R) ⊢ wp frame (wpE defs1 𝒱 (c : Thread nD τ) bd) Set.univ k Q) :
    iprop((idle c fx ((i 0).val + 1) ∗ table c rt q) ∗ R) ⊢ wp frame (wpE defs1 𝒱 (c : Thread nD τ) bd) Set.univ
      (if hc : k0_cond2 i v0 = 1#1 then do
        Scf.Loop.for k0_t2_loop k0_t2_ok ⟨⟩ (k0_t2_body (F := F) i (Memref.whole main_arg4) h1 (Memref.whole main_arg5) h2 (Memref.whole main_arg6) h3 (Memref.whole main_arg0) h4
            arg5 harg5 arg6 harg6 arg7 harg7 arg8 harg8 (Memref.whole cc0_scratch0) h9 cc0_scratch1 v0 hw2 hc)
        k
      else k) Q := by
  by_cases hc : k0_cond2 i v0 = 1#1
  · rw [dif_pos hc]
    have hp := (cond2_iff i v0 n hv).1 hc
    unfold before at *
    rw [if_pos ⟨by omega, hp⟩] at H
    iintro ⟨H1, HR⟩
    imod (fill_start c fx rt q ((i 0).val + 1)) $$ H1 with HF
    iapply (Scf.wp_for_bind frame (wpE defs1 𝒱 (c : Thread nD τ) bd) Set.univ _ _ _ k0_t2_ok ⟨⟩ _
      (fun k _ => filling c fx rt q ((i 0).val + 1) k) (fun k acc => fill_next c fx rt 𝒱 bd hrt arg5 harg5 arg6 harg6 arg7 harg7 arg8 harg8 h1 h2 h3 h4 h9 q i v0 hw2 hc (by omega) k acc)) $$ [HF]
    · iexact HF
    iintro %acc HF
    iapply H
    isplitl [HF]
    · iapply (fill_end c fx rt q ((i 0).val + 1))
      iexact HF
    iexact HR
  · rw [dif_neg hc]
    have hp : ¬ (i 0).val + 1 < n := fun h => hc ((cond2_iff i v0 n hv).2 h)
    refine BIBase.Entails.trans ?_ H
    unfold before
    rw [if_neg (by omega)]

theorem emb_slot (p : ℕ) {off : Fin 3 → ℕ} (e : off = ![p % 2, 0, 0]) (h : ∀ a, off a + S1x256x2048.size a ≤ S2x256x2048.size a) :
    ((Memref.whole cc0_scratch0 : Memref sig .tc .vmem S2x256x2048 .f32).access (Rect.unit (s := S2x256x2048) off S1x256x2048.size h)).set ⊆ slotSet (p % 2) := by
  subst e
  refine (show (View.slice (Memref.whole cc0_scratch0 : Memref sig .tc .vmem S2x256x2048 .f32).view (Rect.unit (s := S2x256x2048) ![p % 2, 0, 0] S1x256x2048.size h)).set ⊆ slotSet (p % 2) from ?_)
  intro y hy
  have hy' := (View.set_slice_whole _ _) ▸ hy
  rw [Rect.mem_set_unit] at hy'
  have a0 : p % 2 ≤ ((show S2x256x2048.Idx from y) 0).val ∧ ((show S2x256x2048.Idx from y) 0).val < p % 2 + 1 := hy' 0
  exact mem_slotSet.2 (Nat.le_antisymm (Nat.lt_succ_iff.1 a0.2) a0.1)

theorem read_slot (p : ℕ) {off : Fin 3 → ℕ} (e : off = ![p % 2, 0, 0]) (h : ∀ a, off a + S1x256x2048.size a ≤ S2x256x2048.size a) :
    ((Memref.whole cc0_scratch0 : Memref sig .tc .vmem S2x256x2048 .f32).access (Rect.unit (s := S2x256x2048) off S1x256x2048.size h)).read (Elt F) (gath fx rt p)
      = slotRows fx rt p := by
  subst e
  funext y
  show gath fx rt p ((Rect.unit (s := S2x256x2048) ![p % 2, 0, 0] S1x256x2048.size h).emb y) = slotRows fx rt p y
  have e1 : (((Rect.unit (s := S2x256x2048) ![p % 2, 0, 0] S1x256x2048.size h).emb y) 1).val = (y 1).val := by
    show 0 + 1 * (y 1).val = (y 1).val; omega
  unfold gath slotRows
  congr 1
  funext a
  fin_cases a
  · apply Fin.ext
    show tokRow rt p (((Rect.unit (s := S2x256x2048) ![p % 2, 0, 0] S1x256x2048.size h).emb y) 1).val % 16512 = tokRow rt p (y 1).val % 16512
    rw [e1]
  · apply Fin.ext
    show 0 + 1 * (y 2).val = (y 2).val
    omega

/-- The three weight windows, the waits recorded. -/
def windows (x5 x6 : Vec F S1x2048x1024 .bf16) (x7 : Vec F S1x1024x2048 .bf16) : sProp 𝕄 :=
  iprop((∃ W', owes (c : Thread nD τ) 0 W') ∗ owns (c : Thread nD τ) arg5 fullShare x5 ∗ owns (c : Thread nD τ) arg6 fullShare x6 ∗ owns (c : Thread nD τ) arg7 fullShare x7)

/-- The part of the body that drains the tile's copies and computes the hidden activations. -/
theorem wp_part (i : grid0.Coords) (arg0 : BitVec 32) (x5 x6 : Vec F S1x2048x1024 .bf16) (x7 : Vec F S1x1024x2048 .bf16) :
    iprop(flight c fx rt (i 0).val ∗ windows c arg5 arg6 arg7 x5 x6 x7)
      ⊢ wp frame (wpE defs1 𝒱 (c : Thread nD τ) bd) Set.univ
          (k0_part1 (F := F) i (Memref.whole main_arg4) h1 (Memref.whole main_arg5) h2 (Memref.whole main_arg6) h3 (Memref.whole main_arg0) h4
            arg5 harg5 arg6 harg6 arg7 harg7 arg8 harg8 (Memref.whole cc0_scratch0) h9 cc0_scratch1 arg0)
          (fun r => iprop(⌜r = ⟨k0_pay3 (slotRows fx rt (i 0).val) x5 x6, k0_pay4 x7⟩⌝ ∗ idle c fx (i 0).val ∗ windows c arg5 arg6 arg7 x5 x6 x7)) := by
  rw [k0_part1_eq_skeleton]
  unfold k0_part1_skel flight windows
  iintro ⟨⟨HB, Hl⟩, HW, H5, H6, H7⟩
  iapply (Scf.wp_for_bind frame (wpE defs1 𝒱 (c : Thread nD τ) bd) Set.univ _ _ _ k0_t3_ok ⟨⟩ _
      (fun k _ => iprop(batch c fx rt (i 0).val 256 (rowUnits * k) ∗ ∃ W', owes (c : Thread nD τ) 0 W'))
      (fun k acc => drain_trip c fx rt 𝒱 bd arg5 harg5 arg6 harg6 arg7 harg7 arg8 harg8 h1 h2 h3 h4 h9 i arg0 k acc)) $$ [HB HW]
  · isplitl [HB]; · iexact HB
    iexact HW
  iintro %acc ⟨HB, HW⟩
  ihave HF := (drain_end c fx rt (i 0).val) $$ [HB Hl]
  · isplitl [HB]; · iexact HB
    iexact Hl
  imod HF
  ihave HF' := (show full c fx rt (i 0).val ⊢ iprop(sc c (slotSet ((i 0).val % 2)) (gath fx rt (i 0).val) ∗ (sc c (slotSet ((i 0).val % 2)) (gath fx rt (i 0).val) -∗ full c fx rt (i 0).val)) from by
    unfold full
    iintro ⟨H1, H2⟩
    isplitl [H1]; · iexact H1
    iintro H1
    isplitl [H1]; · iexact H1
    iexact H2) $$ HF
  icases HF' with ⟨Hs, Hb⟩
  iapply (wp_load_rect 𝒱 (c : Thread nD τ) bd Set.univ (m := (Memref.whole cc0_scratch0 : Memref sig .tc .vmem S2x256x2048 .f32))
    (r := Rect.unit (s := S2x256x2048) (k0_off11 i) S1x256x2048.size (k0_off11_inb i)) (S := slotSet ((i 0).val % 2)) (q := fullShare) (f := gath fx rt (i 0).val)
    (emb_slot (i 0).val (off11_eq i) (k0_off11_inb i))) $$ [Hs]
  · iexact Hs
  iintro Hs
  iapply (wp_load_all c 𝒱 bd arg5 (by intro a; fin_cases a <;> rfl)) $$ H5
  iintro H5
  iapply (wp_load_all c 𝒱 bd arg6 (by intro a; fin_cases a <;> rfl)) $$ H6
  iintro H6
  iapply (wp_load_all c 𝒱 bd arg7 (by intro a; fin_cases a <;> rfl)) $$ H7
  iintro H7
  iapply (le_wp_ret _ _ _ _ _)
  isplitr
  · ipureintro
    rw [read_slot fx rt (i 0).val (off11_eq i) (k0_off11_inb i)]
  isplitl [Hs Hb]
  · iapply (full_idle c fx rt)
    iapply Hb
    iexact Hs
  isplitl [HW]; · iexact HW
  isplitl [H5]; · iexact H5
  isplitl [H6]; · iexact H6
  iexact H7

/-- The output window once the third step has run: a used tile's value, else anything. -/
def written (n p : ℕ) (x5 x6 : Vec F S1x2048x1024 .bf16) (x7 : Vec F S1x1024x2048 .bf16) : sProp 𝕄 :=
  iprop(∃ d, ⌜p < n → d = tileVal fx rt p x5 x6 x7⌝ ∗ owns (c : Thread nD τ) arg8 fullShare d)

/-- The third step: a used tile is computed. -/
theorem step_compute (i : grid0.Coords) (arg0 : BitVec 32) (n : ℕ) (v0 : Elt F .i32) (hv : BitVec.toInt v0 = n)
    (x5 x6 : Vec F S1x2048x1024 .bf16) (x7 : Vec F S1x1024x2048 .bf16) {hl hx hm}
    (k : Prog (TpuEff nD τ sig (Elt F) Λ₀ .tc) PUnit) {Q : PUnit → sProp 𝕄} {R : sProp 𝕄}
    (H : iprop((idle c fx (i 0).val ∗ windows c arg5 arg6 arg7 x5 x6 x7 ∗ written c fx rt arg8 n (i 0).val x5 x6 x7) ∗ R) ⊢ wp frame (wpE defs1 𝒱 (c : Thread nD τ) bd) Set.univ k Q) :
    iprop((begun c fx rt n (i 0).val ∗ windows c arg5 arg6 arg7 x5 x6 x7 ∗ ∃ d, owns (c : Thread nD τ) arg8 fullShare d) ∗ R) ⊢ wp frame (wpE defs1 𝒱 (c : Thread nD τ) bd) Set.univ
      (if hc : k0_cond3 i v0 = 1#1 then do
        let ⟨v44, v46⟩ : Σ' (v44 : FVec F S256x1024 .bf16), FVec F S1024x2048 .bf16 ← k0_part1 (F := F) i (Memref.whole main_arg4) h1 (Memref.whole main_arg5) h2 (Memref.whole main_arg6) h3 (Memref.whole main_arg0) h4
            arg5 harg5 arg6 harg6 arg7 harg7 arg8 harg8 (Memref.whole cc0_scratch0) h9 cc0_scratch1 arg0
        let _ : Vec F S256x2048 .f32 ← Prog.lift (.load arg8 (Rect.unit (s := S256x2048) ![0, 0] S256x2048.size inb_S256x2048_S256x2048_0_0).toLoadRect hl)
        Prog.lift (.store arg8 (Rect.unit (s := S256x2048) ![0, 0] S256x2048.size inb_S256x2048_S256x2048_0_0) (k0_pay1 v44 v46) Finset.univ hx hm)
        k
      else k) Q := by
  by_cases hc : k0_cond3 i v0 = 1#1
  · rw [dif_pos hc, wp_bind]
    have hp := (cond3_iff i v0 n hv).1 hc
    unfold begun
    rw [if_pos hp]
    iintro ⟨⟨HF, HW, ⟨%d, H8⟩⟩, HR⟩
    ihave Hw := (wp_part c fx rt (defs1 := defs1) 𝒱 bd arg5 harg5 arg6 harg6 arg7 harg7 arg8 harg8 h1 h2 h3 h4 h9 i arg0 x5 x6 x7) $$ [HF HW]
    · isplitl [HF]; · iexact HF
      iexact HW
    iapply (wp_wand _ _ _) $$ Hw
    iintro %r ⟨%hr, HI, HW⟩
    subst hr
    iapply (wp_load_all c 𝒱 bd arg8 (by intro a; fin_cases a <;> rfl)) $$ H8
    iintro H8
    iapply (wp_store_all c 𝒱 bd arg8 (by intro a; fin_cases a <;> rfl)) $$ H8
    iintro H8
    iapply H
    isplitr [HR]
    · isplitl [HI]; · iexact HI
      isplitl [HW]; · iexact HW
      unfold written
      iexists _
      isplitr
      swap; · iexact H8
      ipureintro
      exact fun _ => rfl
    iexact HR
  · rw [dif_neg hc]
    have hp : ¬ (i 0).val < n := fun h => hc ((cond3_iff i v0 n hv).2 h)
    refine BIBase.Entails.trans ?_ H
    unfold begun written
    rw [if_neg hp]
    iintro ⟨⟨HF, HW, ⟨%d, H8⟩⟩, HR⟩
    isplitr [HR]
    · isplitl [HF]; · iexact HF
      isplitl [HW]; · iexact HW
      iexists d
      isplitr
      · ipureintro; exact fun h => absurd h hp
      iexact H8
    iexact HR

/-- What the output window holds after the point: the tile's value if it is used, else zeros. -/
def outVal (n p : ℕ) (x5 x6 : Vec F S1x2048x1024 .bf16) (x7 : Vec F S1x1024x2048 .bf16) : Vec F S256x2048 .f32 :=
  if p < n then tileVal fx rt p x5 x6 x7 else k0_pay2

/-- The fourth step: an unused tile is zeros. -/
theorem step_zero (i : grid0.Coords) (n : ℕ) (v0 : Elt F .i32) (hv : BitVec.toInt v0 = n)
    (x5 x6 : Vec F S1x2048x1024 .bf16) (x7 : Vec F S1x1024x2048 .bf16) {hl hx hm}
    (k : Prog (TpuEff nD τ sig (Elt F) Λ₀ .tc) PUnit) {Q : PUnit → sProp 𝕄} {R : sProp 𝕄}
    (H : iprop(owns (c : Thread nD τ) arg8 fullShare (outVal fx rt n (i 0).val x5 x6 x7) ∗ R) ⊢ wp frame (wpE defs1 𝒱 (c : Thread nD τ) bd) Set.univ k Q) :
    iprop(written c fx rt arg8 n (i 0).val x5 x6 x7 ∗ R) ⊢ wp frame (wpE defs1 𝒱 (c : Thread nD τ) bd) Set.univ
      (if hc : k0_cond4 i v0 = 1#1 then do
        let _ : Vec F S256x2048 .f32 ← Prog.lift (.load arg8 (Rect.unit (s := S256x2048) ![0, 0] S256x2048.size inb_S256x2048_S256x2048_0_0).toLoadRect hl)
        Prog.lift (.store arg8 (Rect.unit (s := S256x2048) ![0, 0] S256x2048.size inb_S256x2048_S256x2048_0_0) (k0_pay2 (F := F)) Finset.univ hx hm)
        k
      else k) Q := by
  unfold written
  by_cases hc : k0_cond4 i v0 = 1#1
  · rw [dif_pos hc]
    have hp := (cond4_iff i v0 n hv).1 hc
    iintro ⟨⟨%d, -, H8⟩, HR⟩
    iapply (wp_load_all c 𝒱 bd arg8 (by intro a; fin_cases a <;> rfl)) $$ H8
    iintro H8
    iapply (wp_store_all c 𝒱 bd arg8 (by intro a; fin_cases a <;> rfl)) $$ H8
    iintro H8
    iapply H
    isplitl [H8]
    · unfold outVal
      rw [if_neg (by omega)]
      iexact H8
    iexact HR
  · rw [dif_neg hc]
    have hp : (i 0).val < n := by
      by_contra h
      exact hc ((cond4_iff i v0 n hv).2 (by omega))
    refine BIBase.Entails.trans ?_ H
    iintro ⟨⟨%d, %hd, H8⟩, HR⟩
    rw [hd hp]
    isplitl [H8]
    · unfold outVal
      rw [if_pos hp]
      iexact H8
    iexact HR

/-- The word that counts the used tiles, held at share `q`. -/
abbrev count (nu : S1.Idx → BitVec 32) (q : PosShare TreeShare) : sProp 𝕄 :=
  (Memref.whole main_arg5 : Memref sig .tc .smem S1 .i32).view.loc (c : Thread nD τ) ↦[Finset.univ]{q} nu

/-- What a point holds of the slots when tile `p`'s point begins. -/
def slots (n p : ℕ) : sProp 𝕄 := iprop(before c fx rt n p ∗ idle c fx (p + 1))

/-- Reading the count at the head of a program. -/
theorem count_load (nu : S1.Idx → BitVec 32) (q : PosShare TreeShare) {h : ∀ a, (![0] : Fin 1 → ℕ) a + S1.size a ≤ S1.size a} {hw} {x : S1.Idx}
    {α : Type} {cont : BitVec 32 → Prog (TpuEff nD τ sig (Elt F) Λ₀ .tc) α} {Q : α → sProp 𝕄} {R : sProp 𝕄}
    (H : iprop(R ∗ count c nu q) ⊢ wp frame (wpE defs1 𝒱 (c : Thread nD τ) bd) Set.univ (cont (nu (ix1 (⟨0, Nat.one_pos⟩ : Fin 1)))) Q) :
    iprop(R ∗ count c nu q) ⊢ wp frame (wpE defs1 𝒱 (c : Thread nD τ) bd) Set.univ
      (smemLoadElt (Memref.whole main_arg5 : Memref sig .tc .smem S1 .i32) (Rect.unit (s := S1) ![0] S1.size h) hw x cont) Q := by
  have e : ((Memref.whole main_arg5 : Memref sig .tc .smem S1 .i32).access (Rect.unit (s := S1) ![0] S1.size h)).read (Elt F) nu x
      = nu (ix1 (⟨0, Nat.one_pos⟩ : Fin 1)) := by
    refine congrArg nu ?_
    funext a
    fin_cases a
    apply Fin.ext
    show 0 + 1 * (x 0).val = 0
    have h1 : (x 0).val < 1 := (x 0).isLt
    omega
  iintro ⟨HR, Ht⟩
  iapply (wp_smemLoadElt 𝒱 (c : Thread nD τ) bd Set.univ (m := (Memref.whole main_arg5 : Memref sig .tc .smem S1 .i32))
    (r := Rect.unit (s := S1) ![0] S1.size h) (x := x) (S := Finset.univ) (q := q) (f := nu) (Finset.subset_univ _)) $$ [Ht]
  · iexact Ht
  iintro Ht
  rw [e]
  iapply H
  isplitl [HR]; · iexact HR
  iexact Ht

theorem chk_next (i : grid0.Coords) (v0 : Elt F .i32) (n : ℕ) (hv : BitVec.toInt v0 = n) (hn : n ≤ 145) : k0_chk2 i v0 := by
  intro k hc a
  have hp := (cond2_iff i v0 n hv).1 hc
  have hk : k.val < 256 := trips2 ▸ k.isLt
  rw [off5_eq i k]
  fin_cases a
  show ((i 0).val + 1) * 256 + k.val + 1 ≤ 37120
  omega

include hrt in
/-- The body at one point: the slots move on by one tile, the windows stay, the output window holds the point's value. -/
theorem wp_point (q : PosShare TreeShare) (i : grid0.Coords) (nu : S1.Idx → BitVec 32) (n : ℕ) (hv : ∀ x, (nu x).toInt = n) (hn : 0 < n) (hn' : n ≤ 145)
    (x5 x6 : Vec F S1x2048x1024 .bf16) (x7 : Vec F S1x1024x2048 .bf16) :
    iprop(slots c fx rt n (i 0).val ∗ (count c nu q ∗ table c rt q) ∗ windows c arg5 arg6 arg7 x5 x6 x7 ∗ ∃ d, owns (c : Thread nD τ) arg8 fullShare d)
      ⊢ wp frame (wpE defs1 𝒱 (c : Thread nD τ) bd) Set.univ
          (cc0_moe_experts (F := F) i (Memref.whole main_arg4) h1 (Memref.whole main_arg5) h2 (Memref.whole main_arg6) h3 (Memref.whole main_arg0) h4
            arg5 harg5 arg6 harg6 arg7 harg7 arg8 harg8 (Memref.whole cc0_scratch0) h9 cc0_scratch1)
          (fun _ => iprop(slots c fx rt n ((i 0).val + 1) ∗ (count c nu q ∗ table c rt q) ∗ windows c arg5 arg6 arg7 x5 x6 x7
            ∗ owns (c : Thread nD τ) arg8 fullShare (outVal fx rt n (i 0).val x5 x6 x7))) := by
  rw [cc0_moe_experts_eq_skeleton]
  unfold cc0_moe_experts_skel smemLoad slots
  rw [smemLoadElt_bind]
  refine BIBase.Entails.trans ?_ (count_load c 𝒱 bd nu q (R := iprop((before c fx rt n (i 0).val ∗ idle c fx ((i 0).val + 1)) ∗ table c rt q ∗ windows c arg5 arg6 arg7 x5 x6 x7 ∗ ∃ d, owns (c : Thread nD τ) arg8 fullShare d)) ?_)
  · iintro ⟨H1, ⟨HC, HT⟩, H2⟩
    isplitr [HC]
    · isplitl [H1]; · iexact H1
      isplitl [HT]; · iexact HT
      iexact H2
    iexact HC
  have hv0 : BitVec.toInt (nu (ix1 (⟨0, Nat.one_pos⟩ : Fin 1)) : BitVec 32) = n := hv _
  generalize nu (ix1 (⟨0, Nat.one_pos⟩ : Fin 1)) = v0 at hv0
  refine BIBase.Entails.trans ?_ (wp_assume 𝒱 (c : Thread nD τ) bd Set.univ (show k0_chk2 i v0 from chk_next (F := F) i v0 n hv0 hn'))
  refine BIBase.Entails.trans ?_ (step_first c fx rt (R := iprop(idle c fx ((i 0).val + 1) ∗ count c nu q ∗ windows c arg5 arg6 arg7 x5 x6 x7 ∗ ∃ d, owns (c : Thread nD τ) arg8 fullShare d))
    𝒱 bd hrt arg5 harg5 arg6 harg6 arg7 harg7 arg8 harg8 h1 h2 h3 h4 h9 q i n hn _ ?_)
  · iintro ⟨⟨⟨HA, HI⟩, HT, HW, H8⟩, HC⟩
    isplitl [HA HT]
    · isplitl [HA]; · iexact HA
      iexact HT
    isplitl [HI]; · iexact HI
    isplitl [HC]; · iexact HC
    isplitl [HW]; · iexact HW
    iexact H8
  refine BIBase.Entails.trans ?_ (step_next c fx rt (R := iprop(begun c fx rt n (i 0).val ∗ count c nu q ∗ windows c arg5 arg6 arg7 x5 x6 x7 ∗ ∃ d, owns (c : Thread nD τ) arg8 fullShare d))
    𝒱 bd hrt arg5 harg5 arg6 harg6 arg7 harg7 arg8 harg8 h1 h2 h3 h4 h9 q i n hn' v0 hv0 (chk_next (F := F) i v0 n hv0 hn') _ ?_)
  · iintro ⟨⟨HB, HT⟩, HI, HC, HW, H8⟩
    isplitl [HI HT]
    · isplitl [HI]; · iexact HI
      iexact HT
    isplitl [HB]; · iexact HB
    isplitl [HC]; · iexact HC
    isplitl [HW]; · iexact HW
    iexact H8
  refine BIBase.Entails.trans ?_ (step_compute c fx rt (R := iprop(before c fx rt n ((i 0).val + 1) ∗ count c nu q ∗ table c rt q))
    𝒱 bd arg5 harg5 arg6 harg6 arg7 harg7 arg8 harg8 h1 h2 h3 h4 h9 i _ n v0 hv0 x5 x6 x7 _ ?_)
  · iintro ⟨⟨HA, HT⟩, HB, HC, HW, H8⟩
    isplitl [HB HW H8]
    · isplitl [HB]; · iexact HB
      isplitl [HW]; · iexact HW
      iexact H8
    isplitl [HA]; · iexact HA
    isplitl [HC]; · iexact HC
    iexact HT
  refine BIBase.Entails.trans ?_ (step_zero c fx rt (R := iprop(idle c fx (i 0).val ∗ windows c arg5 arg6 arg7 x5 x6 x7 ∗ before c fx rt n ((i 0).val + 1) ∗ count c nu q ∗ table c rt q))
    𝒱 bd arg8 i n v0 hv0 x5 x6 x7 _ ?_)
  · iintro ⟨⟨HI, HW, H8⟩, HA, HC, HT⟩
    isplitl [H8]; · iexact H8
    isplitl [HI]; · iexact HI
    isplitl [HW]; · iexact HW
    isplitl [HA]; · iexact HA
    isplitl [HC]; · iexact HC
    iexact HT
  refine BIBase.Entails.trans ?_ (le_wp_ret _ _ _ _ _)
  rw [idle_mod c fx (s := (i 0).val) (s' := (i 0).val + 1 + 1) (by omega)]
  iintro ⟨H8, HI, HW, HA, HC, HT⟩
  isplitl [HA HI]
  · isplitl [HA]; · iexact HA
    iexact HI
  isplitl [HC HT]
  · isplitl [HC]; · iexact HC
    iexact HT
  isplitl [HW]; · iexact HW
  iexact H8

end Steps2

end Cert.Proof

end
-- ==== Proof.Inv.lean ====
module

public import proofs.«01_k».proof.Proof.Body
public import proofs.«01_k».proof.Proof.Gen.KernelIdeal.Launch
public import Idealize.ShloMosaic.Lib.Ring

/-! # The invariant between grid points

Between two points the kernel holds its two slots (one perhaps in flight), half of each table, the
part of the token array it has not lent to a row copy, and the generator register. It is entered
from what the launch hands over and returned to it. -/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

/-- The resources of the proof: the pipeline's and the counters of the transfers. -/
local notation "𝕄" => MT nD τ sig Unit (Elt F) ℕ (Pipeline.UD sig nD τ) ℕ

/-! ## The shares of the token array -/

theorem range_add {M : Type} [URA M] (a k : ℕ) (Φ : ℕ → sProp M) :
    bigSep (Finset.range (a + k)) Φ = iprop(bigSep (Finset.range a) Φ ∗ bigSep (Finset.range k) (fun i => Φ (a + i))) := by
  induction k with
  | zero => rw [Finset.range_zero, BI.bigSep_empty, Nat.add_zero]; exact (equiv_iff.1 ⟨sep_emp.2, sep_emp.1⟩)
  | succ k ih =>
    rw [← Nat.add_assoc, Finset.range_add_one, BI.bigSep_insert Finset.notMem_range_self, Finset.range_add_one, BI.bigSep_insert Finset.notMem_range_self, ih]
    refine equiv_iff.1 ⟨?_, ?_⟩
    · refine (show iprop(Φ (a + k) ∗ bigSep (Finset.range a) Φ ∗ bigSep (Finset.range k) (fun i => Φ (a + i)))
        ⊢ iprop(bigSep (Finset.range a) Φ ∗ Φ (a + k) ∗ bigSep (Finset.range k) (fun i => Φ (a + i))) from ?_)
      iintro ⟨H1, H2, H3⟩
      isplitl [H2]; · iexact H2
      isplitl [H1]; · iexact H1
      iexact H3
    · refine (show iprop(bigSep (Finset.range a) Φ ∗ Φ (a + k) ∗ bigSep (Finset.range k) (fun i => Φ (a + i)))
        ⊢ iprop(Φ (a + k) ∗ bigSep (Finset.range a) Φ ∗ bigSep (Finset.range k) (fun i => Φ (a + i))) from ?_)
      iintro ⟨H1, H2, H3⟩
      isplitl [H2]; · iexact H2
      isplitl [H1]; · iexact H1
      iexact H3

theorem range_fin {M : Type} [URA M] (k : ℕ) (Φ : ℕ → sProp M) :
    bigSep (Finset.range k) Φ = bigSep Finset.univ (fun r : Fin k => Φ r.val) := by
  have h := Ring.bigSep_rangeSet_eq_range (NB := k) (Φ := fun r : Fin k => Φ r.val) (lo := 0) (hi := k) le_rfl Φ (fun j hj => by simp only [Nat.zero_add])
  rw [Ring.rangeSet_univ, Nat.sub_zero] at h
  exact h.symm

variable (c : Dev nD) (fx : S16512x2048.Idx → Elt F .f32) (rt : S37120.Idx → BitVec 32)

/-- The part of the token array no row copy is lent. -/
abbrev xRest : sProp 𝕄 :=
  (Memref.whole main_arg0 : Memref sig .tc .hbm S16512x2048 .f32).view.loc (c : Thread nD τ) ↦[Finset.univ]{Transfers.shareDrop fullShare 512} fx

/-- The shares of slot `s`. -/
abbrev xToks (s : ℕ) : sProp 𝕄 := bigSep Finset.univ (fun r : Fin 256 => xTok c fx (256 * s + r.val) Finset.univ)

theorem x_split :
    ((Memref.whole main_arg0 : Memref sig .tc .hbm S16512x2048 .f32).view.loc (c : Thread nD τ) ↦[Finset.univ]{fullShare} fx : sProp 𝕄)
      ⊣⊢ iprop(xRest c fx ∗ xToks c fx 0 ∗ xToks c fx 1) := by
  have e : iprop(xRest c fx ∗ BI.bigSep (Finset.range 512) (fun i => xTok c fx i Finset.univ)) = (iprop(xRest c fx ∗ xToks c fx 0 ∗ xToks c fx 1) : sProp 𝕄) := by
    rw [show 512 = 256 + 256 from rfl, range_add, range_fin, range_fin]
    simp only [xToks, Nat.mul_zero, Nat.zero_add, Nat.mul_one]
  rw [← e]
  exact Transfers.pointsTo_toks_range fullShare 512

/-! ## The two slots at rest -/

/-- The two slots' own resources as the launch hands them over. -/
def rest : sProp 𝕄 :=
  iprop((∃ f : S2x256x2048.Idx → Elt F .f32, sc c Finset.univ f) ∗ (semVal ((c : Thread nD τ), SemLoc.dma (8 : DmaSem sig)) 0 ∗ semVal ((c : Thread nD τ), SemLoc.dma (9 : DmaSem sig)) 0)
    ∗ ((Memref.whole main_arg0 : Memref sig .tc .hbm S16512x2048 .f32).view.loc (c : Thread nD τ) ↦[Finset.univ]{fullShare} fx))

theorem rest_split : rest c fx ⊢ (iprop(idle c fx 0 ∗ idle c fx 1 ∗ xRest c fx) : sProp 𝕄) := by
  unfold rest idle
  iintro ⟨⟨%f, Hf⟩, ⟨H8, H9⟩, Hx⟩
  ihave Hx := (x_split c fx).1 $$ Hx
  icases Hx with ⟨Hr, Hx0, Hx1⟩
  ihave Hf := (show (sc c Finset.univ f : sProp 𝕄) ⊢ iprop(sc c (slotSet 0) f ∗ sc c (slotSet 1) f) from by
    rw [← slotSet_cover]; exact (pointsTo_union slotSet_disjoint).1) $$ Hf
  icases Hf with ⟨Hf0, Hf1⟩
  isplitl [Hf0 H8 Hx0]
  · isplitl [Hf0]; · iexists f; iexact Hf0
    isplitl [H8]; · iexact H8
    iexact Hx0
  isplitl [Hf1 H9 Hx1]
  · isplitl [Hf1]; · iexists f; iexact Hf1
    isplitl [H9]; · iexact H9
    iexact Hx1
  iexact Hr

theorem rest_join : (iprop(idle c fx 0 ∗ idle c fx 1 ∗ xRest c fx) : sProp 𝕄) ⊢ rest c fx := by
  unfold rest idle
  iintro ⟨⟨⟨%f, Hf⟩, H8, Hx0⟩, ⟨⟨%g, Hg⟩, H9, Hx1⟩, Hr⟩
  isplitl [Hf Hg]
  · iapply (show (iprop(sc c (slotSet 0) f ∗ sc c (slotSet 1) g) : sProp 𝕄) ⊢ iprop(∃ f : S2x256x2048.Idx → Elt F .f32, sc c Finset.univ f) from by
      refine BIBase.Entails.trans (pointsTo_join slotSet_disjoint) ?_
      rw [slotSet_cover]
      iintro H
      iexists _
      iexact H)
    isplitl [Hf]; · iexact Hf
    iexact Hg
  isplitl [H8 H9]
  · isplitl [H8]; · iexact H8
    iexact H9
  iapply (x_split c fx).2
  isplitl [Hr]; · iexact Hr
  isplitl [Hx0]; · iexact Hx0
  iexact Hx1

/-! ## The invariant -/

/-- The part of the three tables the kernel reads. -/
def tables (te : S145.Idx → BitVec 32) (nu : S1.Idx → BitVec 32) : sProp 𝕄 :=
  iprop(((Memref.whole main_arg4 : Memref sig .tc .smem S145 .i32).view.loc (c : Thread nD τ) ↦{fullShare.right} te) ∗ (count c nu fullShare.right ∗ table c rt fullShare.right))

/-- What is held before point `p`, when `n` tiles are used. -/
def inv (te : S145.Idx → BitVec 32) (nu : S1.Idx → BitVec 32) (n p : ℕ) : sProp 𝕄 :=
  iprop(slots c fx rt n p ∗ tables c rt te nu ∗ xRest c fx ∗ ∃ r, prngReg (Val := Elt F) c r)

theorem inv_start (te : S145.Idx → BitVec 32) (nu : S1.Idx → BitVec 32) (n : ℕ) :
    (iprop(rest c fx ∗ tables c rt te nu ∗ ∃ r, prngReg (Val := Elt F) c r) : sProp 𝕄) ⊢ inv c fx rt te nu n 0 := by
  unfold inv slots before
  rw [if_neg (by omega)]
  iintro ⟨H, Ht, Hg⟩
  ihave H := rest_split c fx $$ H
  icases H with ⟨H0, H1, Hr⟩
  isplitl [H0 H1]
  · isplitl [H0]; · iexact H0
    iexact H1
  isplitl [Ht]; · iexact Ht
  isplitl [Hr]; · iexact Hr
  iexact Hg

theorem inv_end (te : S145.Idx → BitVec 32) (nu : S1.Idx → BitVec 32) (n : ℕ) (hn : n ≤ 145) :
    inv c fx rt te nu n 145 ⊢ (iprop(rest c fx ∗ ∃ r, prngReg (Val := Elt F) c r) : sProp 𝕄) := by
  unfold inv slots before
  rw [if_neg (by omega), idle_mod c fx (show 145 % 2 = 1 % 2 from rfl), idle_mod c fx (show (145 + 1) % 2 = 0 % 2 from rfl)]
  iintro ⟨⟨H1, H0⟩, -, Hr, Hg⟩
  isplitl [H0 H1 Hr]
  · iapply (rest_join c fx)
    isplitl [H0]; · iexact H0
    isplitl [H1]; · iexact H1
    iexact Hr
  iexact Hg

end Cert.Proof

end
-- ==== Proof.Launch.lean ====
module

public import proofs.«01_k».proof.Proof.Inv
public import Idealize.ShloMosaic.Lib.Pipeline.FrameBody

/-! # The run of the whole kernel

From admissible tables the kernel runs to its end, nothing faults, its arguments and the tables are
unchanged, every semaphore ends at zero, and the result is what the 145 points wrote. -/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation cellOf)
open Cert.KernelIdeal Cert.KernelIdeal.Gen

variable {F : FTy → Type} [FloatOps F]

/-- The resources of the proof: the pipeline's and the counters of the transfers. -/
local notation "𝕄" => MT nD τ sig Unit (Elt F) ℕ (Pipeline.UD sig nD τ) ℕ

variable (m : (ℓ : Loc nD τ sig) → Buf (Elt F) ℓ) (g : Dev nD → PrngReg)

/-- The argument array `b` of device `c`. -/
abbrev arg (c : Dev nD) (b : Ref sig .tc) : Buf (Elt F) ((c : Thread nD τ).loc b) := m ((c : Thread nD τ).loc b)

/-- What the problem says of the three tables: every tile's expert exists, `n` tiles are used, every
    token row exists. -/
structure Good (n : ℕ) : Prop where
  te : ∀ (c : Dev nD) (x : S145.Idx), (show BitVec 32 from arg m c main_arg4 x).toNat < 16
  nu : ∀ (c : Dev nD) (x : S1.Idx), (show BitVec 32 from arg m c main_arg5 x).toInt = n
  pos : 0 < n
  le : n ≤ 145
  rt : ∀ (c : Dev nD) (x : S37120.Idx), (show BitVec 32 from arg m c main_arg6 x).toNat < 16512

/-! ## The tables -/

/-- The tables' contents. -/
def pf : pre0.Contents (Elt F) := fun k => m (((0 : Dev nD) : Thread nD τ).loc (pre0.ref k))

/-- The tile a point computes, as an index of the expert table. -/
def tile (i : grid0.Coords) : S145.Idx := ix1 (⟨(i 0).val, (i 0).isLt⟩ : Fin 145)

theorem off1_eq : ∀ i : grid0.Coords, k0_off1 i = ![(i 0).val] := by decide +kernel

theorem tile_eq (i : grid0.Coords) (y) : (Rect.unit (s := S145) (k0_off1 i) S1.size (k0_off1_inb i)).emb y = tile i := by
  funext a
  obtain rfl : a = 0 := Subsingleton.elim a 0
  apply Fin.ext
  show k0_off1 i 0 + 1 * (y 0).val = (i 0).val
  have h : (y 0).val < 1 := (y 0).isLt
  have e : k0_off1 i 0 = (i 0).val := congrFun (off1_eq i) 0
  rw [e]; omega

/-- The expert of a point. -/
def ex (i : grid0.Coords) : BitVec 32 := arg m 0 main_arg4 (tile i)

theorem ix_1 (i : grid0.Coords) : cc0_transform_1 k0_off1_inb numel1_S1 (pf m) i = ![(ex m i).toNat, 0, 0] :=
  congrArg (fun x : S145.Idx => (![(show BitVec 32 from arg m 0 main_arg4 x).toNat, 0, 0] : Fin 3 → ℕ)) (tile_eq i _)
theorem ix_2 (i : grid0.Coords) : cc0_transform_2 k0_off1_inb numel1_S1 (pf m) i = ![(ex m i).toNat, 0, 0] :=
  congrArg (fun x : S145.Idx => (![(show BitVec 32 from arg m 0 main_arg4 x).toNat, 0, 0] : Fin 3 → ℕ)) (tile_eq i _)
theorem ix_3 (i : grid0.Coords) : cc0_transform_3 k0_off1_inb numel1_S1 (pf m) i = ![(ex m i).toNat, 0, 0] :=
  congrArg (fun x : S145.Idx => (![(show BitVec 32 from arg m 0 main_arg4 x).toNat, 0, 0] : Fin 3 → ℕ)) (tile_eq i _)

variable {n : ℕ} (hm : Good m n)

include hm in
theorem ok_pf : ok0 (pf m) := by
  have w : ∀ i, (ex m i).toNat < 16 := fun i => hm.te 0 _
  refine ⟨fun i => ⟨fun a => ?_, .inr ?_⟩, fun i => ⟨fun a => ?_, .inr ?_⟩, fun i => ⟨fun a => ?_, .inr ?_⟩⟩
  · rw [ix_1]; have := w i; fin_cases a <;> simp [S1x2048x1024, S16x2048x1024] <;> omega
  · exact .inr ⟨by decide, rfl, rfl, rfl⟩
  · rw [ix_2]; have := w i; fin_cases a <;> simp [S1x2048x1024, S16x2048x1024] <;> omega
  · exact .inr ⟨by decide, rfl, rfl, rfl⟩
  · rw [ix_3]; have := w i; fin_cases a <;> simp [S1x1024x2048, S16x1024x2048] <;> omega
  · exact .inr ⟨by decide, rfl, rfl, rfl⟩

/-- The tables with the region's side condition. -/
def adm (_ : Fin 1) : (pcfg0 (F := F)).Adm := ⟨pf m, ok_pf m hm⟩

/-! ## The proof data -/

/-- What each array holds when the kernel is entered: the weights have been cast. -/
abbrev V (c : Dev nD) (b : Ref sig .tc) : Buf (Elt F) ((c : Thread nD τ).loc b) :=
  StableHlo.after hostOps0 (fun b => m (c, b)) b

theorem V_arg0 (c : Dev nD) : V m c main_arg0 = arg m c main_arg0 := rfl
theorem V_arg1 (c : Dev nD) : V m c main_arg1 = arg m c main_arg1 := rfl
theorem V_arg2 (c : Dev nD) : V m c main_arg2 = arg m c main_arg2 := rfl
theorem V_arg3 (c : Dev nD) : V m c main_arg3 = arg m c main_arg3 := rfl
theorem V_arg4 (c : Dev nD) : V m c main_arg4 = arg m c main_arg4 := rfl
theorem V_arg5 (c : Dev nD) : V m c main_arg5 = arg m c main_arg5 := rfl
theorem V_arg6 (c : Dev nD) : V m c main_arg6 = arg m c main_arg6 := rfl

/-- The semaphores of the kernel's own copies. -/
def osem0 : Fin 2 → SemLoc sig := fun j => (![SemLoc.dma 8, SemLoc.dma 9] : Fin 2 → SemLoc sig) j

theorem ownSemFacts0 : Pipeline.OwnSemFacts spec0 osem0 := by decide

theorem ownSems0_eq (c : Dev nD) : (Pipeline.ownSems0 (τ := τ) osem0 c : sProp 𝕄)
    = iprop(semVal ((c : Thread nD τ), SemLoc.dma (8 : DmaSem sig)) 0 ∗ semVal ((c : Thread nD τ), SemLoc.dma (9 : DmaSem sig)) 0) := by
  rw [Pipeline.ownSems0_eq_of_list c osem0 [0, 1] (by decide) (by decide)]; rfl

/-- The array the kernel's own copies read. -/
def H0 : Finset (Ref sig .tc) := {main_arg0}

theorem H0_sub : H0 ⊆ Pipeline.restRefsP sig pre0 spec0 := by decide

/-- The arrays of the four windows when the kernel is entered. -/
abbrev A0 (c : Dev nD) (w : Fin (cfg0 (adm m hm 0)).W) : Buf (Elt F) (((cfg0 (adm m hm 0)).win w).arr.view.loc (c.tc : Thread nD τ)) :=
  V m c (Pipeline.arrRef spec0 w)

/-- What window `w` holds at point `t`. -/
def held (c : Dev nD) (w : Fin (cfg0 (adm m hm 0)).W) (t : Fin (cfg0 (adm m hm 0)).N) :
    ((cfg0 (adm m hm 0)).win w).block.Idx → Elt F ((cfg0 (adm m hm 0)).win w).elt :=
  Pipeline.heldIn (cfg0 (adm m hm 0)) (A0 m hm c) w t.val t.isLt

/-- What the point `t` writes. -/
def out (c : Dev nD) (t : Fin (cfg0 (adm m hm 0)).N) : Vec F S256x2048 .f32 :=
  outVal (arg m c main_arg0) (arg m c main_arg6) n t.val (held m hm c 0 t) (held m hm c 1 t) (held m hm c 2 t)

/-- The proof data of the call. -/
def dats (_ : Fin 1) (c : Dev nD) : Dat τ (Elt F) Unit ℕ (Pipeline.UD sig nD τ) ℕ (cfg0 (adm m hm 0)) c where
  A w := A0 m hm c w
  after w t := match w with
    | ⟨0, _⟩ => held m hm c 0 t
    | ⟨1, _⟩ => held m hm c 1 t
    | ⟨2, _⟩ => held m hm c 2 t
    | ⟨3, _⟩ => out m hm c t
  Φ t := inv c (arg m c main_arg0) (arg m c main_arg6) (arg m c main_arg4) (arg m c main_arg5) n t.val
  q _ := fullShare
  owed _ := 0

theorem A_eq (c : Dev nD) (w : Fin (cfg0 (adm m hm 0)).W) : (dats m hm 0 c).A w = V m c (Pipeline.arrRef spec0 w) := by
  dsimp only [dats]
theorem after_0 (c : Dev nD) (t : Fin (cfg0 (adm m hm 0)).N) : (dats m hm 0 c).after 0 t = held m hm c 0 t := rfl
theorem after_1 (c : Dev nD) (t : Fin (cfg0 (adm m hm 0)).N) : (dats m hm 0 c).after 1 t = held m hm c 1 t := rfl
theorem after_2 (c : Dev nD) (t : Fin (cfg0 (adm m hm 0)).N) : (dats m hm 0 c).after 2 t = held m hm c 2 t := rfl
theorem after_3 (c : Dev nD) (t : Fin (cfg0 (adm m hm 0)).N) : (dats m hm 0 c).after 3 t = out m hm c t := rfl

theorem before_0 (c : Dev nD) (t : Fin (cfg0 (adm m hm 0)).N) (d) : (dats m hm 0 c).before 0 t d = held m hm c 0 t :=
  Pipeline.Dat.before_eq_heldIn _ 0 rfl (fun _ => rfl) (fun _ _ => rfl) (fun t => after_0 m hm c t) t d
theorem before_1 (c : Dev nD) (t : Fin (cfg0 (adm m hm 0)).N) (d) : (dats m hm 0 c).before 1 t d = held m hm c 1 t :=
  Pipeline.Dat.before_eq_heldIn _ 1 rfl (fun _ => rfl) (fun _ _ => rfl) (fun t => after_1 m hm c t) t d
theorem before_2 (c : Dev nD) (t : Fin (cfg0 (adm m hm 0)).N) (d) : (dats m hm 0 c).before 2 t d = held m hm c 2 t :=
  Pipeline.Dat.before_eq_heldIn _ 2 rfl (fun _ => rfl) (fun _ _ => rfl) (fun t => after_2 m hm c t) t d

/-- A point's coordinate is its number. -/
theorem coord (t : Fin grid0.N) : (grid0.coords t 0).val = t.val := by
  have h : t.val < 145 := N_0 ▸ t.isLt
  rw [Pipeline.Grid.coords_val t 0 (S := 1) (B := 145) (by decide) rfl, Nat.div_one, Nat.mod_eq_of_lt h]

/-- Every point writes its block: the tile is used, or it is not. -/
theorem idle_3 (i : grid0.Coords) : (cfg0 (adm m hm 0)).idle 3 i = false := by
  have hv : (show BitVec 32 from (pf m).atD 1 ![0]).toInt = n := by
    have hh : ∀ a : Fin 1, (![0] : Fin 1 → ℕ) a + 1 ≤ S1.size a := by decide
    have e : (show BitVec 32 from (pf m).atD 1 ![0]) = (show BitVec 32 from arg m 0 main_arg5 (fun a => ⟨(![0] : Fin 1 → ℕ) a, hh a⟩ : S1.Idx)) := dif_pos hh
    rw [e]
    exact hm.nu 0 _
  show idle0 (pf m) 3 i = false
  by_cases h : (i 0).val < n
  · have := (cond3_iff i _ n hv).2 h
    show (!(k0_cond3 i ((pf m).atD 1 ![0]) == 1#1) && !(k0_cond4 i ((pf m).atD 1 ![0]) == 1#1)) = false
    rw [this]; rfl
  · have := (cond4_iff i _ n hv).2 (by omega)
    show (!(k0_cond3 i ((pf m).atD 1 ![0]) == 1#1) && !(k0_cond4 i ((pf m).atD 1 ![0]) == 1#1)) = false
    rw [this, Bool.and_eq_false_iff]; exact .inr rfl

/-! ## The body obligation -/

abbrev ms_0 (t : Fin (cfg0 (adm m hm 0)).N) : Memref sig .tc .vmem S1x2048x1024 .bf16 := spec0_0.stage ((cfg0 (adm m hm 0)).slots t 0)
abbrev ms_1 (t : Fin (cfg0 (adm m hm 0)).N) : Memref sig .tc .vmem S1x2048x1024 .bf16 := spec0_1.stage ((cfg0 (adm m hm 0)).slots t 1)
abbrev ms_2 (t : Fin (cfg0 (adm m hm 0)).N) : Memref sig .tc .vmem S1x1024x2048 .bf16 := spec0_2.stage ((cfg0 (adm m hm 0)).slots t 2)
abbrev ms_3 (t : Fin (cfg0 (adm m hm 0)).N) : Memref sig .tc .vmem S256x2048 .f32 := spec0_3.stage ((cfg0 (adm m hm 0)).slots t 3)
theorem hs_0 (t : Fin (cfg0 (adm m hm 0)).N) : (ms_0 m hm t).IsWhole := hstage0_0 _
theorem hs_1 (t : Fin (cfg0 (adm m hm 0)).N) : (ms_1 m hm t).IsWhole := hstage0_1 _
theorem hs_2 (t : Fin (cfg0 (adm m hm 0)).N) : (ms_2 m hm t).IsWhole := hstage0_2 _
theorem hs_3 (t : Fin (cfg0 (adm m hm 0)).N) : (ms_3 m hm t).IsWhole := hstage0_3 _

/-- The body at one point. -/
def bodyAt (t : Fin (cfg0 (adm m hm 0)).N) : Prog (TpuEff nD τ sig (Elt F) Λ₀ .tc) PUnit :=
  cc0_moe_experts (F := F) (grid0.coords t) (Memref.whole main_arg4) (Memref.isWhole_whole _) (Memref.whole main_arg5) (Memref.isWhole_whole _) (Memref.whole main_arg6) (Memref.isWhole_whole _) (Memref.whole main_arg0) (Memref.isWhole_whole _)
    (ms_0 m hm t) (hs_0 m hm t) (ms_1 m hm t) (hs_1 m hm t) (ms_2 m hm t) (hs_2 m hm t) (ms_3 m hm t) (hs_3 m hm t)
    (Memref.whole cc0_scratch0) (Memref.isWhole_whole _) cc0_scratch1

theorem defs_row (t : Fin (cfg0 (adm m hm 0)).N) :
    defs₀ (F := F) .tc (cfg0 (adm m hm 0)).body ((cfg0 (adm m hm 0)).bodyArgs t ((cfg0 (adm m hm 0)).slots t)) = bodyAt m hm t := by
  unfold defs₀; rw [Defs.onTc_tc]; rfl

def bodyPre (c : Dev nD) (t : Fin (cfg0 (adm m hm 0)).N) : sProp 𝕄 :=
  iprop((dats m hm 0 c).Φ t.castSucc ∗ (dats m hm 0 c).owesAt () t.castSucc
    ∗ (∃ d, owns (c : Thread nD τ) (ms_0 m hm t) fullShare ((dats m hm 0 c).before 0 t d))
    ∗ (∃ d, owns (c : Thread nD τ) (ms_1 m hm t) fullShare ((dats m hm 0 c).before 1 t d))
    ∗ (∃ d, owns (c : Thread nD τ) (ms_2 m hm t) fullShare ((dats m hm 0 c).before 2 t d))
    ∗ (∃ d, owns (c : Thread nD τ) (ms_3 m hm t) fullShare ((dats m hm 0 c).before 3 t d)))
def bodyPost (c : Dev nD) (t : Fin (cfg0 (adm m hm 0)).N) : sProp 𝕄 :=
  iprop((dats m hm 0 c).Φ t.succ ∗ (dats m hm 0 c).owesAt () t.succ
    ∗ owns (c : Thread nD τ) (ms_0 m hm t) fullShare ((dats m hm 0 c).after 0 t)
    ∗ owns (c : Thread nD τ) (ms_1 m hm t) fullShare ((dats m hm 0 c).after 1 t)
    ∗ owns (c : Thread nD τ) (ms_2 m hm t) fullShare ((dats m hm 0 c).after 2 t)
    ∗ owns (c : Thread nD τ) (ms_3 m hm t) fullShare ((dats m hm 0 c).after 3 t))

theorem point (c : Dev nD) (t : Fin (cfg0 (adm m hm 0)).N) (x5 x6 : Vec F S1x2048x1024 .bf16) (x7 : Vec F S1x1024x2048 .bf16) :
    iprop(slots c (arg m c main_arg0) (arg m c main_arg6) n t.val
        ∗ (count c (arg m c main_arg5) fullShare.right ∗ table c (arg m c main_arg6) fullShare.right)
        ∗ windows c (ms_0 m hm t) (ms_1 m hm t) (ms_2 m hm t) x5 x6 x7 ∗ ∃ d, owns (c : Thread nD τ) (ms_3 m hm t) fullShare d)
      ⊢ wp frame (wpE (defs₀ (F := F)) Variants.none (c : Thread nD τ) none) Set.univ (bodyAt m hm t)
        (fun _ => iprop(slots c (arg m c main_arg0) (arg m c main_arg6) n (t.val + 1)
          ∗ (count c (arg m c main_arg5) fullShare.right ∗ table c (arg m c main_arg6) fullShare.right)
          ∗ windows c (ms_0 m hm t) (ms_1 m hm t) (ms_2 m hm t) x5 x6 x7
          ∗ owns (c : Thread nD τ) (ms_3 m hm t) fullShare (outVal (arg m c main_arg0) (arg m c main_arg6) n t.val x5 x6 x7))) := by
  have h := wp_point (defs1 := defs₀ (F := F)) c (arg m c main_arg0) (arg m c main_arg6) Variants.none none (hm.rt c)
    (ms_0 m hm t) (hs_0 m hm t) (ms_1 m hm t) (hs_1 m hm t) (ms_2 m hm t) (hs_2 m hm t) (ms_3 m hm t) (hs_3 m hm t)
    (Memref.isWhole_whole _) (Memref.isWhole_whole _) (Memref.isWhole_whole _) (Memref.isWhole_whole _) (Memref.isWhole_whole _)
    fullShare.right (grid0.coords t) (arg m c main_arg5) n (hm.nu c) hm.pos hm.le x5 x6 x7
  rw [coord t] at h
  exact h

theorem sound_body (c : Dev nD) (t : Fin (cfg0 (adm m hm 0)).N) :
    bodyPre m hm c t ⊢ wp frame (wpE (defs₀ (F := F)) Variants.none (c : Thread nD τ) none) Set.univ (bodyAt m hm t) (fun _ => bodyPost m hm c t) := by
  unfold bodyPre bodyPost
  simp only [before_0, before_1, before_2]
  rw [after_0, after_1, after_2, after_3]
  rw [show (dats m hm 0 c).Φ t.succ = inv c (arg m c main_arg0) (arg m c main_arg6) (arg m c main_arg4) (arg m c main_arg5) n (t.val + 1) from rfl,
    show (dats m hm 0 c).Φ t.castSucc = inv c (arg m c main_arg0) (arg m c main_arg6) (arg m c main_arg4) (arg m c main_arg5) n t.val from rfl]
  unfold Dat.owesAt Pipeline.owesWithin
  rw [show (dats m hm 0 c).owed t.castSucc = 0 from rfl, show (dats m hm 0 c).owed t.succ = 0 from rfl]
  unfold inv tables
  iintro ⟨⟨HS, ⟨Hte, Htab⟩, Hx, Hg⟩, ⟨%W, -, HW⟩, ⟨%d0, H0⟩, ⟨%d1, H1⟩, ⟨%d2, H2⟩, ⟨%d3, H3⟩⟩
  iapply (wp_wand_r _ _ _)
  isplitl [HS Htab HW H0 H1 H2 H3]
  · iapply (point m hm c t (held m hm c 0 t) (held m hm c 1 t) (held m hm c 2 t))
    isplitl [HS]; · iexact HS
    isplitl [Htab]; · iexact Htab
    unfold windows
    isplitl [HW H0 H1 H2]
    · isplitl [HW]; · iexists W; iexact HW
      isplitl [H0]; · iexact H0
      isplitl [H1]; · iexact H1
      iexact H2
    iexists _; iexact H3
  · unfold windows
    iintro %_ ⟨HS, Htab, ⟨⟨%W', HW⟩, H0, H1, H2⟩, H3⟩
    isplitl [HS Htab Hte Hx Hg]
    · isplitl [HS]; · iexact HS
      isplitl [Hte Htab]
      · isplitl [Hte]; · iexact Hte
        iexact Htab
      isplitl [Hx]; · iexact Hx
      iexact Hg
    isplitl [HW]
    · iexists W'; isplitr; · ipureintro; exact fun _ _ => Or.inl trivial
      iexact HW
    isplitl [H0]; · iexact H0
    isplitl [H1]; · iexact H1
    isplitl [H2]; · iexact H2
    iexact H3

/-- What a window's buffer is left at, when its window is never idle. -/
theorem leaves_of_live (b f : Bool) (P Q R : sProp 𝕄) : b = false →
    (R ⊢ (match b with
      | true => match f with
        | false => P
        | true => Q
      | false => R)) := by
  intro hb; subst hb; exact .rfl

theorem body_obligation (c : Dev nD) : BodyObligation (dats (F := F) m hm 0 c) (defs₀ (F := F)) Variants.none () Set.univ := fun t => by
  rw [defs_row]
  refine BIBase.Entails.trans (Q := bodyPre m hm c t) ?_ (BIBase.Entails.trans (sound_body m hm c t) (wp_mono _ _ _ fun _ => ?_))
  · rw [bigSep_W0]; exact .rfl
  · rw [bigSep_W0]
    unfold bodyPost
    refine BIClass.sep_mono .rfl (BIClass.sep_mono .rfl (BIClass.sep_mono .rfl (BIClass.sep_mono .rfl (BIClass.sep_mono .rfl ?_))))
    exact leaves_of_live _ _ _ _ _ (idle_3 m hm (grid0.coords t))

/-! ## The run -/

theorem tables_eq (c : Dev nD) (te : S145.Idx → BitVec 32) (nu : S1.Idx → BitVec 32) (rt : S37120.Idx → BitVec 32) (v : pre0.Contents (Elt F))
    (h0 : v 0 = te) (h1 : v 1 = nu) (h2 : v 2 = rt) : (Pipeline.ΦT pre0 v c : sProp 𝕄) = tables c rt te nu := by
  subst h0 h1 h2
  unfold Pipeline.ΦT Pipeline.prefHeld tables
  rw [bigSep_univ_eq_bigSepL [(0 : Fin 3), (1 : Fin 3), (2 : Fin 3)] (by decide) (by decide)]
  rfl

theorem held_arg0 (c : Dev nD) :
    (bigSep H0 (fun b => ((c : Thread nD τ).loc b) ↦{fullShare} V m c b) : sProp 𝕄)
      = ((Memref.whole main_arg0 : Memref sig .tc .hbm S16512x2048 .f32).view.loc (c : Thread nD τ) ↦[Finset.univ]{fullShare} arg m c main_arg0) := by
  rw [BI.bigSep_eq_bigSepL_of_eq [main_arg0] (by decide) (by decide)]; rfl

theorem rest_eq (c : Dev nD) (f : S16512x2048.Idx → Elt F .f32) :
    (iprop((∃ f : Buf (Elt F) ((c : Thread nD τ).loc cc0_scratch0), ((c : Thread nD τ).loc cc0_scratch0) ↦{fullShare} f)
      ∗ (semVal ((c : Thread nD τ), SemLoc.dma (8 : DmaSem sig)) 0 ∗ semVal ((c : Thread nD τ), SemLoc.dma (9 : DmaSem sig)) 0)
      ∗ ((Memref.whole main_arg0 : Memref sig .tc .hbm S16512x2048 .f32).view.loc (c : Thread nD τ) ↦[Finset.univ]{fullShare} f)) : sProp 𝕄) = rest c f := rfl

theorem phi_in (c : Dev nD) :
    (iprop(Pipeline.ΦD osem0 spec0 H0 (V m) c ∗ Pipeline.ΦT pre0 (pf m) c) : sProp 𝕄) ⊢ (dats m hm 0 c).Φ 0 := by
  refine BIBase.Entails.trans ?_ (inv_start c (arg m c main_arg0) (arg m c main_arg6) (arg m c main_arg4) (arg m c main_arg5) n)
  obtain rfl : c = 0 := Subsingleton.elim c 0
  rw [Pipeline.ΦD_eq, scopedRest0_eq, ownSems0_eq, held_arg0, tables_eq 0 (arg m 0 main_arg4) (arg m 0 main_arg5) (arg m 0 main_arg6) (pf m) rfl rfl rfl,
    ← rest_eq]
  iintro ⟨⟨Hs, Hg, Hq, Hx⟩, Ht⟩
  isplitl [Hs Hq Hx]
  · isplitl [Hs]; · iexact Hs
    isplitl [Hq]; · iexact Hq
    iexact Hx
  isplitl [Ht]; · iexact Ht
  iexact Hg

theorem phi_out (c : Dev nD) :
    (dats m hm 0 c).Φ (Fin.last (cfg0 (adm m hm 0)).N) ⊢ (Pipeline.ΦD osem0 spec0 H0 (V m) c : sProp 𝕄) := by
  have e : (dats m hm 0 c).Φ (Fin.last (cfg0 (adm m hm 0)).N)
      = inv c (arg m c main_arg0) (arg m c main_arg6) (arg m c main_arg4) (arg m c main_arg5) n 145 :=
    congrArg (inv c (arg m c main_arg0) (arg m c main_arg6) (arg m c main_arg4) (arg m c main_arg5) n) N_0
  rw [e]
  refine BIBase.Entails.trans (inv_end c (arg m c main_arg0) (arg m c main_arg6) (arg m c main_arg4) (arg m c main_arg5) n hm.le) ?_
  rw [Pipeline.ΦD_eq, scopedRest0_eq, ownSems0_eq, held_arg0, ← rest_eq]
  iintro ⟨⟨Hs, Hq, Hx⟩, Hg⟩
  isplitl [Hs]; · iexact Hs
  isplitl [Hg]; · iexact Hg
  isplitl [Hq]; · iexact Hq
  iexact Hx

theorem hmain : Pipeline.HMainP (Ix := Unit) (Name := ℕ) (U := Pipeline.UD sig nD τ) (Lvl := ℕ) (pcfgs (F := F)) 0 defs₀ Variants.none m main (V m) :=
  Pipeline.hmainP_prefix (pcfgs (F := F)) 0 defs₀ Variants.none m main hostOps0 hostOps0_sub ⟨rfl, rfl, rfl⟩ main_chain

set_option backward.isDefEq.respectTransparency.types false in
theorem run_main : θ_run defs (onTc (τ := τ) (main (F := F))) (s₀ m g)
    (fun r => Pipeline.FramePost (Pipeline.pin (pcfgs (F := F)) (adm m hm)) (dats m hm) 0 (V m) r ∧ r.2.sem = fun _ => 0) :=
  Pipeline.θ_run_frameP_dma (Q' := _) (pcfgs (F := F)) (adm m hm) (dats m hm) (0 : Fin 1) launch0 osem0 defs₀ Variants.none ownSemFacts0 H0 H0_sub m g main
    (hbody := fun c => (body_obligation m hm c).loose) (hshare := fun c => (dats m hm 0 c).share_full fun _ => rfl)
    (howed := fun _ _ => rfl) (V := V m) (hmain := hmain m) (hA := A_eq m hm)
    (hpf := fun c k => by obtain rfl : c = 0 := Subsingleton.elim c 0; fin_cases k <;> rfl)
    (hin := phi_in m hm) (hout := phi_out m hm)

end Cert.Proof

end
-- ==== Proof.Value.lean ====
module

public import proofs.«01_k».proof.Proof.Launch
public import Idealize.ShloMosaic.Lib.Pipeline.Value

/-! # What the kernel leaves

Row `r` of the result is row `r % 256` of what the point of tile `r / 256` computes, from the tokens
the routing table names and from the weights of the tile's expert. -/

@[expose] public section

set_option maxRecDepth 16384

noncomputable section

namespace Cert.Proof

open Idealize.ShloMosaic Idealize.ShloMosaic.TcCoe Idealize.ShloMosaic.Tactic
open Idealize.SL Idealize.SL.RA Idealize.SL.BI Idealize.SL.Sem
open Idealize.ShloMosaic.ValueIdx
open Idealize.ShloMosaic.Pipeline (Dat Cfg Window BodyObligation cellOf)
open Cert.KernelIdeal Cert.KernelIdeal.Gen

/-! ## What a window that is only read holds -/

theorem heldIn_eq {sig : RefSig} {Λ : Labels} {cfg : Cfg sig Λ} {nD : ℕ} {τ : Topo} {Val : EltTy → Type} [∀ e, Nonempty (Val e)] {c : Dev nD}
    (A : (w : Fin cfg.W) → Buf Val ((cfg.win w).arr.view.loc (c.tc : Thread nD τ))) (w : Fin cfg.W) (hw : (cfg.win w).isOut = false)
    (B : Fin cfg.N → (cfg.win w).block.Idx → Val (cfg.win w).elt)
    (hB : ∀ t, (cfg.win w).fill (cfg.grid.coords t) (fun _ => Classical.arbitrary _) (((cfg.win w).blk t).view.read Val (A w)) = B t)
    (hc : ∀ t t', (cfg.win w).index t = (cfg.win w).index t' → B t = B t') (t : Fin cfg.N) :
    Pipeline.heldIn cfg A w t.val t.isLt = B t := by
  obtain ⟨k, hk⟩ := t
  induction k with
  | zero => exact hB ⟨0, hk⟩
  | succ k ih =>
    by_cases hf : (cfg.win w).fetch ⟨k + 1, hk⟩ = true
    · rw [Pipeline.heldIn_of_fetch A w ⟨k + 1, hk⟩ hf]; exact hB _
    · have hf' := Bool.eq_false_iff.mpr hf
      show Pipeline.heldIn cfg A w (k + 1) hk = _
      rw [Pipeline.heldIn_of_not_fetch A w k hk hf', ih (Nat.lt_of_succ_lt hk)]
      refine (hc _ _ ?_).symm
      by_contra hne
      exact hf (((cfg.win w).fetch_in hw _).2 (.inr ⟨Nat.succ_pos k, hne⟩))

variable {F : FTy → Type} [FloatOps F]
variable (m : (ℓ : Loc nD τ sig) → Buf (Elt F) ℓ) (g : Dev nD → PrngReg)
variable {n : ℕ} (hm : Good m n)

/-- Expert `e` of a weight array, as a block. -/
def expertG (w : S16x2048x1024.Idx → Elt F .bf16) (e : ℕ) : Vec F S1x2048x1024 .bf16 :=
  fun y => w (ix3 (⟨e % 16, Nat.mod_lt _ (by decide)⟩ : Fin 16) (y 1) (y 2))
def expertD (w : S16x1024x2048.Idx → Elt F .bf16) (e : ℕ) : Vec F S1x1024x2048 .bf16 :=
  fun y => w (ix3 (⟨e % 16, Nat.mod_lt _ (by decide)⟩ : Fin 16) (y 1) (y 2))

/-- The expert of tile `p`. -/
def expert (p : ℕ) : ℕ := (show BitVec 32 from arg m 0 main_arg4 (ix1 (⟨p % 145, Nat.mod_lt _ (by decide)⟩ : Fin 145))).toNat

theorem ex_coords (t : Fin grid0.N) : (ex m (grid0.coords t)).toNat = expert m t.val := by
  have h : t.val < 145 := N_0 ▸ t.isLt
  unfold ex expert tile
  congr 3
  apply Fin.ext
  show (grid0.coords t 0).val = t.val % 145
  rw [coord, Nat.mod_eq_of_lt h]

include hm in
theorem expert_lt (p : ℕ) : expert m p < 16 := hm.te 0 _

theorem held_0 (c : Dev nD) (t : Fin (cfg0 (adm m hm 0)).N) : held m hm c 0 t = expertG (V m c main_v0) (expert m t.val) := by
  have key : ∀ t : Fin grid0.N, cc0_transform_1 k0_off1_inb numel1_S1 (pf m) (grid0.coords t) = ![expert m t.val, 0, 0] := fun t => by
    have hx := ix_1 m (grid0.coords t)
    rw [ex_coords] at hx
    exact hx
  refine heldIn_eq (cfg := cfg0 (adm m hm 0)) (A0 m hm c) 0 rfl (fun t => expertG (V m c main_v0) (expert m t.val)) (fun t => ?_) (fun t t' h => ?_) t
  · refine funext fun (y : S1x2048x1024.Idx) => ?_
    have hlt := expert_lt m hm t.val
    have hmv : ((cfg0 (adm m hm 0)).win 0).moved (grid0.coords t) y = true :=
      (((cfg0 (adm m hm 0)).win 0).moved_iff _ y).mpr fun a => (y a).isLt
    refine (show _ = V m c main_v0 ((((cfg0 (adm m hm 0)).win 0).rect t).emb y) from ?_).trans (congrArg (V m c main_v0) ?_)
    · unfold Window.fill
      rw [dif_pos hmv]
      rfl
    · have h0 : (y 0).val < 1 := (y 0).isLt
      have e0 : cc0_transform_1 k0_off1_inb numel1_S1 (pf m) (grid0.coords t) 0 = expert m t.val := congrFun (key t) 0
      have e1 : cc0_transform_1 k0_off1_inb numel1_S1 (pf m) (grid0.coords t) 1 = 0 := congrFun (key t) 1
      have e2 : cc0_transform_1 k0_off1_inb numel1_S1 (pf m) (grid0.coords t) 2 = 0 := congrFun (key t) 2
      funext a
      fin_cases a
      · apply Fin.ext
        show cc0_transform_1 k0_off1_inb numel1_S1 (pf m) (grid0.coords t) 0 * 1 + 1 * (y 0).val = expert m t.val % 16
        rw [e0, Nat.mod_eq_of_lt hlt]; omega
      · apply Fin.ext
        show cc0_transform_1 k0_off1_inb numel1_S1 (pf m) (grid0.coords t) 1 * 2048 + 1 * (y 1).val = (y 1).val
        rw [e1]; omega
      · apply Fin.ext
        show cc0_transform_1 k0_off1_inb numel1_S1 (pf m) (grid0.coords t) 2 * 1024 + 1 * (y 2).val = (y 2).val
        rw [e2]; omega
  · have h' : cc0_transform_1 k0_off1_inb numel1_S1 (pf m) (grid0.coords t) = cc0_transform_1 k0_off1_inb numel1_S1 (pf m) (grid0.coords t') := h
    rw [key, key] at h'
    exact congrArg (expertG (V m c main_v0)) (congrFun h' 0)

theorem held_1 (c : Dev nD) (t : Fin (cfg0 (adm m hm 0)).N) : held m hm c 1 t = expertG (V m c main_v1) (expert m t.val) := by
  have key : ∀ t : Fin grid0.N, cc0_transform_2 k0_off1_inb numel1_S1 (pf m) (grid0.coords t) = ![expert m t.val, 0, 0] := fun t => by
    have hx := ix_2 m (grid0.coords t)
    rw [ex_coords] at hx
    exact hx
  refine heldIn_eq (cfg := cfg0 (adm m hm 0)) (A0 m hm c) 1 rfl (fun t => expertG (V m c main_v1) (expert m t.val)) (fun t => ?_) (fun t t' h => ?_) t
  · refine funext fun (y : S1x2048x1024.Idx) => ?_
    have hlt := expert_lt m hm t.val
    have hmv : ((cfg0 (adm m hm 0)).win 1).moved (grid0.coords t) y = true :=
      (((cfg0 (adm m hm 0)).win 1).moved_iff _ y).mpr fun a => (y a).isLt
    refine (show _ = V m c main_v1 ((((cfg0 (adm m hm 0)).win 1).rect t).emb y) from ?_).trans (congrArg (V m c main_v1) ?_)
    · unfold Window.fill
      rw [dif_pos hmv]
      rfl
    · have h0 : (y 0).val < 1 := (y 0).isLt
      have e0 : cc0_transform_2 k0_off1_inb numel1_S1 (pf m) (grid0.coords t) 0 = expert m t.val := congrFun (key t) 0
      have e1 : cc0_transform_2 k0_off1_inb numel1_S1 (pf m) (grid0.coords t) 1 = 0 := congrFun (key t) 1
      have e2 : cc0_transform_2 k0_off1_inb numel1_S1 (pf m) (grid0.coords t) 2 = 0 := congrFun (key t) 2
      funext a
      fin_cases a
      · apply Fin.ext
        show cc0_transform_2 k0_off1_inb numel1_S1 (pf m) (grid0.coords t) 0 * 1 + 1 * (y 0).val = expert m t.val % 16
        rw [e0, Nat.mod_eq_of_lt hlt]; omega
      · apply Fin.ext
        show cc0_transform_2 k0_off1_inb numel1_S1 (pf m) (grid0.coords t) 1 * 2048 + 1 * (y 1).val = (y 1).val
        rw [e1]; omega
      · apply Fin.ext
        show cc0_transform_2 k0_off1_inb numel1_S1 (pf m) (grid0.coords t) 2 * 1024 + 1 * (y 2).val = (y 2).val
        rw [e2]; omega
  · have h' : cc0_transform_2 k0_off1_inb numel1_S1 (pf m) (grid0.coords t) = cc0_transform_2 k0_off1_inb numel1_S1 (pf m) (grid0.coords t') := h
    rw [key, key] at h'
    exact congrArg (expertG (V m c main_v1)) (congrFun h' 0)

theorem held_2 (c : Dev nD) (t : Fin (cfg0 (adm m hm 0)).N) : held m hm c 2 t = expertD (V m c main_v2) (expert m t.val) := by
  have key : ∀ t : Fin grid0.N, cc0_transform_3 k0_off1_inb numel1_S1 (pf m) (grid0.coords t) = ![expert m t.val, 0, 0] := fun t => by
    have hx := ix_3 m (grid0.coords t)
    rw [ex_coords] at hx
    exact hx
  refine heldIn_eq (cfg := cfg0 (adm m hm 0)) (A0 m hm c) 2 rfl (fun t => expertD (V m c main_v2) (expert m t.val)) (fun t => ?_) (fun t t' h => ?_) t
  · refine funext fun (y : S1x1024x2048.Idx) => ?_
    have hlt := expert_lt m hm t.val
    have hmv : ((cfg0 (adm m hm 0)).win 2).moved (grid0.coords t) y = true :=
      (((cfg0 (adm m hm 0)).win 2).moved_iff _ y).mpr fun a => (y a).isLt
    refine (show _ = V m c main_v2 ((((cfg0 (adm m hm 0)).win 2).rect t).emb y) from ?_).trans (congrArg (V m c main_v2) ?_)
    · unfold Window.fill
      rw [dif_pos hmv]
      rfl
    · have h0 : (y 0).val < 1 := (y 0).isLt
      have e0 : cc0_transform_3 k0_off1_inb numel1_S1 (pf m) (grid0.coords t) 0 = expert m t.val := congrFun (key t) 0
      have e1 : cc0_transform_3 k0_off1_inb numel1_S1 (pf m) (grid0.coords t) 1 = 0 := congrFun (key t) 1
      have e2 : cc0_transform_3 k0_off1_inb numel1_S1 (pf m) (grid0.coords t) 2 = 0 := congrFun (key t) 2
      funext a
      fin_cases a
      · apply Fin.ext
        show cc0_transform_3 k0_off1_inb numel1_S1 (pf m) (grid0.coords t) 0 * 1 + 1 * (y 0).val = expert m t.val % 16
        rw [e0, Nat.mod_eq_of_lt hlt]; omega
      · apply Fin.ext
        show cc0_transform_3 k0_off1_inb numel1_S1 (pf m) (grid0.coords t) 1 * 1024 + 1 * (y 1).val = (y 1).val
        rw [e1]; omega
      · apply Fin.ext
        show cc0_transform_3 k0_off1_inb numel1_S1 (pf m) (grid0.coords t) 2 * 2048 + 1 * (y 2).val = (y 2).val
        rw [e2]; omega
  · have h' : cc0_transform_3 k0_off1_inb numel1_S1 (pf m) (grid0.coords t) = cc0_transform_3 k0_off1_inb numel1_S1 (pf m) (grid0.coords t') := h
    rw [key, key] at h'
    exact congrArg (expertD (V m c main_v2)) (congrFun h' 0)

/-! ## The result -/

/-- What the point of tile `p` leaves. -/
def tileOut (c : Dev nD) (n p : ℕ) : Vec F S256x2048 .f32 :=
  outVal (arg m c main_arg0) (arg m c main_arg6) n p (expertG (V m c main_v0) (expert m p)) (expertG (V m c main_v1) (expert m p))
    (expertD (V m c main_v2) (expert m p))

theorem out_eq (c : Dev nD) (t : Fin (cfg0 (adm m hm 0)).N) : out m hm c t = tileOut m c n t.val := by
  unfold out tileOut
  rw [held_0, held_1, held_2]

/-- The result array. -/
def result (c : Dev nD) (n : ℕ) : S37120x2048.Idx → Elt F .f32 := fun y =>
  tileOut m c n ((y 0).val / 256) (ix2 (⟨(y 0).val % 256, Nat.mod_lt _ (by decide)⟩ : Fin 256) (y 1))

theorem ix_4 : ∀ i : grid0.Coords, cc0_transform_4 i = ![(i 0).val, 0] := by decide +kernel

/-- Where element `y` of point `t`'s block lies in the result. -/
def place (t : Fin grid0.N) (y : S256x2048.Idx) : S37120x2048.Idx := (((cfg0 (adm m hm 0)).win 3).rect t).emb y

theorem place_val (t : Fin grid0.N) (y : S256x2048.Idx) (a : Fin 2) :
    (place m hm t y a).val = ((![t.val, 0] : Fin 2 → ℕ) a) * S256x2048.size a + (y a).val := by
  have e : cc0_transform_4 (grid0.coords t) = ![t.val, 0] := by rw [ix_4, coord]
  rw [← e]
  show cc0_transform_4 (grid0.coords t) a * S256x2048.size a + 1 * (y a).val = _
  rw [Nat.one_mul]

theorem mem_place (t : Fin (cfg0 (adm m hm 0)).N) (y : S256x2048.Idx) (i : S37120x2048.Idx) (h : i = place m hm t y) :
    i ∈ (((cfg0 (adm m hm 0)).win 3).blk t).view.set := by
  subst h
  exact View.emb_mem_set (((cfg0 (adm m hm 0)).win 3).blk t).view y

theorem covered (i : S37120x2048.Idx) : ∃ t : Fin (cfg0 (adm m hm 0)).N, ((cfg0 (adm m hm 0)).win 3).flush t = true ∧ i ∈ (((cfg0 (adm m hm 0)).win 3).blk t).view.set := by
  have hi : (i 0).val < 37120 := (i 0).isLt
  have ht : (i 0).val / 256 < grid0.N := by rw [N_0]; omega
  refine ⟨⟨(i 0).val / 256, ht⟩, ?_, ?_⟩
  · refine (((cfg0 (adm m hm 0)).win 3).flush_out rfl _).2 ?_
    by_cases hl : (i 0).val / 256 + 1 = grid0.N
    · exact .inl hl
    · refine .inr ⟨by show (i 0).val / 256 + 1 < grid0.N; omega, fun h => ?_⟩
      have h1 : (i 0).val / 256 + 1 < grid0.N := by omega
      have h' : cc0_transform_4 (grid0.coords ⟨(i 0).val / 256 + 1, h1⟩) = cc0_transform_4 (grid0.coords ⟨(i 0).val / 256, ht⟩) := h
      rw [ix_4, ix_4, coord, coord] at h'
      have h'' : (i 0).val / 256 + 1 = (i 0).val / 256 := congrFun h' 0
      omega
  · refine mem_place m hm _ (ix2 (⟨(i 0).val % 256, Nat.mod_lt _ (by decide)⟩ : Fin 256) (i 1)) i ?_
    funext a
    fin_cases a
    · apply Fin.ext
      refine Eq.trans ?_ (place_val m hm ⟨(i 0).val / 256, ht⟩ _ 0).symm
      show (i 0).val = (i 0).val / 256 * 256 + (i 0).val % 256
      omega
    · apply Fin.ext
      refine Eq.trans ?_ (place_val m hm ⟨(i 0).val / 256, ht⟩ _ 1).symm
      show (i 1).val = 0 * 2048 + (i 1).val
      omega

theorem array_3 (c : Dev nD) : (dats m hm 0 c).arrAt 3 (cfg0 (adm m hm 0)).N = result m c n := by
  refine (dats m hm 0 c).arrAt_eq_of_cover 3 (result m c n) (fun t hf => ?_) (fun i => covered m hm i)
  · refine funext fun (y : S256x2048.Idx) => ?_
    refine (show _ = out m hm c t y from rfl).trans ?_
    rw [out_eq]
    refine (show _ = result m c n (place m hm t y) from ?_)
    have h0 : (place m hm t y 0).val = t.val * 256 + (y 0).val := place_val m hm t y 0
    have h1 : (place m hm t y 1).val = 0 * 2048 + (y 1).val := place_val m hm t y 1
    have hy : (y 0).val < 256 := (y 0).isLt
    have e0 : (place m hm t y 0).val / 256 = t.val := by rw [h0]; omega
    have e1 : (ix2 (⟨(place m hm t y 0).val % 256, Nat.mod_lt _ (by decide)⟩ : Fin 256) (place m hm t y 1) : S256x2048.Idx) = y := by
      funext a
      fin_cases a
      · apply Fin.ext
        show (place m hm t y 0).val % 256 = (y 0).val
        rw [h0]; omega
      · apply Fin.ext
        show (place m hm t y 1).val = (y 1).val
        rw [h1]; omega
    unfold result
    rw [e0, e1]

/-! ## The two claims of the kernel, at any reading of the floats -/

theorem rest_mem (r : PUnit × MemSt nD τ sig (Elt F)) (h : Pipeline.FramePost (Pipeline.pin (pcfgs (F := F)) (adm m hm)) (dats m hm) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c).2 main_arg0 (show main_arg0 ∈ Pipeline.restRefs sig spec0 from Pipeline.mem_restRefs_of main_arg0 (by decide) (by decide)),
    (h c).2 main_arg1 (show main_arg1 ∈ Pipeline.restRefs sig spec0 from Pipeline.mem_restRefs_of main_arg1 (by decide) (by decide)),
    (h c).2 main_arg2 (show main_arg2 ∈ Pipeline.restRefs sig spec0 from Pipeline.mem_restRefs_of main_arg2 (by decide) (by decide)),
    (h c).2 main_arg3 (show main_arg3 ∈ Pipeline.restRefs sig spec0 from Pipeline.mem_restRefs_of main_arg3 (by decide) (by decide)),
    (h c).2 main_arg4 (show main_arg4 ∈ Pipeline.restRefs sig spec0 from Pipeline.mem_restRefs_of main_arg4 (by decide) (by decide)),
    (h c).2 main_arg5 (show main_arg5 ∈ Pipeline.restRefs sig spec0 from Pipeline.mem_restRefs_of main_arg5 (by decide) (by decide)),
    (h c).2 main_arg6 (show main_arg6 ∈ Pipeline.restRefs sig spec0 from Pipeline.mem_restRefs_of main_arg6 (by decide) (by decide))⟩

include hm in
theorem run_kernel : θ_run defs (onTc (τ := τ) (main (F := F))) ⟨m, fun _ => 0, g⟩ (fun r =>
    (∀ c : Dev nD, r.2.mem ((c.tc : Thread nD τ).loc main_v3) = result m c n
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs (onTc (τ := τ) (main (F := F))) ⟨m, fun _ => 0, g⟩).mono
    (fun r h => ⟨fun c => ⟨((h.1 c).1 3).trans (array_3 m hm c), rest_mem m hm r h.1 c⟩, h.2⟩) (run_main m g hm)

end Cert.Proof

end
-- ==== Proof.Same.lean ====
module

public import proofs.«01_k».proof.Defs
public import proofs.«01_k».proof.Proof.Gen.Kernel
public import proofs.«01_k».proof.Proof.Gen.KernelIdeal
public import Idealize.ShloMosaic.Lib.Pipeline.Regions

@[expose] public section

set_option maxRecDepth 16384

noncomputable section
namespace Cert.Proof
open Idealize.ShloMosaic Idealize.SL.Sem

variable {F : FTy → Type} [FloatOps F]

/-!
  The kernel program and the idealized kernel program are one text: their definitions are equal at any float values,
  so what is proved of one at bits holds of the other.
-/

/-- The kernel's body. -/
theorem e_body : @Cert.Kernel.cc0_moe_experts F _ Cert.Kernel.Gen.facts = @Cert.KernelIdeal.cc0_moe_experts F _ Cert.KernelIdeal.Gen.facts := rfl
/-- The table of bodies. -/
theorem e_defs0 : @Cert.Kernel.defs₀ F _ Cert.Kernel.Gen.facts = @Cert.KernelIdeal.defs₀ F _ Cert.KernelIdeal.Gen.facts := by
  unfold Cert.Kernel.defs₀ Cert.KernelIdeal.defs₀
  refine congrArg _ ?_
  funext l x
  match l, x with
  | 0, (t, slots) => rfl
/-- The pipeline's configuration. -/
theorem e_pcfg : @Cert.Kernel.pcfgs F _ Cert.Kernel.Gen.facts = @Cert.KernelIdeal.pcfgs F _ Cert.KernelIdeal.Gen.facts := rfl
/-- The procedures. -/
theorem e_defs : @Cert.Kernel.defs F _ Cert.Kernel.Gen.facts = @Cert.KernelIdeal.defs F _ Cert.KernelIdeal.Gen.facts :=
  congrArg (Pipeline.defs (@Cert.Kernel.pcfgs F _ Cert.Kernel.Gen.facts)) e_defs0
/-- The program. -/
theorem e_main : @Cert.Kernel.main F _ Cert.Kernel.Gen.facts = @Cert.KernelIdeal.main F _ Cert.KernelIdeal.Gen.facts := rfl

end Cert.Proof
-- ==== Proof.Pre.lean ====
module

public import proofs.«01_k».proof.Proof.Value
public import proofs.«01_k».proof.Proof.Same
public import proofs.«01_k».proof.Proof.Gen.Pre_ranges
public import Idealize.ShloMosaic.Lib.ReduceAll

/-!
  From the precondition to what the proof uses of the tables: every comparison of `ranges` read back at each
  word. Then the frames of the two kernel programs.
-/

@[expose] public section

set_option maxRecDepth 16384

noncomputable section
namespace Cert.Proof
open Idealize.ShloMosaic Idealize.ShloMosaic.TcCoe Idealize.SL.Sem Idealize.ShloMosaic.ValueIdx

variable {F : FTy → Type} [FloatOps F]

local instance : Subsingleton Cert.Pre_ranges.S_.Idx := ⟨fun a b => funext fun i => i.elim0⟩

/-- The six ranges that the printed predicate checks, word by word. -/
theorem ranges_words (a0 : FVec F Cert.Pre_ranges.S16512x2048 .f32) (a1 a2 : FVec F Cert.Pre_ranges.S16x2048x1024 .f32)
    (a3 : FVec F Cert.Pre_ranges.S16x1024x2048 .f32) (te : IVec Cert.Pre_ranges.S145 32) (nu : IVec Cert.Pre_ranges.S1 32)
    (rt : IVec Cert.Pre_ranges.S37120 32) (h : Cert.Pre_ranges.fn (F := F) a0 a1 a2 a3 te nu rt = fun _ => 1#1) :
    (∀ x, 0 ≤ (te x).toInt ∧ (te x).toInt < 16) ∧ (∀ x, 1 ≤ (nu x).toInt ∧ (nu x).toInt ≤ 145)
      ∧ (∀ x, 0 ≤ (rt x).toInt ∧ (rt x).toInt < 16512) := by
  have h0 := congrFun h (fun i => i.elim0)
  simp only [Cert.Pre_ranges.fn, Cert.Pre_ranges.fn_part1, andi, IntOp.andi_eq_one] at h0
  obtain ⟨⟨⟨⟨⟨h1, h2⟩, h3⟩, h4⟩, h5⟩, h6⟩ := h0
  refine ⟨fun x => ⟨?_, ?_⟩, fun x => ⟨?_, ?_⟩, fun x => ⟨?_, ?_⟩⟩
  · exact IntOp.cmpi_sge.1 (show IntOp.cmpi .sge (te x) 0#32 = 1#1 from Host.reduce_andi_all _ _ _ _ _ h1 x)
  · exact IntOp.cmpi_slt.1 (show IntOp.cmpi .slt (te x) 16#32 = 1#1 from Host.reduce_andi_all _ _ _ _ _ h2 x)
  · exact IntOp.cmpi_sge.1 (show IntOp.cmpi .sge (nu x) 1#32 = 1#1 from Host.reduce_andi_all _ _ _ _ _ h3 x)
  · exact IntOp.cmpi_sle.1 (show IntOp.cmpi .sle (nu x) 145#32 = 1#1 from Host.reduce_andi_all _ _ _ _ _ h4 x)
  · exact IntOp.cmpi_sge.1 (show IntOp.cmpi .sge (rt x) 0#32 = 1#1 from Host.reduce_andi_all _ _ _ _ _ h5 x)
  · exact IntOp.cmpi_slt.1 (show IntOp.cmpi .slt (rt x) 16512#32 = 1#1 from Host.reduce_andi_all _ _ _ _ _ h6 x)

/-- A signed word from zero below a bound, read without sign. -/
theorem toNat_lt_of_toInt {w : BitVec 32} {b : ℕ} (h : 0 ≤ w.toInt ∧ w.toInt < b) : w.toNat < b := by
  have := BitVec.toInt_eq_toNat_cond w
  have := w.isLt
  split at * <;> omega

open Cert.KernelIdeal in
/-- The precondition makes the tables good, with the number of used tiles the one word of `n_used`. -/
theorem good_of_ranges (m : (ℓ : Loc nD τ sig) → Buf (Elt F) ℓ)
    (h : ∀ c : Dev nD, Cert.Pre_ranges.fn (F := F) (arg m c main_arg0) (arg m c main_arg1) (arg m c main_arg2) (arg m c main_arg3)
      (arg m c main_arg4) (arg m c main_arg5) (arg m c main_arg6) = fun _ => 1#1) : ∃ n, Good m n := by
  refine ⟨(show BitVec 32 from arg m 0 main_arg5 (ix1 (0 : Fin 1))).toInt.toNat, ?_⟩
  have k := fun c => ranges_words _ _ _ _ _ _ _ (h c)
  have hn := (k 0).2.1 (ix1 (0 : Fin 1))
  refine ⟨fun c x => toNat_lt_of_toInt ((k c).1 x), fun c x => ?_, ?_, ?_, fun c x => toNat_lt_of_toInt ((k c).2.2 x)⟩
  · obtain rfl : c = 0 := Subsingleton.elim _ _
    obtain rfl : x = ix1 (0 : Fin 1) := by
      funext a; fin_cases a; exact Subsingleton.elim (α := Fin 1) _ _
    exact (Int.toNat_of_nonneg (le_trans (by decide) hn.1)).symm
  · exact Int.pos_iff_toNat_pos.1 (lt_of_lt_of_le (by decide) hn.1)
  · exact Int.toNat_le.2 hn.2

section
open Cert.KernelIdeal

/-- The idealized kernel's frame, at any float values. -/
theorem frame_any (m : (ℓ : Loc nD τ sig) → Buf (Elt F) ℓ) (g : Dev nD → PrngReg)
    (h : ∀ c : Dev nD, Cert.Pre_ranges.fn (F := F) (arg m c main_arg0) (arg m c main_arg1) (arg m c main_arg2) (arg m c main_arg3)
      (arg m c main_arg4) (arg m c main_arg5) (arg m c main_arg6) = fun _ => 1#1) :
    θ_run (@defs F _ Gen.facts) (onTc (τ := τ) (@main F _ Gen.facts)) ⟨m, fun _ => 0, g⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  obtain ⟨n, hm⟩ := good_of_ranges m h
  exact (θ_run _ _ _).mono (fun _ r => ⟨fun c => (r.1 c).2, r.2⟩) (run_kernel m g hm)

end

open Cert.Kernel in
/-- The kernel's frame at bits: the two programs are one text. -/
theorem frame_bits (m : (ℓ : Loc nD τ sig) → Buf (Elt Bits) ℓ) (g : Dev nD → PrngReg) (h : Cert.Pre_Kernel m) :
    θ_run (@defs Bits _ Gen.facts) (onTc (τ := τ) (@main Bits _ Gen.facts)) ⟨m, fun _ => 0, g⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [e_defs, e_main]
  exact frame_any (F := Bits) m g h

end Cert.Proof

end
-- ==== Proof.Ref.lean ====
module

public import proofs.«01_k».proof.Proof.Gen.ReferenceIdeal
public import proofs.«01_k».proof.Proof.Gen.ReferenceIdeal.Run
public import Idealize.ShloMosaic.Lib.Pointwise
public import Idealize.ShloMosaic.Lib.Routing.Ops
public import Idealize.ShloMosaic.Lib.Affine
public import Idealize.ShloMosaic.Lib.StableHlo.Predicate
public import Idealize.ShloMosaic.Lib.Pointwise.IndexBridge

/-!
  The reference read at one row and column, over the extended reals: a sum over the experts, of which the gates
  leave at most one.
-/

@[expose] public section

set_option maxRecDepth 16384

noncomputable section
namespace Cert.Proof
open Idealize.ShloMosaic Idealize.ShloMosaic.TcCoe Idealize.SL.Sem
open Cert.ReferenceIdeal
open Cert.ReferenceIdeal.Facts₀ Cert.ReferenceIdeal.Facts

/-- The rows of the tokens that the list names. -/
def refRows (x : FVec Ideal S16512x2048 .f32) (rt : IVec S37120 32) : FVec Ideal S37120x2048 .f32 :=
  Host.gather gather_S16512x2048_S37120x1_S37120x2048_1_0_n_n_0_1_12048 x
    (broadcastInDim S37120x1 ![0] bcast_S37120_S37120x1_0
      (select (cmpi .slt rt (broadcastInDim S37120 ![] bcast_S_S37120 (constantI S_ 32 0#32)))
        (addi rt (broadcastInDim S37120 ![] bcast_S_S37120 (constantI S_ 32 16512#32))) rt))

/-- The gate of each row and expert. -/
def refGates (te : IVec S145 32) (nu : IVec S1 32) : FVec Ideal S37120x16 .f32 :=
  select (broadcastInDim S37120x16 ![0, 1] bcast_S37120x1_S37120x16_0_1 (broadcastInDim S37120x1 ![0] bcast_S37120_S37120x1_0
      (cmpi .slt (iotaInDim S37120 32 0) (broadcastInDim S37120 ![] bcast_S_S37120 (muli (constantI S_ 32 256#32) (shapeCast S_ nu shapeCasts_S1_S_))))))
    (uitofp .f32 (cmpi .eq (broadcastInDim S37120x16 ![0, 1] bcast_S37120x1_S37120x16_0_1 (broadcastInDim S37120x1 ![0] bcast_S37120_S37120x1_0
        (shapeCast S37120 (broadcastInDim S145x256 ![0] bcast_S145_S145x256_0 te) shapeCasts_S145x256_S37120)))
      (broadcastInDim S37120x16 ![0, 1] bcast_S1x16_S37120x16_0_1 (iotaInDim S1x16 32 1))))
    (broadcastInDim S37120x16 ![] bcast_S_S37120x16 (id (constant S_ .f32 0x00000000#32)))

/-- Every expert's product of every row, gate or up. -/
def refProd (xt : FVec Ideal S37120x2048 .f32) (w : FVec Ideal S16x2048x1024 .f32) : FVec Ideal S37120x16x1024 .f32 :=
  Host.dotGeneral dot_S37120x2048_S16x2048x1024_S37120x16x1024_1_1_0_02_n_n none xt w

/-- The hidden values: `silu` of the gate product times the up product. -/
def refHidden (a u : FVec Ideal S37120x16x1024 .f32) : FVec Ideal S37120x16x1024 .f32 :=
  mulf (mulf a (Host.divf (broadcastInDim S37120x16x1024 ![] bcast_S_S37120x16x1024 (constant S_ .f32 0x3F800000#32))
    (addf (broadcastInDim S37120x16x1024 ![] bcast_S_S37120x16x1024 (constant S_ .f32 0x3F800000#32)) (Host.exp (Host.negf a))))) u

/-- The gated sum over the experts. -/
def refSum (g : FVec Ideal S37120x16 .f32) (h : FVec Ideal S37120x16x1024 .f32) (wd : FVec Ideal S16x1024x2048 .f32) : FVec Ideal S37120x2048 .f32 :=
  Host.reduceAdd (mulf (broadcastInDim S16x37120x2048 ![0, 1, 2] bcast_S16x37120x1_S16x37120x2048_0_1_2
      (broadcastInDim S16x37120x1 ![0, 1] bcast_S16x37120_S16x37120x1_0_1 (transpose S16x37120 [1, 0] g transposes_S37120x16_S16x37120_1_0)))
    (Host.dotGeneral dot_S37120x16x1024_S16x1024x2048_S16x37120x2048_2_1_0_2_1_0 none h wd))
    (constant S_ .f32 0x00000000#32) reducesTo_S16x37120x2048_S37120x2048_d0 h_S_

theorem refProd_apply (xt : FVec Ideal S37120x2048 .f32) (w : FVec Ideal S16x2048x1024 .f32) (r : Fin 37120) (e : Fin 16) (f : Fin 1024) :
    refProd xt w (ix3 r e f) = ∑ d : Fin 2048, xt (ix2 r d) * w (ix3 e d f) := by
  unfold refProd
  pointwise

theorem refHidden_apply (a u : FVec Ideal S37120x16x1024 .f32) (y : S37120x16x1024.Idx) :
    refHidden a u y = a y * (Ideal.div 1 (1 + Ideal.exp (-(a y)))) * u y := by
  unfold refHidden
  pointwise

theorem refSum_apply (g : FVec Ideal S37120x16 .f32) (h : FVec Ideal S37120x16x1024 .f32) (wd : FVec Ideal S16x1024x2048 .f32)
    (r : Fin 37120) (q : Fin 2048) :
    refSum g h wd (ix2 r q) = ∑ e : Fin 16, g (ix2 r e) * ∑ f : Fin 1024, h (ix3 r e f) * wd (ix3 e f q) := by
  unfold refSum
  pointwise

/-- A row's gate is one at its tile's expert if the tile is used, and zero elsewhere. -/
theorem refGates_apply (te : IVec S145 32) (nu : IVec S1 32) (r : Fin 37120) (e : Fin 16) (n k : ℕ) (hn : n ≤ 145)
    (hnu : nu (ix1 (0 : Fin 1)) = BitVec.ofNat 32 n)
    (hte : te (ix1 (⟨r.val / 256, by omega⟩ : Fin 145)) = BitVec.ofNat 32 k) (hk : k < 16) :
    refGates te nu (ix2 r e) = if r.val < 256 * n ∧ e.val = k then (1 : EReal) else 0 := by
  have hr := r.isLt
  have he := e.isLt
  have c1 : IntOp.cmpi .slt (BitVec.ofNat 32 r.val) (IntOp.muli 256#32 (nu (ix1 (0 : Fin 1)))) = 1#1 ↔ r.val < 256 * n := by
    have hm : IntOp.muli 256#32 (BitVec.ofNat 32 n) = BitVec.ofNat 32 (256 * n) := (BitVec.ofNat_mul ..).symm
    rw [hnu, hm, IntOp.cmpi_slt, StableHlo.Predicate.toInt_ofNat_small _ (by omega), StableHlo.Predicate.toInt_ofNat_small _ (by omega)]
    omega
  have c2 : IntOp.cmpi .eq (te (ix1 (⟨r.val / 256, by omega⟩ : Fin 145))) (BitVec.ofNat 32 e.val) = 1#1 ↔ e.val = k := by
    rw [hte, IntOp.cmpi_eq]
    constructor
    · intro h
      have := congrArg BitVec.toNat h
      rw [BitVec.toNat_ofNat, BitVec.toNat_ofNat, Nat.mod_eq_of_lt (by omega), Nat.mod_eq_of_lt (by omega)] at this
      exact this.symm
    · intro h; rw [h]
  unfold refGates
  pointwise
  by_cases h1 : r.val < 256 * n
  · rw [c1.2 h1]
    by_cases h2 : e.val = k
    · rw [c2.2 h2, if_pos ⟨h1, h2⟩]
      show (((1 : ℕ) : ℝ) : EReal) = 1
      norm_num
    · rw [ValueIdx.eq_zero_of_ne_one (mt c2.1 h2), if_neg fun h => h2 h.2]
      show (((0 : ℕ) : ℝ) : EReal) = 0
      norm_num
  · rw [ValueIdx.eq_zero_of_ne_one (mt c1.1 h1), if_neg fun h => h1 h.1]
    exact Ideal.ofBits_zero_f32

/-- The gathered row is the row of the token. -/
theorem refRows_apply (x : FVec Ideal S16512x2048 .f32) (rt : IVec S37120 32) (r : Fin 37120) (d : Fin 2048)
    (b : Fin 16512) (hb : (rt (ix1 r)).toNat = b.val) : refRows x rt (ix2 r d) = x (ix2 b d) := by
  have hw : rt (ix1 r) = BitVec.ofNat 32 b.val := by rw [← hb, BitVec.ofNat_toNat, BitVec.setWidth_eq]
  have hlt := b.isLt
  have hc : IntOp.cmpi .slt (BitVec.ofNat 32 b.val) 0#32 = 0#1 := by
    refine ValueIdx.eq_zero_of_ne_one fun h => ?_
    rw [IntOp.cmpi_slt, StableHlo.Predicate.toInt_ofNat_small _ (by omega)] at h
    have : (0#32 : BitVec 32).toInt = 0 := rfl
    omega
  rw [ix2_eq_valueIdx, ix2_eq_valueIdx]
  refine Routing.gather_row _ rfl rfl rfl rfl rfl x _ r d b ?_ (by decide)
  rw [← ix2_eq_valueIdx]
  pointwise
  rw [hw, hc]
  rfl

/-- One expert's feed-forward of a row, at a column. -/
def mlp (row : Fin 2048 → EReal) (wg wu : Fin 2048 → Fin 1024 → EReal) (wd : Fin 1024 → EReal) : EReal :=
  ∑ f : Fin 1024, ((∑ d, row d * wg d f) * Ideal.div 1 (1 + Ideal.exp (-(∑ d, row d * wg d f))) * (∑ d, row d * wu d f)) * wd f

/-- The reference's result. -/
def refOut (x : FVec Ideal S16512x2048 .f32) (wg wu : FVec Ideal S16x2048x1024 .f32) (wd : FVec Ideal S16x1024x2048 .f32)
    (te : IVec S145 32) (nu : IVec S1 32) (rt : IVec S37120 32) : FVec Ideal S37120x2048 .f32 :=
  refSum (refGates te nu) (refHidden (refProd (refRows x rt) wg) (refProd (refRows x rt) wu)) wd

/-- The reference at a row and a column: of a used tile the feed-forward of the tile's expert of the row's token,
    and zero beyond. -/
theorem refOut_apply (x : FVec Ideal S16512x2048 .f32) (wg wu : FVec Ideal S16x2048x1024 .f32) (wd : FVec Ideal S16x1024x2048 .f32)
    (te : IVec S145 32) (nu : IVec S1 32) (rt : IVec S37120 32) (r : Fin 37120) (q : Fin 2048) (n : ℕ) (k : Fin 16) (b : Fin 16512)
    (hn : n ≤ 145) (hnu : nu (ix1 (0 : Fin 1)) = BitVec.ofNat 32 n)
    (hte : te (ix1 (⟨r.val / 256, by omega⟩ : Fin 145)) = BitVec.ofNat 32 k.val) (hb : (rt (ix1 r)).toNat = b.val) :
    refOut x wg wu wd te nu rt (ix2 r q) = if r.val < 256 * n then
      mlp (fun d => x (ix2 b d)) (fun d f => wg (ix3 k d f)) (fun d f => wu (ix3 k d f)) (fun f => wd (ix3 k f q)) else 0 := by
  unfold refOut
  rw [refSum_apply, Finset.sum_eq_single k]
  · rw [refGates_apply te nu r k n k.val hn hnu hte k.isLt]
    by_cases h : r.val < 256 * n
    · rw [if_pos ⟨h, rfl⟩, if_pos h, one_mul]
      refine Finset.sum_congr rfl fun f _ => ?_
      rw [refHidden_apply, refProd_apply, refProd_apply]
      simp only [refRows_apply x rt r _ b hb]
    · rw [if_neg fun h' => h h'.1, if_neg h, zero_mul]
  · intro e _ he
    rw [refGates_apply te nu r e n k.val hn hnu hte k.isLt, if_neg fun h => he (Fin.ext h.2), zero_mul]
  · exact fun h => absurd (Finset.mem_univ k) h

/-- The reference's run ends with that result. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v26) = refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.ReferenceIdeal.Value.run (F := Ideal) m g

end Cert.Proof
end
-- ==== Proof.Algebraic.lean ====
module

public import proofs.«01_k».proof.Proof.Pre
public import proofs.«01_k».proof.Proof.Ref

/-!
  Over the extended reals the kernel's result is the reference's: a used tile's block is the feed-forward of the
  tile's expert of each gathered row, an unused tile's is zero.
-/

@[expose] public section

set_option maxRecDepth 16384

noncomputable section
namespace Cert.Proof
open Idealize.ShloMosaic Idealize.ShloMosaic.TcCoe Idealize.SL.Sem

section kernel
open Cert.KernelIdeal Cert.KernelIdeal.Gen

/-- A tile's products at a row and a column. -/
theorem pays_apply (X : Vec Ideal S1x256x2048 .f32) (wg wu : Vec Ideal S1x2048x1024 .bf16) (wd : Vec Ideal S1x1024x2048 .bf16)
    (r : Fin 256) (q : Fin 2048) :
    k0_pay1 (k0_pay3 X wg wu) (k0_pay4 wd) (ix2 r q)
      = mlp (fun d => X (ix3 (0 : Fin 1) r d)) (fun d f => wg (ix3 (0 : Fin 1) d f)) (fun d f => wu (ix3 (0 : Fin 1) d f))
        (fun f => wd (ix3 (0 : Fin 1) f q)) := by
  unfold mlp
  pointwise [k0_pay1, k0_pay3, k0_pay4]
  simp only [sub_eq_add_neg, zero_add]

variable (m : (ℓ : Loc nD τ sig) → Buf (Elt Ideal) ℓ) {n : ℕ} (hm : Good m n)

/-- The weights as the kernel takes them are the arguments: a change of format is the identity. -/
theorem V_v0 (c : Dev nD) : (V m c main_v0 : S16x2048x1024.Idx → EReal) = (arg m c main_arg1 : S16x2048x1024.Idx → EReal) := rfl
theorem V_v1 (c : Dev nD) : (V m c main_v1 : S16x2048x1024.Idx → EReal) = (arg m c main_arg2 : S16x2048x1024.Idx → EReal) := rfl
theorem V_v2 (c : Dev nD) : (V m c main_v2 : S16x1024x2048.Idx → EReal) = (arg m c main_arg3 : S16x1024x2048.Idx → EReal) := rfl

include hm in
theorem result_eq (c : Dev nD) : result m c n = refOut (arg m c main_arg0) (arg m c main_arg1) (arg m c main_arg2) (arg m c main_arg3)
    (arg m c main_arg4) (arg m c main_arg5) (arg m c main_arg6) := by
  refine funext fun (y : S37120x2048.Idx) => ?_
  obtain ⟨r, q, rfl⟩ : ∃ (r : Fin 37120) (q : Fin 2048), y = ix2 r q := ⟨y 0, y 1, eq_ix2 y⟩
  obtain rfl : c = 0 := Subsingleton.elim _ _
  have hr := r.isLt
  have hp : r.val / 256 < 145 := by omega
  let te : S145.Idx → BitVec 32 := arg m 0 main_arg4
  let nu : S1.Idx → BitVec 32 := arg m 0 main_arg5
  let rt : S37120.Idx → BitVec 32 := arg m 0 main_arg6
  have hk : (te (ix1 (⟨r.val / 256, hp⟩ : Fin 145))).toNat < 16 := hm.te 0 _
  have hb : (rt (ix1 r)).toNat < 16512 := hm.rt 0 _
  have hnu : nu (ix1 (0 : Fin 1)) = BitVec.ofNat 32 n := by
    have h := hm.nu 0 (ix1 (0 : Fin 1))
    have hle := hm.le
    refine BitVec.eq_of_toInt_eq ?_
    rw [StableHlo.Predicate.toInt_ofNat_small _ (by omega)]
    exact h
  refine Eq.trans ?_ (refOut_apply (arg m 0 main_arg0) (arg m 0 main_arg1) (arg m 0 main_arg2) (arg m 0 main_arg3) te nu rt r q n
    ⟨_, hk⟩ ⟨_, hb⟩ hm.le hnu (by rw [BitVec.ofNat_toNat, BitVec.setWidth_eq]) rfl).symm
  have he : expert m (r.val / 256) = (te (ix1 (⟨r.val / 256, hp⟩ : Fin 145))).toNat := by
    refine congrArg (fun i : Fin 145 => (te (ix1 i)).toNat) (?_ : (⟨r.val / 256 % 145, Nat.mod_lt _ (by decide)⟩ : Fin 145) = ⟨r.val / 256, hp⟩)
    exact Fin.ext (Nat.mod_eq_of_lt hp)
  have ht : tokRow rt (r.val / 256) (r.val % 256) = (rt (ix1 r)).toNat := by
    refine congrArg (fun i : Fin 37120 => (rt (ix1 i)).toNat)
      (?_ : (⟨(r.val / 256 * 256 + r.val % 256) % 37120, Nat.mod_lt _ (by decide)⟩ : Fin 37120) = r)
    exact Fin.ext (show (r.val / 256 * 256 + r.val % 256) % 37120 = r.val by omega)
  show outVal (arg m 0 main_arg0) rt n (r.val / 256) _ _ _ (ix2 (⟨r.val % 256, _⟩ : Fin 256) q) = _
  unfold outVal
  by_cases h : r.val / 256 < n
  · rw [if_pos h, if_pos (by omega)]
    unfold tileVal
    rw [pays_apply]
    have e0 : ∀ d : Fin 2048, slotRows (arg m 0 main_arg0) rt (r.val / 256) (ix3 (0 : Fin 1) (⟨r.val % 256, Nat.mod_lt _ (by decide)⟩ : Fin 256) d)
        = (arg m 0 main_arg0 : S16512x2048.Idx → EReal) (ix2 (⟨(rt (ix1 r)).toNat, hb⟩ : Fin 16512) d) := fun d => by
      unfold slotRows
      refine congrArg (arg m 0 main_arg0 : S16512x2048.Idx → EReal) (?_ : ix2 (_ : Fin 16512) d = ix2 _ d)
      congr 1
      exact Fin.ext (show tokRow rt (r.val / 256) (r.val % 256) % 16512 = _ by rw [ht, Nat.mod_eq_of_lt hb])
    have eg : ∀ (w : S16x2048x1024.Idx → EReal) (d : Fin 2048) (f : Fin 1024),
        expertG (F := Ideal) w (expert m (r.val / 256)) (ix3 (0 : Fin 1) d f) = w (ix3 (⟨_, hk⟩ : Fin 16) d f) := fun w d f => by
      unfold expertG
      refine congrArg w (?_ : ix3 (_ : Fin 16) d f = ix3 _ d f)
      congr 1
      exact Fin.ext (show expert m (r.val / 256) % 16 = _ by rw [he, Nat.mod_eq_of_lt hk])
    have ed : ∀ (w : S16x1024x2048.Idx → EReal) (f : Fin 1024),
        expertD (F := Ideal) w (expert m (r.val / 256)) (ix3 (0 : Fin 1) f q) = w (ix3 (⟨_, hk⟩ : Fin 16) f q) := fun w f => by
      unfold expertD
      refine congrArg w (?_ : ix3 (_ : Fin 16) f q = ix3 _ f q)
      congr 1
      exact Fin.ext (show expert m (r.val / 256) % 16 = _ by rw [he, Nat.mod_eq_of_lt hk])
    have a0 := funext e0
    have a1 := funext fun d => funext (eg (arg m 0 main_arg1) d)
    have a2 := funext fun d => funext (eg (arg m 0 main_arg2) d)
    have a3 := funext (ed (arg m 0 main_arg3))
    exact congr (congr (congr (congrArg mlp a0) a1) a2) a3
  · rw [if_neg h, if_neg (by omega)]
    exact Ideal.ofBits_zero_f32

end kernel

/-- The value claim: from equal arguments both programs end with the reference's result. -/
theorem algebraic : Cert.algebraic_KernelIdeal_ReferenceIdeal := by
  intro m g m' g' h hag
  obtain ⟨n, hm⟩ := good_of_ranges (F := Ideal) m h
  refine ⟨fun c => result m c n, (θ_run _ _ _).mono (fun _ r => r.1) (run_kernel m g hm), ?_⟩
  refine (θ_run Cert.ReferenceIdeal.defs _ _).mono (fun r k c => ⟨(k c).1.trans ?_, (k c).2⟩) (run_reference m' g')
  obtain ⟨h0, h1, h2, h3, h4, h5, h6⟩ := hag c
  rw [h0, h1, h2, h3, h4, h5, h6]
  exact (result_eq m hm c).symm

end Cert.Proof
end
-- ==== Proof.CombGather.lean ====
module

public import proofs.«01_k».proof.Proof.Gen.KernelMIdeal.Loops
public import Idealize.ShloMosaic.Lib.Batch
public import Idealize.ShloMosaic.Lib.Ring
public import Idealize.ShloMosaic.Lib.ValueLayout
public import Idealize.ShloMosaic.Lib.Pipeline.Frame

/-! # The combination's gather: rows of the scratch buffer, rows of the experts' array, shares, cells

For each of the 384 tokens of a tile the kernel copies two of the experts' rows into one of the two slots of a
scratch buffer, 768 copies in all: copy `j` takes the `j`-th place of the tile and fills row `j / 2` of half `j % 2`.
This file names the element sets of those rows, the value a slot holds once the copies have landed, and the
resources that stand for an idle slot and for a slot being filled. -/

@[expose] public section

set_option maxRecDepth 16384

noncomputable section

namespace Cert.Proof.Comb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelMIdeal Cert.KernelMIdeal.Gen

variable {F : FTy → Type} [FloatOps F]

/-- The resources of the proof: the pipeline's and the counters of the transfers. -/
local notation "𝕄" => MT nD τ sig Unit (Elt F) ℕ (Pipeline.UD sig nD τ) ℕ

/-! ## Element sets -/

/-- The row of slot `s` of the scratch buffer that copy `j` fills. -/
def rowSet (s j : ℕ) : Finset S2x2x384x2048.Idx := Finset.univ.filter fun y => (y 0).val = s ∧ (y 1).val = j % 2 ∧ (y 2).val = j / 2
/-- Slot `s` of the scratch buffer. -/
def slotSet (s : ℕ) : Finset S2x2x384x2048.Idx := Finset.univ.filter fun y => (y 0).val = s
/-- Row `v` of the experts' array. -/
def xSet (v : ℕ) : Finset S37120x2048.Idx := Finset.univ.filter fun y => (y 0).val = v

theorem mem_rowSet {s j : ℕ} {y : S2x2x384x2048.Idx} : y ∈ rowSet s j ↔ (y 0).val = s ∧ (y 1).val = j % 2 ∧ (y 2).val = j / 2 := by
  simp only [rowSet, Finset.mem_filter, Finset.mem_univ, true_and]
theorem mem_slotSet {s : ℕ} {y : S2x2x384x2048.Idx} : y ∈ slotSet s ↔ (y 0).val = s := by
  simp only [slotSet, Finset.mem_filter, Finset.mem_univ, true_and]
theorem mem_xSet {v : ℕ} {y : S37120x2048.Idx} : y ∈ xSet v ↔ (y 0).val = v := by
  simp only [xSet, Finset.mem_filter, Finset.mem_univ, true_and]

theorem rowSet_disjoint (s : ℕ) : ∀ r r' : Fin 768, r ≠ r' → Disjoint (rowSet s r.val) (rowSet s r'.val) := by
  intro r r' hne
  rw [Finset.disjoint_left]
  intro y hy hy'
  rw [mem_rowSet] at hy hy'
  exact hne (Fin.ext (by omega))

/-- The copy that fills the row of an element. -/
def copyOf (y : S2x2x384x2048.Idx) : Fin 768 := ⟨2 * (y 2).val + (y 1).val, by
  have h1 : (y 1).val < 2 := (y 1).isLt
  have h2 : (y 2).val < 384 := (y 2).isLt
  omega⟩

theorem mem_copyOf {s : ℕ} {y : S2x2x384x2048.Idx} (h : (y 0).val = s) : y ∈ rowSet s (copyOf y).val := by
  have h1 : (y 1).val < 2 := (y 1).isLt
  rw [mem_rowSet]
  refine ⟨h, ?_, ?_⟩
  · show (y 1).val = (2 * (y 2).val + (y 1).val) % 2; omega
  · show (y 2).val = (2 * (y 2).val + (y 1).val) / 2; omega

theorem slotSet_cover : slotSet 0 ∪ slotSet 1 = (Finset.univ : Finset S2x2x384x2048.Idx) := by
  ext y
  have h : (y 0).val < 2 := (y 0).isLt
  simp only [Finset.mem_union, mem_slotSet, Finset.mem_univ, iff_true]
  omega

theorem slotSet_disjoint : Disjoint (slotSet 0) (slotSet 1) := by
  rw [Finset.disjoint_left]
  intro y hy hy'
  rw [mem_slotSet] at hy hy'
  omega

/-! ## The memrefs the copies name -/

/-- One row of the scratch buffer, as the kernel slices and squeezes it. -/
def dstRow (off : Fin 4 → ℕ) (h : ∀ a, off a + S1x1x1x2048.size a ≤ S2x2x384x2048.size a) : Memref sig .tc .vmem S1x2048 .f32 :=
  ((Memref.whole cc0_scratch0 : Memref sig .tc .vmem S2x2x384x2048 .f32).slice (Rect.unit (s := S2x2x384x2048) off S1x1x1x2048.size h) (fun _ => rfl)).squeeze S1x2048 squeezes_S1x1x1x2048_S1x2048
/-- One row of the experts' array, as the kernel slices it. -/
def srcRow (off : Fin 2 → ℕ) (h : ∀ a, off a + S1x2048.size a ≤ S37120x2048.size a) : Memref sig .tc .hbm S1x2048 .f32 :=
  (Memref.whole main_arg1 : Memref sig .tc .hbm S37120x2048 .f32).slice (Rect.unit (s := S37120x2048) off S1x2048.size h) (fun _ => rfl)

theorem dstRow_set {off : Fin 4 → ℕ} {h} {s j : ℕ} (e : off = ![s, j % 2, j / 2, 0]) : (dstRow off h).view.set = rowSet s j := by
  subst e
  refine ((View.set_reshape _ _).trans (View.set_slice_whole _ _)).trans ?_
  ext y
  have h2 : (y 3).val < 2048 := (y 3).isLt
  rw [Rect.mem_set_unit, mem_rowSet]
  constructor
  · intro H
    have a0 : s ≤ (y 0).val ∧ (y 0).val < s + 1 := H 0
    have a1 : j % 2 ≤ (y 1).val ∧ (y 1).val < j % 2 + 1 := H 1
    have a2 : j / 2 ≤ (y 2).val ∧ (y 2).val < j / 2 + 1 := H 2
    omega
  · intro H a
    fin_cases a
    · show s ≤ (y 0).val ∧ (y 0).val < s + 1; omega
    · show j % 2 ≤ (y 1).val ∧ (y 1).val < j % 2 + 1; omega
    · show j / 2 ≤ (y 2).val ∧ (y 2).val < j / 2 + 1; omega
    · show 0 ≤ (y 3).val ∧ (y 3).val < 0 + 2048; omega

theorem srcRow_set {off : Fin 2 → ℕ} {h} {v : ℕ} (e : off = ![v, 0]) : (srcRow off h).view.set = xSet v := by
  subst e
  refine (View.set_slice_whole _ _).trans ?_
  ext y
  have h2 : (y 1).val < 2048 := (y 1).isLt
  rw [Rect.mem_set_unit, mem_xSet]
  constructor
  · intro H
    have a0 : v ≤ (y 0).val ∧ (y 0).val < v + 1 := H 0
    omega
  · intro H a
    fin_cases a
    · show v ≤ (y 0).val ∧ (y 0).val < v + 1; omega
    · show 0 ≤ (y 1).val ∧ (y 1).val < 0 + 2048; omega

/-! ## What a slot holds -/

/-- The experts' row that the table of places names for copy `j` of tile `p`. -/
def tokRow (rt : S33024.Idx → BitVec 32) (p j : ℕ) : ℕ :=
  (rt (ix1 (⟨(p * 768 + j) % 33024, Nat.mod_lt _ (by decide)⟩ : Fin 33024))).toNat

/-- The gathered rows of tile `p`, as a slot holds them. -/
def gath (fx : S37120x2048.Idx → Elt F .f32) (rt : S33024.Idx → BitVec 32) (p : ℕ) : S2x2x384x2048.Idx → Elt F .f32 :=
  fun y => fx (ix2 (⟨tokRow rt p (2 * (y 2).val + (y 1).val) % 37120, Nat.mod_lt _ (by decide)⟩ : Fin 37120) (y 3))

/-- What one copy leaves in its row of the slot is the gathered row. -/
theorem write_row (fx : S37120x2048.Idx → Elt F .f32) (rt : S33024.Idx → BitVec 32) {offd offs hd hs} {p s j : ℕ}
    (ed : offd = ![s, j % 2, j / 2, 0]) (es : offs = ![tokRow rt p j, 0]) (fd : S2x2x384x2048.Idx → Elt F .f32) :
    ∀ y ∈ rowSet s j, ((dstRow offd hd).view.write (Elt F) fd ((srcRow offs hs).view.read (Elt F) fx) Finset.univ) y = gath fx rt p y := by
  intro y hy
  have hv : tokRow rt p j < 37120 := by
    have h0 := hs 0
    rw [es] at h0
    have h0' : tokRow rt p j + 1 ≤ 37120 := h0
    omega
  have hr := hy
  rw [mem_rowSet] at hr
  have key : ∀ q : Fin 2048, q = y 3 → (dstRow offd hd).view.emb (ix2 (⟨0, Nat.one_pos⟩ : Fin 1) q : S1x2048.Idx) = y := by
    intro q hq
    subst ed
    refine (show (dstRow ![s, j % 2, j / 2, 0] hd).view.emb (ix2 (⟨0, Nat.one_pos⟩ : Fin 1) q : S1x2048.Idx)
      = (Rect.unit (s := S2x2x384x2048) ![s, j % 2, j / 2, 0] S1x1x1x2048.size hd).emb (Shape.reshapeEquiv squeezes_S1x1x1x2048_S1x2048.numel_eq (ix2 (⟨0, Nat.one_pos⟩ : Fin 1) q : S1x2048.Idx)) from rfl).trans ?_
    refine (congrArg (Rect.unit (s := S2x2x384x2048) ![s, j % 2, j / 2, 0] S1x1x1x2048.size hd).emb
      (reshapeEquiv_ix2_11ab (a := 1) (b := 2048) squeezes_S1x1x1x2048_S1x2048.numel_eq ⟨0, Nat.one_pos⟩ q)).trans ?_
    funext a
    fin_cases a
    · apply Fin.ext; show s + 1 * 0 = (y 0).val; omega
    · apply Fin.ext; show j % 2 + 1 * 0 = (y 1).val; omega
    · apply Fin.ext; show j / 2 + 1 * 0 = (y 2).val; omega
    · apply Fin.ext; show 0 + 1 * q.val = (y 3).val; rw [hq]; omega
  have hw := View.write_emb_of_mem (Val := Elt F) (v := (dstRow offd hd).view) fd ((srcRow offs hs).view.read (Elt F) fx)
    (Finset.mem_univ (ix2 (⟨0, Nat.one_pos⟩ : Fin 1) (y 3) : S1x2048.Idx))
  rw [key (y 3) rfl] at hw
  refine hw.trans ?_
  show fx ((srcRow offs hs).view.emb (ix2 (⟨0, Nat.one_pos⟩ : Fin 1) (y 3) : S1x2048.Idx)) = _
  unfold gath
  have hj : 2 * (y 2).val + (y 1).val = j := by omega
  refine congrArg fx ?_
  subst es
  funext a
  fin_cases a
  · apply Fin.ext
    show tokRow rt p j + 1 * 0 = tokRow rt p (2 * (y 2).val + (y 1).val) % 37120
    rw [hj, Nat.mod_eq_of_lt hv]; omega
  · apply Fin.ext
    show 0 + 1 * (y 3).val = (y 3).val
    omega

/-! ## Resources -/

section Res

variable (c : Dev nD)

/-- The scratch buffer's elements `S`, owned at contents `f`. -/
abbrev sc (S : Finset S2x2x384x2048.Idx) (f : S2x2x384x2048.Idx → Elt F .f32) : sProp 𝕄 :=
  (Memref.whole cc0_scratch0 : Memref sig .tc .vmem S2x2x384x2048 .f32).view.loc (c : Thread nD τ) ↦[S]{fullShare} f

/-- The experts' array's elements `S`, read under share number `k`. -/
abbrev xTok (fx : S37120x2048.Idx → Elt F .f32) (k : ℕ) (S : Finset S37120x2048.Idx) : sProp 𝕄 :=
  (Memref.whole main_arg1 : Memref sig .tc .hbm S37120x2048 .f32).view.loc (c : Thread nD τ) ↦[S]{Transfers.shareTokN fullShare k} fx

/-- The semaphore of slot `s`. -/
def cell (s : ℕ) : DmaSem sig := ⟨10 + s % 2, by have := Nat.mod_lt s (show 0 < 2 by decide); show 10 + s % 2 < 12; omega⟩

/-- The units one row's copy signals. -/
def rowUnits : ℕ := (dstRow ![0, 0, 0, 0] (by decide)).view.dmaCredit

theorem dstRow_units (off : Fin 4 → ℕ) (h) : (dstRow off h).view.dmaCredit = rowUnits := rfl
theorem rowUnits_pos : 0 < rowUnits := View.dmaCredit_pos _ (by decide)

variable (fx : S37120x2048.Idx → Elt F .f32) (rt : S33024.Idx → BitVec 32)

/-- What the copy `r` of tile `p` delivers: the row, and the share of the row it read. -/
def deliv (p : ℕ) (r : Fin 768) : sProp 𝕄 :=
  iprop(sc c (rowSet (p % 2) r.val) (gath fx rt p) ∗ xTok c fx (768 * (p % 2) + r.val) (xSet (tokRow rt p r.val)))

instance deliv_storable (p : ℕ) (r : Fin 768) : BI.Storable (upEmb : UEmb _ 𝕄) (deliv c fx rt p r) := by
  unfold deliv; infer_instance

/-- What the copy `r` of tile `p` leaves of its share of the experts' array. -/
def left (p : ℕ) (r : Fin 768) : sProp 𝕄 :=
  xTok c fx (768 * (p % 2) + r.val) (Finset.univ \ xSet (tokRow rt p r.val))

/-- The copies of tile `p`: `j` issued, `u` units consumed. -/
abbrev batch (p j u : ℕ) : sProp 𝕄 :=
  Transfers.Batch (countersEmb (U := Pipeline.UD sig nD τ)) (c : Thread nD τ) (.dma (cell p)) () rowUnits (deliv c fx rt p) j u

/-- A slot at rest: owned, its semaphore at zero, its 768 shares of the experts' array whole. -/
def idle (s : ℕ) : sProp 𝕄 :=
  iprop((∃ f, sc c (slotSet (s % 2)) f) ∗ semVal ((c : Thread nD τ), SemLoc.dma (cell s)) 0
    ∗ bigSep Finset.univ (fun r : Fin 768 => xTok c fx (768 * (s % 2) + r.val) Finset.univ))

/-- A slot being filled with tile `p`. -/
def flight (p : ℕ) : sProp 𝕄 :=
  iprop(batch c fx rt p 768 0 ∗ bigSep Finset.univ (left c fx rt p))

end Res

end Cert.Proof.Comb

end
-- ==== Proof.CombIssue.lean ====
module

public import proofs.«01_k».proof.Proof.CombGather
public import proofs.«01_k».proof.Proof.Closed

/-! # The combination's gather: closed forms of the offsets, and the loops that fill a slot and drain it -/

@[expose] public section

set_option maxRecDepth 16384

noncomputable section

namespace Cert.Proof.Comb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelMIdeal Cert.KernelMIdeal.Gen

/-! ## Closed forms -/

theorem trips1 : k0_t1_loop.trips = 384 := by decide +kernel
theorem trips2 : k0_t2_loop.trips = 384 := by decide +kernel
theorem trips3 : k0_t3_loop.trips = 384 := by decide +kernel

theorem off8_eq : ∀ i : grid0.Coords, k0_off8 i = ![((i 0).val + 1) % 2] := by decide +kernel
theorem off12_eq : ∀ i : grid0.Coords, k0_off12 i = ![((i 0).val + 1) % 2] := by decide +kernel
theorem off15_eq : ∀ i : grid0.Coords, k0_off15 i = ![(i 0).val % 2] := by decide +kernel
theorem off18_eq : ∀ i : grid0.Coords, k0_off18 i = ![(i 0).val % 2, 0, 0, 0] := by decide +kernel
theorem off19_eq : ∀ i : grid0.Coords, k0_off19 i = ![(i 0).val % 2, 1, 0, 0] := by decide +kernel
theorem cond1_iff : ∀ i : grid0.Coords, k0_cond1 i = 1#1 ↔ (i 0).val = 0 := by decide +kernel
theorem cond2_iff : ∀ i : grid0.Coords, k0_cond2 i = 1#1 ↔ (i 0).val + 1 < 43 := by decide +kernel

/-- Four coordinates, one of them the trip's counter. -/
theorem vec4 {off : Fin 4 → ℕ} {a b n : ℕ} (hn : n < 384) (e0 : off 0 = a) (e1 : off 1 = b) (e2 : off 2 = (Scf.iv 0#32 1#32 n).toNat)
    (e3 : off 3 = 0) : off = ![a, b, n, 0] := by
  have e2' : off 2 = n := e2.trans (WordArith.toNat_iv_zero_one n (by omega))
  funext x
  fin_cases x
  · exact e0
  · exact e1
  · exact e2'
  · exact e3

theorem off9_eq (i : grid0.Coords) (k : Fin k0_t2_loop.trips) : k0_off9 i k = ![((i 0).val + 1) % 2, 0, k.val, 0] :=
  vec4 (trips2 ▸ k.isLt) ((show k0_off9 i k 0 = k0_off8 i 0 from rfl).trans (congrFun (off8_eq i) 0)) rfl rfl rfl
theorem off13_eq (i : grid0.Coords) (k : Fin k0_t2_loop.trips) : k0_off13 i k = ![((i 0).val + 1) % 2, 1, k.val, 0] :=
  vec4 (trips2 ▸ k.isLt) ((show k0_off13 i k 0 = k0_off12 i 0 from rfl).trans (congrFun (off12_eq i) 0)) rfl rfl rfl

/-- The row of copy `2 * k`, and that of copy `2 * k + 1`. -/
theorem even_row (s k : ℕ) : (![s, 0, k, 0] : Fin 4 → ℕ) = ![s, (2 * k) % 2, (2 * k) / 2, 0] := by
  rw [show (2 * k) % 2 = 0 by omega, show (2 * k) / 2 = k by omega]
theorem odd_row (s k : ℕ) : (![s, 1, k, 0] : Fin 4 → ℕ) = ![s, (2 * k + 1) % 2, (2 * k + 1) / 2, 0] := by
  rw [show (2 * k + 1) % 2 = 1 by omega, show (2 * k + 1) / 2 = k by omega]

/-! ## The semaphores -/

theorem sem_ix : ∀ x : S2.Idx, (cc0_scratch1.ix x).val = 10 + (x 0).val := by decide +kernel

theorem sem_eq {off : Fin 1 → ℕ} {h : ∀ a, off a + S1.size a ≤ S2.size a} {s : ℕ} (e : off = ![s % 2]) :
    ((cc0_scratch1.slice (Rect.unit (s := S2) off S1.size h)).squeeze S_ squeezes_S1_S_).sem = cell s := by
  apply Fin.ext
  refine (sem_ix _).trans ?_
  have key : ∀ y : S1.Idx, ((Rect.unit (s := S2) off S1.size h).emb y 0).val = s % 2 := by
    intro y
    show off 0 + 1 * (y 0).val = s % 2
    have h1 : (y 0).val < 1 := (y 0).isLt
    have h2 : off 0 = s % 2 := congrFun e 0
    omega
  exact congrArg (10 + ·) (key _)

variable {F : FTy → Type} [FloatOps F]

/-- The resources of the proof: the pipeline's and the counters of the transfers. -/
local notation "𝕄" => MT nD τ sig Unit (Elt F) ℕ (Pipeline.UD sig nD τ) ℕ

variable (c : Dev nD) (fx : S37120x2048.Idx → Elt F .f32) (rt : S33024.Idx → BitVec 32)

/-- The row of copy `r` of tile `p`, ready to be filled: the row at any contents, and its share of the experts' array. -/
def ready (p : ℕ) (r : Fin 768) : sProp 𝕄 :=
  iprop((∃ f, sc c (rowSet (p % 2) r.val) f) ∗ xTok c fx (768 * (p % 2) + r.val) Finset.univ)

/-- The table of places, held at share `q`. -/
abbrev table (q : PosShare TreeShare) : sProp 𝕄 :=
  (Memref.whole main_arg0 : Memref sig .tc .smem S33024 .i32).view.loc (c : Thread nD τ) ↦[Finset.univ]{q} rt

/-- The word of the table of places a one-element read returns. -/
theorem table_word {off : Fin 1 → ℕ} {h : ∀ a, off a + S1.size a ≤ S33024.size a} {k : ℕ} (e : off = ![k]) (hk : k < 33024) (x : S1.Idx) :
    ((Memref.whole main_arg0 : Memref sig .tc .smem S33024 .i32).access (Rect.unit (s := S33024) off S1.size h)).read (Elt F) rt x
      = rt (ix1 (⟨k, hk⟩ : Fin 33024)) := by
  refine congrArg rt ?_
  funext a
  fin_cases a
  apply Fin.ext
  show off 0 + 1 * (x 0).val = k
  have h1 : (x 0).val < 1 := (x 0).isLt
  have h2 : off 0 = k := congrFun e 0
  omega

section Rules

variable {Λ : Labels} {defs : Defs nD τ sig (Elt F) Λ} (𝒱 : Variants) (bd : Option 𝒱.V)

/-- Issuing copy `r` of tile `p`. -/
theorem wp_row {p r : ℕ} (hr : r < 768) {offd : Fin 4 → ℕ} {hd} {offs : Fin 2 → ℕ} {hs}
    (ed : offd = ![p % 2, r % 2, r / 2, 0]) (es : offs = ![tokRow rt p r, 0]) {sm : DmaSem sig} (hsm : sm = cell p)
    {h1 h2 h3} {α : Type} {k : PUnit → Prog (TpuEff nD τ sig (Elt F) Λ .tc) α} {Q : α → sProp 𝕄} :
    iprop(ready c fx p ⟨r, hr⟩ ∗ batch c fx rt p r 0)
      ⊢ iprop((batch c fx rt p (r + 1) 0 ∗ left c fx rt p ⟨r, hr⟩ -∗ wp frame (wpE defs 𝒱 (c : Thread nD τ) bd) Set.univ (k ⟨⟩) Q)
        -∗ wp frame (wpE defs 𝒱 (c : Thread nD τ) bd) Set.univ (.op (.enqueueDmaAs (srcRow offs hs) (.here (dstRow offd hd)) .same (.dma sm) h1 h2 h3) k) Q) := by
  subst hsm
  have hset := dstRow_set (h := hd) ed
  have hsrc := srcRow_set (h := hs) es
  iintro ⟨Hr, HB⟩ Hk
  unfold ready
  icases Hr with ⟨⟨%fd, Hd⟩, Hx⟩
  ihave Hx' := (pointsTo_split_subset (Finset.subset_univ (xSet (tokRow rt p r)))).1 $$ Hx
  icases Hx' with ⟨Hx, Hl⟩
  iapply (Transfers.wp_dmaBatch (countersEmb (U := Pipeline.UD sig nD τ)) 𝒱 (c : Thread nD τ) bd (src := srcRow offs hs) (dst := dstRow offd hd)
    (via := .same) (fs := fx) (fd := fd) (Sd := rowSet (p % 2) r) (q := Transfers.shareTokN fullShare (768 * (p % 2) + r))
    () rowUnits (show (dstRow offd hd).view.amount (.dma (cell p)) = rowUnits from rfl) (le_of_eq hset) (D := deliv c fx rt p) (j := r) (u := 0) hr (Nat.zero_le _) (by
      unfold deliv
      refine BIClass.sep_mono ?_ ?_
      · exact Entails.of_eq (pointsTo_congr (fun y hy => write_row fx rt ed es fd y hy))
      · rw [hsrc]; exact .rfl)) $$ [Hd Hx HB]
  · isplitl [Hx]; · rw [hsrc]; iexact Hx
    isplitl [Hd]; · iexact Hd
    iexact HB
  iintro HB
  iapply Hk
  isplitl [HB]; · iexact HB
  unfold left
  iexact Hl

/-- The invariant of the loop that fills a slot: `k` copies issued. -/
def filling (q : PosShare TreeShare) (p k : ℕ) : sProp 𝕄 :=
  iprop(batch c fx rt p k 0 ∗ bigSep (Transfers.pending k) (ready c fx p)
    ∗ bigSep (Finset.univ.filter fun r : Fin 768 => r.val < k) (left c fx rt p) ∗ table c rt q)

/-- The invariant with the table set apart. -/
theorem filling_table (q : PosShare TreeShare) (p k : ℕ) :
    filling c fx rt q p k ⊢ iprop((batch c fx rt p k 0 ∗ bigSep (Transfers.pending k) (ready c fx p)
      ∗ bigSep (Finset.univ.filter fun r : Fin 768 => r.val < k) (left c fx rt p)) ∗ table c rt q) := by
  unfold filling
  iintro ⟨H1, H2, H3, H4⟩
  isplitr [H4]
  · isplitl [H1]; · iexact H1
    isplitl [H2]; · iexact H2
    iexact H3
  iexact H4

theorem filter_succ {k : ℕ} (hk : k < 768) (D : Fin 768 → sProp 𝕄) :
    bigSep (Finset.univ.filter fun r : Fin 768 => r.val < k + 1) D
      = iprop(D ⟨k, hk⟩ ∗ bigSep (Finset.univ.filter fun r : Fin 768 => r.val < k) D) := by
  have e : (Finset.univ.filter fun r : Fin 768 => r.val < k + 1) = insert ⟨k, hk⟩ (Finset.univ.filter fun r : Fin 768 => r.val < k) := by
    ext r
    simp only [Finset.mem_filter, Finset.mem_univ, true_and, Finset.mem_insert, Fin.ext_iff]
    omega
  rw [e, BI.bigSep_insert (by simp)]
  rfl

/-- One copy of a filling loop, from the word of the table on. -/
theorem filling_step (q : PosShare TreeShare) {p j : ℕ} (hk : j < 768) {offd : Fin 4 → ℕ} {hd} {offs : Fin 2 → ℕ} {hs}
    (ed : offd = ![p % 2, j % 2, j / 2, 0]) (es : offs = ![tokRow rt p j, 0]) {sm : DmaSem sig} (hsm : sm = cell p) {h1 h2 h3}
    {α : Type} {cont : PUnit → Prog (TpuEff nD τ sig (Elt F) Λ .tc) α} {Q : α → sProp 𝕄}
    (H : filling c fx rt q p (j + 1) ⊢ wp frame (wpE defs 𝒱 (c : Thread nD τ) bd) Set.univ (cont ⟨⟩) Q) :
    iprop((batch c fx rt p j 0 ∗ bigSep (Transfers.pending j) (ready c fx p)
        ∗ bigSep (Finset.univ.filter fun r : Fin 768 => r.val < j) (left c fx rt p)) ∗ table c rt q)
      ⊢ wp frame (wpE defs 𝒱 (c : Thread nD τ) bd) Set.univ
          (.op (.enqueueDmaAs (srcRow offs hs) (.here (dstRow offd hd)) .same (.dma sm) h1 h2 h3) cont) Q := by
  rw [Transfers.bigSep_pending_step _ j hk]
  iintro ⟨⟨HB, ⟨Hr, Hp⟩, Hl⟩, Ht⟩
  iapply (wp_row c fx rt 𝒱 bd hk ed es hsm) $$ [Hr HB]
  · isplitl [Hr]; · iexact Hr
    iexact HB
  iintro ⟨HB, Hn⟩
  iapply H
  unfold filling
  rw [filter_succ hk]
  isplitl [HB]; · iexact HB
  isplitl [Hp]; · iexact Hp
  isplitr [Ht]
  · isplitl [Hn]; · iexact Hn
    iexact Hl
  iexact Ht

variable {defs1 : Defs nD τ sig (Elt F) Λ₀}
/-- Reading one word of the table of places at the head of a program. -/
theorem trip_load (q : PosShare TreeShare) {off : Fin 1 → ℕ} {h : ∀ a, off a + S1.size a ≤ S33024.size a} {k : ℕ} (e : off = ![k]) (hk : k < 33024) {hw} {x : S1.Idx}
    {α : Type} {cont : BitVec 32 → Prog (TpuEff nD τ sig (Elt F) Λ₀ .tc) α} {Q : α → sProp 𝕄} {R : sProp 𝕄}
    (H : iprop(R ∗ table c rt q) ⊢ wp frame (wpE defs1 𝒱 (c : Thread nD τ) bd) Set.univ (cont (rt (ix1 (⟨k, hk⟩ : Fin 33024)))) Q) :
    iprop(R ∗ table c rt q) ⊢ wp frame (wpE defs1 𝒱 (c : Thread nD τ) bd) Set.univ
      (smemLoadElt (Memref.whole main_arg0 : Memref sig .tc .smem S33024 .i32) (Rect.unit (s := S33024) off S1.size h) hw x cont) Q := by
  iintro ⟨HR, Ht⟩
  iapply (wp_smemLoadElt 𝒱 (c : Thread nD τ) bd Set.univ (m := (Memref.whole main_arg0 : Memref sig .tc .smem S33024 .i32))
    (r := Rect.unit (s := S33024) off S1.size h) (x := x) (S := Finset.univ) (q := q) (f := rt) (Finset.subset_univ _)) $$ [Ht]
  · iexact Ht
  iintro Ht
  rw [table_word rt (k := k) e hk]
  iapply H
  isplitl [HR]; · iexact HR
  iexact Ht

/-- A program that has returned. -/
theorem wp_done {P : sProp 𝕄} {Q : PUnit → sProp 𝕄} (h : P ⊢ Q ⟨⟩) :
    P ⊢ wp frame (wpE defs1 𝒱 (c : Thread nD τ) bd) Set.univ (.ret ⟨⟩ : Prog (TpuEff nD τ sig (Elt F) Λ₀ .tc) PUnit) Q :=
  BIBase.Entails.trans h (le_wp_ret _ _ _ _ _)

variable (hrt : ∀ x, (rt x).toNat < 37120)
variable (arg3 : Memref sig .tc .vmem S384x2048 .f32) (harg3 : arg3.IsWhole) (arg4 : Memref sig .tc .vmem S384x128 .f32) (harg4 : arg4.IsWhole)
  (arg5 : Memref sig .tc .vmem S1x2048 .f32) (harg5 : arg5.IsWhole) (arg6 : Memref sig .tc .vmem S1x2048 .f32) (harg6 : arg6.IsWhole)
  (arg7 : Memref sig .tc .vmem S384x2048 .f32) (harg7 : arg7.IsWhole) (arg8 : Memref sig .tc .vmem S384x2048 .bf16) (harg8 : arg8.IsWhole)
variable (h1 : (Memref.whole main_arg0 : Memref sig .tc .smem S33024 .i32).IsWhole) (h2 : (Memref.whole main_arg1 : Memref sig .tc .hbm S37120x2048 .f32).IsWhole)
  (h9 : (Memref.whole cc0_scratch0 : Memref sig .tc .vmem S2x2x384x2048 .f32).IsWhole)

include hrt in
theorem row_in (p r : ℕ) : ∀ a, (![tokRow rt p r, 0] : Fin 2 → ℕ) a + S1x2048.size a ≤ S37120x2048.size a := by
  intro a
  have h := hrt (ix1 (⟨(p * 768 + r) % 33024, Nat.mod_lt _ (by decide)⟩ : Fin 33024))
  fin_cases a
  · show tokRow rt p r + 1 ≤ 37120
    exact h
  · show 0 + 2048 ≤ 2048
    omega

theorem tokRow_word {p j n : ℕ} (hn : n < 33024) (e : n = p * 768 + j) : (rt (ix1 (⟨n, hn⟩ : Fin 33024))).toNat = tokRow rt p j := by
  subst e
  unfold tokRow
  congr 3
  apply Fin.ext
  exact (Nat.mod_eq_of_lt hn).symm

/-- The offset of the row a word of the table names. -/
theorem word_off {p j n : ℕ} (hn : n < 33024) (e : n = p * 768 + j) :
    (![(rt (ix1 (⟨n, hn⟩ : Fin 33024))).toNat, 0] : Fin 2 → ℕ) = ![tokRow rt p j, 0] := by rw [tokRow_word rt hn e]

include hrt in
/-- The first loop fills slot 0 with tile 0, two copies a trip. -/
theorem fill_first (q : PosShare TreeShare) (i : grid0.Coords) (hc : k0_cond1 i = 1#1) (k : Fin k0_t1_loop.trips) (acc : Unit) :
    filling c fx rt q 0 (2 * k.val)
      ⊢ wp frame (wpE defs1 𝒱 (c : Thread nD τ) bd) Set.univ
          (k0_t1_body (F := F) i (Memref.whole main_arg0) h1 (Memref.whole main_arg1) h2 arg3 harg3 arg4 harg4
            arg5 harg5 arg6 harg6 arg7 harg7 arg8 harg8 (Memref.whole cc0_scratch0) h9 cc0_scratch1 hc k acc)
          (fun _ => filling c fx rt q 0 (2 * (k.val + 1))) := by
  have hk : k.val < 384 := trips1 ▸ k.isLt
  have hb1 : 2 * k.val < 33024 := by omega
  have hb2 : 2 * k.val + 1 < 33024 := by omega
  unfold k0_t1_body smemLoad
  simp only [smemLoadElt_bind, Prog.bind_lift, Prog.bind_ret, Prog.pure_eq_ret]
  refine (filling_table c fx rt q 0 (2 * k.val)).trans ?_
  refine trip_load (F := F) c rt 𝒱 bd q (k0_off1_eq k) hb1 ?_
  have es1 : k0_off3 (rt (ix1 (⟨2 * k.val, hb1⟩ : Fin 33024))) = ![tokRow rt 0 (2 * k.val), 0] := word_off rt hb1 (by omega)
  refine BIBase.Entails.trans ?_ (wp_assume 𝒱 (c : Thread nD τ) bd Set.univ
    (show k0_chk1 i (rt (ix1 (⟨2 * k.val, hb1⟩ : Fin 33024))) from fun _ => by rw [es1]; exact row_in rt hrt 0 _))
  refine filling_step c fx rt 𝒱 bd q (p := 0) (j := 2 * k.val) (by omega) ((k0_off2_eq k).trans (even_row 0 k.val)) es1 (sem_eq (s := 0) rfl) ?_
  refine (filling_table c fx rt q 0 (2 * k.val + 1)).trans ?_
  refine trip_load (F := F) c rt 𝒱 bd q (k0_off4_eq k) hb2 ?_
  have es2 : k0_off6 (rt (ix1 (⟨2 * k.val + 1, hb2⟩ : Fin 33024))) = ![tokRow rt 0 (2 * k.val + 1), 0] := word_off rt hb2 (by omega)
  refine BIBase.Entails.trans ?_ (wp_assume 𝒱 (c : Thread nD τ) bd Set.univ
    (show k0_chk2 i (rt (ix1 (⟨2 * k.val + 1, hb2⟩ : Fin 33024))) from fun _ => by rw [es2]; exact row_in rt hrt 0 _))
  refine filling_step c fx rt 𝒱 bd q (p := 0) (j := 2 * k.val + 1) (by omega) ((k0_off5_eq k).trans (odd_row 0 k.val)) es2 (sem_eq (s := 0) rfl) ?_
  exact wp_done c 𝒱 bd .rfl

include hrt in
/-- The second loop fills the other slot with the next tile, two copies a trip. -/
theorem fill_next (q : PosShare TreeShare) (i : grid0.Coords) (hc : k0_cond2 i = 1#1)
    (hp : (i 0).val + 1 < 43) (k : Fin k0_t2_loop.trips) (acc : Unit) :
    filling c fx rt q ((i 0).val + 1) (2 * k.val)
      ⊢ wp frame (wpE defs1 𝒱 (c : Thread nD τ) bd) Set.univ
          (k0_t2_body (F := F) i (Memref.whole main_arg0) h1 (Memref.whole main_arg1) h2 arg3 harg3 arg4 harg4
            arg5 harg5 arg6 harg6 arg7 harg7 arg8 harg8 (Memref.whole cc0_scratch0) h9 cc0_scratch1 hc k acc)
          (fun _ => filling c fx rt q ((i 0).val + 1) (2 * (k.val + 1))) := by
  have hk : k.val < 384 := trips2 ▸ k.isLt
  have hb1 : 768 * (i 0).val + 2 * k.val + 768 < 33024 := by omega
  have hb2 : 768 * (i 0).val + 2 * k.val + 769 < 33024 := by omega
  unfold k0_t2_body smemLoad
  simp only [smemLoadElt_bind, Prog.bind_lift, Prog.bind_ret, Prog.pure_eq_ret]
  refine (filling_table c fx rt q _ (2 * k.val)).trans ?_
  refine trip_load (F := F) c rt 𝒱 bd q (k0_off7_eq i k) hb1 ?_
  have es1 : k0_off10 (rt (ix1 (⟨768 * (i 0).val + 2 * k.val + 768, hb1⟩ : Fin 33024))) = ![tokRow rt ((i 0).val + 1) (2 * k.val), 0] :=
    word_off rt hb1 (by omega)
  refine BIBase.Entails.trans ?_ (wp_assume 𝒱 (c : Thread nD τ) bd Set.univ
    (show k0_chk3 i (rt (ix1 (⟨768 * (i 0).val + 2 * k.val + 768, hb1⟩ : Fin 33024))) from fun _ => by rw [es1]; exact row_in rt hrt _ _))
  refine filling_step c fx rt 𝒱 bd q (p := (i 0).val + 1) (j := 2 * k.val) (by omega) ((off9_eq i k).trans (even_row _ k.val)) es1 (sem_eq (off8_eq i)) ?_
  refine (filling_table c fx rt q _ (2 * k.val + 1)).trans ?_
  refine trip_load (F := F) c rt 𝒱 bd q (k0_off11_eq i k) hb2 ?_
  have es2 : k0_off14 (rt (ix1 (⟨768 * (i 0).val + 2 * k.val + 769, hb2⟩ : Fin 33024))) = ![tokRow rt ((i 0).val + 1) (2 * k.val + 1), 0] :=
    word_off rt hb2 (by omega)
  refine BIBase.Entails.trans ?_ (wp_assume 𝒱 (c : Thread nD τ) bd Set.univ
    (show k0_chk4 i (rt (ix1 (⟨768 * (i 0).val + 2 * k.val + 769, hb2⟩ : Fin 33024))) from fun _ => by rw [es2]; exact row_in rt hrt _ _))
  refine filling_step c fx rt 𝒱 bd q (p := (i 0).val + 1) (j := 2 * k.val + 1) (by omega) ((off13_eq i k).trans (odd_row _ k.val)) es2 (sem_eq (off12_eq i)) ?_
  exact wp_done c 𝒱 bd .rfl

/-- One wait of the draining loop. -/
theorem drain_step {p j : ℕ} (hk : j < 768) {sm : DmaSem sig} (hsm : sm = cell p) {offd : Fin 4 → ℕ} {hd} {offs : Fin 2 → ℕ} {hs} {h1 h2}
    {α : Type} {cont : PUnit → Prog (TpuEff nD τ sig (Elt F) Λ₀ .tc) α} {Q : α → sProp 𝕄}
    (H : iprop(batch c fx rt p 768 (rowUnits * (j + 1)) ∗ ∃ W', owes (c : Thread nD τ) 0 W')
      ⊢ wp frame (wpE defs1 𝒱 (c : Thread nD τ) bd) Set.univ (cont ⟨⟩) Q) :
    iprop(batch c fx rt p 768 (rowUnits * j) ∗ ∃ W', owes (c : Thread nD τ) 0 W')
      ⊢ wp frame (wpE defs1 𝒱 (c : Thread nD τ) bd) Set.univ
          (.op (.waitDma2 sm (srcRow offs hs) (dstRow offd hd) h1 h2) cont) Q := by
  subst hsm
  iintro ⟨HB, ⟨%W, HO⟩⟩
  iapply (Transfers.wp_waitBatchMul (countersEmb (U := Pipeline.UD sig nD τ)) 𝒱 (c : Thread nD τ) bd (srcw := srcRow offs hs) (dstw := dstRow offd hd)
    (D := deliv c fx rt p) () (N := rowUnits) 1 (by rw [one_mul]; rfl) (j := 768) (u := rowUnits * j) (by
      rw [one_mul, ← Nat.mul_succ]; exact Nat.mul_le_mul_left _ hk) (W := W)) $$ [HB HO]
  · isplitl [HB]; · iexact HB
    iexact HO
  iintro ⟨HB, HO⟩
  iapply H
  rw [one_mul, ← Nat.mul_succ]
  isplitl [HB]; · iexact HB
  iexists _
  iexact HO

/-- The third loop consumes the units of the tile's copies, two rows a trip. -/
theorem drain_trip (i : grid0.Coords) (k : Fin k0_t3_loop.trips) (acc : Unit) :
    iprop(batch c fx rt (i 0).val 768 (rowUnits * (2 * k.val)) ∗ ∃ W', owes (c : Thread nD τ) 0 W')
      ⊢ wp frame (wpE defs1 𝒱 (c : Thread nD τ) bd) Set.univ
          (k0_t3_body (F := F) i (Memref.whole main_arg0) h1 (Memref.whole main_arg1) h2 arg3 harg3 arg4 harg4
            arg5 harg5 arg6 harg6 arg7 harg7 arg8 harg8 (Memref.whole cc0_scratch0) h9 cc0_scratch1 k acc)
          (fun _ => iprop(batch c fx rt (i 0).val 768 (rowUnits * (2 * (k.val + 1))) ∗ ∃ W', owes (c : Thread nD τ) 0 W')) := by
  have hk : k.val < 384 := trips3 ▸ k.isLt
  have hs := sem_eq (h := k0_off15_inb i) (s := (i 0).val) (off15_eq i)
  refine drain_step c fx rt 𝒱 bd (j := 2 * k.val) (by omega) hs ?_
  refine drain_step c fx rt 𝒱 bd (j := 2 * k.val + 1) (by omega) hs ?_
  exact wp_done c 𝒱 bd .rfl

/-! ## Whole loops -/

/-- A slot that holds tile `p`: the gathered rows, the semaphore at zero, the shares of the experts' array whole. -/
def full (p : ℕ) : sProp 𝕄 :=
  iprop(sc c (slotSet (p % 2)) (gath fx rt p) ∗ semVal ((c : Thread nD τ), SemLoc.dma (cell p)) 0
    ∗ bigSep Finset.univ (fun r : Fin 768 => xTok c fx (768 * (p % 2) + r.val) Finset.univ))

theorem full_idle (p : ℕ) : full c fx rt p ⊢ idle c fx p := by
  unfold full idle
  iintro ⟨H1, H2, H3⟩
  isplitl [H1]; · iexists _; iexact H1
  isplitl [H2]; · iexact H2
  iexact H3

theorem slot_rows (p : ℕ) (f : S2x2x384x2048.Idx → Elt F .f32) :
    sc c (slotSet (p % 2)) f = bigSep Finset.univ fun r : Fin 768 => sc c (rowSet (p % 2) r.val) f := by
  refine Ring.pointsTo_sub_blocks (ℓ := (Memref.whole cc0_scratch0 : Memref sig .tc .vmem S2x2x384x2048 .f32).view.loc (c : Thread nD τ))
    (fun r : Fin 768 => rowSet (p % 2) r.val) (fun r r' h => ?_) (slotSet (p % 2)) ?_ f
  · exact rowSet_disjoint (p % 2) r r' h
  · ext y
    rw [Finset.mem_biUnion]
    refine ⟨fun ⟨r, _, h⟩ => mem_slotSet.2 (mem_rowSet.1 h).1, fun h => ⟨copyOf (show S2x2x384x2048.Idx from y), Finset.mem_univ _, mem_copyOf (mem_slotSet.1 h)⟩⟩

theorem rows_ready (p : ℕ) (f : S2x2x384x2048.Idx → Elt F .f32) :
    iprop(sc c (slotSet (p % 2)) f ∗ bigSep Finset.univ (fun r : Fin 768 => xTok c fx (768 * (p % 2) + r.val) Finset.univ))
      ⊢ (bigSep Finset.univ (ready c fx p) : sProp 𝕄) := by
  have key : ∀ r : Fin 768, iprop(sc c (rowSet (p % 2) r.val) f ∗ xTok c fx (768 * (p % 2) + r.val) Finset.univ) ⊢ ready c fx p r := by
    intro r
    unfold ready
    iintro ⟨H1, H2⟩
    isplitl [H1]; · iexists f; iexact H1
    iexact H2
  rw [slot_rows, ← bigSep_sep']
  exact BI.bigSep_mono fun r _ => key r

theorem fill_start (q : PosShare TreeShare) (p : ℕ) :
    iprop(idle c fx p ∗ table c rt q) ⊢ |={Set.univ}=> filling c fx rt q p 0 := by
  unfold idle
  iintro ⟨⟨⟨%f, Hs⟩, Hv, Hx⟩, Ht⟩
  imod (Transfers.batch_alloc' (Lvl := ℕ) (countersEmb (U := Pipeline.UD sig nD τ)) (c : Thread nD τ) () rowUnits (deliv c fx rt p) (sm := .dma (cell p)) (E := Set.univ)) $$ Hv with HB
  imodintro
  unfold filling
  isplitl [HB]; · iexact HB
  isplitr [Ht]
  · rw [Transfers.pending_zero]
    ihave H := (rows_ready c fx p f) $$ [Hs Hx]
    · isplitl [Hs]; · iexact Hs
      iexact Hx
    iexact H
  isplitr [Ht]
  · rw [show (Finset.univ.filter fun r : Fin 768 => r.val < 0) = ∅ from by ext r; simp, BI.bigSep_empty]
    iempintro
  iexact Ht

theorem fill_end (q : PosShare TreeShare) (p : ℕ) : filling c fx rt q p 768 ⊢ iprop(flight c fx rt p ∗ table c rt q) := by
  unfold filling flight
  iintro ⟨HB, -, Hl, Ht⟩
  rw [show (Finset.univ.filter fun r : Fin 768 => r.val < 768) = Finset.univ from by ext r; simp [r.isLt]]
  isplitr [Ht]
  · isplitl [HB]; · iexact HB
    iexact Hl
  iexact Ht

theorem drain_end (p : ℕ) :
    iprop(batch c fx rt p 768 (rowUnits * 768) ∗ bigSep Finset.univ (left c fx rt p)) ⊢ |={Set.univ}=> full c fx rt p := by
  iintro ⟨HB, Hl⟩
  imod (Transfers.batch_collect' (countersEmb (U := Pipeline.UD sig nD τ)) (c : Thread nD τ) (sm := .dma (cell p)) (ι := ()) rowUnits_pos (D := deliv c fx rt p)) $$ HB with ⟨HD, Hv⟩
  imodintro
  unfold full
  ihave H := (show iprop(bigSep Finset.univ (deliv c fx rt p) ∗ bigSep Finset.univ (left c fx rt p))
      ⊢ iprop(sc c (slotSet (p % 2)) (gath fx rt p) ∗ bigSep Finset.univ (fun r : Fin 768 => xTok c fx (768 * (p % 2) + r.val) Finset.univ)) from by
    have key : ∀ r : Fin 768, iprop(deliv c fx rt p r ∗ left c fx rt p r)
        ⊢ iprop(sc c (rowSet (p % 2) r.val) (gath fx rt p) ∗ xTok c fx (768 * (p % 2) + r.val) Finset.univ) := by
      intro r
      unfold deliv left
      iintro ⟨⟨H1, H2⟩, H3⟩
      isplitl [H1]; · iexact H1
      iapply (pointsTo_split_subset (Finset.subset_univ (xSet (tokRow rt p r.val)))).2
      isplitl [H2]; · iexact H2
      iexact H3
    rw [slot_rows, ← bigSep_sep', ← bigSep_sep']
    exact BI.bigSep_mono fun r _ => key r) $$ [HD Hl]
  · isplitl [HD]; · iexact HD
    iexact Hl
  icases H with ⟨H1, H2⟩
  isplitl [H1]; · iexact H1
  isplitl [Hv]; · iexact Hv
  iexact H2

end Rules

end Cert.Proof.Comb

end
-- ==== Proof.CombBody.lean ====
module

public import proofs.«01_k».proof.Proof.CombIssue
public import proofs.«01_k».proof.Proof.Body

/-! # The combination's body at one grid point

The body fills slot 0 with tile 0 (first point only), fills the other slot with the next tile (while there is one),
drains this tile's copies, weighs and adds the two halves of its slot, and stores the normalized rows twice, once in
each result. -/

@[expose] public section

set_option maxRecDepth 16384

noncomputable section

namespace Cert.Proof.Comb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelMIdeal Cert.KernelMIdeal.Gen

variable {F : FTy → Type} [FloatOps F]

/-- The resources of the proof: the pipeline's and the counters of the transfers. -/
local notation "𝕄" => MT nD τ sig Unit (Elt F) ℕ (Pipeline.UD sig nD τ) ℕ

variable (c : Dev nD) (fx : S37120x2048.Idx → Elt F .f32) (rt : S33024.Idx → BitVec 32)

/-! ## Reading and writing a whole window -/

section Window

variable {sp : Space} {s : Shape} {e : EltTy} (m : Memref sig .tc sp s e)

theorem access_sub (r : Rect s) : (m.access r).set ⊆ m.view.set := by
  refine (show (m.view.slice r).set ⊆ m.view.set from ?_)
  rw [View.set_slice]
  exact Finset.map_subset_map.2 (Finset.subset_univ _)

theorem read_all {off : Fin s.rank → ℕ} (ho : ∀ a, off a = 0) (h : ∀ a, off a + s.size a ≤ s.size a) (f : m.view.ty.Contents (Elt F)) :
    (m.access (Rect.unit (s := s) off s.size h)).read (Elt F) f = m.view.read (Elt F) f := by
  funext y
  exact congrArg (m.view.read (Elt F) f) (emb_all ho h y)

theorem read_write_all {off : Fin s.rank → ℕ} (ho : ∀ a, off a = 0) (h : ∀ a, off a + s.size a ≤ s.size a) (f : m.view.ty.Contents (Elt F))
    (w : s.Idx → Elt F e) :
    m.view.read (Elt F) ((m.access (Rect.unit (s := s) off s.size h)).write (Elt F) f w Finset.univ) = w :=
  (read_all m ho h _).symm.trans (View.read_write_univ (v := m.access (Rect.unit (s := s) off s.size h)) f w)

end Window

section Steps

variable {Λ : Labels} {defs : Defs nD τ sig (Elt F) Λ} (𝒱 : Variants) (bd : Option 𝒱.V)

/-- One step of a program beside what the step does not touch. -/
theorem wp_seq {α : Type} {P P' R : sProp 𝕄} {Q : α → sProp 𝕄} {m : Prog (TpuEff nD τ sig (Elt F) Λ .tc) PUnit}
    {k : PUnit → Prog (TpuEff nD τ sig (Elt F) Λ .tc) α}
    (h1 : P ⊢ wp frame (wpE defs 𝒱 (c : Thread nD τ) bd) Set.univ m (fun _ => P'))
    (h2 : iprop(P' ∗ R) ⊢ wp frame (wpE defs 𝒱 (c : Thread nD τ) bd) Set.univ (k ⟨⟩) Q) :
    iprop(P ∗ R) ⊢ wp frame (wpE defs 𝒱 (c : Thread nD τ) bd) Set.univ (m >>= k) Q := by
  rw [wp_bind]
  refine BIBase.Entails.trans (BIClass.sep_mono h1 .rfl) ?_
  exact (wp_frame_r _ _ _).trans (wp_mono _ _ _ fun _ => h2)

/-- Loading a whole window that is owned. -/
theorem wp_load_all {cs : CoreSpace} {s : Shape} {e : EltTy} (m : Memref sig .tc cs s e) {off : Fin s.rank → ℕ} (ho : ∀ a, off a = 0)
    {h : ∀ a, off a + s.size a ≤ s.size a} {hl} {X : s.Idx → Elt F e} {q : PosShare TreeShare}
    {α : Type} {k : (s.Idx → Elt F e) → Prog (TpuEff nD τ sig (Elt F) Λ .tc) α} {Q : α → sProp 𝕄} :
    owns (c : Thread nD τ) m q X
      ⊢ iprop((owns (c : Thread nD τ) m q X -∗ wp frame (wpE defs 𝒱 (c : Thread nD τ) bd) Set.univ (k X) Q)
        -∗ wp frame (wpE defs 𝒱 (c : Thread nD τ) bd) Set.univ (.op (.load m (Rect.unit (s := s) off s.size h).toLoadRect hl) k) Q) := by
  unfold owns
  iintro ⟨%f, %hf, H⟩ Hk
  iapply (wp_load_rect 𝒱 (c : Thread nD τ) bd Set.univ (m := m) (r := Rect.unit (s := s) off s.size h) (S := m.view.set) (q := q) (f := f) (access_sub m _)) $$ [H]
  · iexact H
  iintro H
  rw [read_all m ho h f, hf]
  iapply Hk
  iexists f
  isplitr
  · ipureintro; exact hf
  iexact H

/-- Storing a whole window that is owned. -/
theorem wp_store_all {cs : CoreSpace} {s : Shape} {e : EltTy} (m : Memref sig .tc cs s e) {off : Fin s.rank → ℕ} (ho : ∀ a, off a = 0)
    {h : ∀ a, off a + s.size a ≤ s.size a} {w : s.Idx → Elt F e} {hx hm} {X : s.Idx → Elt F e}
    {α : Type} {k : PUnit → Prog (TpuEff nD τ sig (Elt F) Λ .tc) α} {Q : α → sProp 𝕄} :
    owns (c : Thread nD τ) m fullShare X
      ⊢ iprop((owns (c : Thread nD τ) m fullShare w -∗ wp frame (wpE defs 𝒱 (c : Thread nD τ) bd) Set.univ (k ⟨⟩) Q)
        -∗ wp frame (wpE defs 𝒱 (c : Thread nD τ) bd) Set.univ (.op (.store m (Rect.unit (s := s) off s.size h) w Finset.univ hx hm) k) Q) := by
  unfold owns
  iintro ⟨%f, %hf, H⟩ Hk
  iapply (wp_store 𝒱 (c : Thread nD τ) bd Set.univ (m := m) (r := Rect.unit (s := s) off s.size h) (S := m.view.set) (f := f) (access_sub m _)) $$ [H]
  · iexact H
  iintro H
  iapply Hk
  iexists _
  isplitr
  · ipureintro; exact read_write_all m ho h f w
  iexact H

end Steps

section Steps2

variable {defs1 : Defs nD τ sig (Elt F) Λ₀} (𝒱 : Variants) (bd : Option 𝒱.V)
variable (hrt : ∀ x, (rt x).toNat < 37120)
variable (arg3 : Memref sig .tc .vmem S384x2048 .f32) (harg3 : arg3.IsWhole) (arg4 : Memref sig .tc .vmem S384x128 .f32) (harg4 : arg4.IsWhole)
  (arg5 : Memref sig .tc .vmem S1x2048 .f32) (harg5 : arg5.IsWhole) (arg6 : Memref sig .tc .vmem S1x2048 .f32) (harg6 : arg6.IsWhole)
  (arg7 : Memref sig .tc .vmem S384x2048 .f32) (harg7 : arg7.IsWhole) (arg8 : Memref sig .tc .vmem S384x2048 .bf16) (harg8 : arg8.IsWhole)
variable (h1 : (Memref.whole main_arg0 : Memref sig .tc .smem S33024 .i32).IsWhole) (h2 : (Memref.whole main_arg1 : Memref sig .tc .hbm S37120x2048 .f32).IsWhole)
  (h9 : (Memref.whole cc0_scratch0 : Memref sig .tc .vmem S2x2x384x2048 .f32).IsWhole)

/-! ## The slots between the steps -/

/-- The slot of tile `p` when the point of tile `p` begins: in flight, unless the tile is the first or past the last. -/
def before (p : ℕ) : sProp 𝕄 := if 0 < p ∧ p < 43 then flight c fx rt p else idle c fx p

theorem idle_mod {s s' : ℕ} (h : s % 2 = s' % 2) : (idle c fx s : sProp 𝕄) = idle c fx s' := by
  unfold idle cell
  simp only [h]

/-- Half `h` of the gathered rows of tile `p`, as they are loaded from the slot. -/
def half (p h : ℕ) : Vec F S1x1x384x2048 .f32 :=
  fun y => fx (ix2 (⟨tokRow rt p (2 * (y 2).val + h) % 37120, Nat.mod_lt _ (by decide)⟩ : Fin 37120) (y 3))

/-- The weighted sum of the two halves of tile `p`. -/
def tileMoe (p : ℕ) (x4 : Vec F S384x128 .f32) : FVec F S384x2048 .f32 := k0_pay3 x4 (half fx rt p 0) (half fx rt p 1)

include hrt in
/-- The first step: at the first point, the first tile's copies are issued. -/
theorem step_first (q : PosShare TreeShare) (i : grid0.Coords) {α : Type} (k : Prog (TpuEff nD τ sig (Elt F) Λ₀ .tc) α)
    {Q : α → sProp 𝕄} {R : sProp 𝕄}
    (H : iprop((flight c fx rt (i 0).val ∗ table c rt q) ∗ R) ⊢ wp frame (wpE defs1 𝒱 (c : Thread nD τ) bd) Set.univ k Q) :
    iprop((before c fx rt (i 0).val ∗ table c rt q) ∗ R) ⊢ wp frame (wpE defs1 𝒱 (c : Thread nD τ) bd) Set.univ
      (if hc : k0_cond1 i = 1#1 then do
        Scf.Loop.for k0_t1_loop (k0_t1_ok i hc) ⟨⟩ (k0_t1_body (F := F) i (Memref.whole main_arg0) h1 (Memref.whole main_arg1) h2 arg3 harg3 arg4 harg4
            arg5 harg5 arg6 harg6 arg7 harg7 arg8 harg8 (Memref.whole cc0_scratch0) h9 cc0_scratch1 hc)
        k
      else k) Q := by
  have hi : (i 0).val < 43 := (i 0).isLt
  by_cases hc : k0_cond1 i = 1#1
  · rw [dif_pos hc]
    have hp := (cond1_iff i).1 hc
    unfold before at *
    rw [hp] at H ⊢
    rw [if_neg (by omega)]
    iintro ⟨H1, HR⟩
    imod (fill_start c fx rt q 0) $$ H1 with HF
    iapply (Scf.wp_for_bind frame (wpE defs1 𝒱 (c : Thread nD τ) bd) Set.univ _ _ _ (k0_t1_ok i hc) ⟨⟩ _
      (fun k _ => filling c fx rt q 0 (2 * k)) (fun k acc => fill_first c fx rt 𝒱 bd hrt arg3 harg3 arg4 harg4 arg5 harg5 arg6 harg6 arg7 harg7 arg8 harg8 h1 h2 h9 q i hc k acc)) $$ [HF]
    · iexact HF
    iintro %acc HF
    iapply H
    isplitl [HF]
    · iapply (fill_end c fx rt q 0)
      iexact HF
    iexact HR
  · rw [dif_neg hc]
    have hp : (i 0).val ≠ 0 := fun h => hc ((cond1_iff i).2 h)
    refine BIBase.Entails.trans ?_ H
    unfold before
    rw [if_pos ⟨by omega, hi⟩]

include hrt in
/-- The second step: while there is a next tile, its copies are issued into the other slot. -/
theorem step_next (q : PosShare TreeShare) (i : grid0.Coords) {α : Type} (k : Prog (TpuEff nD τ sig (Elt F) Λ₀ .tc) α)
    {Q : α → sProp 𝕄} {R : sProp 𝕄}
    (H : iprop((before c fx rt ((i 0).val + 1) ∗ table c rt q) ∗ R) ⊢ wp frame (wpE defs1 𝒱 (c : Thread nD τ) bd) Set.univ k Q) :
    iprop((idle c fx ((i 0).val + 1) ∗ table c rt q) ∗ R) ⊢ wp frame (wpE defs1 𝒱 (c : Thread nD τ) bd) Set.univ
      (if hc : k0_cond2 i = 1#1 then do
        Scf.Loop.for k0_t2_loop (k0_t2_ok i hc) ⟨⟩ (k0_t2_body (F := F) i (Memref.whole main_arg0) h1 (Memref.whole main_arg1) h2 arg3 harg3 arg4 harg4
            arg5 harg5 arg6 harg6 arg7 harg7 arg8 harg8 (Memref.whole cc0_scratch0) h9 cc0_scratch1 hc)
        k
      else k) Q := by
  by_cases hc : k0_cond2 i = 1#1
  · rw [dif_pos hc]
    have hp := (cond2_iff i).1 hc
    unfold before at *
    rw [if_pos ⟨by omega, hp⟩] at H
    iintro ⟨H1, HR⟩
    imod (fill_start c fx rt q ((i 0).val + 1)) $$ H1 with HF
    iapply (Scf.wp_for_bind frame (wpE defs1 𝒱 (c : Thread nD τ) bd) Set.univ _ _ _ (k0_t2_ok i hc) ⟨⟩ _
      (fun k _ => filling c fx rt q ((i 0).val + 1) (2 * k)) (fun k acc => fill_next c fx rt 𝒱 bd hrt arg3 harg3 arg4 harg4 arg5 harg5 arg6 harg6 arg7 harg7 arg8 harg8 h1 h2 h9 q i hc hp k acc)) $$ [HF]
    · iexact HF
    iintro %acc HF
    iapply H
    isplitl [HF]
    · iapply (fill_end c fx rt q ((i 0).val + 1))
      iexact HF
    iexact HR
  · rw [dif_neg hc]
    have hp : ¬ (i 0).val + 1 < 43 := fun h => hc ((cond2_iff i).2 h)
    refine BIBase.Entails.trans ?_ H
    unfold before
    rw [if_neg (by omega)]

theorem emb_slot (p h : ℕ) {off : Fin 4 → ℕ} (e : off = ![p % 2, h, 0, 0]) (hb : ∀ a, off a + S1x1x384x2048.size a ≤ S2x2x384x2048.size a) :
    ((Memref.whole cc0_scratch0 : Memref sig .tc .vmem S2x2x384x2048 .f32).access (Rect.unit (s := S2x2x384x2048) off S1x1x384x2048.size hb)).set ⊆ slotSet (p % 2) := by
  subst e
  refine (show (View.slice (Memref.whole cc0_scratch0 : Memref sig .tc .vmem S2x2x384x2048 .f32).view (Rect.unit (s := S2x2x384x2048) ![p % 2, h, 0, 0] S1x1x384x2048.size hb)).set ⊆ slotSet (p % 2) from ?_)
  intro y hy
  have hy' := (View.set_slice_whole _ _) ▸ hy
  rw [Rect.mem_set_unit] at hy'
  have a0 : p % 2 ≤ ((show S2x2x384x2048.Idx from y) 0).val ∧ ((show S2x2x384x2048.Idx from y) 0).val < p % 2 + 1 := hy' 0
  exact mem_slotSet.2 (Nat.le_antisymm (Nat.lt_succ_iff.1 a0.2) a0.1)

theorem read_slot (p h : ℕ) {off : Fin 4 → ℕ} (e : off = ![p % 2, h, 0, 0]) (hb : ∀ a, off a + S1x1x384x2048.size a ≤ S2x2x384x2048.size a) :
    ((Memref.whole cc0_scratch0 : Memref sig .tc .vmem S2x2x384x2048 .f32).access (Rect.unit (s := S2x2x384x2048) off S1x1x384x2048.size hb)).read (Elt F) (gath fx rt p)
      = half fx rt p h := by
  subst e
  funext y
  show gath fx rt p ((Rect.unit (s := S2x2x384x2048) ![p % 2, h, 0, 0] S1x1x384x2048.size hb).emb y) = half fx rt p h y
  have y1 : (y 1).val < 1 := (y 1).isLt
  have e1 : (((Rect.unit (s := S2x2x384x2048) ![p % 2, h, 0, 0] S1x1x384x2048.size hb).emb y) 1).val = h := by
    show h + 1 * (y 1).val = h; omega
  have e2 : (((Rect.unit (s := S2x2x384x2048) ![p % 2, h, 0, 0] S1x1x384x2048.size hb).emb y) 2).val = (y 2).val := by
    show 0 + 1 * (y 2).val = (y 2).val; omega
  unfold gath half
  congr 1
  funext a
  fin_cases a
  · apply Fin.ext
    show tokRow rt p (2 * (((Rect.unit (s := S2x2x384x2048) ![p % 2, h, 0, 0] S1x1x384x2048.size hb).emb y) 2).val
      + (((Rect.unit (s := S2x2x384x2048) ![p % 2, h, 0, 0] S1x1x384x2048.size hb).emb y) 1).val) % 37120 = tokRow rt p (2 * (y 2).val + h) % 37120
    rw [e1, e2]
  · apply Fin.ext
    show 0 + 1 * (y 3).val = (y 3).val
    omega

/-- The four windows read, the waits recorded. -/
def windows (x3 : Vec F S384x2048 .f32) (x4 : Vec F S384x128 .f32) (x5 x6 : Vec F S1x2048 .f32) : sProp 𝕄 :=
  iprop((∃ W', owes (c : Thread nD τ) 0 W') ∗ owns (c : Thread nD τ) arg3 fullShare x3 ∗ owns (c : Thread nD τ) arg4 fullShare x4
    ∗ owns (c : Thread nD τ) arg5 fullShare x5 ∗ owns (c : Thread nD τ) arg6 fullShare x6)

/-- What a point holds of the slots when tile `p`'s point begins. -/
def slots (p : ℕ) : sProp 𝕄 := iprop(before c fx rt p ∗ idle c fx (p + 1))

include hrt in
/-- The part of the body that issues and drains the copies and weighs the two halves. -/
theorem wp_part (q : PosShare TreeShare) (i : grid0.Coords) (x3 : Vec F S384x2048 .f32) (x4 : Vec F S384x128 .f32) (x5 x6 : Vec F S1x2048 .f32) :
    iprop(slots c fx rt (i 0).val ∗ table c rt q ∗ windows c arg3 arg4 arg5 arg6 x3 x4 x5 x6)
      ⊢ wp frame (wpE defs1 𝒱 (c : Thread nD τ) bd) Set.univ
          (k0_part1 (F := F) i (Memref.whole main_arg0) h1 (Memref.whole main_arg1) h2 arg3 harg3 arg4 harg4
            arg5 harg5 arg6 harg6 arg7 harg7 arg8 harg8 (Memref.whole cc0_scratch0) h9 cc0_scratch1)
          (fun r => iprop(⌜r = tileMoe fx rt (i 0).val x4⌝ ∗ slots c fx rt ((i 0).val + 1) ∗ table c rt q ∗ windows c arg3 arg4 arg5 arg6 x3 x4 x5 x6)) := by
  rw [k0_part1_eq_skeleton]
  unfold k0_part1_skel slots
  refine BIBase.Entails.trans ?_ (step_first c fx rt (R := iprop(idle c fx ((i 0).val + 1) ∗ windows c arg3 arg4 arg5 arg6 x3 x4 x5 x6))
    𝒱 bd hrt arg3 harg3 arg4 harg4 arg5 harg5 arg6 harg6 arg7 harg7 arg8 harg8 h1 h2 h9 q i _ ?_)
  · iintro ⟨⟨HA, HI⟩, HT, HW⟩
    isplitl [HA HT]
    · isplitl [HA]; · iexact HA
      iexact HT
    isplitl [HI]; · iexact HI
    iexact HW
  refine BIBase.Entails.trans ?_ (step_next c fx rt (R := iprop(flight c fx rt (i 0).val ∗ windows c arg3 arg4 arg5 arg6 x3 x4 x5 x6))
    𝒱 bd hrt arg3 harg3 arg4 harg4 arg5 harg5 arg6 harg6 arg7 harg7 arg8 harg8 h1 h2 h9 q i _ ?_)
  · iintro ⟨⟨HB, HT⟩, HI, HW⟩
    isplitl [HI HT]
    · isplitl [HI]; · iexact HI
      iexact HT
    isplitl [HB]; · iexact HB
    iexact HW
  rw [idle_mod c fx (s := (i 0).val + 1 + 1) (s' := (i 0).val) (by omega)]
  unfold flight windows
  iintro ⟨⟨HA, HT⟩, ⟨HB, Hl⟩, HW, H3, H4, H5, H6⟩
  iapply (Scf.wp_for_bind frame (wpE defs1 𝒱 (c : Thread nD τ) bd) Set.univ _ _ _ k0_t3_ok ⟨⟩ _
      (fun k _ => iprop(batch c fx rt (i 0).val 768 (rowUnits * (2 * k)) ∗ ∃ W', owes (c : Thread nD τ) 0 W'))
      (fun k acc => drain_trip c fx rt 𝒱 bd arg3 harg3 arg4 harg4 arg5 harg5 arg6 harg6 arg7 harg7 arg8 harg8 h1 h2 h9 i k acc)) $$ [HB HW]
  · isplitl [HB]; · iexact HB
    iexact HW
  iintro %acc ⟨HB, HW⟩
  ihave HF := (drain_end c fx rt (i 0).val) $$ [HB Hl]
  · isplitl [HB]; · iexact HB
    iexact Hl
  imod HF
  ihave HF' := (show full c fx rt (i 0).val ⊢ iprop(sc c (slotSet ((i 0).val % 2)) (gath fx rt (i 0).val) ∗ (sc c (slotSet ((i 0).val % 2)) (gath fx rt (i 0).val) -∗ full c fx rt (i 0).val)) from by
    unfold full
    iintro ⟨H1, H2⟩
    isplitl [H1]; · iexact H1
    iintro H1
    isplitl [H1]; · iexact H1
    iexact H2) $$ HF
  icases HF' with ⟨Hs, Hb⟩
  iapply (wp_load_all c 𝒱 bd arg4 (by intro a; fin_cases a <;> rfl)) $$ H4
  iintro H4
  iapply (wp_load_rect 𝒱 (c : Thread nD τ) bd Set.univ (m := (Memref.whole cc0_scratch0 : Memref sig .tc .vmem S2x2x384x2048 .f32))
    (r := Rect.unit (s := S2x2x384x2048) (k0_off18 i) S1x1x384x2048.size (k0_off18_inb i)) (S := slotSet ((i 0).val % 2)) (q := fullShare) (f := gath fx rt (i 0).val)
    (emb_slot (i 0).val 0 (off18_eq i) (k0_off18_inb i))) $$ [Hs]
  · iexact Hs
  iintro Hs
  iapply (wp_load_rect 𝒱 (c : Thread nD τ) bd Set.univ (m := (Memref.whole cc0_scratch0 : Memref sig .tc .vmem S2x2x384x2048 .f32))
    (r := Rect.unit (s := S2x2x384x2048) (k0_off19 i) S1x1x384x2048.size (k0_off19_inb i)) (S := slotSet ((i 0).val % 2)) (q := fullShare) (f := gath fx rt (i 0).val)
    (emb_slot (i 0).val 1 (off19_eq i) (k0_off19_inb i))) $$ [Hs]
  · iexact Hs
  iintro Hs
  iapply (le_wp_ret _ _ _ _ _)
  isplitr
  · ipureintro
    rw [read_slot fx rt (i 0).val 0 (off18_eq i) (k0_off18_inb i), read_slot fx rt (i 0).val 1 (off19_eq i) (k0_off19_inb i)]
    rfl
  isplitl [HA Hs Hb]
  · isplitl [HA]; · iexact HA
    iapply (full_idle c fx rt)
    iapply Hb
    iexact Hs
  isplitl [HT]; · iexact HT
  isplitl [HW]; · iexact HW
  isplitl [H3]; · iexact H3
  isplitl [H4]; · iexact H4
  isplitl [H5]; · iexact H5
  iexact H6

/-- What a point stores in the 32-bit result. -/
def outF (p : ℕ) (x3 : Vec F S384x2048 .f32) (x4 : Vec F S384x128 .f32) (x5 x6 : Vec F S1x2048 .f32) : Vec F S384x2048 .f32 :=
  k0_pay1 (tileMoe fx rt p x4) x3 x5 x6
/-- What a point stores in the 16-bit result. -/
def outB (p : ℕ) (x3 : Vec F S384x2048 .f32) (x4 : Vec F S384x128 .f32) (x5 x6 : Vec F S1x2048 .f32) : Vec F S384x2048 .bf16 :=
  k0_pay2 (tileMoe fx rt p x4) x3 x5 x6

include hrt in
/-- The body at one point: the slots move on by one tile, the windows read stay, the windows written hold the point's values. -/
theorem wp_point (q : PosShare TreeShare) (i : grid0.Coords) (x3 : Vec F S384x2048 .f32) (x4 : Vec F S384x128 .f32) (x5 x6 : Vec F S1x2048 .f32) :
    iprop((slots c fx rt (i 0).val ∗ table c rt q ∗ windows c arg3 arg4 arg5 arg6 x3 x4 x5 x6)
        ∗ (∃ d, owns (c : Thread nD τ) arg7 fullShare d) ∗ ∃ d, owns (c : Thread nD τ) arg8 fullShare d)
      ⊢ wp frame (wpE defs1 𝒱 (c : Thread nD τ) bd) Set.univ
          (cc0_moe_combine_ln (F := F) i (Memref.whole main_arg0) h1 (Memref.whole main_arg1) h2 arg3 harg3 arg4 harg4
            arg5 harg5 arg6 harg6 arg7 harg7 arg8 harg8 (Memref.whole cc0_scratch0) h9 cc0_scratch1)
          (fun _ => iprop((slots c fx rt ((i 0).val + 1) ∗ table c rt q ∗ windows c arg3 arg4 arg5 arg6 x3 x4 x5 x6)
            ∗ owns (c : Thread nD τ) arg7 fullShare (outF fx rt (i 0).val x3 x4 x5 x6)
            ∗ owns (c : Thread nD τ) arg8 fullShare (outB fx rt (i 0).val x3 x4 x5 x6))) := by
  rw [cc0_moe_combine_ln_eq_skeleton]
  unfold cc0_moe_combine_ln_skel
  rw [wp_bind]
  iintro ⟨HP, ⟨%d7, H7⟩, ⟨%d8, H8⟩⟩
  ihave Hw := (wp_part c fx rt (defs1 := defs1) 𝒱 bd hrt arg3 harg3 arg4 harg4 arg5 harg5 arg6 harg6 arg7 harg7 arg8 harg8 h1 h2 h9 q i x3 x4 x5 x6) $$ HP
  iapply (wp_wand _ _ _) $$ Hw
  unfold windows
  iintro %r ⟨%hr, HS, HT, HW, H3, H4, H5, H6⟩
  subst hr
  iapply (wp_load_all c 𝒱 bd arg3 (by intro a; fin_cases a <;> rfl)) $$ H3
  iintro H3
  iapply (wp_load_all c 𝒱 bd arg5 (by intro a; fin_cases a <;> rfl)) $$ H5
  iintro H5
  iapply (wp_load_all c 𝒱 bd arg6 (by intro a; fin_cases a <;> rfl)) $$ H6
  iintro H6
  iapply (wp_load_all c 𝒱 bd arg7 (by intro a; fin_cases a <;> rfl)) $$ H7
  iintro H7
  iapply (wp_store_all c 𝒱 bd arg7 (by intro a; fin_cases a <;> rfl)) $$ H7
  iintro H7
  iapply (wp_load_all c 𝒱 bd arg8 (by intro a; fin_cases a <;> rfl)) $$ H8
  iintro H8
  iapply (wp_store_all c 𝒱 bd arg8 (by intro a; fin_cases a <;> rfl)) $$ H8
  iintro H8
  iapply (le_wp_ret _ _ _ _ _)
  isplitr [H7 H8]
  · isplitl [HS]; · iexact HS
    isplitl [HT]; · iexact HT
    isplitl [HW]; · iexact HW
    isplitl [H3]; · iexact H3
    isplitl [H4]; · iexact H4
    isplitl [H5]; · iexact H5
    iexact H6
  isplitl [H7]; · iexact H7
  iexact H8

end Steps2

end Cert.Proof.Comb

end
-- ==== Proof.CombLaunch.lean ====
module

public import proofs.«01_k».proof.Proof.CombBody
public import proofs.«01_k».proof.Proof.Inv
public import proofs.«01_k».proof.Proof.Gen.KernelMIdeal.Launch
public import Idealize.ShloMosaic.Lib.Ring
public import Idealize.ShloMosaic.Lib.Pipeline.FrameBody

/-! # The combination's invariant between grid points, and the run of the whole call

Between two points the kernel holds its two slots (one perhaps in flight), half of the table of places, the part of
the experts' array it has not lent to a copy, and the generator register. From a table that names existing rows the
call runs to its end, nothing faults, its arguments are unchanged, every semaphore ends at zero, and the two results
are what the 43 points wrote. -/

@[expose] public section

set_option maxRecDepth 16384

noncomputable section

namespace Cert.Proof.Comb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation cellOf)
open Cert.KernelMIdeal Cert.KernelMIdeal.Gen

variable {F : FTy → Type} [FloatOps F]

/-- The resources of the proof: the pipeline's and the counters of the transfers. -/
local notation "𝕄" => MT nD τ sig Unit (Elt F) ℕ (Pipeline.UD sig nD τ) ℕ

section Inv

variable (c : Dev nD) (fx : S37120x2048.Idx → Elt F .f32) (rt : S33024.Idx → BitVec 32)

/-- The part of the experts' array no copy is lent. -/
abbrev xRest : sProp 𝕄 :=
  (Memref.whole main_arg1 : Memref sig .tc .hbm S37120x2048 .f32).view.loc (c : Thread nD τ) ↦[Finset.univ]{Transfers.shareDrop fullShare 1536} fx

/-- The shares of slot `s`. -/
abbrev xToks (s : ℕ) : sProp 𝕄 := bigSep Finset.univ (fun r : Fin 768 => xTok c fx (768 * s + r.val) Finset.univ)

theorem x_split :
    ((Memref.whole main_arg1 : Memref sig .tc .hbm S37120x2048 .f32).view.loc (c : Thread nD τ) ↦[Finset.univ]{fullShare} fx : sProp 𝕄)
      ⊣⊢ iprop(xRest c fx ∗ xToks c fx 0 ∗ xToks c fx 1) := by
  have e : iprop(xRest c fx ∗ BI.bigSep (Finset.range 1536) (fun i => xTok c fx i Finset.univ)) = (iprop(xRest c fx ∗ xToks c fx 0 ∗ xToks c fx 1) : sProp 𝕄) := by
    rw [show 1536 = 768 + 768 from rfl, range_add, range_fin, range_fin]
    simp only [xToks, Nat.mul_zero, Nat.zero_add, Nat.mul_one]
  rw [← e]
  exact Transfers.pointsTo_toks_range fullShare 1536

/-! ## The two slots at rest -/

/-- The two slots' own resources as the launch hands them over. -/
def rest : sProp 𝕄 :=
  iprop((∃ f : S2x2x384x2048.Idx → Elt F .f32, sc c Finset.univ f) ∗ (semVal ((c : Thread nD τ), SemLoc.dma (10 : DmaSem sig)) 0 ∗ semVal ((c : Thread nD τ), SemLoc.dma (11 : DmaSem sig)) 0)
    ∗ ((Memref.whole main_arg1 : Memref sig .tc .hbm S37120x2048 .f32).view.loc (c : Thread nD τ) ↦[Finset.univ]{fullShare} fx))

theorem rest_split : rest c fx ⊢ (iprop(idle c fx 0 ∗ idle c fx 1 ∗ xRest c fx) : sProp 𝕄) := by
  unfold rest idle
  iintro ⟨⟨%f, Hf⟩, ⟨H8, H9⟩, Hx⟩
  ihave Hx := (x_split c fx).1 $$ Hx
  icases Hx with ⟨Hr, Hx0, Hx1⟩
  ihave Hf := (show (sc c Finset.univ f : sProp 𝕄) ⊢ iprop(sc c (slotSet 0) f ∗ sc c (slotSet 1) f) from by
    rw [← slotSet_cover]; exact (pointsTo_union slotSet_disjoint).1) $$ Hf
  icases Hf with ⟨Hf0, Hf1⟩
  isplitl [Hf0 H8 Hx0]
  · isplitl [Hf0]; · iexists f; iexact Hf0
    isplitl [H8]; · iexact H8
    iexact Hx0
  isplitl [Hf1 H9 Hx1]
  · isplitl [Hf1]; · iexists f; iexact Hf1
    isplitl [H9]; · iexact H9
    iexact Hx1
  iexact Hr

theorem rest_join : (iprop(idle c fx 0 ∗ idle c fx 1 ∗ xRest c fx) : sProp 𝕄) ⊢ rest c fx := by
  unfold rest idle
  iintro ⟨⟨⟨%f, Hf⟩, H8, Hx0⟩, ⟨⟨%g, Hg⟩, H9, Hx1⟩, Hr⟩
  isplitl [Hf Hg]
  · iapply (show (iprop(sc c (slotSet 0) f ∗ sc c (slotSet 1) g) : sProp 𝕄) ⊢ iprop(∃ f : S2x2x384x2048.Idx → Elt F .f32, sc c Finset.univ f) from by
      refine BIBase.Entails.trans (pointsTo_join slotSet_disjoint) ?_
      rw [slotSet_cover]
      iintro H
      iexists _
      iexact H)
    isplitl [Hf]; · iexact Hf
    iexact Hg
  isplitl [H8 H9]
  · isplitl [H8]; · iexact H8
    iexact H9
  iapply (x_split c fx).2
  isplitl [Hr]; · iexact Hr
  isplitl [Hx0]; · iexact Hx0
  iexact Hx1

/-! ## The invariant -/

/-- What is held before point `p`. -/
def inv (p : ℕ) : sProp 𝕄 :=
  iprop(slots c fx rt p ∗ table c rt fullShare.right ∗ xRest c fx ∗ ∃ r, prngReg (Val := Elt F) c r)

theorem inv_start :
    (iprop(rest c fx ∗ table c rt fullShare.right ∗ ∃ r, prngReg (Val := Elt F) c r) : sProp 𝕄) ⊢ inv c fx rt 0 := by
  unfold inv slots before
  rw [if_neg (by omega)]
  iintro ⟨H, Ht, Hg⟩
  ihave H := rest_split c fx $$ H
  icases H with ⟨H0, H1, Hr⟩
  isplitl [H0 H1]
  · isplitl [H0]; · iexact H0
    iexact H1
  isplitl [Ht]; · iexact Ht
  isplitl [Hr]; · iexact Hr
  iexact Hg

theorem inv_end :
    inv c fx rt 43 ⊢ (iprop(rest c fx ∗ ∃ r, prngReg (Val := Elt F) c r) : sProp 𝕄) := by
  unfold inv slots before
  rw [if_neg (by omega), idle_mod c fx (show 43 % 2 = 1 % 2 from rfl), idle_mod c fx (show (43 + 1) % 2 = 0 % 2 from rfl)]
  iintro ⟨⟨H1, H0⟩, -, Hr, Hg⟩
  isplitl [H0 H1 Hr]
  · iapply (rest_join c fx)
    isplitl [H0]; · iexact H0
    isplitl [H1]; · iexact H1
    iexact Hr
  iexact Hg

end Inv

variable (m : (ℓ : Loc nD τ sig) → Buf (Elt F) ℓ) (g : Dev nD → PrngReg)

/-- The argument array `b` of device `c`. -/
abbrev arg (c : Dev nD) (b : Ref sig .tc) : Buf (Elt F) ((c : Thread nD τ).loc b) := m ((c : Thread nD τ).loc b)

/-- What the problem says of the table of places: every place is a row of the experts' array. -/
def Good : Prop := ∀ (c : Dev nD) (x : S33024.Idx), (show BitVec 32 from arg m c main_arg0 x).toNat < 37120

/-! ## The table -/

/-- The table's contents. -/
def pf : pre0.Contents (Elt F) := fun k => m (((0 : Dev nD) : Thread nD τ).loc (pre0.ref k))

/-- The table with the region's side condition, which asks nothing. -/
def adm (_ : Fin 1) : (pcfg0 (F := F)).Adm := ⟨pf m, trivial⟩

/-! ## The proof data -/

/-- What each array holds when the kernel is entered: the scale and the offset have been laid out as rows. -/
abbrev V (c : Dev nD) (b : Ref sig .tc) : Buf (Elt F) ((c : Thread nD τ).loc b) :=
  StableHlo.after hostOps0 (fun b => m (c, b)) b

theorem V_arg0 (c : Dev nD) : V m c main_arg0 = arg m c main_arg0 := rfl
theorem V_arg1 (c : Dev nD) : V m c main_arg1 = arg m c main_arg1 := rfl
theorem V_arg2 (c : Dev nD) : V m c main_arg2 = arg m c main_arg2 := rfl
theorem V_arg3 (c : Dev nD) : V m c main_arg3 = arg m c main_arg3 := rfl
theorem V_arg4 (c : Dev nD) : V m c main_arg4 = arg m c main_arg4 := rfl
theorem V_arg5 (c : Dev nD) : V m c main_arg5 = arg m c main_arg5 := rfl

/-- The semaphores of the kernel's own copies. -/
def osem0 : Fin 2 → SemLoc sig := fun j => (![SemLoc.dma 10, SemLoc.dma 11] : Fin 2 → SemLoc sig) j

theorem ownSemFacts0 : Pipeline.OwnSemFacts spec0 osem0 := by decide

theorem ownSems0_eq (c : Dev nD) : (Pipeline.ownSems0 (τ := τ) osem0 c : sProp 𝕄)
    = iprop(semVal ((c : Thread nD τ), SemLoc.dma (10 : DmaSem sig)) 0 ∗ semVal ((c : Thread nD τ), SemLoc.dma (11 : DmaSem sig)) 0) := by
  rw [Pipeline.ownSems0_eq_of_list c osem0 [0, 1] (by decide) (by decide)]; rfl

/-- The array the kernel's own copies read. -/
def H0 : Finset (Ref sig .tc) := {main_arg1}

theorem H0_sub : H0 ⊆ Pipeline.restRefsP sig pre0 spec0 := by decide

/-- The arrays of the six windows when the kernel is entered. -/
abbrev A0 (c : Dev nD) (w : Fin (cfg0 (adm m 0)).W) : Buf (Elt F) (((cfg0 (adm m 0)).win w).arr.view.loc (c.tc : Thread nD τ)) :=
  V m c (Pipeline.arrRef spec0 w)

/-- What window `w` holds at point `t`. -/
def held (c : Dev nD) (w : Fin (cfg0 (adm m 0)).W) (t : Fin (cfg0 (adm m 0)).N) :
    ((cfg0 (adm m 0)).win w).block.Idx → Elt F ((cfg0 (adm m 0)).win w).elt :=
  Pipeline.heldIn (cfg0 (adm m 0)) (A0 m c) w t.val t.isLt

/-- What the point `t` writes in the 32-bit result. -/
def out4 (c : Dev nD) (t : Fin (cfg0 (adm m 0)).N) : Vec F S384x2048 .f32 :=
  outF (arg m c main_arg1) (arg m c main_arg0) t.val (held m c 0 t) (held m c 1 t) (held m c 2 t) (held m c 3 t)
/-- What the point `t` writes in the 16-bit result. -/
def out5 (c : Dev nD) (t : Fin (cfg0 (adm m 0)).N) : Vec F S384x2048 .bf16 :=
  outB (arg m c main_arg1) (arg m c main_arg0) t.val (held m c 0 t) (held m c 1 t) (held m c 2 t) (held m c 3 t)

/-- The proof data of the call. -/
def dats (_ : Fin 1) (c : Dev nD) : Dat τ (Elt F) Unit ℕ (Pipeline.UD sig nD τ) ℕ (cfg0 (adm m 0)) c where
  A w := A0 m c w
  after w t := match w with
    | ⟨0, _⟩ => held m c 0 t
    | ⟨1, _⟩ => held m c 1 t
    | ⟨2, _⟩ => held m c 2 t
    | ⟨3, _⟩ => held m c 3 t
    | ⟨4, _⟩ => out4 m c t
    | ⟨5, _⟩ => out5 m c t
  Φ t := inv c (arg m c main_arg1) (arg m c main_arg0) t.val
  q _ := fullShare
  owed _ := 0

theorem A_eq (c : Dev nD) (w : Fin (cfg0 (adm m 0)).W) : (dats m 0 c).A w = V m c (Pipeline.arrRef spec0 w) := by
  dsimp only [dats]
theorem after_0 (c : Dev nD) (t : Fin (cfg0 (adm m 0)).N) : (dats m 0 c).after 0 t = held m c 0 t := rfl
theorem after_1 (c : Dev nD) (t : Fin (cfg0 (adm m 0)).N) : (dats m 0 c).after 1 t = held m c 1 t := rfl
theorem after_2 (c : Dev nD) (t : Fin (cfg0 (adm m 0)).N) : (dats m 0 c).after 2 t = held m c 2 t := rfl
theorem after_3 (c : Dev nD) (t : Fin (cfg0 (adm m 0)).N) : (dats m 0 c).after 3 t = held m c 3 t := rfl
theorem after_4 (c : Dev nD) (t : Fin (cfg0 (adm m 0)).N) : (dats m 0 c).after 4 t = out4 m c t := rfl
theorem after_5 (c : Dev nD) (t : Fin (cfg0 (adm m 0)).N) : (dats m 0 c).after 5 t = out5 m c t := rfl

theorem before_0 (c : Dev nD) (t : Fin (cfg0 (adm m 0)).N) (d) : (dats m 0 c).before 0 t d = held m c 0 t :=
  Pipeline.Dat.before_eq_heldIn _ 0 rfl (fun _ => rfl) (fun _ _ => rfl) (fun t => after_0 m c t) t d
theorem before_1 (c : Dev nD) (t : Fin (cfg0 (adm m 0)).N) (d) : (dats m 0 c).before 1 t d = held m c 1 t :=
  Pipeline.Dat.before_eq_heldIn _ 1 rfl (fun _ => rfl) (fun _ _ => rfl) (fun t => after_1 m c t) t d
theorem before_2 (c : Dev nD) (t : Fin (cfg0 (adm m 0)).N) (d) : (dats m 0 c).before 2 t d = held m c 2 t :=
  Pipeline.Dat.before_eq_heldIn _ 2 rfl (fun _ => rfl) (fun _ _ => rfl) (fun t => after_2 m c t) t d
theorem before_3 (c : Dev nD) (t : Fin (cfg0 (adm m 0)).N) (d) : (dats m 0 c).before 3 t d = held m c 3 t :=
  Pipeline.Dat.before_eq_heldIn _ 3 rfl (fun _ => rfl) (fun _ _ => rfl) (fun t => after_3 m c t) t d

/-- A point's coordinate is its number. -/
theorem coord (t : Fin grid0.N) : (grid0.coords t 0).val = t.val := by
  have h : t.val < 43 := N_0 ▸ t.isLt
  rw [Pipeline.Grid.coords_val t 0 (S := 1) (B := 43) (by decide) rfl, Nat.div_one, Nat.mod_eq_of_lt h]

/-! ## The body obligation -/

abbrev ms_0 (t : Fin (cfg0 (adm m 0)).N) : Memref sig .tc .vmem S384x2048 .f32 := spec0_0.stage ((cfg0 (adm m 0)).slots t 0)
abbrev ms_1 (t : Fin (cfg0 (adm m 0)).N) : Memref sig .tc .vmem S384x128 .f32 := spec0_1.stage ((cfg0 (adm m 0)).slots t 1)
abbrev ms_2 (t : Fin (cfg0 (adm m 0)).N) : Memref sig .tc .vmem S1x2048 .f32 := spec0_2.stage ((cfg0 (adm m 0)).slots t 2)
abbrev ms_3 (t : Fin (cfg0 (adm m 0)).N) : Memref sig .tc .vmem S1x2048 .f32 := spec0_3.stage ((cfg0 (adm m 0)).slots t 3)
abbrev ms_4 (t : Fin (cfg0 (adm m 0)).N) : Memref sig .tc .vmem S384x2048 .f32 := spec0_4.stage ((cfg0 (adm m 0)).slots t 4)
abbrev ms_5 (t : Fin (cfg0 (adm m 0)).N) : Memref sig .tc .vmem S384x2048 .bf16 := spec0_5.stage ((cfg0 (adm m 0)).slots t 5)
theorem hs_0 (t : Fin (cfg0 (adm m 0)).N) : (ms_0 m t).IsWhole := hstage0_0 _
theorem hs_1 (t : Fin (cfg0 (adm m 0)).N) : (ms_1 m t).IsWhole := hstage0_1 _
theorem hs_2 (t : Fin (cfg0 (adm m 0)).N) : (ms_2 m t).IsWhole := hstage0_2 _
theorem hs_3 (t : Fin (cfg0 (adm m 0)).N) : (ms_3 m t).IsWhole := hstage0_3 _
theorem hs_4 (t : Fin (cfg0 (adm m 0)).N) : (ms_4 m t).IsWhole := hstage0_4 _
theorem hs_5 (t : Fin (cfg0 (adm m 0)).N) : (ms_5 m t).IsWhole := hstage0_5 _

/-- The body at one point. -/
def bodyAt (t : Fin (cfg0 (adm m 0)).N) : Prog (TpuEff nD τ sig (Elt F) Λ₀ .tc) PUnit :=
  cc0_moe_combine_ln (F := F) (grid0.coords t) (Memref.whole main_arg0) (Memref.isWhole_whole _) (Memref.whole main_arg1) (Memref.isWhole_whole _)
    (ms_0 m t) (hs_0 m t) (ms_1 m t) (hs_1 m t) (ms_2 m t) (hs_2 m t) (ms_3 m t) (hs_3 m t) (ms_4 m t) (hs_4 m t) (ms_5 m t) (hs_5 m t)
    (Memref.whole cc0_scratch0) (Memref.isWhole_whole _) cc0_scratch1

theorem defs_row (t : Fin (cfg0 (adm m 0)).N) :
    defs₀ (F := F) .tc (cfg0 (adm m 0)).body ((cfg0 (adm m 0)).bodyArgs t ((cfg0 (adm m 0)).slots t)) = bodyAt m t := by
  unfold defs₀; rw [Defs.onTc_tc]; rfl

def bodyPre (c : Dev nD) (t : Fin (cfg0 (adm m 0)).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d))
    ∗ (∃ d, owns (c : Thread nD τ) (ms_4 m t) fullShare ((dats m 0 c).before 4 t d))
    ∗ (∃ d, owns (c : Thread nD τ) (ms_5 m t) fullShare ((dats m 0 c).before 5 t d)))
def bodyPost (c : Dev nD) (t : Fin (cfg0 (adm m 0)).N) : sProp 𝕄 :=
  iprop((dats m 0 c).Φ t.succ ∗ (dats m 0 c).owesAt () t.succ
    ∗ owns (c : Thread nD τ) (ms_0 m t) fullShare ((dats m 0 c).after 0 t)
    ∗ owns (c : Thread nD τ) (ms_1 m t) fullShare ((dats m 0 c).after 1 t)
    ∗ owns (c : Thread nD τ) (ms_2 m t) fullShare ((dats m 0 c).after 2 t)
    ∗ owns (c : Thread nD τ) (ms_3 m t) fullShare ((dats m 0 c).after 3 t)
    ∗ owns (c : Thread nD τ) (ms_4 m t) fullShare ((dats m 0 c).after 4 t)
    ∗ owns (c : Thread nD τ) (ms_5 m t) fullShare ((dats m 0 c).after 5 t))

variable (hm : Good m)

include hm in
theorem point (c : Dev nD) (t : Fin (cfg0 (adm m 0)).N) (x3 : Vec F S384x2048 .f32) (x4 : Vec F S384x128 .f32) (x5 x6 : Vec F S1x2048 .f32) :
    iprop((slots c (arg m c main_arg1) (arg m c main_arg0) t.val ∗ table c (arg m c main_arg0) fullShare.right
        ∗ windows c (ms_0 m t) (ms_1 m t) (ms_2 m t) (ms_3 m t) x3 x4 x5 x6)
        ∗ (∃ d, owns (c : Thread nD τ) (ms_4 m t) fullShare d) ∗ ∃ d, owns (c : Thread nD τ) (ms_5 m t) fullShare d)
      ⊢ wp frame (wpE (defs₀ (F := F)) Variants.none (c : Thread nD τ) none) Set.univ (bodyAt m t)
        (fun _ => iprop((slots c (arg m c main_arg1) (arg m c main_arg0) (t.val + 1) ∗ table c (arg m c main_arg0) fullShare.right
          ∗ windows c (ms_0 m t) (ms_1 m t) (ms_2 m t) (ms_3 m t) x3 x4 x5 x6)
          ∗ owns (c : Thread nD τ) (ms_4 m t) fullShare (outF (arg m c main_arg1) (arg m c main_arg0) t.val x3 x4 x5 x6)
          ∗ owns (c : Thread nD τ) (ms_5 m t) fullShare (outB (arg m c main_arg1) (arg m c main_arg0) t.val x3 x4 x5 x6))) := by
  have h := wp_point (defs1 := defs₀ (F := F)) c (arg m c main_arg1) (arg m c main_arg0) Variants.none none (hm c)
    (ms_0 m t) (hs_0 m t) (ms_1 m t) (hs_1 m t) (ms_2 m t) (hs_2 m t) (ms_3 m t) (hs_3 m t) (ms_4 m t) (hs_4 m t) (ms_5 m t) (hs_5 m t)
    (Memref.isWhole_whole _) (Memref.isWhole_whole _) (Memref.isWhole_whole _)
    fullShare.right (grid0.coords t) x3 x4 x5 x6
  rw [coord t] at h
  exact h

include hm in
theorem sound_body (c : Dev nD) (t : Fin (cfg0 (adm m 0)).N) :
    bodyPre m c t ⊢ wp frame (wpE (defs₀ (F := F)) Variants.none (c : Thread nD τ) none) Set.univ (bodyAt m t) (fun _ => bodyPost m c t) := by
  unfold bodyPre bodyPost
  simp only [before_0, before_1, before_2, before_3]
  rw [after_0, after_1, after_2, after_3, after_4, after_5]
  rw [show (dats m 0 c).Φ t.succ = inv c (arg m c main_arg1) (arg m c main_arg0) (t.val + 1) from rfl,
    show (dats m 0 c).Φ t.castSucc = inv c (arg m c main_arg1) (arg m c main_arg0) t.val from rfl]
  unfold Dat.owesAt Pipeline.owesWithin
  rw [show (dats m 0 c).owed t.castSucc = 0 from rfl, show (dats m 0 c).owed t.succ = 0 from rfl]
  unfold inv
  iintro ⟨⟨HS, Htab, Hx, Hg⟩, ⟨%W, -, HW⟩, ⟨%d0, H0⟩, ⟨%d1, H1⟩, ⟨%d2, H2⟩, ⟨%d3, H3⟩, ⟨%d4, H4⟩, ⟨%d5, H5⟩⟩
  iapply (wp_wand_r _ _ _)
  isplitl [HS Htab HW H0 H1 H2 H3 H4 H5]
  · iapply (point m hm c t (held m c 0 t) (held m c 1 t) (held m c 2 t) (held m c 3 t))
    unfold windows
    isplitl [HS Htab HW H0 H1 H2 H3]
    · isplitl [HS]; · iexact HS
      isplitl [Htab]; · iexact Htab
      isplitl [HW]; · iexists W; iexact HW
      isplitl [H0]; · iexact H0
      isplitl [H1]; · iexact H1
      isplitl [H2]; · iexact H2
      iexact H3
    isplitl [H4]; · iexists _; iexact H4
    iexists _; iexact H5
  · unfold windows
    iintro %_ ⟨⟨HS, Htab, ⟨%W', HW⟩, H0, H1, H2, H3⟩, H4, H5⟩
    isplitl [HS Htab Hx Hg]
    · isplitl [HS]; · iexact HS
      isplitl [Htab]; · iexact Htab
      isplitl [Hx]; · iexact Hx
      iexact Hg
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

include hm in
theorem body_obligation (c : Dev nD) : BodyObligation (dats (F := F) m 0 c) (defs₀ (F := F)) Variants.none () Set.univ := fun t => by
  rw [defs_row]
  refine BIBase.Entails.trans (Q := bodyPre m c t) ?_ (BIBase.Entails.trans (sound_body m hm c t) (wp_mono _ _ _ fun _ => ?_))
  · rw [bigSep_W0]; exact .rfl
  · rw [bigSep_W0]; exact .rfl

/-! ## The run -/

theorem table_eq (c : Dev nD) (rt : S33024.Idx → BitVec 32) (v : pre0.Contents (Elt F)) (h0 : v 0 = rt) :
    (Pipeline.ΦT pre0 v c : sProp 𝕄) = table c rt fullShare.right := by
  subst h0
  unfold Pipeline.ΦT Pipeline.prefHeld table
  rw [bigSep_univ_eq_bigSepL [(0 : Fin 1)] (by decide) (by decide)]
  rfl

theorem held_arg1 (c : Dev nD) :
    (bigSep H0 (fun b => ((c : Thread nD τ).loc b) ↦{fullShare} V m c b) : sProp 𝕄)
      = ((Memref.whole main_arg1 : Memref sig .tc .hbm S37120x2048 .f32).view.loc (c : Thread nD τ) ↦[Finset.univ]{fullShare} arg m c main_arg1) := by
  rw [BI.bigSep_eq_bigSepL_of_eq [main_arg1] (by decide) (by decide)]; rfl

theorem rest_eq (c : Dev nD) (f : S37120x2048.Idx → Elt F .f32) :
    (iprop((∃ f : Buf (Elt F) ((c : Thread nD τ).loc cc0_scratch0), ((c : Thread nD τ).loc cc0_scratch0) ↦{fullShare} f)
      ∗ (semVal ((c : Thread nD τ), SemLoc.dma (10 : DmaSem sig)) 0 ∗ semVal ((c : Thread nD τ), SemLoc.dma (11 : DmaSem sig)) 0)
      ∗ ((Memref.whole main_arg1 : Memref sig .tc .hbm S37120x2048 .f32).view.loc (c : Thread nD τ) ↦[Finset.univ]{fullShare} f)) : sProp 𝕄) = rest c f := rfl

theorem phi_in (c : Dev nD) :
    (iprop(Pipeline.ΦD osem0 spec0 H0 (V m) c ∗ Pipeline.ΦT pre0 (pf m) c) : sProp 𝕄) ⊢ (dats m 0 c).Φ 0 := by
  refine BIBase.Entails.trans ?_ (inv_start c (arg m c main_arg1) (arg m c main_arg0))
  obtain rfl : c = 0 := Subsingleton.elim c 0
  rw [Pipeline.ΦD_eq, scopedRest0_eq, ownSems0_eq, held_arg1, table_eq 0 (arg m 0 main_arg0) (pf m) rfl, ← rest_eq]
  iintro ⟨⟨Hs, Hg, Hq, Hx⟩, Ht⟩
  isplitl [Hs Hq Hx]
  · isplitl [Hs]; · iexact Hs
    isplitl [Hq]; · iexact Hq
    iexact Hx
  isplitl [Ht]; · iexact Ht
  iexact Hg

theorem phi_out (c : Dev nD) :
    (dats m 0 c).Φ (Fin.last (cfg0 (adm m 0)).N) ⊢ (Pipeline.ΦD osem0 spec0 H0 (V m) c : sProp 𝕄) := by
  have e : (dats m 0 c).Φ (Fin.last (cfg0 (adm m 0)).N) = inv c (arg m c main_arg1) (arg m c main_arg0) 43 :=
    congrArg (inv c (arg m c main_arg1) (arg m c main_arg0)) N_0
  rw [e]
  refine BIBase.Entails.trans (inv_end c (arg m c main_arg1) (arg m c main_arg0)) ?_
  rw [Pipeline.ΦD_eq, scopedRest0_eq, ownSems0_eq, held_arg1, ← rest_eq]
  iintro ⟨⟨Hs, Hq, Hx⟩, Hg⟩
  isplitl [Hs]; · iexact Hs
  isplitl [Hg]; · iexact Hg
  isplitl [Hq]; · iexact Hq
  iexact Hx

theorem hmain : Pipeline.HMainP (Ix := Unit) (Name := ℕ) (U := Pipeline.UD sig nD τ) (Lvl := ℕ) (pcfgs (F := F)) 0 defs₀ Variants.none m main (V m) :=
  Pipeline.hmainP_prefix (pcfgs (F := F)) 0 defs₀ Variants.none m main hostOps0 hostOps0_sub ⟨rfl, rfl⟩ main_chain

include hm in
set_option backward.isDefEq.respectTransparency.types false in
theorem run_main : θ_run defs (onTc (τ := τ) (main (F := F))) (s₀ m g)
    (fun r => Pipeline.FramePost (Pipeline.pin (pcfgs (F := F)) (adm m)) (dats m) 0 (V m) r ∧ r.2.sem = fun _ => 0) :=
  Pipeline.θ_run_frameP_dma (Q' := _) (pcfgs (F := F)) (adm m) (dats m) (0 : Fin 1) launch0 osem0 defs₀ Variants.none ownSemFacts0 H0 H0_sub m g main
    (hbody := fun c => (body_obligation m hm c).loose) (hshare := fun c => (dats m 0 c).share_full fun _ => rfl)
    (howed := fun _ _ => rfl) (V := V m) (hmain := hmain m) (hA := A_eq m)
    (hpf := fun c k => by obtain rfl : c = 0 := Subsingleton.elim c 0; fin_cases k; rfl)
    (hin := phi_in m) (hout := phi_out m)

end Cert.Proof.Comb

end
-- ==== Proof.CombValue.lean ====
module

public import proofs.«01_k».proof.Proof.CombLaunch
public import proofs.«01_k».proof.Proof.Value

/-! # What the combination leaves

Row `r` of the two results is row `r % 384` of what the point of tile `r / 384` computes, from the experts' rows that
the table names, from the tile's rows of the two arrays and from the norm's scale and offset. -/

@[expose] public section

set_option maxRecDepth 16384

noncomputable section

namespace Cert.Proof.Comb

open Idealize.ShloMosaic Idealize.ShloMosaic.TcCoe Idealize.ShloMosaic.Tactic
open Idealize.SL Idealize.SL.RA Idealize.SL.BI Idealize.SL.Sem
open Idealize.ShloMosaic.ValueIdx
open Idealize.ShloMosaic.Pipeline (Dat Cfg Window BodyObligation cellOf)
open Cert.KernelMIdeal Cert.KernelMIdeal.Gen

/-- Tile `p` of an array's rows. -/
def tileRows {α : Type} {C : ℕ} (X : (⟨2, ![16512, C]⟩ : Shape).Idx → α) (p : ℕ) : (⟨2, ![384, C]⟩ : Shape).Idx → α :=
  fun y => X (ix2 (⟨(p * 384 + (y 0).val) % 16512, Nat.mod_lt _ (by decide)⟩ : Fin 16512) (y 1))

/-- The array whose tile `p` is `T p`. -/
def ofTiles {α : Type} (T : ℕ → (⟨2, ![384, 2048]⟩ : Shape).Idx → α) : (⟨2, ![16512, 2048]⟩ : Shape).Idx → α := fun y =>
  T ((y 0).val / 384) (ix2 (⟨(y 0).val % 384, Nat.mod_lt _ (by decide)⟩ : Fin 384) (y 1))

/-- The array of the tiles, at an element of tile `p`. -/
theorem ofTiles_at {α : Type} (T : ℕ → (⟨2, ![384, 2048]⟩ : Shape).Idx → α) (p : ℕ) (z : (⟨2, ![16512, 2048]⟩ : Shape).Idx) (y : (⟨2, ![384, 2048]⟩ : Shape).Idx)
    (h0 : (z 0).val = p * 384 + (y 0).val) (h1 : (z 1).val = (y 1).val) : ofTiles T z = T p y := by
  have hy : (y 0).val < 384 := (y 0).isLt
  have e0 : (z 0).val / 384 = p := by rw [h0]; omega
  have e1 : (ix2 (⟨(z 0).val % 384, Nat.mod_lt _ (by decide)⟩ : Fin 384) (z 1) : (⟨2, ![384, 2048]⟩ : Shape).Idx) = y := by
    funext a
    fin_cases a
    · apply Fin.ext
      show (z 0).val % 384 = (y 0).val
      rw [h0]; omega
    · exact Fin.ext h1
  unfold ofTiles
  rw [e0, e1]

variable {F : FTy → Type} [FloatOps F]
variable (m : (ℓ : Loc nD τ sig) → Buf (Elt F) ℓ) (g : Dev nD → PrngReg)
variable (hm : Good m)

/-! ## What the windows that are only read hold -/

theorem ix_0 : ∀ i : grid0.Coords, cc0_transform_1 i = ![(i 0).val, 0] := by decide +kernel
theorem ix_1 : ∀ i : grid0.Coords, cc0_transform_2 i = ![(i 0).val, 0] := by decide +kernel
theorem ix_2 : ∀ i : grid0.Coords, cc0_transform_3 i = ![0, 0] := by decide +kernel
theorem ix_3 : ∀ i : grid0.Coords, cc0_transform_4 i = ![0, 0] := by decide +kernel
theorem ix_4 : ∀ i : grid0.Coords, cc0_transform_5 i = ![(i 0).val, 0] := by decide +kernel
theorem ix_5 : ∀ i : grid0.Coords, cc0_transform_6 i = ![(i 0).val, 0] := by decide +kernel

/-- What window 0 holds at a point. -/
theorem held_0 (c : Dev nD) (t : Fin (cfg0 (adm m 0)).N) : held m c 0 t = tileRows (arg m c main_arg2) t.val := by
  have key : ∀ t : Fin grid0.N, cc0_transform_1 (grid0.coords t) = ![t.val, 0] := fun t => by rw [ix_0, coord]
  refine heldIn_eq (cfg := cfg0 (adm m 0)) (A0 m c) 0 rfl (fun t => tileRows (arg m c main_arg2) t.val) (fun t => ?_) (fun t t' h => ?_) t
  · refine funext fun (y : S384x2048.Idx) => ?_
    have hmv : ((cfg0 (adm m 0)).win 0).moved (grid0.coords t) y = true :=
      (((cfg0 (adm m 0)).win 0).moved_iff _ y).mpr fun a => (y a).isLt
    refine (show _ = (arg m c main_arg2) ((((cfg0 (adm m 0)).win 0).rect t).emb y) from ?_).trans (congrArg (arg m c main_arg2) (?_ : _ = (ix2 (⟨(t.val * 384 + (y 0).val) % 16512, Nat.mod_lt _ (by decide)⟩ : Fin 16512) (y 1))))
    · unfold Window.fill
      rw [dif_pos hmv]
      rfl
    · have ht : t.val < 43 := N_0 ▸ t.isLt
      have hy : (y 0).val < 384 := (y 0).isLt
      have e0 : cc0_transform_1 (grid0.coords t) 0 = t.val := congrFun (key t) 0
      have e1 : cc0_transform_1 (grid0.coords t) 1 = 0 := congrFun (key t) 1
      funext a
      fin_cases a
      · apply Fin.ext
        show cc0_transform_1 (grid0.coords t) 0 * 384 + 1 * (y 0).val = (t.val * 384 + (y 0).val) % 16512
        rw [e0]; omega
      · apply Fin.ext
        show cc0_transform_1 (grid0.coords t) 1 * 2048 + 1 * (y 1).val = (y 1).val
        rw [e1]; omega
  · have h' : cc0_transform_1 (grid0.coords t) = cc0_transform_1 (grid0.coords t') := h
    rw [key, key] at h'
    exact congrArg (tileRows (arg m c main_arg2)) (congrFun h' 0)

/-- What window 1 holds at a point. -/
theorem held_1 (c : Dev nD) (t : Fin (cfg0 (adm m 0)).N) : held m c 1 t = tileRows (arg m c main_arg3) t.val := by
  have key : ∀ t : Fin grid0.N, cc0_transform_2 (grid0.coords t) = ![t.val, 0] := fun t => by rw [ix_1, coord]
  refine heldIn_eq (cfg := cfg0 (adm m 0)) (A0 m c) 1 rfl (fun t => tileRows (arg m c main_arg3) t.val) (fun t => ?_) (fun t t' h => ?_) t
  · refine funext fun (y : S384x128.Idx) => ?_
    have hmv : ((cfg0 (adm m 0)).win 1).moved (grid0.coords t) y = true :=
      (((cfg0 (adm m 0)).win 1).moved_iff _ y).mpr fun a => (y a).isLt
    refine (show _ = (arg m c main_arg3) ((((cfg0 (adm m 0)).win 1).rect t).emb y) from ?_).trans (congrArg (arg m c main_arg3) (?_ : _ = (ix2 (⟨(t.val * 384 + (y 0).val) % 16512, Nat.mod_lt _ (by decide)⟩ : Fin 16512) (y 1))))
    · unfold Window.fill
      rw [dif_pos hmv]
      rfl
    · have ht : t.val < 43 := N_0 ▸ t.isLt
      have hy : (y 0).val < 384 := (y 0).isLt
      have e0 : cc0_transform_2 (grid0.coords t) 0 = t.val := congrFun (key t) 0
      have e1 : cc0_transform_2 (grid0.coords t) 1 = 0 := congrFun (key t) 1
      funext a
      fin_cases a
      · apply Fin.ext
        show cc0_transform_2 (grid0.coords t) 0 * 384 + 1 * (y 0).val = (t.val * 384 + (y 0).val) % 16512
        rw [e0]; omega
      · apply Fin.ext
        show cc0_transform_2 (grid0.coords t) 1 * 128 + 1 * (y 1).val = (y 1).val
        rw [e1]; omega
  · have h' : cc0_transform_2 (grid0.coords t) = cc0_transform_2 (grid0.coords t') := h
    rw [key, key] at h'
    exact congrArg (tileRows (arg m c main_arg3)) (congrFun h' 0)

/-- What window 2 holds at a point. -/
theorem held_2 (c : Dev nD) (t : Fin (cfg0 (adm m 0)).N) : held m c 2 t = (V m c main_v0) := by
  have key : ∀ t : Fin grid0.N, cc0_transform_3 (grid0.coords t) = ![0, 0] := fun t => by rw [ix_2]
  refine heldIn_eq (cfg := cfg0 (adm m 0)) (A0 m c) 2 rfl (fun t => (V m c main_v0)) (fun t => ?_) (fun t t' h => ?_) t
  · refine funext fun (y : S1x2048.Idx) => ?_
    have hmv : ((cfg0 (adm m 0)).win 2).moved (grid0.coords t) y = true :=
      (((cfg0 (adm m 0)).win 2).moved_iff _ y).mpr fun a => (y a).isLt
    refine (show _ = (V m c main_v0) ((((cfg0 (adm m 0)).win 2).rect t).emb y) from ?_).trans (congrArg (V m c main_v0) (?_ : _ = y))
    · unfold Window.fill
      rw [dif_pos hmv]
      rfl
    · have ht : t.val < 43 := N_0 ▸ t.isLt
      have hy : (y 0).val < 1 := (y 0).isLt
      have e0 : cc0_transform_3 (grid0.coords t) 0 = 0 := congrFun (key t) 0
      have e1 : cc0_transform_3 (grid0.coords t) 1 = 0 := congrFun (key t) 1
      funext a
      fin_cases a
      · apply Fin.ext
        show cc0_transform_3 (grid0.coords t) 0 * 1 + 1 * (y 0).val = (y 0).val
        rw [e0]; omega
      · apply Fin.ext
        show cc0_transform_3 (grid0.coords t) 1 * 2048 + 1 * (y 1).val = (y 1).val
        rw [e1]; omega
  · rfl

/-- What window 3 holds at a point. -/
theorem held_3 (c : Dev nD) (t : Fin (cfg0 (adm m 0)).N) : held m c 3 t = (V m c main_v1) := by
  have key : ∀ t : Fin grid0.N, cc0_transform_4 (grid0.coords t) = ![0, 0] := fun t => by rw [ix_3]
  refine heldIn_eq (cfg := cfg0 (adm m 0)) (A0 m c) 3 rfl (fun t => (V m c main_v1)) (fun t => ?_) (fun t t' h => ?_) t
  · refine funext fun (y : S1x2048.Idx) => ?_
    have hmv : ((cfg0 (adm m 0)).win 3).moved (grid0.coords t) y = true :=
      (((cfg0 (adm m 0)).win 3).moved_iff _ y).mpr fun a => (y a).isLt
    refine (show _ = (V m c main_v1) ((((cfg0 (adm m 0)).win 3).rect t).emb y) from ?_).trans (congrArg (V m c main_v1) (?_ : _ = y))
    · unfold Window.fill
      rw [dif_pos hmv]
      rfl
    · have ht : t.val < 43 := N_0 ▸ t.isLt
      have hy : (y 0).val < 1 := (y 0).isLt
      have e0 : cc0_transform_4 (grid0.coords t) 0 = 0 := congrFun (key t) 0
      have e1 : cc0_transform_4 (grid0.coords t) 1 = 0 := congrFun (key t) 1
      funext a
      fin_cases a
      · apply Fin.ext
        show cc0_transform_4 (grid0.coords t) 0 * 1 + 1 * (y 0).val = (y 0).val
        rw [e0]; omega
      · apply Fin.ext
        show cc0_transform_4 (grid0.coords t) 1 * 2048 + 1 * (y 1).val = (y 1).val
        rw [e1]; omega
  · rfl

/-! ## The results -/

/-- What the point of tile `p` leaves in the 32-bit result. -/
def tileF (c : Dev nD) (p : ℕ) : Vec F S384x2048 .f32 :=
  outF (arg m c main_arg1) (arg m c main_arg0) p (tileRows (arg m c main_arg2) p) (tileRows (arg m c main_arg3) p) (V m c main_v0) (V m c main_v1)
/-- What the point of tile `p` leaves in the 16-bit result. -/
def tileB (c : Dev nD) (p : ℕ) : Vec F S384x2048 .bf16 :=
  outB (arg m c main_arg1) (arg m c main_arg0) p (tileRows (arg m c main_arg2) p) (tileRows (arg m c main_arg3) p) (V m c main_v0) (V m c main_v1)

theorem out4_eq (c : Dev nD) (t : Fin (cfg0 (adm m 0)).N) : out4 m c t = tileF m c t.val := by
  unfold out4 tileF
  rw [held_0, held_1, held_2, held_3]
theorem out5_eq (c : Dev nD) (t : Fin (cfg0 (adm m 0)).N) : out5 m c t = tileB m c t.val := by
  unfold out5 tileB
  rw [held_0, held_1, held_2, held_3]

/-- The 32-bit result. -/
def resultF (c : Dev nD) : S16512x2048.Idx → Elt F .f32 := ofTiles (tileF m c)
/-- The 16-bit result. -/
def resultB (c : Dev nD) : S16512x2048.Idx → Elt F .bf16 := ofTiles (tileB m c)

/-- Where element `y` of point `t`'s block lies in result 1. -/
def place4 (t : Fin grid0.N) (y : S384x2048.Idx) : S16512x2048.Idx := (((cfg0 (adm m 0)).win 4).rect t).emb y

theorem place4_val (t : Fin grid0.N) (y : S384x2048.Idx) (a : Fin 2) :
    (place4 m t y a).val = ((![t.val, 0] : Fin 2 → ℕ) a) * S384x2048.size a + (y a).val := by
  have e : cc0_transform_5 (grid0.coords t) = ![t.val, 0] := by rw [ix_4, coord]
  rw [← e]
  show cc0_transform_5 (grid0.coords t) a * S384x2048.size a + 1 * (y a).val = _
  rw [Nat.one_mul]

theorem mem_place4 (t : Fin (cfg0 (adm m 0)).N) (y : S384x2048.Idx) (i : S16512x2048.Idx) (h : i = place4 m t y) :
    i ∈ (((cfg0 (adm m 0)).win 4).blk t).view.set := by
  subst h
  exact View.emb_mem_set (((cfg0 (adm m 0)).win 4).blk t).view y

theorem covered4 (i : S16512x2048.Idx) : ∃ t : Fin (cfg0 (adm m 0)).N, ((cfg0 (adm m 0)).win 4).flush t = true ∧ i ∈ (((cfg0 (adm m 0)).win 4).blk t).view.set := by
  have hi : (i 0).val < 16512 := (i 0).isLt
  have ht : (i 0).val / 384 < grid0.N := by rw [N_0]; omega
  refine ⟨⟨(i 0).val / 384, ht⟩, ?_, ?_⟩
  · refine (((cfg0 (adm m 0)).win 4).flush_out rfl _).2 ?_
    by_cases hl : (i 0).val / 384 + 1 = grid0.N
    · exact .inl hl
    · refine .inr ⟨by show (i 0).val / 384 + 1 < grid0.N; omega, fun h => ?_⟩
      have h1 : (i 0).val / 384 + 1 < grid0.N := by omega
      have h' : cc0_transform_5 (grid0.coords ⟨(i 0).val / 384 + 1, h1⟩) = cc0_transform_5 (grid0.coords ⟨(i 0).val / 384, ht⟩) := h
      rw [ix_4, ix_4, coord, coord] at h'
      have h'' : (i 0).val / 384 + 1 = (i 0).val / 384 := congrFun h' 0
      omega
  · have e : place4 m ⟨(i 0).val / 384, ht⟩ (ix2 (⟨(i 0).val % 384, Nat.mod_lt _ (by decide)⟩ : Fin 384) (i 1)) = i := by
      funext a
      fin_cases a
      · apply Fin.ext
        refine (place4_val m ⟨(i 0).val / 384, ht⟩ _ 0).trans ?_
        show (i 0).val / 384 * 384 + (i 0).val % 384 = (i 0).val
        omega
      · apply Fin.ext
        refine (place4_val m ⟨(i 0).val / 384, ht⟩ _ 1).trans ?_
        show 0 * 2048 + (i 1).val = (i 1).val
        omega
    exact mem_place4 m _ _ i e.symm

theorem array_4 (c : Dev nD) : (dats m 0 c).arrAt 4 (cfg0 (adm m 0)).N = resultF m c := by
  refine (dats m 0 c).arrAt_eq_of_cover 4 (resultF m c) (fun t hf => ?_) (fun i => covered4 m i)
  refine funext fun (y : S384x2048.Idx) => ?_
  refine (show _ = out4 m c t y from rfl).trans ?_
  rw [out4_eq]
  exact (ofTiles_at (tileF m c) t.val (place4 m t y) y (place4_val m t y 0)
    ((place4_val m t y 1).trans (by show 0 * 2048 + (y 1).val = (y 1).val; omega))).symm

/-- Where element `y` of point `t`'s block lies in result 2. -/
def place5 (t : Fin grid0.N) (y : S384x2048.Idx) : S16512x2048.Idx := (((cfg0 (adm m 0)).win 5).rect t).emb y

theorem place5_val (t : Fin grid0.N) (y : S384x2048.Idx) (a : Fin 2) :
    (place5 m t y a).val = ((![t.val, 0] : Fin 2 → ℕ) a) * S384x2048.size a + (y a).val := by
  have e : cc0_transform_6 (grid0.coords t) = ![t.val, 0] := by rw [ix_5, coord]
  rw [← e]
  show cc0_transform_6 (grid0.coords t) a * S384x2048.size a + 1 * (y a).val = _
  rw [Nat.one_mul]

theorem mem_place5 (t : Fin (cfg0 (adm m 0)).N) (y : S384x2048.Idx) (i : S16512x2048.Idx) (h : i = place5 m t y) :
    i ∈ (((cfg0 (adm m 0)).win 5).blk t).view.set := by
  subst h
  exact View.emb_mem_set (((cfg0 (adm m 0)).win 5).blk t).view y

theorem covered5 (i : S16512x2048.Idx) : ∃ t : Fin (cfg0 (adm m 0)).N, ((cfg0 (adm m 0)).win 5).flush t = true ∧ i ∈ (((cfg0 (adm m 0)).win 5).blk t).view.set := by
  have hi : (i 0).val < 16512 := (i 0).isLt
  have ht : (i 0).val / 384 < grid0.N := by rw [N_0]; omega
  refine ⟨⟨(i 0).val / 384, ht⟩, ?_, ?_⟩
  · refine (((cfg0 (adm m 0)).win 5).flush_out rfl _).2 ?_
    by_cases hl : (i 0).val / 384 + 1 = grid0.N
    · exact .inl hl
    · refine .inr ⟨by show (i 0).val / 384 + 1 < grid0.N; omega, fun h => ?_⟩
      have h1 : (i 0).val / 384 + 1 < grid0.N := by omega
      have h' : cc0_transform_6 (grid0.coords ⟨(i 0).val / 384 + 1, h1⟩) = cc0_transform_6 (grid0.coords ⟨(i 0).val / 384, ht⟩) := h
      rw [ix_5, ix_5, coord, coord] at h'
      have h'' : (i 0).val / 384 + 1 = (i 0).val / 384 := congrFun h' 0
      omega
  · have e : place5 m ⟨(i 0).val / 384, ht⟩ (ix2 (⟨(i 0).val % 384, Nat.mod_lt _ (by decide)⟩ : Fin 384) (i 1)) = i := by
      funext a
      fin_cases a
      · apply Fin.ext
        refine (place5_val m ⟨(i 0).val / 384, ht⟩ _ 0).trans ?_
        show (i 0).val / 384 * 384 + (i 0).val % 384 = (i 0).val
        omega
      · apply Fin.ext
        refine (place5_val m ⟨(i 0).val / 384, ht⟩ _ 1).trans ?_
        show 0 * 2048 + (i 1).val = (i 1).val
        omega
    exact mem_place5 m _ _ i e.symm

theorem array_5 (c : Dev nD) : (dats m 0 c).arrAt 5 (cfg0 (adm m 0)).N = resultB m c := by
  refine (dats m 0 c).arrAt_eq_of_cover 5 (resultB m c) (fun t hf => ?_) (fun i => covered5 m i)
  refine funext fun (y : S384x2048.Idx) => ?_
  refine (show _ = out5 m c t y from rfl).trans ?_
  rw [out5_eq]
  exact (ofTiles_at (tileB m c) t.val (place5 m t y) y (place5_val m t y 0)
    ((place5_val m t y 1).trans (by show 0 * 2048 + (y 1).val = (y 1).val; omega))).symm

/-! ## The two claims of the kernel, at any reading of the floats -/

theorem args_kept (r : PUnit × MemSt nD τ sig (Elt F)) (h : Pipeline.FramePost (Pipeline.pin (pcfgs (F := F)) (adm m)) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h c).2 main_arg0 (show main_arg0 ∈ Pipeline.restRefs sig spec0 from Pipeline.mem_restRefs_of main_arg0 (by decide) (by decide)),
    (h c).2 main_arg1 (show main_arg1 ∈ Pipeline.restRefs sig spec0 from Pipeline.mem_restRefs_of main_arg1 (by decide) (by decide)),
    ((h c).1 0).trans (((dats m 0 c).arrAt_in 0 rfl _).trans (A_eq m c 0)),
    ((h c).1 1).trans (((dats m 0 c).arrAt_in 1 rfl _).trans (A_eq m c 1)),
    (h c).2 main_arg4 (show main_arg4 ∈ Pipeline.restRefs sig spec0 from Pipeline.mem_restRefs_of main_arg4 (by decide) (by decide)),
    (h c).2 main_arg5 (show main_arg5 ∈ Pipeline.restRefs sig spec0 from Pipeline.mem_restRefs_of main_arg5 (by decide) (by decide))⟩

include hm in
/-- The call runs to its end with the two results, its arguments unchanged and every semaphore at zero. -/
theorem run_kernel : θ_run defs (onTc (τ := τ) (main (F := F))) ⟨m, fun _ => 0, g⟩ (fun r =>
    (∀ c : Dev nD, r.2.mem ((c.tc : Thread nD τ).loc main_v2_0) = resultF m c
      ∧ r.2.mem ((c.tc : Thread nD τ).loc main_v2_1) = resultB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run defs (onTc (τ := τ) (main (F := F))) ⟨m, fun _ => 0, g⟩).mono
    (fun r h => ⟨fun c => ⟨((h.1 c).1 4).trans (array_4 m c), ((h.1 c).1 5).trans (array_5 m c), args_kept m r h.1 c⟩, h.2⟩) (run_main m g hm)

end Cert.Proof.Comb

end
-- ==== Proof.CombPre.lean ====
module

public import proofs.«01_k».proof.Proof.CombValue
public import proofs.«01_k».proof.Proof.Pre
public import proofs.«01_k».proof.Proof.Gen.KernelM
public import proofs.«01_k».proof.Proof.Gen.Pre_places

/-!
  The combination's precondition read back at each word of the table of places, and the frames of the two kernel
  programs of the combination. The two are one text, so what is proved of one at any float values holds of the other
  at bits.
-/

@[expose] public section

set_option maxRecDepth 16384

noncomputable section
namespace Cert.Proof.Comb
open Idealize.ShloMosaic Idealize.ShloMosaic.TcCoe Idealize.SL.Sem Idealize.ShloMosaic.ValueIdx

variable {F : FTy → Type} [FloatOps F]

local instance : Subsingleton Cert.Pre_places.S_.Idx := ⟨fun a b => funext fun i => i.elim0⟩

/-- The range that the printed predicate checks, word by word. -/
theorem places_words (a0 : IVec Cert.Pre_places.S33024 32) (a1 : FVec F Cert.Pre_places.S37120x2048 .f32) (a2 : FVec F Cert.Pre_places.S16512x2048 .f32)
    (a3 : FVec F Cert.Pre_places.S16512x128 .f32) (a4 a5 : FVec F Cert.Pre_places.S2048 .f32)
    (h : Cert.Pre_places.fn (F := F) a0 a1 a2 a3 a4 a5 = fun _ => 1#1) (x) : 0 ≤ (a0 x).toInt ∧ (a0 x).toInt < 37120 := by
  have h0 := congrFun h (fun i => i.elim0)
  simp only [Cert.Pre_places.fn, andi, IntOp.andi_eq_one] at h0
  obtain ⟨h1, h2⟩ := h0
  exact ⟨IntOp.cmpi_sge.1 (show IntOp.cmpi .sge (a0 x) 0#32 = 1#1 from Host.reduce_andi_all _ _ _ _ _ h1 x),
    IntOp.cmpi_slt.1 (show IntOp.cmpi .slt (a0 x) 37120#32 = 1#1 from Host.reduce_andi_all _ _ _ _ _ h2 x)⟩

/-- The two programs' bodies are equal. -/
theorem e_body : @Cert.KernelM.cc0_moe_combine_ln F _ Cert.KernelM.Gen.facts = @Cert.KernelMIdeal.cc0_moe_combine_ln F _ Cert.KernelMIdeal.Gen.facts := rfl
/-- Their tables of bodies are equal. -/
theorem e_defs0 : @Cert.KernelM.defs₀ F _ Cert.KernelM.Gen.facts = @Cert.KernelMIdeal.defs₀ F _ Cert.KernelMIdeal.Gen.facts := by
  unfold Cert.KernelM.defs₀ Cert.KernelMIdeal.defs₀
  refine congrArg _ ?_
  funext l x
  match l, x with
  | 0, (t, slots) => rfl
/-- Their pipelines' configurations are equal. -/
theorem e_pcfg : @Cert.KernelM.pcfgs F _ Cert.KernelM.Gen.facts = @Cert.KernelMIdeal.pcfgs F _ Cert.KernelMIdeal.Gen.facts := rfl
/-- Their procedures are equal. -/
theorem e_defs : @Cert.KernelM.defs F _ Cert.KernelM.Gen.facts = @Cert.KernelMIdeal.defs F _ Cert.KernelMIdeal.Gen.facts :=
  congrArg (Pipeline.defs (@Cert.KernelM.pcfgs F _ Cert.KernelM.Gen.facts)) e_defs0
/-- The programs are equal. -/
theorem e_main : @Cert.KernelM.main F _ Cert.KernelM.Gen.facts = @Cert.KernelMIdeal.main F _ Cert.KernelMIdeal.Gen.facts := rfl

section
open Cert.KernelMIdeal

/-- The precondition makes every place a row of the experts' array. -/
theorem good_of_places (m : (ℓ : Loc nD τ sig) → Buf (Elt F) ℓ)
    (h : ∀ c : Dev nD, Cert.Pre_places.fn (F := F) (arg m c main_arg0) (arg m c main_arg1) (arg m c main_arg2) (arg m c main_arg3) (arg m c main_arg4) (arg m c main_arg5) = fun _ => 1#1) : Good m :=
  fun c x => toNat_lt_of_toInt (places_words _ _ _ _ _ _ (h c) x)

/-- The idealized kernel's frame, at any float values. -/
theorem frame_any (m : (ℓ : Loc nD τ sig) → Buf (Elt F) ℓ) (g : Dev nD → PrngReg)
    (h : ∀ c : Dev nD, Cert.Pre_places.fn (F := F) (arg m c main_arg0) (arg m c main_arg1) (arg m c main_arg2) (arg m c main_arg3) (arg m c main_arg4) (arg m c main_arg5) = fun _ => 1#1) :
    θ_run (@defs F _ Gen.facts) (onTc (τ := τ) (@main F _ Gen.facts)) ⟨m, fun _ => 0, g⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun _ r => ⟨fun c => (r.1 c).2.2, r.2⟩) (run_kernel m g (good_of_places m h))

end

open Cert.KernelM in
/-- The kernel's frame at bits. -/
theorem frame_bits (m : (ℓ : Loc nD τ sig) → Buf (Elt Bits) ℓ) (g : Dev nD → PrngReg) (h : Cert.Pre_KernelM m) :
    θ_run (@defs Bits _ Gen.facts) (onTc (τ := τ) (@main Bits _ Gen.facts)) ⟨m, fun _ => 0, g⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [e_defs, e_main]
  exact frame_any (F := Bits) m g h

end Cert.Proof.Comb

end
-- ==== Proof.CombRef.lean ====
module

public import proofs.«01_k».proof.Proof.OutProj
public import proofs.«01_k».proof.Proof.Gen.ReferenceMIdeal
public import proofs.«01_k».proof.Proof.Gen.ReferenceMIdeal.Run
public import Idealize.ShloMosaic.Lib.Pointwise
public import Idealize.ShloMosaic.Lib.Routing.Ops
public import Idealize.ShloMosaic.Lib.Affine
public import Idealize.ShloMosaic.Lib.StableHlo.Predicate
public import Idealize.ShloMosaic.Lib.Pointwise.IndexBridge

/-!
  The combination's reference at one row and column, over the extended reals: the norm of the scaled row plus the two
  experts' rows, each by its weight.
-/

@[expose] public section

set_option maxRecDepth 16384

noncomputable section
namespace Cert.Proof.Comb
open Idealize.ShloMosaic Idealize.ShloMosaic.TcCoe Idealize.SL.Sem
open Cert.ReferenceMIdeal
open Cert.ReferenceMIdeal.Facts₀ Cert.ReferenceMIdeal.Facts
open Cert.Proof.OutProj (lnRow refNorm refNorm_apply)

/-- The places of the rows' first experts. -/
def refFst (pos : IVec S33024 32) : IVec S16512 32 := Host.slice S16512 ![0] ![2] pos slicesBy_S33024_S16512_0s2
/-- The places of the rows' second experts. -/
def refSnd (pos : IVec S33024 32) : IVec S16512 32 := Host.slice S16512 ![1] ![2] pos slicesBy_S33024_S16512_1s2

/-- The experts' rows at a list of places. -/
def refPick (y : FVec Ideal S37120x2048 .f32) (ix : IVec S16512 32) : FVec Ideal S16512x2048 .f32 :=
  Host.gather gather_S37120x2048_S16512x1_S16512x2048_1_0_n_n_0_1_12048 y
    (broadcastInDim S16512x1 ![0] bcast_S16512_S16512x1_0
      (select (cmpi .slt ix (broadcastInDim S16512 ![] bcast_S_S16512 (constantI S_ 32 0#32)))
        (addi ix (broadcastInDim S16512 ![] bcast_S_S16512 (constantI S_ 32 37120#32))) ix))

/-- The two experts' rows, each by its weight, summed. -/
def refMoe (pos : IVec S33024 32) (y : FVec Ideal S37120x2048 .f32) (w : FVec Ideal S16512x128 .f32) : FVec Ideal S16512x2048 .f32 :=
  addf (mulf (broadcastInDim S16512x2048 ![0, 1] bcast_S16512x1_S16512x2048_0_1 (extractStridedSlice S16512x1 ![0, 2] w slices_S16512x128_S16512x1_0_2)) (refPick y (refFst pos)))
    (mulf (broadcastInDim S16512x2048 ![0, 1] bcast_S16512x1_S16512x2048_0_1 (extractStridedSlice S16512x1 ![0, 3] w slices_S16512x128_S16512x1_0_3)) (refPick y (refSnd pos)))

/-- The rows before the norm: the scaled residual plus the experts' part. -/
def refRes (h moe : FVec Ideal S16512x2048 .f32) : FVec Ideal S16512x2048 .f32 :=
  addf (mulf (broadcastInDim S16512x2048 ![] bcast_S_S16512x2048 (constant (F := Ideal) S_ .f32 0x3FD744FD#32)) h) moe

/-- The reference's 32-bit result. -/
def refOut (pos : IVec S33024 32) (y : FVec Ideal S37120x2048 .f32) (h : FVec Ideal S16512x2048 .f32) (w : FVec Ideal S16512x128 .f32)
    (g be : FVec Ideal S2048 .f32) : FVec Ideal S16512x2048 .f32 := refNorm (refRes h (refMoe pos y w)) g be

theorem refFst_apply (pos : IVec S33024 32) (r : Fin 16512) : refFst pos (ix1 r) = pos (ix1 (⟨2 * r.val, by omega⟩ : Fin 33024)) := by
  unfold refFst Host.slice
  refine congrArg pos (funext fun a => ?_)
  match a with
  | ⟨0, _⟩ => exact Fin.ext (show 0 + 2 * r.val = 2 * r.val by omega)
theorem refSnd_apply (pos : IVec S33024 32) (r : Fin 16512) : refSnd pos (ix1 r) = pos (ix1 (⟨2 * r.val + 1, by omega⟩ : Fin 33024)) := by
  unfold refSnd Host.slice
  refine congrArg pos (funext fun a => ?_)
  match a with
  | ⟨0, _⟩ => exact Fin.ext (show 1 + 2 * r.val = 2 * r.val + 1 by omega)

/-- A picked row is the experts' row at its place. -/
theorem refPick_apply (y : FVec Ideal S37120x2048 .f32) (ix : IVec S16512 32) (r : Fin 16512) (d : Fin 2048)
    (b : Fin 37120) (hb : (ix (ix1 r)).toNat = b.val) : refPick y ix (ix2 r d) = y (ix2 b d) := by
  have hw : ix (ix1 r) = BitVec.ofNat 32 b.val := by rw [← hb, BitVec.ofNat_toNat, BitVec.setWidth_eq]
  have hlt := b.isLt
  have hc : IntOp.cmpi .slt (BitVec.ofNat 32 b.val) 0#32 = 0#1 := by
    refine ValueIdx.eq_zero_of_ne_one fun h => ?_
    rw [IntOp.cmpi_slt, StableHlo.Predicate.toInt_ofNat_small _ (by omega)] at h
    have : (0#32 : BitVec 32).toInt = 0 := rfl
    omega
  rw [ix2_eq_valueIdx, ix2_eq_valueIdx]
  refine Routing.gather_row _ rfl rfl rfl rfl rfl y _ r d b ?_ (by decide)
  rw [← ix2_eq_valueIdx]
  pointwise
  rw [hw, hc]
  rfl

/-- The experts' part at a row and a column. -/
theorem refMoe_apply (pos : IVec S33024 32) (y : FVec Ideal S37120x2048 .f32) (w : FVec Ideal S16512x128 .f32) (r : Fin 16512) (q : Fin 2048)
    (a b : Fin 37120) (ha : (pos (ix1 (⟨2 * r.val, by omega⟩ : Fin 33024))).toNat = a.val)
    (hb : (pos (ix1 (⟨2 * r.val + 1, by omega⟩ : Fin 33024))).toNat = b.val) :
    refMoe pos y w (ix2 r q) = w (ix2 r (2 : Fin 128)) * y (ix2 a q) + w (ix2 r (3 : Fin 128)) * y (ix2 b q) := by
  unfold refMoe
  generalize hu : refPick y (refFst pos) = u
  generalize hv : refPick y (refSnd pos) = v
  pointwise
  rw [← hu, ← hv, refPick_apply y _ r q a (by rw [refFst_apply, ha]), refPick_apply y _ r q b (by rw [refSnd_apply, hb])]

/-- The rows before the norm, at a row and a column. -/
theorem refRes_apply (h moe : FVec Ideal S16512x2048 .f32) (r : Fin 16512) (q : Fin 2048) :
    refRes h moe (ix2 r q) = Ideal.ofBits .f32 0x3FD744FD#32 * h (ix2 r q) + moe (ix2 r q) := by
  unfold refRes
  pointwise

/-- A row before the norm: the scaled row plus two rows by their weights. -/
def combRow (h y0 y1 : Fin 2048 → EReal) (w0 w1 : EReal) (x : Fin 2048) : EReal :=
  Ideal.ofBits .f32 0x3FD744FD#32 * h x + (y0 x * w0 + y1 x * w1)

/-- The reference's 32-bit result at a row and a column. -/
theorem refOut_apply (pos : IVec S33024 32) (y : FVec Ideal S37120x2048 .f32) (h : FVec Ideal S16512x2048 .f32) (w : FVec Ideal S16512x128 .f32)
    (g be : FVec Ideal S2048 .f32) (r : Fin 16512) (q : Fin 2048)
    (a b : Fin 37120) (ha : (pos (ix1 (⟨2 * r.val, by omega⟩ : Fin 33024))).toNat = a.val)
    (hb : (pos (ix1 (⟨2 * r.val + 1, by omega⟩ : Fin 33024))).toNat = b.val) :
    refOut pos y h w g be (ix2 r q) = lnRow (combRow (fun x => h (ix2 r x)) (fun x => y (ix2 a x)) (fun x => y (ix2 b x))
      (w (ix2 r (2 : Fin 128))) (w (ix2 r (3 : Fin 128)))) (g (ix1 q)) (be (ix1 q)) q := by
  unfold refOut combRow
  refine (refNorm_apply _ _ _ r q).trans (congrArg (fun z => lnRow z _ _ q) (funext fun x => ?_))
  rw [refRes_apply, refMoe_apply pos y w r x a b ha hb, mul_comm (w (ix2 r 2)), mul_comm (w (ix2 r 3))]

/-- The reference's run ends with these results. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v49) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v50) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r k c => ⟨(k c).1.trans (by unfold Cert.ReferenceMIdeal.Value.res_main_v49; rfl),
    (k c).2.1.trans (by unfold Cert.ReferenceMIdeal.Value.res_main_v50; rfl), (k c).2.2⟩) (Cert.ReferenceMIdeal.Value.run (F := Ideal) m g)

end Cert.Proof.Comb
end
-- ==== Proof.CombAlgebraic.lean ====
module

public import proofs.«01_k».proof.Proof.CombPre
public import proofs.«01_k».proof.Proof.CombRef

/-!
  Over the extended reals the combination's results are the reference's: each row is the norm of the scaled row plus
  the two experts' rows that the table names, each by its weight.
-/

@[expose] public section

set_option maxRecDepth 16384

noncomputable section
namespace Cert.Proof.Comb
open Idealize.ShloMosaic Idealize.ShloMosaic.TcCoe Idealize.SL.Sem
open Cert.Proof.OutProj (lnRow meanRow)

section kernel
open Cert.KernelMIdeal Cert.KernelMIdeal.Gen

/-- The kernel's weighted sum at a row of the tile and a column. -/
theorem pay3_apply (w : Vec Ideal S384x128 .f32) (u v : Vec Ideal S1x1x384x2048 .f32) (p : Fin 384) (q : Fin 2048) :
    k0_pay3 (F := Ideal) w u v (ix2 p q)
      = u (ix4 (0 : Fin 1) (0 : Fin 1) p q) * w (ix2 p (2 : Fin 128)) + v (ix4 (0 : Fin 1) (0 : Fin 1) p q) * w (ix2 p (3 : Fin 128)) := by
  pointwise [k0_pay3]

/-- The kernel's normed rows at a row of the tile and a column. -/
theorem pay1_apply (z : FVec Ideal S384x2048 .f32) (h : Vec Ideal S384x2048 .f32) (g be : Vec Ideal S1x2048 .f32) (p : Fin 384) (q : Fin 2048) :
    k0_pay1 (F := Ideal) z h g be (ix2 p q)
      = lnRow (fun x => Ideal.ofBits .f32 0x3FD744FD#32 * h (ix2 p x) + z (ix2 p x)) (g (ix2 (0 : Fin 1) q)) (be (ix2 (0 : Fin 1) q)) q := by
  unfold lnRow meanRow
  pointwise [k0_pay1]

/-- What a point computes, at a row of the tile and a column. -/
theorem outF_apply (fx : S37120x2048.Idx → EReal) (rt : S33024.Idx → BitVec 32) (t : ℕ) (h : Vec Ideal S384x2048 .f32) (w : Vec Ideal S384x128 .f32)
    (g be : Vec Ideal S1x2048 .f32) (p : Fin 384) (q : Fin 2048) :
    outF (F := Ideal) fx rt t h w g be (ix2 p q)
      = lnRow (combRow (fun x => h (ix2 p x))
          (fun x => fx (ix2 (⟨tokRow rt t (2 * p.val) % 37120, Nat.mod_lt _ (by decide)⟩ : Fin 37120) x))
          (fun x => fx (ix2 (⟨tokRow rt t (2 * p.val + 1) % 37120, Nat.mod_lt _ (by decide)⟩ : Fin 37120) x))
          (w (ix2 p (2 : Fin 128))) (w (ix2 p (3 : Fin 128)))) (g (ix2 (0 : Fin 1) q)) (be (ix2 (0 : Fin 1) q)) q := by
  unfold outF tileMoe combRow
  refine (pay1_apply _ _ _ _ p q).trans (congrArg (fun z => lnRow z _ _ q) (funext fun x => ?_))
  rw [pay3_apply]
  rfl

/-- A vector as a row, at a column. -/
theorem row_apply (b : FVec Ideal S2048 .f32) (x : Fin 2048) : shapeCast S1x2048 b shapeCasts_S2048_S1x2048 (ix2 (0 : Fin 1) x) = b (ix1 x) := by
  pointwise

variable (m : (ℓ : Loc nD τ sig) → Buf (Elt Ideal) ℓ) (hm : Good m)

/-- The norm's scale is what the call receives. -/
theorem V_v0 (c : Dev nD) : V m c main_v0 = shapeCast S1x2048 (m ((c : Thread nD τ).loc main_arg4)) shapeCasts_S2048_S1x2048 := by
  show StableHlo.after hostOps0 (fun b => m (c, b)) _ = _
  after_results <;> rfl
/-- The norm's offset is what the call receives. -/
theorem V_v1 (c : Dev nD) : V m c main_v1 = shapeCast S1x2048 (m ((c : Thread nD τ).loc main_arg5)) shapeCasts_S2048_S1x2048 := by
  show StableHlo.after hostOps0 (fun b => m (c, b)) _ = _
  after_results <;> rfl

/-- The place a tile's copy reads is the table's word of its row. -/
theorem tokRow_eq (rt : S33024.Idx → BitVec 32) (r : Fin 16512) (k : ℕ) (hk : k < 2) :
    tokRow rt (r.val / 384) (2 * (r.val % 384) + k) = (rt (ix1 (⟨2 * r.val + k, by omega⟩ : Fin 33024))).toNat := by
  have hr := r.isLt
  refine congrArg (fun i : Fin 33024 => (rt (ix1 i)).toNat) (Fin.ext ?_)
  show (r.val / 384 * 768 + (2 * (r.val % 384) + k)) % 33024 = 2 * r.val + k
  omega

/-- A tile's row of an array is the array's row. -/
theorem tileRows_apply {C : ℕ} (X : (⟨2, ![16512, C]⟩ : Shape).Idx → EReal) (r : Fin 16512) (q : Fin C) :
    tileRows X (r.val / 384) (ix2 (⟨r.val % 384, Nat.mod_lt _ (by decide)⟩ : Fin 384) q) = X (ix2 r q) := by
  have hr := r.isLt
  refine congrArg (fun i : Fin 16512 => X (ix2 i q)) (Fin.ext ?_)
  show (r.val / 384 * 384 + r.val % 384) % 16512 = r.val
  omega

include hm in
/-- The 32-bit result is the reference's. -/
theorem resultF_eq (c : Dev nD) : resultF m c = refOut (arg m c main_arg0) (arg m c main_arg1) (arg m c main_arg2) (arg m c main_arg3)
    (arg m c main_arg4) (arg m c main_arg5) := by
  refine funext fun (y : S16512x2048.Idx) => ?_
  obtain ⟨r, q, rfl⟩ : ∃ (r : Fin 16512) (q : Fin 2048), y = ix2 r q := ⟨y 0, y 1, eq_ix2 y⟩
  have hr := r.isLt
  let rt : S33024.Idx → BitVec 32 := arg m c main_arg0
  have h0 : (rt (ix1 (⟨2 * r.val, by omega⟩ : Fin 33024))).toNat < 37120 := hm c _
  have h1 : (rt (ix1 (⟨2 * r.val + 1, by omega⟩ : Fin 33024))).toNat < 37120 := hm c _
  refine Eq.trans ?_ (refOut_apply (arg m c main_arg0) (arg m c main_arg1) (arg m c main_arg2) (arg m c main_arg3)
    (arg m c main_arg4) (arg m c main_arg5) r q ⟨_, h0⟩ ⟨_, h1⟩ rfl rfl).symm
  show tileF m c (r.val / 384) (ix2 (⟨r.val % 384, _⟩ : Fin 384) q) = _
  unfold tileF
  refine (outF_apply _ _ _ _ _ _ _ _ q).trans ?_
  rw [V_v0, V_v1, row_apply, row_apply]
  refine congrArg (fun z => lnRow z _ _ q) ?_
  have e0 : (⟨tokRow rt (r.val / 384) (2 * (r.val % 384)) % 37120, Nat.mod_lt _ (by decide)⟩ : Fin 37120) = ⟨_, h0⟩ := Fin.ext (by
    show tokRow rt (r.val / 384) (2 * (r.val % 384) + 0) % 37120 = _
    rw [tokRow_eq rt r 0 (by decide)]
    exact Nat.mod_eq_of_lt h0)
  have e1 : (⟨tokRow rt (r.val / 384) (2 * (r.val % 384) + 1) % 37120, Nat.mod_lt _ (by decide)⟩ : Fin 37120) = ⟨_, h1⟩ := Fin.ext (by
    show tokRow rt (r.val / 384) (2 * (r.val % 384) + 1) % 37120 = _
    rw [tokRow_eq rt r 1 (by decide)]
    exact Nat.mod_eq_of_lt h1)
  have eh : ∀ x : Fin 2048, tileRows (arg m c main_arg2 : S16512x2048.Idx → EReal) (r.val / 384) (ix2 (⟨r.val % 384, Nat.mod_lt _ (by decide)⟩ : Fin 384) x)
      = (arg m c main_arg2 : S16512x2048.Idx → EReal) (ix2 r x) := fun x => tileRows_apply _ r x
  have ew : ∀ j : Fin 128, tileRows (arg m c main_arg3 : S16512x128.Idx → EReal) (r.val / 384) (ix2 (⟨r.val % 384, Nat.mod_lt _ (by decide)⟩ : Fin 384) j)
      = (arg m c main_arg3 : S16512x128.Idx → EReal) (ix2 r j) := fun j => tileRows_apply _ r j
  exact congr (congr (congr (congr (congrArg combRow (funext eh)) (funext fun x => congrArg (fun i => (arg m c main_arg1 : S37120x2048.Idx → EReal) (ix2 i x)) e0))
    (funext fun x => congrArg (fun i => (arg m c main_arg1 : S37120x2048.Idx → EReal) (ix2 i x)) e1)) (ew 2)) (ew 3)

/-- The 16-bit result is the 32-bit one: a change of format is the identity. -/
theorem resultB_eq (c : Dev nD) : (resultB m c : S16512x2048.Idx → EReal) = resultF m c := rfl

end kernel

/-- The value claim: from equal arguments both programs end with the reference's results. -/
theorem algebraic : Cert.algebraic_KernelMIdeal_ReferenceMIdeal := by
  intro m g m' g' h hag
  have hm := good_of_places (F := Ideal) m h
  refine ⟨fun c => resultF m c, fun c => resultB m c, (θ_run _ _ _).mono (fun _ r => r.1) (run_kernel m g hm), ?_⟩
  refine (θ_run Cert.ReferenceMIdeal.defs _ _).mono (fun r k c => ⟨(k c).1.trans ?_, (k c).2.1.trans ?_, (k c).2.2⟩) (run_reference m' g')
  all_goals
    obtain ⟨h0, h1, h2, h3, h4, h5⟩ := hag c
    rw [h0, h1, h2, h3, h4, h5]
  · exact (resultF_eq m hm c).symm
  · exact ((resultB_eq m c).trans (resultF_eq m hm c)).symm

end Cert.Proof.Comb
end
-- ==== Proof.EmbedLn.lean ====
module

public import proofs.«01_k».proof.Defs
public import proofs.«01_k».proof.Proof.OutProj
public import proofs.«01_k».proof.Proof.Gen.KernelNIdeal.Value
public import proofs.«01_k».proof.Proof.Gen.ReferenceNIdeal.Run
public import Idealize.ShloMosaic.Lib.Pipeline.ValueKit
public import Idealize.ShloMosaic.Lib.Claim
public import Idealize.ShloMosaic.Lib.StableHlo.Run

/-!
  The norm of the embedded tokens: the meta tokens are put before every sequence, and every block of rows that the
  kernel writes is the reference's, over the extended reals.
-/

@[expose] public section

set_option maxRecDepth 16384

noncomputable section
namespace Cert.Proof.EmbedLn
open Idealize.ShloMosaic Idealize.ShloMosaic.TcCoe Idealize.SL.Sem
open Cert.KernelNIdeal Cert.KernelNIdeal.Gen
open Cert.Proof.OutProj (lnRow meanRow refNorm refNorm_apply)

/-- The tokens of all sequences, the meta tokens before each. -/
def tokens (x : FVec Ideal S8x2048x2048 .f32) (pre : FVec Ideal S16x2048 .f32) : FVec Ideal S16512x2048 .f32 :=
  shapeCast S16512x2048 (concatenate S8x2064x2048 1
    [⟨S8x16x2048, broadcastInDim S8x16x2048 ![0, 1, 2] bcast_S1x16x2048_S8x16x2048_0_1_2 (broadcastInDim S1x16x2048 ![1, 2] bcast_S16x2048_S1x16x2048_1_2 pre)⟩,
     ⟨S8x2048x2048, x⟩] concatenates_S8x16x2048_S8x2048x2048_S8x2064x2048_d1) shapeCasts_S8x2064x2048_S16512x2048

/-- The kernel's normed rows, at a row of the tile and a column. -/
theorem pay1_apply (z : FVec Ideal S384x2048 .f32) (g be : FVec Ideal S1x2048 .f32) (p : Fin 384) (q : Fin 2048) :
    k0_pay1 (F := Ideal) z g be (ix2 p q) = lnRow (fun x => z (ix2 p x)) (g (ix2 (0 : Fin 1) q)) (be (ix2 (0 : Fin 1) q)) q := by
  pointwise [k0_pay1]
  rfl

/-- Which block of each array a grid point takes. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

variable (m : (ℓ : Loc nD τ sig) → Buf (Elt Ideal) ℓ)

/-- The tokens of the arguments. -/
abbrev toks (c : Dev nD) : FVec Ideal S16512x2048 .f32 := tokens (m ((c : Thread nD τ).loc main_arg0)) (m ((c : Thread nD τ).loc main_arg1))

/-- The tokens are what the call receives. -/
theorem V_x (c : Dev nD) : V m c main_v3 = toks m c := by
  show StableHlo.after hostOps0 (fun b => m (c, b)) _ = _
  after_results <;> rfl
/-- The norm's scale is what the call receives. -/
theorem V_g (c : Dev nD) : V m c main_v4 = shapeCast S1x2048 (m ((c : Thread nD τ).loc main_arg2)) shapeCasts_S2048_S1x2048 := by
  show StableHlo.after hostOps0 (fun b => m (c, b)) _ = _
  after_results <;> rfl
/-- The norm's shift is what the call receives. -/
theorem V_be (c : Dev nD) : V m c main_v5 = shapeCast S1x2048 (m ((c : Thread nD τ).loc main_arg3)) shapeCasts_S2048_S1x2048 := by
  show StableHlo.after hostOps0 (fun b => m (c, b)) _ = _
  after_results <;> rfl

/-- The tokens that a grid point takes. -/
theorem iblk_x (c : Dev nD) (t : Fin cfg0.N) (p : Fin 384) (r : Fin 16512) (hr : r.val = t.val * 384 + p.val) (k : Fin 2048) :
    (iblk m c 0 t : S384x2048.Idx → EReal) (ix2 p k) = toks m c (ix2 r k) := by
  rw [← V_x]
  have h : ∀ W : Vec Ideal S16512x2048 .f32, ((cfg0.win 0).blk t).view.read (Elt Ideal) W (ix2 p k) = W (ix2 r k) := fun W => by blk_ext [idx t]
  exact h _
/-- Every grid point takes the norm's scale whole. -/
theorem iblk_g (c : Dev nD) (t : Fin cfg0.N) : iblk m c 1 t = shapeCast S1x2048 (m ((c : Thread nD τ).loc main_arg2)) shapeCasts_S2048_S1x2048 := by
  rw [← V_g]
  blk_ext! [iblk, idx t]
/-- Every grid point takes the norm's shift whole. -/
theorem iblk_be (c : Dev nD) (t : Fin cfg0.N) : iblk m c 2 t = shapeCast S1x2048 (m ((c : Thread nD τ).loc main_arg3)) shapeCasts_S2048_S1x2048 := by
  rw [← V_be]
  blk_ext! [iblk, idx t]

/-- The normed tokens of the arguments. -/
def outH (c : Dev nD) : FVec Ideal S16512x2048 .f32 :=
  refNorm (toks m c) (m ((c : Thread nD τ).loc main_arg2)) (m ((c : Thread nD τ).loc main_arg3))

/-- What a grid point stores of the normed rows is the reference's block. -/
theorem point (c : Dev nD) (t : Fin cfg0.N) (p : Fin 384) (q : Fin 2048) (r : Fin 16512) (hr : r.val = t.val * 384 + p.val) :
    k0_pay1 (F := Ideal) (iblk m c 0 t) (iblk m c 1 t) (iblk m c 2 t) (ix2 p q) = outH m c (ix2 r q) := by
  rw [iblk_g, iblk_be]
  unfold outH
  refine (pay1_apply _ _ _ p q).trans (Eq.trans ?_ (refNorm_apply _ _ _ r q).symm)
  rw [OutProj.row_apply, OutProj.row_apply]
  exact congrArg (fun z => lnRow z _ _ q) (funext fun x => iblk_x m c t p r hr x)

/-- The normed tokens after the run. -/
theorem final3 (c : Dev nD) : (dats m 0 c).arrAt 3 (cfgs 0).N = outH m c := by
  refine (dats m 0 c).arrAt_eq_of_covers 3 _ (by decide +kernel) fun t _ y => ?_
  blk_simp
  rw [after0_3]; frame_out
  obtain ⟨p, q, rfl⟩ : ∃ (p : Fin 384) (q : Fin 2048), y = ix2 p q := ⟨y 0, y 1, eq_ix2 y⟩
  have ht : t.val < 43 := t.isLt
  have hp := p.isLt
  have he : ((cfg0.win 3).blk t).view.emb (ix2 p q) = ix2 (⟨t.val * 384 + p.val, by omega⟩ : Fin 16512) q := by
    blk_ext [idx t]
  exact (point m c t p q _ rfl).trans (congrArg (outH m c) he.symm)

/-- The normed tokens cast, after the run. -/
theorem final4 (c : Dev nD) : (dats m 0 c).arrAt 4 (cfgs 0).N = truncf .bf16 (outH m c) bitsLt_bf16_f32 := by
  refine (dats m 0 c).arrAt_eq_of_covers 4 _ (by decide +kernel) fun t _ y => ?_
  blk_simp
  rw [after0_4]; frame_out
  obtain ⟨p, q, rfl⟩ : ∃ (p : Fin 384) (q : Fin 2048), y = ix2 p q := ⟨y 0, y 1, eq_ix2 y⟩
  have ht : t.val < 43 := t.isLt
  have hp := p.isLt
  have he : ((cfg0.win 4).blk t).view.emb (ix2 p q) = ix2 (⟨t.val * 384 + p.val, by omega⟩ : Fin 16512) q := by
    blk_ext [idx t]
  exact (point m c t p q _ rfl).trans (congrArg (outH m c) he.symm)

/-- The value claim of the norm of the tokens. -/
theorem algebraic : Cert.algebraic_KernelNIdeal_ReferenceNIdeal := by
  intro m g m' g' _ hag
  refine ⟨fun c => outH m c, fun c => truncf .bf16 (outH m c) bitsLt_bf16_f32,
    (θ_run _ _ _).mono (fun r k c => ⟨(k c).1.trans (final3 m c), (k c).2.1.trans (final4 m c), (k c).2.2⟩)
      (Cert.KernelNIdeal.Value.run_blocks m g), ?_⟩
  refine (θ_run Cert.ReferenceNIdeal.defs _ _).mono (fun r k c => ⟨(k c).1.trans ?_, (k c).2.1.trans ?_, (k c).2.2⟩)
    (Cert.ReferenceNIdeal.Value.run m' g')
  all_goals
    obtain ⟨h0, h1, h2, h3⟩ := hag c
    unfold outH toks
    simp only [← h0, ← h1, ← h2, ← h3]
    rfl

end Cert.Proof.EmbedLn
end
-- ==== Proof.Pick.lean ====
module

public import proofs.«01_k».proof.Defs
public import Idealize.ShloMosaic.Lib.SortFacts

/-!
  The greatest and the second greatest of four extended reals, with the first one taken of equals; and the same read by
  a maximum and by the least position that reaches it, over a row of 128 of which some positions count.
-/

@[expose] public section

noncomputable section
namespace Cert.Proof.Route
open Idealize.ShloMosaic

/-- How many of four numbers are less than one of them. -/
def rank (v : Fin 4 → EReal) (k : Fin 4) : Fin 4 :=
  ⟨(Finset.univ.filter fun j => v j < v k).card, by
    have h : (Finset.univ.filter fun j => v j < v k) ⊂ (Finset.univ : Finset (Fin 4)) :=
      Finset.filter_ssubset.2 ⟨k, Finset.mem_univ _, lt_irrefl _⟩
    have := Finset.card_lt_card h
    simpa using this⟩

/-- A less number has the lower rank. -/
theorem rank_lt (v : Fin 4 → EReal) (j k : Fin 4) : rank v j < rank v k ↔ v j < v k := by
  have mono : ∀ a b : Fin 4, v a ≤ v b → rank v a ≤ rank v b := fun a b h =>
    Fin.mk_le_mk.2 <| Finset.card_le_card fun i hi => Finset.mem_filter.2 ⟨Finset.mem_univ _, (Finset.mem_filter.1 hi).2.trans_le h⟩
  constructor
  · intro h
    by_contra hn
    exact absurd h (not_lt.2 (mono k j (not_lt.1 hn)))
  · intro h
    refine Fin.mk_lt_mk.2 (Finset.card_lt_card ((Finset.ssubset_iff_of_subset fun i hi => ?_).2 ⟨j, ?_, ?_⟩))
    · exact Finset.mem_filter.2 ⟨Finset.mem_univ _, (Finset.mem_filter.1 hi).2.trans h⟩
    · exact Finset.mem_filter.2 ⟨Finset.mem_univ _, h⟩
    · exact fun hj => lt_irrefl _ (Finset.mem_filter.1 hj).2

/-- The position that a stable sort of four numbers, the greatest first, takes its entry from. -/
def nth (v : Fin 4 → EReal) (i : Fin 4) : Fin 4 := sortedFrom (fun k k' => decide (v k' < v k)) i

/-- The sort sees only the ranks. -/
theorem nth_eq_rank (v : Fin 4 → EReal) (i : Fin 4) : nth v i = sortedFrom (fun k k' => decide (rank v k' < rank v k)) i := by
  unfold nth
  simp only [rank_lt]

/-- What the sort's first two positions are, over every ranking. -/
theorem ranks : ∀ ρ : Fin 4 → Fin 4,
    let a := sortedFrom (fun k k' => decide (ρ k' < ρ k)) 0
    let b := sortedFrom (fun k k' => decide (ρ k' < ρ k)) 1
    ((∀ j, ¬ ρ a < ρ j) ∧ ∀ j, j < a → ρ j < ρ a) ∧ b ≠ a ∧ (∀ j, j ≠ a → ¬ ρ b < ρ j) ∧ ∀ j, j ≠ a → j < b → ρ j < ρ b := by
  decide +kernel

/-- The first of the greatest. -/
theorem nth_zero (v : Fin 4 → EReal) : (∀ j, v j ≤ v (nth v 0)) ∧ ∀ j, j < nth v 0 → v j < v (nth v 0) := by
  have h := (ranks (rank v)).1
  rw [← nth_eq_rank] at h
  exact ⟨fun j => not_lt.1 fun hj => h.1 j ((rank_lt v _ _).2 hj), fun j hj => (rank_lt v _ _).1 (h.2 j hj)⟩

/-- The first of the greatest among the others. -/
theorem nth_one (v : Fin 4 → EReal) : nth v 1 ≠ nth v 0 ∧ (∀ j, j ≠ nth v 0 → v j ≤ v (nth v 1))
    ∧ ∀ j, j ≠ nth v 0 → j < nth v 1 → v j < v (nth v 1) := by
  have h := (ranks (rank v)).2
  rw [← nth_eq_rank, ← nth_eq_rank] at h
  exact ⟨h.1, fun j hj => not_lt.1 fun hl => h.2.1 j hj ((rank_lt v _ _).2 hl), fun j hj hl => (rank_lt v _ _).1 (h.2.2 j hj hl)⟩

/-- A position as a number. -/
def pos (l : Fin 128) : EReal := ((l.val : ℝ) : EReal)

/-- The greatest over the positions that count. -/
theorem max_eq (S : Fin 128 → Prop) [DecidablePred S] (x : Fin 128 → EReal) (a : Fin 128) (ha : S a) (hle : ∀ l, S l → x l ≤ x a) :
    (Finset.univ : Finset (Fin 128)).fold max ⊥ (fun l => if S l then x l else ⊥) = x a := by
  refine le_antisymm (Finset.fold_max_le _ |>.2 ⟨bot_le, fun l _ => ?_⟩) (Finset.le_fold_max _ |>.2 (Or.inr ⟨a, Finset.mem_univ _, ?_⟩))
  · split
    · exact hle l ‹_›
    · exact bot_le
  · rw [if_pos ha]

/-- The least position that counts and reaches the greatest. -/
theorem min_eq (S : Fin 128 → Prop) [DecidablePred S] (x : Fin 128 → EReal) (a : Fin 128) (ha : S a) (hlt : ∀ l, S l → l < a → x l < x a) :
    (Finset.univ : Finset (Fin 128)).fold min ⊤ (fun l => if S l ∧ x l = x a then pos l else ((128 : ℝ) : EReal)) = pos a := by
  refine le_antisymm (Finset.fold_min_le _ |>.2 (Or.inr ⟨a, Finset.mem_univ _, ?_⟩)) (Finset.le_fold_min _ |>.2 ⟨le_top, fun l _ => ?_⟩)
  · rw [if_pos ⟨ha, rfl⟩]
  · split
    · rename_i h
      refine EReal.coe_le_coe_iff.2 (Nat.cast_le.2 (not_lt.1 fun hl => ?_))
      exact absurd h.2 (hlt l h.1 hl).ne
    · refine EReal.coe_le_coe_iff.2 ?_
      have := a.isLt
      exact_mod_cast this.le

end Cert.Proof.Route
end
-- ==== Proof.RouteRow.lean ====
module

public import proofs.«01_k».proof.Defs
public import proofs.«01_k».proof.Proof.Pick
public import proofs.«01_k».proof.Proof.Gen.KernelRIdeal.Value
public import Idealize.ShloMosaic.Lib.Pipeline.ValueKit
public import Idealize.ShloMosaic.Lib.IdealHost

/-!
  The routing of one token as the kernel computes it: from the token's row of logits, its group's number, its two
  experts' positions and their gates.
-/

@[expose] public section

set_option maxRecDepth 16384

noncomputable section
namespace Cert.Proof.Route
open Idealize.ShloMosaic Idealize.ShloMosaic.TcCoe Idealize.SL.Sem
open Cert.KernelRIdeal Cert.KernelRIdeal.Gen

/-- A natural number as an extended real. -/
def num (n : Nat) : EReal := ((n : ℝ) : EReal)

/-- The float word of one is one. -/
theorem word_one : Ideal.ofBits .f32 0x3F800000#32 = num 1 := by
  simp [Ideal.ofBits, Ideal.ieee, num, -EReal.coe_mul]; norm_num
/-- The float word of two is two. -/
theorem word_two : Ideal.ofBits .f32 0x40000000#32 = num 2 := by
  simp [Ideal.ofBits, Ideal.ieee, num, -EReal.coe_mul]; norm_num
/-- The float word of three is three. -/
theorem word_three : Ideal.ofBits .f32 0x40400000#32 = num 3 := by
  simp [Ideal.ofBits, Ideal.ieee, num, -EReal.coe_mul]; norm_num
/-- The float word of four is four. -/
theorem word_four : Ideal.ofBits .f32 0x40800000#32 = num 4 := by
  simp [Ideal.ofBits, Ideal.ieee, num, -EReal.coe_mul]; norm_num
/-- The float word of 128 is 128. -/
theorem word_lanes : Ideal.ofBits .f32 0x43000000#32 = num 128 := by
  simp [Ideal.ofBits, Ideal.ieee, num, -EReal.coe_mul]; norm_num
/-- The float word of the least number. -/
theorem word_bot : Ideal.ofBits .f32 0xFF800000#32 = ⊥ := by simp [Ideal.ofBits, Ideal.ieee]
/-- The float word of the greatest number. -/
theorem word_top : Ideal.ofBits .f32 0x7F800000#32 = ⊤ := by simp [Ideal.ofBits, Ideal.ieee]
/-- What stands where a position does not count. -/
theorem mask : Named.named (F := Ideal) κ "mask" (φ := .f32) 0xF149F2CA#32 = ⊥ := IdealRules.named_const.ideal_named_scalar _ _ _ _ rfl

/-- A statement as a bit. -/
def bit (P : Prop) [Decidable P] : BitVec 1 := BitVec.ofBool (decide P)

/-- A choice by a bit. -/
theorem select_bit {α : Type} (P : Prop) [Decidable P] (a b : α) : Scalar.select (bit P) a b = if P then a else b := by
  unfold bit Scalar.select
  by_cases h : P <;> simp [h]

/-- Two bits joined. -/
theorem andi_bit (P Q : Prop) [Decidable P] [Decidable Q] : IntOp.andi (bit P) (bit Q) = bit (P ∧ Q) := by
  unfold bit IntOp.andi
  by_cases h : P <;> by_cases h' : Q <;> simp [h, h']

/-- Equivalent statements are the same bit. -/
theorem bit_congr {P Q : Prop} [Decidable P] [Decidable Q] (h : P ↔ Q) : bit P = bit Q := by
  unfold bit
  simp only [h]

/-- Numbers compare as naturals. -/
theorem num_lt (a b : Nat) : num a < num b ↔ a < b := by unfold num; rw [EReal.coe_lt_coe_iff, Nat.cast_lt]
/-- Numbers compare as naturals. -/
theorem num_le (a b : Nat) : num a ≤ num b ↔ a ≤ b := by unfold num; rw [EReal.coe_le_coe_iff, Nat.cast_le]
/-- Numbers are equal as naturals. -/
theorem num_inj (a b : Nat) : num a = num b ↔ a = b := by unfold num; rw [EReal.coe_eq_coe_iff, Nat.cast_inj]
/-- A sum of numbers. -/
theorem num_add (a b : Nat) : num a + num b = num (a + b) := by unfold num; rw [← EReal.coe_add, Nat.cast_add]
/-- A product of numbers. -/
theorem num_mul (a b : Nat) : num a * num b = num (a * b) := by unfold num; rw [← EReal.coe_mul, Nat.cast_mul]
/-- A difference of numbers. -/
theorem num_sub (a b : Nat) (h : b ≤ a) : num a - num b = num (a - b) := by unfold num; rw [← EReal.coe_sub, Nat.cast_sub h]

/-- The position of a column. -/
theorem pay3_apply (p : Fin 384) (l : Fin 128) : (k0_pay3 (F := Ideal)) (ix2 p l) = num l.val := by
  pointwise [k0_pay3]
  show (((BitVec.ofNat 32 l.val).toInt : ℝ) : EReal) = _
  have h : (BitVec.ofNat 32 l.val).toInt = (l.val : Int) := by
    have := l.isLt
    rw [BitVec.toInt_eq_toNat_of_lt (by rw [BitVec.toNat_ofNat]; omega), BitVec.toNat_ofNat]
    omega
  rw [h]
  rfl

/-- The first four columns are the groups'. -/
theorem pay4_apply (p : Fin 384) (l : Fin 128) : (k0_pay4 (F := Ideal)) (ix2 p l) = bit (l.val < 4) := by
  pointwise [k0_pay4]
  rw [pay3_apply, word_four]
  exact bit_congr (num_lt _ _)

/-- The greatest of four columns from `o` on, among those for which `S` holds. -/
theorem fold_max (S : Fin 128 → Prop) [DecidablePred S] (x : Fin 128 → EReal) (a : Fin 128) (ha : S a) (hle : ∀ l, S l → x l ≤ x a)
    (f : Fin 128 → EReal) (hf : ∀ l, f l = if S l then x l else ⊥) :
    (Finset.univ : Finset (Fin 128)).fold max (Ideal.ofBits .f32 0xFF800000#32) f = x a := by
  rw [word_bot, funext hf]
  exact max_eq S x a ha hle

/-- The first column, among those for which `S` holds, at which the greatest stands. -/
theorem fold_min (S : Fin 128 → Prop) [DecidablePred S] (x : Fin 128 → EReal) (a : Fin 128) (ha : S a) (hlt : ∀ l, S l → l < a → x l < x a)
    (f : Fin 128 → EReal) (hf : ∀ l, f l = if S l ∧ x l = x a then num l.val else num 128) :
    (Finset.univ : Finset (Fin 128)).fold min (Ideal.ofBits .f32 0x7F800000#32) f = num a.val := by
  rw [word_top, funext hf]
  exact min_eq S x a ha hlt

/-- A column's number where it counts and holds the value sought, 128 elsewhere. -/
theorem pick (P : Prop) [Decidable P] (b : BitVec 1) (u v w u' v' : EReal) {l : Nat} (hb : b = bit P) (hu : u = u') (hv : v = v') (hw : w = num l) :
    Scalar.select (IntOp.andi b (BitVec.ofBool (decide (u = v)))) w (Ideal.ofBits .f32 0x43000000#32) = if P ∧ u' = v' then num l else num 128 := by
  subst hb hu hv hw
  rw [word_lanes]
  exact (congrArg (fun b => Scalar.select b _ _) (andi_bit _ _)).trans (select_bit _ _ _)

/-- The column `j` of the four from `o` on. -/
def col (o : Nat) (ho : o + 4 ≤ 128) (j : Fin 4) : Fin 128 := ⟨o + j.val, by have := j.isLt; omega⟩

/-- The groups' columns are columns. -/
theorem four_le : 0 + 4 ≤ 128 := by decide

/-- A column of the four from `o` on. -/
theorem col_of (o : Nat) (ho : o + 4 ≤ 128) (l : Fin 128) (h : o ≤ l.val ∧ l.val < o + 4) : ∃ j, l = col o ho j :=
  ⟨⟨l.val - o, by omega⟩, Fin.ext (by show l.val = o + (l.val - o); omega)⟩

/-- Columns of the four are ordered as their places. -/
theorem col_lt (o : Nat) (ho : o + 4 ≤ 128) (i j : Fin 4) : col o ho i < col o ho j ↔ i < j := by
  show o + i.val < o + j.val ↔ i.val < j.val
  omega

/-- Columns of the four are equal as their places. -/
theorem col_val (o : Nat) (ho : o + 4 ≤ 128) (i j : Fin 4) : (col o ho i).val = (col o ho j).val ↔ i = j := by
  rw [Fin.ext_iff]
  show o + i.val = o + j.val ↔ _
  omega

/-- The column lies among the four. -/
theorem col_mem (o : Nat) (ho : o + 4 ≤ 128) (j : Fin 4) : o ≤ (col o ho j).val ∧ (col o ho j).val < o + 4 := by
  have := j.isLt
  show o ≤ o + j.val ∧ o + j.val < o + 4
  omega

section Experts

variable (v4 v6 v41 : FVec Ideal S384x128 .f32) (v39 : IVec S384x128 1) (p : Fin 384) (x : Fin 128 → EReal) (o : Nat) (ho : o + 4 ≤ 128)
  (h4 : ∀ l, v4 (ix2 p l) = x l) (h6 : ∀ l : Fin 128, v6 (ix2 p l) = num l.val)
  (h39 : ∀ l : Fin 128, v39 (ix2 p l) = bit (o ≤ l.val ∧ l.val < o + 4))
  (h41 : ∀ l : Fin 128, v41 (ix2 p l) = if o ≤ l.val ∧ l.val < o + 4 then x l else ⊥)

/-- The group's column of the `i`-th greatest logit. -/
abbrev best (i : Fin 4) : Fin 128 := col o ho (nth (fun j => x (col o ho j)) i)

include h41 in
/-- The greatest logit of the group. -/
theorem pay9_apply : k0_pay9 (F := Ideal) v41 (ix2 p (0 : Fin 1)) = x (best x o ho 0) := by
  pointwise [k0_pay9]
  refine fold_max (fun l => o ≤ l.val ∧ l.val < o + 4) x _ (col_mem o ho _) (fun l hl => ?_) _ h41
  obtain ⟨j, rfl⟩ := col_of o ho l hl
  exact (nth_zero fun j => x (col o ho j)).1 j

include h4 h6 h39 h41 in
/-- The column of the greatest logit of the group. -/
theorem pay10_apply : k0_pay10 (F := Ideal) v4 v6 v39 v41 (ix2 p (0 : Fin 1)) = num (best x o ho 0).val := by
  have h9 := pay9_apply v41 p x o ho h41
  pointwise [k0_pay10]
  refine fold_min (fun l => o ≤ l.val ∧ l.val < o + 4) x _ (col_mem o ho _) (fun l hl hlt => ?_) _ fun l => ?_
  · obtain ⟨j, rfl⟩ := col_of o ho l hl
    exact (nth_zero fun j => x (col o ho j)).2 j ((col_lt o ho _ _).1 hlt)
  · exact pick _ _ _ _ _ _ _ (h39 l) (h4 l) h9 (h6 l)

include h4 h6 h39 h41 in
/-- The group's columns without the first choice. -/
theorem pay11_apply (l : Fin 128) : k0_pay11 (F := Ideal) v4 v6 v39 v41 (ix2 p l)
    = bit ((o ≤ l.val ∧ l.val < o + 4) ∧ l.val ≠ (best x o ho 0).val) := by
  have h10 := pay10_apply v4 v6 v41 v39 p x o ho h4 h6 h39 h41
  pointwise [k0_pay11]
  rw [h10, h6, h39]
  exact (congrArg (IntOp.andi _) (bit_congr (not_congr (num_inj _ _)))).trans (andi_bit _ _)

/-- A column among the group's without the first choice. -/
theorem rest_of (l : Fin 128) (h : (o ≤ l.val ∧ l.val < o + 4) ∧ l.val ≠ (best x o ho 0).val) :
    ∃ j, l = col o ho j ∧ j ≠ nth (fun j => x (col o ho j)) 0 := by
  obtain ⟨j, rfl⟩ := col_of o ho l h.1
  exact ⟨j, rfl, fun e => h.2 ((col_val o ho _ _).2 e)⟩

/-- The second choice is among the group's columns without the first. -/
theorem rest_mem : (o ≤ (best x o ho 1).val ∧ (best x o ho 1).val < o + 4) ∧ (best x o ho 1).val ≠ (best x o ho 0).val :=
  ⟨col_mem o ho _, fun e => (nth_one fun j => x (col o ho j)).1 ((col_val o ho _ _).1 e)⟩

include h4 h6 h39 h41 in
/-- The second greatest logit of the group. -/
theorem pay12_apply : k0_pay12 (F := Ideal) v4 v6 v39 v41 (ix2 p (0 : Fin 1)) = x (best x o ho 1) := by
  have h11 := pay11_apply v4 v6 v41 v39 p x o ho h4 h6 h39 h41
  pointwise [k0_pay12]
  refine fold_max (fun l => (o ≤ l.val ∧ l.val < o + 4) ∧ l.val ≠ (best x o ho 0).val) x _ (rest_mem x o ho) (fun l hl => ?_) _ fun l => ?_
  · obtain ⟨j, rfl, hj⟩ := rest_of x o ho l hl
    exact (nth_one fun j => x (col o ho j)).2.1 j hj
  · rw [h11, h4, mask]
    exact select_bit _ _ _

include h4 h6 h39 h41 in
/-- The second choice, counted from the first expert's column. -/
theorem pay18_apply : k0_pay18 (F := Ideal) v4 v6 v39 v41 (ix2 p (0 : Fin 1)) = num (best x o ho 1).val - num 4 := by
  have h11 := pay11_apply v4 v6 v41 v39 p x o ho h4 h6 h39 h41
  have h12 := pay12_apply v4 v6 v41 v39 p x o ho h4 h6 h39 h41
  pointwise [k0_pay18]
  rw [word_four]
  refine congrArg (· - num 4) (fold_min (fun l => (o ≤ l.val ∧ l.val < o + 4) ∧ l.val ≠ (best x o ho 0).val) x _ (rest_mem x o ho) (fun l hl hlt => ?_) _ fun l => ?_)
  · obtain ⟨j, rfl, hj⟩ := rest_of x o ho l hl
    exact (nth_one fun j => x (col o ho j)).2.2 j hj ((col_lt o ho _ _).1 hlt)
  · exact pick _ _ _ _ _ _ _ (h11 l) (h4 l) h12 (h6 l)

include h4 h6 h39 h41 in
/-- The first choice, counted from the first expert's column. -/
theorem pay16_apply : k0_pay16 (F := Ideal) v4 v6 v39 v41 (ix2 p (0 : Fin 1)) = num (best x o ho 0).val - num 4 := by
  have h10 := pay10_apply v4 v6 v41 v39 p x o ho h4 h6 h39 h41
  pointwise [k0_pay16]
  rw [h10, word_four]

include h4 h6 h39 h41 in
/-- How much the second choice weighs against the first. -/
theorem pay13_apply : k0_pay13 (F := Ideal) v4 v6 v39 v41 (ix2 p (0 : Fin 1)) = Ideal.exp (x (best x o ho 1) - x (best x o ho 0)) := by
  have h9 := pay9_apply v41 p x o ho h41
  have h12 := pay12_apply v4 v6 v41 v39 p x o ho h4 h6 h39 h41
  pointwise [k0_pay13]
  rw [h9, h12]

include h4 h6 h39 h41 in
/-- The first choice's gate. -/
theorem pay14_apply (v28 : FVec Ideal S384x1 .f32) : k0_pay14 (F := Ideal) v4 v6 v28 v39 v41 (ix2 p (0 : Fin 1))
    = Ideal.div (v28 (ix2 p (0 : Fin 1))) (1 + Ideal.exp (x (best x o ho 1) - x (best x o ho 0))) := by
  have h13 := pay13_apply v4 v6 v41 v39 p x o ho h4 h6 h39 h41
  pointwise [k0_pay14]
  rw [h13]

include h4 h6 h39 h41 in
/-- The second choice's gate. -/
theorem pay21_apply (v28 : FVec Ideal S384x1 .f32) : k0_pay21 (F := Ideal) v4 v6 v28 v39 v41 (ix2 p (0 : Fin 1))
    = Ideal.div (v28 (ix2 p (0 : Fin 1)) * Ideal.exp (x (best x o ho 1) - x (best x o ho 0)))
        (1 + Ideal.exp (x (best x o ho 1) - x (best x o ho 0))) := by
  have h13 := pay13_apply v4 v6 v41 v39 p x o ho h4 h6 h39 h41
  pointwise [k0_pay21]
  rw [h13]

end Experts

/-- The group of a token: the greatest of the first four logits, the first where several are. -/
def grp (x : Fin 128 → EReal) : Fin 4 := nth (fun j => x (col 0 four_le j)) 0

/-- The first column of a token's group. -/
def off (x : Fin 128 → EReal) : Nat := 4 + 4 * (grp x).val

/-- A group's columns are columns. -/
theorem off_le (x : Fin 128 → EReal) : off x + 4 ≤ 128 := by
  have := (grp x).isLt
  unfold off
  omega

/-- The columns between the group's first and the next group's first. -/
theorem between (g l : Nat) (f a w : EReal) (hf : f = num g) (ha : a = num l) (hw : w = num 4) :
    IntOp.andi (BitVec.ofBool (decide (w + f * w ≤ a))) (BitVec.ofBool (decide (a < w + f * w + w)))
      = bit (4 + 4 * g ≤ l ∧ l < 4 + 4 * g + 4) := by
  subst hf ha hw
  rw [num_mul, num_add, num_add, mul_comm g 4]
  exact (congrArg₂ IntOp.andi (bit_congr (num_le _ _)) (bit_congr (num_lt _ _))).trans (andi_bit _ _)

section Group

variable (v0 : Vec Ideal S384x128 .f32) (v1 : Vec Ideal S1x128 .f32) (p : Fin 384) (x : Fin 128 → EReal)
  (h2 : ∀ l, k0_pay2 (F := Ideal) v0 v1 (ix2 p l) = x l)

/-- The first four columns, as a group. -/
theorem lt_four (l : Fin 128) : l.val < 4 ↔ 0 ≤ l.val ∧ l.val < 0 + 4 := by omega

include h2 in
/-- The greatest of the groups' logits. -/
theorem pay5_apply : k0_pay5 (F := Ideal) v0 v1 (ix2 p (0 : Fin 1)) = x (col 0 four_le (grp x)) := by
  pointwise [k0_pay5]
  refine fold_max (fun l => l.val < 4) x _ ((lt_four _).2 (col_mem 0 four_le _)) (fun l hl => ?_) _ fun l => ?_
  · obtain ⟨j, rfl⟩ := col_of 0 four_le l ((lt_four _).1 hl)
    exact (nth_zero fun j => x (col 0 four_le j)).1 j
  · rw [pay4_apply, h2, mask]
    exact select_bit _ _ _

include h2 in
/-- The group's probability. -/
theorem pay6_apply : k0_pay6 (F := Ideal) v0 v1 (ix2 p (0 : Fin 1))
    = Ideal.div 1 (∑ j : Fin 4, Ideal.exp (x (col 0 four_le j) - x (col 0 four_le (grp x)))) := by
  have h5 := pay5_apply v0 v1 p x h2
  pointwise [k0_pay6]
  refine congrArg (Ideal.div 1) ?_
  have e : ∀ l : Fin 128, Scalar.select (k0_pay4 (F := Ideal) (ix2 p l)) (Ideal.exp (k0_pay2 (F := Ideal) v0 v1 (ix2 p l) - k0_pay5 (F := Ideal) v0 v1 (ix2 p (0 : Fin 1)))) 0
      = if l.val < 4 then Ideal.exp (x l - x (col 0 four_le (grp x))) else 0 := fun l => by
    rw [pay4_apply, h2, h5]
    exact select_bit _ _ _
  refine (Finset.sum_congr rfl fun l _ => e l).trans ?_
  generalize x (col 0 four_le (grp x)) = a
  refine (Fin.sum_univ_add (a := 4) (b := 124) (fun l : Fin 128 => if l.val < 4 then Ideal.exp (x l - a) else 0)).trans ?_
  rw [Finset.sum_eq_zero (s := (Finset.univ : Finset (Fin 124))) fun l _ => if_neg (by show ¬ 4 + l.val < 4; omega), add_zero]
  refine Finset.sum_congr rfl fun j _ => (if_pos (by show j.val < 4; exact j.isLt)).trans ?_
  exact congrArg (fun l => Ideal.exp (x l - a)) (Fin.ext (by show j.val = 0 + j.val; omega))

include h2 in
/-- The columns of the token's group. -/
theorem pay7_apply (l : Fin 128) : k0_pay7 (F := Ideal) v0 v1 (ix2 p l) = bit (off x ≤ l.val ∧ l.val < off x + 4) := by
  have h5 := pay5_apply v0 v1 p x h2
  have hm : (Finset.univ : Finset (Fin 128)).fold min (Ideal.ofBits .f32 0x7F800000#32) (fun l => Scalar.select
      (IntOp.andi (k0_pay4 (F := Ideal) (ix2 p l)) (BitVec.ofBool (decide (k0_pay2 (F := Ideal) v0 v1 (ix2 p l) = k0_pay5 (F := Ideal) v0 v1 (ix2 p (0 : Fin 1))))))
      (k0_pay3 (F := Ideal) (ix2 p l)) (Ideal.ofBits .f32 0x43000000#32)) = num (grp x).val := by
    refine (fold_min (fun l => l.val < 4) x (col 0 four_le (grp x)) ((lt_four _).2 (col_mem 0 four_le _)) (fun l hl hlt => ?_) _ fun l => ?_).trans
      (congrArg num (by show 0 + (grp x).val = _; omega))
    · obtain ⟨j, rfl⟩ := col_of 0 four_le l ((lt_four _).1 hl)
      exact (nth_zero fun j => x (col 0 four_le j)).2 j ((col_lt 0 four_le _ _).1 hlt)
    · exact pick _ _ _ _ _ _ _ (pay4_apply p l) (h2 l) h5 (pay3_apply p l)
  pointwise [k0_pay7]
  exact between _ _ _ _ _ hm (pay3_apply p l) word_four

include h2 in
/-- The logits of the token's group. -/
theorem pay8_apply (l : Fin 128) : k0_pay8 (F := Ideal) v0 v1 (ix2 p l) = if off x ≤ l.val ∧ l.val < off x + 4 then x l else ⊥ := by
  have h7 := pay7_apply v0 v1 p x h2 l
  pointwise [k0_pay8]
  rw [h7, h2, mask]
  exact select_bit _ _ _

end Group

/-- The `i`-th choice among a token's group of experts. -/
def pickE (x : Fin 128 → EReal) (i : Fin 4) : Fin 4 := nth (fun j => x (col (off x) (off_le x) j)) i

/-- The logit of the `i`-th choice. -/
def logitE (x : Fin 128 → EReal) (i : Fin 4) : EReal := x (col (off x) (off_le x) (pickE x i))

/-- The probability of a token's group. -/
def probG (x : Fin 128 → EReal) : EReal :=
  Ideal.div 1 (∑ j : Fin 4, Ideal.exp (x (col 0 four_le j) - x (col 0 four_le (grp x))))

/-- A row of the routing table: the two experts' numbers, their gates, and zeros. -/
def routeRow (x : Fin 128 → EReal) (q : Fin 128) : EReal :=
  if q.val = 0 then num (4 * (grp x).val + (pickE x 0).val)
  else if q.val = 1 then num (4 * (grp x).val + (pickE x 1).val)
  else if q.val = 2 then Ideal.div (probG x) (1 + Ideal.exp (logitE x 1 - logitE x 0))
  else if q.val = 3 then Ideal.div (probG x * Ideal.exp (logitE x 1 - logitE x 0)) (1 + Ideal.exp (logitE x 1 - logitE x 0))
  else 0

/-- A choice's number, counted from the first expert's column. -/
theorem number (x : Fin 128 → EReal) (i : Fin 4) :
    num (best x (off x) (off_le x) i).val - num 4 = num (4 * (grp x).val + (pickE x i).val) := by
  have e : (best x (off x) (off_le x) i).val = 4 + 4 * (grp x).val + (pickE x i).val := rfl
  rw [e, num_sub _ _ (by omega)]
  exact congrArg num (by omega)

/-- Nested choices by the column. -/
theorem nested (b0 b1 b2 b3 : BitVec 1) (l : Nat) (a0 a1 a2 a3 z a0' a1' a2' a3' z' : EReal)
    (h0 : b0 = bit (l = 0)) (h1 : b1 = bit (l = 1)) (h2 : b2 = bit (l = 2)) (h3 : b3 = bit (l = 3))
    (e0 : a0 = a0') (e1 : a1 = a1') (e2 : a2 = a2') (e3 : a3 = a3') (ez : z = z') :
    Scalar.select b0 a0 (Scalar.select b1 a1 (Scalar.select b2 a2 (Scalar.select b3 a3 z)))
      = if l = 0 then a0' else if l = 1 then a1' else if l = 2 then a2' else if l = 3 then a3' else z' := by
  subst h0 h1 h2 h3 e0 e1 e2 e3 ez
  rw [select_bit, select_bit, select_bit, select_bit]

section Columns

variable (v6 : FVec Ideal S384x128 .f32) (p : Fin 384) (h6 : ∀ l : Fin 128, v6 (ix2 p l) = num l.val) (l : Fin 128)

include h6 in
/-- The first column. -/
theorem pay15_apply : k0_pay15 (F := Ideal) v6 (ix2 p l) = bit (l.val = 0) := by
  pointwise [k0_pay15]
  rw [h6]
  exact bit_congr ((iff_of_eq (congrArg (_ = ·) (by simp [num]))).trans (num_inj _ 0))

include h6 in
/-- The second column. -/
theorem pay17_apply : k0_pay17 (F := Ideal) v6 (ix2 p l) = bit (l.val = 1) := by
  pointwise [k0_pay17]
  rw [h6]
  exact bit_congr ((iff_of_eq (congrArg (_ = ·) (by simp [num]))).trans (num_inj _ 1))

include h6 in
/-- The third column. -/
theorem pay19_apply : k0_pay19 (F := Ideal) v6 (ix2 p l) = bit (l.val = 2) := by
  pointwise [k0_pay19]
  rw [h6, word_two]
  exact bit_congr (num_inj _ _)

include h6 in
/-- The fourth column. -/
theorem pay20_apply : k0_pay20 (F := Ideal) v6 (ix2 p l) = bit (l.val = 3) := by
  pointwise [k0_pay20]
  rw [h6, word_three]
  exact bit_congr (num_inj _ _)

end Columns

/-- What a grid point stores, from what its arguments hold at a row. -/
theorem pay1_apply (a : FVec Ideal S384x1 .f32) (b0 : IVec S384x128 1) (d0 : FVec Ideal S384x1 .f32) (b1 : IVec S384x128 1)
    (d1 : FVec Ideal S384x1 .f32) (b2 b3 : IVec S384x128 1) (z : EReal) (g : FVec Ideal S384x1 .f32) (p : Fin 384) (l : Fin 128) :
    k0_pay1 (F := Ideal) a b0 d0 b1 d1 b2 b3 z g (ix2 p l)
      = Scalar.select (b0 (ix2 p l)) (d0 (ix2 p (0 : Fin 1))) (Scalar.select (b1 (ix2 p l)) (d1 (ix2 p (0 : Fin 1)))
          (Scalar.select (b2 (ix2 p l)) (a (ix2 p (0 : Fin 1))) (Scalar.select (b3 (ix2 p l)) (g (ix2 p (0 : Fin 1))) z))) := by
  pointwise [k0_pay1]

/-- What a grid point stores, at a row of its tile: the routing row of that token's logits. -/
theorem row_apply (v0 : Vec Ideal S384x128 .f32) (v1 : Vec Ideal S1x128 .f32) (p : Fin 384) (x : Fin 128 → EReal)
    (h2 : ∀ l, k0_pay2 (F := Ideal) v0 v1 (ix2 p l) = x l) (l : Fin 128) :
    k0_pay1 (F := Ideal) (k0_pay14 (k0_pay2 v0 v1) (k0_pay3 (F := Ideal)) (k0_pay6 v0 v1) (k0_pay7 v0 v1) (k0_pay8 v0 v1)) (k0_pay15 (k0_pay3 (F := Ideal)))
      (k0_pay16 (k0_pay2 v0 v1) (k0_pay3 (F := Ideal)) (k0_pay7 v0 v1) (k0_pay8 v0 v1)) (k0_pay17 (k0_pay3 (F := Ideal)))
      (k0_pay18 (k0_pay2 v0 v1) (k0_pay3 (F := Ideal)) (k0_pay7 v0 v1) (k0_pay8 v0 v1)) (k0_pay19 (k0_pay3 (F := Ideal))) (k0_pay20 (k0_pay3 (F := Ideal)))
      (Scalar.ofBits .f32 0#32) (k0_pay21 (k0_pay2 v0 v1) (k0_pay3 (F := Ideal)) (k0_pay6 v0 v1) (k0_pay7 v0 v1) (k0_pay8 v0 v1)) (ix2 p l) = routeRow x l := by
  have h3 := fun l => pay3_apply p l
  have h6 := pay6_apply v0 v1 p x h2
  have h7 := pay7_apply v0 v1 p x h2
  have h8 := pay8_apply v0 v1 p x h2
  generalize k0_pay2 (F := Ideal) v0 v1 = v4 at *
  generalize k0_pay3 (F := Ideal) = v6 at *
  generalize k0_pay6 (F := Ideal) v0 v1 = v28 at *
  generalize k0_pay7 (F := Ideal) v0 v1 = v39 at *
  generalize k0_pay8 (F := Ideal) v0 v1 = v41 at *
  refine (pay1_apply _ _ _ _ _ _ _ _ _ p l).trans ?_
  refine nested _ _ _ _ _ _ _ _ _ _ _ _ _ _ _ (pay15_apply v6 p h3 l) (pay17_apply v6 p h3 l) (pay19_apply v6 p h3 l) (pay20_apply v6 p h3 l)
    ((pay16_apply v4 v6 v41 v39 p x (off x) (off_le x) h2 h3 h7 h8).trans (number x 0))
    ((pay18_apply v4 v6 v41 v39 p x (off x) (off_le x) h2 h3 h7 h8).trans (number x 1))
    ((pay14_apply v4 v6 v41 v39 p x (off x) (off_le x) h2 h3 h7 h8 v28).trans ?_)
    ((pay21_apply v4 v6 v41 v39 p x (off x) (off_le x) h2 h3 h7 h8 v28).trans ?_) Ideal.ofBits_zero_f32
  · rw [h6]; rfl
  · rw [h6]; rfl

end Cert.Proof.Route
end
-- ==== Proof.RouteSoft.lean ====
module

public import proofs.«01_k».proof.Proof.Pick

/-!
  The softmax of a few real numbers as a quotient of exponentials: it ranks them as they are ranked, and what it comes
  to at the greatest of them, and at the two of a pair.
-/

@[expose] public section

noncomputable section
namespace Cert.Proof.Route
open Idealize.ShloMosaic

/-- The softmax of `v` at `i`, with `b` taken off every exponent. -/
def soft {n : Nat} (v : Fin n → EReal) (b : EReal) (i : Fin n) : EReal :=
  Ideal.div (Ideal.exp (v i - b)) (∑ k, Ideal.exp (v k - b))

/-- A sum of reals is a real. -/
theorem sum_real {n : Nat} (f : Fin n → ℝ) : ∑ i, ((f i : ℝ) : EReal) = ((∑ i, f i : ℝ) : EReal) :=
  (map_sum (⟨⟨Real.toEReal, rfl⟩, EReal.coe_add⟩ : ℝ →+ EReal) f Finset.univ).symm

/-- The softmax of reals is a real. -/
theorem soft_real {n : Nat} (y : Fin n → ℝ) (b : ℝ) (i : Fin n) :
    soft (fun k => (y k : EReal)) b i = ((Real.exp (y i - b) * (1 / ∑ k, Real.exp (y k - b)) : ℝ) : EReal) := by
  have h : 0 < ∑ k, Real.exp (y k - b) := Finset.sum_pos (fun _ _ => Real.exp_pos _) ⟨i, Finset.mem_univ _⟩
  have e : ∀ k, Ideal.exp ((y k : EReal) - (b : EReal)) = ((Real.exp (y k - b) : ℝ) : EReal) := fun k => by
    rw [← EReal.coe_sub, Ideal.exp_coe]
  unfold soft
  simp only [e, sum_real]
  rw [Ideal.div_coe h.ne', EReal.coe_mul]

/-- The softmax of reals is less where they are less. -/
theorem soft_lt {n : Nat} (y : Fin n → ℝ) (b : ℝ) (i j : Fin n) :
    soft (fun k => (y k : EReal)) b i < soft (fun k => (y k : EReal)) b j ↔ (y i : EReal) < (y j : EReal) := by
  have h : 0 < ∑ k, Real.exp (y k - b) := Finset.sum_pos (fun _ _ => Real.exp_pos _) ⟨i, Finset.mem_univ _⟩
  rw [soft_real, soft_real, EReal.coe_lt_coe_iff, EReal.coe_lt_coe_iff, mul_lt_mul_iff_of_pos_right (one_div_pos.2 h), Real.exp_lt_exp,
    sub_lt_sub_iff_right]

/-- Values that are all real are those of a real function. -/
theorem real_fun {n : Nat} (v : Fin n → EReal) (h : ∀ k, ∃ y : ℝ, v k = y) : ∃ y : Fin n → ℝ, v = fun k => (y k : EReal) := by
  choose y hy using h
  exact ⟨y, funext hy⟩

/-- The softmax puts four reals in the order that they have. -/
theorem nth_soft (v : Fin 4 → EReal) (h : ∀ k, ∃ y : ℝ, v k = y) (a i : Fin 4) : nth (soft v (v a)) i = nth v i := by
  obtain ⟨y, rfl⟩ := real_fun v h
  unfold nth
  simp only [soft_lt]

/-- A real less itself is zero, and the exponential there is one. -/
theorem exp_self (x : EReal) (h : ∃ y : ℝ, x = y) : Ideal.exp (x - x) = 1 := by
  obtain ⟨y, rfl⟩ := h
  rw [← EReal.coe_sub, sub_self, Ideal.exp_coe, Real.exp_zero, EReal.coe_one]

/-- The softmax at the number that is taken off every exponent. -/
theorem soft_self {n : Nat} (v : Fin n → EReal) (a : Fin n) (h : ∃ y : ℝ, v a = y) :
    soft v (v a) a = Ideal.div 1 (∑ k, Ideal.exp (v k - v a)) := by
  unfold soft
  rw [exp_self _ h]

/-- The greatest of some numbers, from the one that none exceeds. -/
theorem top_eq {n : Nat} (v : Fin n → EReal) (a : Fin n) (ha : ∀ j, v j ≤ v a) : max ⊥ ((Finset.univ : Finset (Fin n)).fold max ⊥ v) = v a :=
  (max_eq_right bot_le).trans <|
    le_antisymm (Finset.fold_max_le _ |>.2 ⟨bot_le, fun l _ => ha l⟩) (Finset.le_fold_max _ |>.2 (Or.inr ⟨a, Finset.mem_univ _, le_rfl⟩))

/-- The softmax of a pair of reals, less the first of them, times a number. -/
theorem soft_pair (v : Fin 2 → EReal) (h : ∀ k, ∃ y : ℝ, v k = y) (g : EReal) :
    soft v (v 0) 0 * g = Ideal.div g (1 + Ideal.exp (v 1 - v 0)) ∧
    soft v (v 0) 1 * g = Ideal.div (g * Ideal.exp (v 1 - v 0)) (1 + Ideal.exp (v 1 - v 0)) := by
  obtain ⟨y, rfl⟩ := real_fun v h
  have e : Ideal.exp ((y 1 : EReal) - (y 0 : EReal)) = ((Real.exp (y 1 - y 0) : ℝ) : EReal) := by
    rw [← EReal.coe_sub, Ideal.exp_coe]
  have hp : (1 + Real.exp (y 1 - y 0) : ℝ) ≠ 0 := (add_pos one_pos (Real.exp_pos _)).ne'
  unfold soft
  simp only [Fin.sum_univ_two, exp_self _ ⟨y 0, rfl⟩, e]
  rw [← EReal.coe_one, ← EReal.coe_add, Ideal.div_coe hp, Ideal.div_coe hp, Ideal.div_coe hp, Ideal.div_coe hp]
  refine ⟨?_, ?_⟩
  · rw [EReal.coe_one, one_mul, mul_comm]
  · rw [mul_comm, ← mul_assoc]

end Cert.Proof.Route
end
-- ==== Proof.RouteRef.lean ====
module

public import proofs.«01_k».proof.Defs
public import proofs.«01_k».proof.Proof.RouteRow
public import proofs.«01_k».proof.Proof.RouteSoft
public import proofs.«01_k».proof.Proof.Gen.ReferenceRIdeal.Run
public import Idealize.ShloMosaic.Lib.Pipeline.ValueKit
public import Idealize.ShloMosaic.Lib.IdealHost

/-!
  The routing as the reference states it, at a token whose logits are real: its most probable group, the two experts of
  that group with the greatest logits, and their gates, as the kernel's row has them.
-/

@[expose] public section

set_option maxRecDepth 16384

noncomputable section
namespace Cert.Proof.Route
open Idealize.ShloMosaic Idealize.ShloMosaic.TcCoe Idealize.SL.Sem
open Cert.ReferenceRIdeal Cert.ReferenceRIdeal.Gen

/-- The groups' logits with their bias. -/
def gLog (a : FVec Ideal S16512x128 .f32) (bg : FVec Ideal S4 .f32) : FVec Ideal S16512x4 .f32 :=
  addf (extractStridedSlice S16512x4 ![0, 0] a slices_S16512x128_S16512x4_0_0) (broadcastInDim S16512x4 ![0, 1] bcast_S1x4_S16512x4_0_1 (broadcastInDim S1x4 ![1] bcast_S4_S1x4_1 bg))

/-- The experts' logits with their bias, by group. -/
def eLog (a : FVec Ideal S16512x128 .f32) (be : FVec Ideal S16 .f32) : FVec Ideal S16512x4x4 .f32 :=
  shapeCast _ (addf (extractStridedSlice S16512x16 ![0, 4] a slices_S16512x128_S16512x16_0_4) (broadcastInDim S16512x16 ![0, 1] bcast_S1x16_S16512x16_0_1 (broadcastInDim S1x16 ![1] bcast_S16_S1x16_1 be))) shapeCasts_S16512x16_S16512x4x4

/-- The softmax of each token's four. -/
def soft4 (y : FVec Ideal S16512x4 .f32) : FVec Ideal S16512x4 .f32 :=
  Host.divf (Host.exp (subf y (broadcastInDim S16512x4 ![0, 1] bcast_S16512x1_S16512x4_0_1 (broadcastInDim S16512x1 ![0] bcast_S16512_S16512x1_0 (maximumf (broadcastInDim S16512 ![] bcast_S_S16512 (constant S_ .f32 0xFF800000#32)) (Host.reduce FloatOps.maximumf y (constant S_ .f32 0xFF800000#32) reducesTo_S16512x4_S16512_d1 h_S_)))))) (broadcastInDim S16512x4 ![0, 1] bcast_S16512x1_S16512x4_0_1 (broadcastInDim S16512x1 ![0] bcast_S16512_S16512x1_0 (Host.reduceAdd (Host.exp (subf y (broadcastInDim S16512x4 ![0, 1] bcast_S16512x1_S16512x4_0_1 (broadcastInDim S16512x1 ![0] bcast_S16512_S16512x1_0 (maximumf (broadcastInDim S16512 ![] bcast_S_S16512 (constant S_ .f32 0xFF800000#32)) (Host.reduce FloatOps.maximumf y (constant S_ .f32 0xFF800000#32) reducesTo_S16512x4_S16512_d1 h_S_)))))) (constant S_ .f32 0x00000000#32) reducesTo_S16512x4_S16512_d1 h_S_)))

/-- The softmax of each token's two. -/
def soft2 (y : FVec Ideal S16512x2 .f32) : FVec Ideal S16512x2 .f32 :=
  Host.divf (Host.exp (subf y (broadcastInDim S16512x2 ![0, 1] bcast_S16512x1_S16512x2_0_1 (broadcastInDim S16512x1 ![0] bcast_S16512_S16512x1_0 (maximumf (broadcastInDim S16512 ![] bcast_S_S16512 (constant S_ .f32 0xFF800000#32)) (Host.reduce FloatOps.maximumf y (constant S_ .f32 0xFF800000#32) reducesTo_S16512x2_S16512_d1 h_S_)))))) (broadcastInDim S16512x2 ![0, 1] bcast_S16512x1_S16512x2_0_1 (broadcastInDim S16512x1 ![0] bcast_S16512_S16512x1_0 (Host.reduceAdd (Host.exp (subf y (broadcastInDim S16512x2 ![0, 1] bcast_S16512x1_S16512x2_0_1 (broadcastInDim S16512x1 ![0] bcast_S16512_S16512x1_0 (maximumf (broadcastInDim S16512 ![] bcast_S_S16512 (constant S_ .f32 0xFF800000#32)) (Host.reduce FloatOps.maximumf y (constant S_ .f32 0xFF800000#32) reducesTo_S16512x2_S16512_d1 h_S_)))))) (constant S_ .f32 0x00000000#32) reducesTo_S16512x2_S16512_d1 h_S_)))

/-- The greatest of each token's four, and its place. -/
def top1 (y : FVec Ideal S16512x4 .f32) : FVec Ideal S16512x1 .f32 × IVec S16512x1 32 :=
  Host.topK S16512x1 1 (FloatOps.cmpfTotal .gt) y sliceFits_S16512x4_S16512x1

/-- The two greatest of each token's four, and their places. -/
def top2 (y : FVec Ideal S16512x4 .f32) : FVec Ideal S16512x2 .f32 × IVec S16512x2 32 :=
  Host.topK S16512x2 1 (FloatOps.cmpfTotal .gt) y sliceFits_S16512x4_S16512x2

/-- The logits of the experts of each token's group. -/
def own (gi : IVec S16512x1 32) (el : FVec Ideal S16512x4x4 .f32) : FVec Ideal S16512x4 .f32 :=
  Host.reduceAdd (select (broadcastInDim S16512x4x4 ![0, 1, 2] bcast_S16512x4x1_S16512x4x4_0_1_2 (cmpi .eq (broadcastInDim S16512x4x1 ![0, 1, 2] bcast_S1x4x1_S16512x4x1_0_1_2 (broadcastInDim S1x4x1 ![1] bcast_S4_S1x4x1_1 (iotaInDim S4 32 0))) (broadcastInDim S16512x4x1 ![0, 1, 2] bcast_S16512x1x1_S16512x4x1_0_1_2 (broadcastInDim S16512x1x1 ![0, 1] bcast_S16512x1_S16512x1x1_0_1 gi)))) el (broadcastInDim S16512x4x4 ![] bcast_S_S16512x4x4 (id (constant (F := Ideal) S_ .f32 0x00000000#32)))) (constant S_ .f32 0x00000000#32) reducesTo_S16512x4x4_S16512x4_d1 h_S_

/-- The experts' numbers. -/
def ids (gi : IVec S16512x1 32) (ei : IVec S16512x2 32) : FVec Ideal S16512x2 .f32 :=
  sitofp .f32 (addi (broadcastInDim S16512x2 ![0, 1] bcast_S16512x1_S16512x2_0_1 (muli gi (broadcastInDim S16512x1 ![] bcast_S_S16512x1 (constantI S_ 32 4#32)))) ei)

/-- The gates of the two experts, from the group's probability and the experts' logits. -/
def gates (p : FVec Ideal S16512x1 .f32) (et : FVec Ideal S16512x2 .f32) : FVec Ideal S16512x2 .f32 :=
  mulf (soft2 et) (broadcastInDim S16512x2 ![0, 1] bcast_S16512x1_S16512x2_0_1 p)

/-- The columns of the routing table. -/
def columns (i w : FVec Ideal S16512x2 .f32) : FVec Ideal S16512x128 .f32 :=
  concatenate S16512x128 1 [⟨S16512x2, i⟩, ⟨S16512x2, w⟩, ⟨S16512x124, broadcastInDim S16512x124 ![] bcast_S_S16512x124 (constant (F := Ideal) S_ .f32 0x00000000#32)⟩] concatenates_S16512x2_S16512x2_S16512x124_S16512x128_d1

/-- The routing table of the logits. -/
def table (gl : FVec Ideal S16512x4 .f32) (el : FVec Ideal S16512x4x4 .f32) : FVec Ideal S16512x128 .f32 :=
  columns (ids (top1 (soft4 gl)).2 (top2 (own (top1 (soft4 gl)).2 el)).2) (gates (top1 (soft4 gl)).1 (top2 (own (top1 (soft4 gl)).2 el)).1)

/-- The softmax of a token's four. -/
theorem soft4_apply (y : FVec Ideal S16512x4 .f32) (r : Fin 16512) (j : Fin 4) :
    soft4 y (ix2 r j) = soft (fun k => y (ix2 r k)) (max ⊥ ((Finset.univ : Finset (Fin 4)).fold max ⊥ fun k => y (ix2 r k))) j := by
  pointwise [soft4]
  rw [word_bot]
  rfl

/-- The softmax of a token's two. -/
theorem soft2_apply (y : FVec Ideal S16512x2 .f32) (r : Fin 16512) (j : Fin 2) :
    soft2 y (ix2 r j) = soft (fun k => y (ix2 r k)) (max ⊥ ((Finset.univ : Finset (Fin 2)).fold max ⊥ fun k => y (ix2 r k))) j := by
  pointwise [soft2]
  rw [word_bot]
  rfl

/-- The sort of a token's four logits, greatest first: the logits, and what is sorted along with them. -/
theorem sort_row (y : FVec Ideal S16512x4 .f32) (z : IVec S16512x4 32) (r : Fin 16512) (i : Fin 4) :
    (Host.sort2 S16512x4 1 (fun l r : EReal × BitVec 32 => FloatOps.cmpfTotal (F := Ideal) (φ := .f32) .gt l.1 r.1) y z).1 (ix2 r i)
      = y (ix2 r (nth (fun k => y (ix2 r k)) i)) ∧
    (Host.sort2 S16512x4 1 (fun l r : EReal × BitVec 32 => FloatOps.cmpfTotal (F := Ideal) (φ := .f32) .gt l.1 r.1) y z).2 (ix2 r i)
      = z (ix2 r (nth (fun k => y (ix2 r k)) i)) := by
  have along : ∀ k : Fin 4, (ix2 r i : S16512x4.Idx).along 1 k = ix2 r k := fun k => by
    funext a
    match a with
    | 0 => rfl
    | 1 => rfl
  have e : (fun k k' : Fin 4 => (FloatOps.cmpfTotal (F := Ideal) (φ := .f32) .gt (y ((ix2 r i : S16512x4.Idx).along 1 k)) (y ((ix2 r i : S16512x4.Idx).along 1 k')) == 1#1))
      = fun k k' => decide (y (ix2 r k') < y (ix2 r k)) := by
    funext k k'
    rw [along, along]
    show (BitVec.ofBool (decide (y (ix2 r k') < y (ix2 r k))) == 1#1) = _
    cases decide (y (ix2 r k') < y (ix2 r k)) <;> rfl
  unfold Host.sort2
  rw [dif_pos (by decide)]
  refine ⟨congrArg y ?_, congrArg z ?_⟩ <;>
    exact (along _).trans (congrArg (fun f => ix2 r (sortedFrom f i)) e)

/-- The places of the four logits. -/
def places : IVec S16512x4 32 := fun i => BitVec.ofNat 32 (i 1).val

/-- The greatest logit, and its place. -/
theorem top1_apply (y : FVec Ideal S16512x4 .f32) (r : Fin 16512) : (top1 y).1 (ix2 r (0 : Fin 1)) = y (ix2 r (nth (fun k => y (ix2 r k)) 0))
    ∧ (top1 y).2 (ix2 r (0 : Fin 1)) = BitVec.ofNat 32 (nth (fun k => y (ix2 r k)) 0).val := by
  have h := sort_row y places r 0
  refine ⟨Eq.trans ?_ h.1, Eq.trans ?_ h.2⟩ <;> unfold top1 Host.topK <;> pointwise <;> rfl

/-- The two greatest logits, and their places. -/
theorem top2_apply (y : FVec Ideal S16512x4 .f32) (r : Fin 16512) (i : Fin 2) :
    (top2 y).1 (ix2 r i) = y (ix2 r (nth (fun k => y (ix2 r k)) ⟨i.val, by omega⟩))
    ∧ (top2 y).2 (ix2 r i) = BitVec.ofNat 32 (nth (fun k => y (ix2 r k)) ⟨i.val, by omega⟩).val := by
  have h := sort_row y places r ⟨i.val, by omega⟩
  refine ⟨Eq.trans ?_ h.1, Eq.trans ?_ h.2⟩ <;> unfold top2 Host.topK <;> pointwise <;> rfl

/-- The groups' logits with their bias, at a token. -/
theorem gLog_apply (a : FVec Ideal S16512x128 .f32) (bg : FVec Ideal S4 .f32) (r : Fin 16512) (j : Fin 4) :
    gLog a bg (ix2 r j) = a (ix2 r ⟨j.val, by omega⟩) + bg (ix1 j) := by
  pointwise [gLog]

/-- The experts' logits with their bias, at a token. -/
theorem eLog_apply (a : FVec Ideal S16512x128 .f32) (be : FVec Ideal S16 .f32) (r : Fin 16512) (g j : Fin 4) :
    eLog a be (ix3 r g j) = a (ix2 r ⟨4 + (g.val * 4 + j.val), by omega⟩) + be (ix1 ⟨g.val * 4 + j.val, by omega⟩) := by
  pointwise [eLog]

/-- Places of four are equal as words. -/
theorem word_eq : ∀ a b : Fin 4, IntOp.cmpi .eq (BitVec.ofNat 32 a.val) (BitVec.ofNat 32 b.val) = bit (a = b) := by decide

/-- An expert's number, from its group and its place there, as a word. -/
theorem word_id : ∀ g e : Fin 4, (IntOp.addi (IntOp.muli (BitVec.ofNat 32 g.val) 4#32) (BitVec.ofNat 32 e.val)).toInt = ((4 * g.val + e.val : Nat) : Int) := by decide

section Token

variable (gl : FVec Ideal S16512x4 .f32) (el : FVec Ideal S16512x4x4 .f32) (r : Fin 16512) (x : Fin 128 → EReal)
  (hg : ∀ j, gl (ix2 r j) = x (col 0 four_le j)) (rg : ∀ j, ∃ y : ℝ, x (col 0 four_le j) = y)
  (he : ∀ j, el (ix3 r (grp x) j) = x (col (off x) (off_le x) j)) (re : ∀ j, ∃ y : ℝ, x (col (off x) (off_le x) j) = y)

include hg rg in
/-- The token's group, and its probability. -/
theorem group_apply : (top1 (soft4 gl)).1 (ix2 r (0 : Fin 1)) = probG x ∧ (top1 (soft4 gl)).2 (ix2 r (0 : Fin 1)) = BitVec.ofNat 32 (grp x).val := by
  have e : (fun k => gl (ix2 r k)) = fun j => x (col 0 four_le j) := funext hg
  have s : ∀ j, soft4 gl (ix2 r j) = soft (fun j => x (col 0 four_le j)) (x (col 0 four_le (grp x))) j := fun j => by
    rw [soft4_apply, e, top_eq _ (grp x) (nth_zero fun j => x (col 0 four_le j)).1]
  have n : nth (fun k => soft4 gl (ix2 r k)) 0 = grp x := (congrArg (nth · 0) (funext s)).trans (nth_soft _ rg (grp x) 0)
  have h := top1_apply (soft4 gl) r
  rw [n, s] at h
  exact ⟨h.1.trans (soft_self (fun j => x (col 0 four_le j)) (grp x) (rg _)), h.2⟩

include hg rg he in
/-- The logits of the experts of the token's group. -/
theorem own_apply (j : Fin 4) : own (top1 (soft4 gl)).2 el (ix2 r j) = x (col (off x) (off_le x) j) := by
  have h := (group_apply gl r x hg rg).2
  generalize (top1 (soft4 gl)).2 = gi at *
  pointwise [own]
  rw [h]
  refine (Finset.sum_congr rfl fun g _ => ?_).trans ((Finset.sum_ite_eq' Finset.univ (grp x) fun g => el (ix3 r g j)).trans ((if_pos (Finset.mem_univ _)).trans (he j)))
  rw [word_eq]
  exact (select_bit _ _ _).trans (by rw [show id (constant (F := Ideal) S_ .f32 0#32) ix0 = 0 from Ideal.ofBits_zero_f32])

include hg rg he in
/-- The token's two choices: their logits and their places in the group. -/
theorem choice_apply (i : Fin 2) : (top2 (own (top1 (soft4 gl)).2 el)).1 (ix2 r i) = logitE x ⟨i.val, by omega⟩
    ∧ (top2 (own (top1 (soft4 gl)).2 el)).2 (ix2 r i) = BitVec.ofNat 32 (pickE x ⟨i.val, by omega⟩).val := by
  have h := top2_apply (own (top1 (soft4 gl)).2 el) r i
  have e : (fun k => own (top1 (soft4 gl)).2 el (ix2 r k)) = fun j => x (col (off x) (off_le x) j) := funext (own_apply gl el r x hg rg he)
  rw [e, own_apply gl el r x hg rg he] at h
  exact h

include hg rg he in
/-- The number of a choice. -/
theorem ids_apply (i : Fin 2) : ids (top1 (soft4 gl)).2 (top2 (own (top1 (soft4 gl)).2 el)).2 (ix2 r i) = num (4 * (grp x).val + (pickE x ⟨i.val, by omega⟩).val) := by
  have h := (group_apply gl r x hg rg).2
  have h' := (choice_apply gl el r x hg rg he i).2
  generalize (top2 (own (top1 (soft4 gl)).2 el)).2 = ei at *
  generalize (top1 (soft4 gl)).2 = gi at *
  pointwise [ids]
  rw [h, h']
  show ((_ : ℝ) : EReal) = _
  rw [word_id]
  rfl

include hg rg he re in
/-- The gates of the token's two choices. -/
theorem gates_apply :
    gates (top1 (soft4 gl)).1 (top2 (own (top1 (soft4 gl)).2 el)).1 (ix2 r (0 : Fin 2)) = Ideal.div (probG x) (1 + Ideal.exp (logitE x 1 - logitE x 0)) ∧
    gates (top1 (soft4 gl)).1 (top2 (own (top1 (soft4 gl)).2 el)).1 (ix2 r (1 : Fin 2))
      = Ideal.div (probG x * Ideal.exp (logitE x 1 - logitE x 0)) (1 + Ideal.exp (logitE x 1 - logitE x 0)) := by
  have h := (group_apply gl r x hg rg).1
  have h' : (fun k : Fin 2 => (top2 (own (top1 (soft4 gl)).2 el)).1 (ix2 r k)) = fun k => logitE x ⟨k.val, by omega⟩ :=
    funext fun k => (choice_apply gl el r x hg rg he k).1
  have m : ∀ k : Fin 2, logitE x ⟨k.val, by omega⟩ ≤ logitE x 0 := fun k => (nth_zero fun j => x (col (off x) (off_le x) j)).1 _
  generalize (top2 (own (top1 (soft4 gl)).2 el)).1 = et at *
  generalize (top1 (soft4 gl)).1 = p at *
  have w : ∀ k : Fin 2, gates p et (ix2 r k) = soft (fun k : Fin 2 => logitE x ⟨k.val, by omega⟩) (logitE x 0) k * probG x := fun k => by
    have s : soft2 et (ix2 r k) = _ := soft2_apply et r k
    rw [h', top_eq (fun k : Fin 2 => logitE x ⟨k.val, by omega⟩) 0 m] at s
    unfold gates
    generalize soft2 et = z at *
    pointwise
    rw [h, s]
    rfl
  have q := soft_pair (fun k : Fin 2 => logitE x ⟨k.val, by omega⟩) (fun k => re _) (probG x)
  exact ⟨(w 0).trans q.1, (w 1).trans q.2⟩

end Token

/-- Two columns, two more, and zeros. -/
theorem four_cols (f w : Fin 2 → EReal) (n : Nat) : (if h : n < 2 then f ⟨n, h⟩ else if h : n - 2 < 2 then w ⟨n - 2, h⟩ else 0)
    = if n = 0 then f 0 else if n = 1 then f 1 else if n = 2 then w 0 else if n = 3 then w 1 else 0 := by
  obtain rfl | rfl | rfl | rfl | h : n = 0 ∨ n = 1 ∨ n = 2 ∨ n = 3 ∨ 4 ≤ n := by omega
  · rfl
  · rfl
  · rfl
  · rfl
  · rw [dif_neg (by omega), dif_neg (by omega), if_neg (by omega), if_neg (by omega), if_neg (by omega), if_neg (by omega)]

/-- The columns of the routing table, at a token. -/
theorem columns_apply (i w : FVec Ideal S16512x2 .f32) (r : Fin 16512) (q : Fin 128) : columns i w (ix2 r q)
    = if q.val = 0 then i (ix2 r (0 : Fin 2)) else if q.val = 1 then i (ix2 r (1 : Fin 2)) else if q.val = 2 then w (ix2 r (0 : Fin 2))
      else if q.val = 3 then w (ix2 r (1 : Fin 2)) else 0 := by
  pointwise [columns]
  exact four_cols (fun k => i (ix2 r k)) (fun k => w (ix2 r k)) q.val

/-- The routing table at a token of real logits: the routing row of them. -/
theorem table_apply (gl : FVec Ideal S16512x4 .f32) (el : FVec Ideal S16512x4x4 .f32) (r : Fin 16512) (x : Fin 128 → EReal)
    (hg : ∀ j, gl (ix2 r j) = x (col 0 four_le j)) (rg : ∀ j, ∃ y : ℝ, x (col 0 four_le j) = y)
    (he : ∀ j, el (ix3 r (grp x) j) = x (col (off x) (off_le x) j)) (re : ∀ j, ∃ y : ℝ, x (col (off x) (off_le x) j) = y) (q : Fin 128) :
    table gl el (ix2 r q) = routeRow x q := by
  have h := gates_apply gl el r x hg rg he re
  unfold table routeRow
  rw [columns_apply, h.1, h.2, ids_apply gl el r x hg rg he, ids_apply gl el r x hg rg he]
  rfl

end Cert.Proof.Route
end
-- ==== Proof.Route.lean ====
module

public import proofs.«01_k».proof.Defs
public import proofs.«01_k».proof.Proof.OutProj
public import proofs.«01_k».proof.Proof.RouteRow
public import proofs.«01_k».proof.Proof.RouteRef
public import proofs.«01_k».proof.Proof.Gen.KernelRIdeal.Value
public import proofs.«01_k».proof.Proof.Gen.ReferenceRIdeal.Run
public import proofs.«01_k».proof.Proof.Gen.Pre_finite
public import Idealize.ShloMosaic.Lib.Pipeline.ValueKit
public import Idealize.ShloMosaic.Lib.Claim
public import Idealize.ShloMosaic.Lib.ReduceAll
public import Idealize.ShloMosaic.Lib.StableHlo.Run

/-!
  The routing: the biases are laid out as the logits' columns are, and every block of the routing table that the
  kernel writes is the reference's, over the extended reals, where the logits and the biases are real.
-/

@[expose] public section

set_option maxRecDepth 16384

noncomputable section
namespace Cert.Proof.Route
open Idealize.ShloMosaic Idealize.ShloMosaic.TcCoe Idealize.SL.Sem
open Cert.KernelRIdeal Cert.KernelRIdeal.Gen

/-- The biases as the kernel lays them out. -/
def bias (bg : FVec Ideal S4 .f32) (be : FVec Ideal S16 .f32) : FVec Ideal S1x128 .f32 :=
  Host.scatter scatter_S1x128_S1_S1x16_01_n_1_0 (fun _ b => b)
    (Host.scatter scatter_S1x128_S1_S1x4_01_n_1_0 (fun _ b => b) (broadcastInDim S1x128 ![] bcast_S_S1x128 (constant S_ .f32 0x00000000#32))
      (broadcastInDim S1 ![] bcast_S_S1 (constantI S_ 32 0#32)) (broadcastInDim S1x4 ![1] bcast_S4_S1x4_1 bg))
    (broadcastInDim S1 ![] bcast_S_S1 (constantI S_ 32 4#32)) (broadcastInDim S1x16 ![1] bcast_S16_S1x16_1 be)

/-- A group's bias laid out. -/
theorem bias_group (bg : FVec Ideal S4 .f32) (be : FVec Ideal S16 .f32) (q : Fin 128) (j : Fin 4) (hq : q.val = j.val) :
    bias bg be (ix2 (0 : Fin 1) q) = bg (ix1 j) := by
  have i4 : ((broadcastInDim S1 ![] bcast_S_S1 (constantI S_ 32 4#32) : IVec S1 32) (ValueIdx.ix1 (0 : Fin 1))).toInt = ((4 : Nat) : Int) := by
    rw [← ix1_eq_valueIdx]
    pointwise
    rfl
  have i0 : ((broadcastInDim S1 ![] bcast_S_S1 (constantI S_ 32 0#32) : IVec S1 32) (ValueIdx.ix1 (0 : Fin 1))).toInt = ((0 : Nat) : Int) := by
    rw [← ix1_eq_valueIdx]
    pointwise
    rfl
  have hj := j.isLt
  have hb : (broadcastInDim S1x4 ![1] bcast_S4_S1x4_1 bg : FVec Ideal S1x4 .f32) (ix2 (0 : Fin 1) (⟨q.val - 0, by omega⟩ : Fin 4)) = bg (ix1 j) := by
    rw [show (⟨q.val - 0, by omega⟩ : Fin 4) = j from Fin.ext (by show q.val - 0 = j.val; omega)]
    pointwise
  refine Eq.trans ?_ hb
  unfold bias
  simp only [ix2_eq_valueIdx]
  refine (OutProj.scatter_cols scatter_S1x128_S1_S1x16_01_n_1_0 rfl rfl rfl _ 4 i4 _ _ 0 q).trans ?_
  rw [dif_neg (by omega)]
  refine (OutProj.scatter_cols scatter_S1x128_S1_S1x4_01_n_1_0 rfl rfl rfl _ 0 i0 _ _ 0 q).trans ?_
  rw [dif_pos (by omega)]

/-- An expert's bias laid out. -/
theorem bias_expert (bg : FVec Ideal S4 .f32) (be : FVec Ideal S16 .f32) (q : Fin 128) (j : Fin 16) (hq : q.val = 4 + j.val) :
    bias bg be (ix2 (0 : Fin 1) q) = be (ix1 j) := by
  have i4 : ((broadcastInDim S1 ![] bcast_S_S1 (constantI S_ 32 4#32) : IVec S1 32) (ValueIdx.ix1 (0 : Fin 1))).toInt = ((4 : Nat) : Int) := by
    rw [← ix1_eq_valueIdx]
    pointwise
    rfl
  have hj := j.isLt
  have hb : (broadcastInDim S1x16 ![1] bcast_S16_S1x16_1 be : FVec Ideal S1x16 .f32) (ix2 (0 : Fin 1) (⟨q.val - 4, by omega⟩ : Fin 16)) = be (ix1 j) := by
    rw [show (⟨q.val - 4, by omega⟩ : Fin 16) = j from Fin.ext (by show q.val - 4 = j.val; omega)]
    pointwise
  refine Eq.trans ?_ hb
  unfold bias
  simp only [ix2_eq_valueIdx]
  refine (OutProj.scatter_cols scatter_S1x128_S1_S1x16_01_n_1_0 rfl rfl rfl _ 4 i4 _ _ 0 q).trans ?_
  rw [dif_pos (by omega)]

/-- The logits with their biases, at a row of a tile and a column. -/
theorem pay2_apply (v0 : Vec Ideal S384x128 .f32) (v1 : Vec Ideal S1x128 .f32) (p : Fin 384) (l : Fin 128) :
    k0_pay2 (F := Ideal) v0 v1 (ix2 p l) = v0 (ix2 p l) + v1 (ix2 (0 : Fin 1) l) := by
  pointwise [k0_pay2]

/-- Which block of each array a grid point takes. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The biases are what the call receives. -/
theorem V_bias (c : Dev nD) : V m c main_v6 = bias (m ((c : Thread nD τ).loc main_arg1)) (m ((c : Thread nD τ).loc main_arg2)) := by
  show StableHlo.after hostOps0 (fun b => m (c, b)) _ = _
  after_results <;> rfl

/-- The logits that a grid point takes. -/
theorem iblk_x (c : Dev nD) (t : Fin cfg0.N) (p : Fin 384) (r : Fin 16512) (hr : r.val = t.val * 384 + p.val) (k : Fin 128) :
    (iblk m c 0 t : S384x128.Idx → EReal) (ix2 p k) = (m ((c : Thread nD τ).loc main_arg0) : S16512x128.Idx → EReal) (ix2 r k) := by
  blk_ext [iblk, V, idx t]
/-- Every grid point takes the biases whole. -/
theorem iblk_b (c : Dev nD) (t : Fin cfg0.N) : iblk m c 1 t = bias (m ((c : Thread nD τ).loc main_arg1)) (m ((c : Thread nD τ).loc main_arg2)) := by
  rw [← V_bias]
  have h : ∀ W : Vec Ideal S1x128 .f32, ((cfg0.win 1).blk t).view.read (Elt Ideal) W = W := fun W => by blk_ext! [idx t]
  exact h _

/-- The loads of whole blocks leave the blocks. -/
theorem pays (x0 : Vec Ideal S384x128 .f32) (x1 : Vec Ideal S1x128 .f32) :
    k0_pay22 (F := Ideal) x0 x1 = k0_pay2 x0 x1 ∧ k0_pay23 (F := Ideal) x0 x1 = k0_pay3 (F := Ideal) ∧ k0_pay24 (F := Ideal) x0 x1 = k0_pay6 x0 x1
      ∧ k0_pay25 (F := Ideal) x0 x1 = k0_pay7 x0 x1 ∧ k0_pay26 (F := Ideal) x0 x1 = k0_pay8 x0 x1 := by
  unfold k0_pay22 k0_pay23 k0_pay24 k0_pay25 k0_pay26
  rw [View.ld_unit_lit _ x0 (by decide), View.ld_unit_lit _ x1 (by decide)]
  exact ⟨rfl, rfl, rfl, rfl, rfl⟩

/-- The routing table of the arguments. -/
def outR (c : Dev nD) : FVec Ideal S16512x128 .f32 :=
  table (gLog (m ((c : Thread nD τ).loc main_arg0)) (m ((c : Thread nD τ).loc main_arg1))) (eLog (m ((c : Thread nD τ).loc main_arg0)) (m ((c : Thread nD τ).loc main_arg2)))

/-- A token's logits with the biases. -/
def logits (a : FVec Ideal S16512x128 .f32) (bg : FVec Ideal S4 .f32) (be : FVec Ideal S16 .f32) (r : Fin 16512) (l : Fin 128) : EReal :=
  a (ix2 r l) + bias bg be (ix2 (0 : Fin 1) l)

/-- A sum of two reals is a real. -/
theorem add_real (a b : EReal) (ha : ∃ y : ℝ, a = y) (hb : ∃ y : ℝ, b = y) : ∃ y : ℝ, a + b = y := by
  obtain ⟨u, rfl⟩ := ha
  obtain ⟨v, rfl⟩ := hb
  exact ⟨u + v, (EReal.coe_add u v).symm⟩

/-- The reference's table at a token is the routing row of the token's logits, where the arguments are real. -/
theorem table_logits (a : FVec Ideal S16512x128 .f32) (bg : FVec Ideal S4 .f32) (be : FVec Ideal S16 .f32)
    (ra : ∀ i, ∃ y : ℝ, a i = y) (rg : ∀ i, ∃ y : ℝ, bg i = y) (re : ∀ i, ∃ y : ℝ, be i = y) (r : Fin 16512) (q : Fin 128) :
    table (gLog a bg) (eLog a be) (ix2 r q) = routeRow (logits a bg be r) q := by
  have hg : ∀ j, gLog a bg (ix2 r j) = logits a bg be r (col 0 four_le j) := fun j => by
    refine (gLog_apply a bg r j).trans ?_
    have hc : (col 0 four_le j).val = j.val := by show 0 + j.val = j.val; omega
    unfold logits
    rw [bias_group bg be _ j hc, show (⟨j.val, by omega⟩ : Fin 128) = col 0 four_le j from Fin.ext hc.symm]
  have he : ∀ j, eLog a be (ix3 r (grp (logits a bg be r)) j) = logits a bg be r (col (off (logits a bg be r)) (off_le (logits a bg be r)) j) := fun j => by
    refine (eLog_apply a be r _ j).trans ?_
    generalize hx : logits a bg be r = x
    have hg := (grp x).isLt
    have hj := j.isLt
    have hc : (col (off x) (off_le x) j).val = 4 + ((grp x).val * 4 + j.val) := by
      show 4 + 4 * (grp x).val + j.val = _
      omega
    rw [show x (col (off x) (off_le x) j) = logits a bg be r (col (off x) (off_le x) j) from congrFun hx.symm _]
    unfold logits
    rw [bias_expert bg be (col (off x) (off_le x) j) ⟨(grp x).val * 4 + j.val, by omega⟩ hc]
    exact congrArg (fun l => a (ix2 r l) + _) (Fin.ext hc.symm)
  refine table_apply _ _ r (logits a bg be r) hg (fun j => ?_) he (fun j => ?_) q
  · rw [← hg, gLog_apply]
    exact add_real _ _ (ra _) (rg _)
  · rw [← he, eLog_apply]
    exact add_real _ _ (ra _) (re _)

local instance : Subsingleton Cert.Pre_finite.S_.Idx := ⟨fun a b => funext fun i => i.elim0⟩

/-- A number strictly between the infinities is real. -/
theorem is_real (x : EReal) (h : IntOp.andi (FloatOps.cmpf (F := Ideal) (φ := .f32) .ogt x (Scalar.ofBits .f32 0xFF800000#32))
    (FloatOps.cmpf (F := Ideal) (φ := .f32) .olt x (Scalar.ofBits .f32 0x7F800000#32)) = 1#1) : ∃ y : ℝ, x = y := by
  obtain ⟨h1, h2⟩ := IntOp.andi_eq_one.1 h
  have e : ∀ b : Bool, BitVec.ofBool b = 1#1 → b = true := by decide
  have l := of_decide_eq_true (e _ (show BitVec.ofBool (decide ((Scalar.ofBits (F := Ideal) .f32 0xFF800000#32 : EReal) < x)) = 1#1 from h1))
  have u := of_decide_eq_true (e _ (show BitVec.ofBool (decide (x < (Scalar.ofBits (F := Ideal) .f32 0x7F800000#32 : EReal))) = 1#1 from h2))
  exact ⟨x.toReal, (EReal.coe_toReal (fun ht => absurd u (by rw [ht]; exact not_top_lt)) (fun hb => absurd l (by rw [hb]; exact not_lt_bot))).symm⟩

/-- The printed predicate makes the arguments real. -/
theorem finite_real (a : FVec Ideal Cert.Pre_finite.S16512x128 .f32) (bg : FVec Ideal Cert.Pre_finite.S4 .f32) (be : FVec Ideal Cert.Pre_finite.S16 .f32)
    (h : Cert.Pre_finite.fn (F := Ideal) a bg be = fun _ => 1#1) :
    (∀ i, ∃ y : ℝ, a i = y) ∧ (∀ i, ∃ y : ℝ, bg i = y) ∧ ∀ i, ∃ y : ℝ, be i = y := by
  have h0 := congrFun h (fun i => i.elim0)
  simp only [Cert.Pre_finite.fn, Cert.Pre_finite.fn_part1] at h0
  obtain ⟨h1, h3⟩ := IntOp.andi_eq_one.1 h0
  obtain ⟨h1, h2⟩ := IntOp.andi_eq_one.1 h1
  exact ⟨fun i => is_real _ (Host.reduce_andi_all _ _ _ _ _ h1 i), fun i => is_real _ (Host.reduce_andi_all _ _ _ _ _ h2 i),
    fun i => is_real _ (Host.reduce_andi_all _ _ _ _ _ h3 i)⟩

/-- The printed predicate, of the arguments in memory. -/
def Fine (c : Dev nD) : Prop :=
  Cert.Pre_finite.fn (F := Ideal) (m ((c : Thread nD τ).loc main_arg0)) (m ((c : Thread nD τ).loc main_arg1)) (m ((c : Thread nD τ).loc main_arg2)) = fun _ => 1#1

/-- What a grid point stores is the reference's block. -/
theorem point (c : Dev nD) (hf : Fine m c) (t : Fin cfg0.N) (p : Fin 384) (q : Fin 128) (r : Fin 16512) (hr : r.val = t.val * 384 + p.val) :
    k0_pay1 (F := Ideal)
      (k0_pay14 (k0_pay22 (iblk m c 0 t) (iblk m c 1 t)) (k0_pay23 (iblk m c 0 t) (iblk m c 1 t)) (k0_pay24 (iblk m c 0 t) (iblk m c 1 t))
        (k0_pay25 (iblk m c 0 t) (iblk m c 1 t)) (k0_pay26 (iblk m c 0 t) (iblk m c 1 t)))
      (k0_pay15 (k0_pay23 (iblk m c 0 t) (iblk m c 1 t)))
      (k0_pay16 (k0_pay22 (iblk m c 0 t) (iblk m c 1 t)) (k0_pay23 (iblk m c 0 t) (iblk m c 1 t)) (k0_pay25 (iblk m c 0 t) (iblk m c 1 t))
        (k0_pay26 (iblk m c 0 t) (iblk m c 1 t)))
      (k0_pay17 (k0_pay23 (iblk m c 0 t) (iblk m c 1 t)))
      (k0_pay18 (k0_pay22 (iblk m c 0 t) (iblk m c 1 t)) (k0_pay23 (iblk m c 0 t) (iblk m c 1 t)) (k0_pay25 (iblk m c 0 t) (iblk m c 1 t))
        (k0_pay26 (iblk m c 0 t) (iblk m c 1 t)))
      (k0_pay19 (k0_pay23 (iblk m c 0 t) (iblk m c 1 t))) (k0_pay20 (k0_pay23 (iblk m c 0 t) (iblk m c 1 t)))
      (Scalar.ofBits .f32 0#32)
      (k0_pay21 (k0_pay22 (iblk m c 0 t) (iblk m c 1 t)) (k0_pay23 (iblk m c 0 t) (iblk m c 1 t)) (k0_pay24 (iblk m c 0 t) (iblk m c 1 t))
        (k0_pay25 (iblk m c 0 t) (iblk m c 1 t)) (k0_pay26 (iblk m c 0 t) (iblk m c 1 t)))
      (ix2 p q) = outR m c (ix2 r q) := by
  rw [(pays _ _).1, (pays _ _).2.1, (pays _ _).2.2.1, (pays _ _).2.2.2.1, (pays _ _).2.2.2.2]
  refine (row_apply _ _ p _ (fun l => ?_) q).trans (table_logits _ _ _ (finite_real _ _ _ hf).1 (finite_real _ _ _ hf).2.1 (finite_real _ _ _ hf).2.2 r q).symm
  rw [iblk_b]
  refine (pay2_apply _ _ p l).trans ?_
  exact congrArg (· + _) (iblk_x m c t p r hr l)

/-- The routing table after the run. -/
theorem final2 (c : Dev nD) (hf : Fine m c) : (dats m 0 c).arrAt 2 (cfgs 0).N = outR m c := by
  refine (dats m 0 c).arrAt_eq_of_covers 2 _ (by decide +kernel) fun t _ y => ?_
  blk_simp
  rw [after0_2]; frame_out
  obtain ⟨p, q, rfl⟩ : ∃ (p : Fin 384) (q : Fin 128), y = ix2 p q := ⟨y 0, y 1, eq_ix2 y⟩
  have ht : t.val < 43 := t.isLt
  have hp := p.isLt
  have he : ((cfg0.win 2).blk t).view.emb (ix2 p q) = ix2 (⟨t.val * 384 + p.val, by omega⟩ : Fin 16512) q := by
    blk_ext [idx t]
  exact (point m c hf t p q _ rfl).trans (congrArg (outR m c) he.symm)

/-- The value claim of the routing. -/
theorem algebraic : Cert.algebraic_KernelRIdeal_ReferenceRIdeal_pre_finite := by
  intro m g m' g' hpre hag
  refine ⟨fun c => outR m c,
    (θ_run _ _ _).mono (fun r k c => ⟨(k c).1.trans (final2 m c (hpre c)), (k c).2⟩)
      (Cert.KernelRIdeal.Value.run_blocks m g), ?_⟩
  refine (θ_run Cert.ReferenceRIdeal.defs _ _).mono (fun r k c => ⟨(k c).1.trans ?_, (k c).2⟩)
    (Cert.ReferenceRIdeal.Value.run m' g')
  obtain ⟨h0, h1, h2⟩ := hag c
  unfold outR
  simp only [← h0, ← h1, ← h2]
  rfl

end Cert.Proof.Route
end
-- ==== Proof.Filters.lean ====
module

public import proofs.«01_k».proof.Defs
public import proofs.«01_k».proof.Proof.OutProj
public import proofs.«01_k».proof.Proof.Gen.KernelFIdeal.Value
public import proofs.«01_k».proof.Proof.Gen.ReferenceFIdeal.Run
public import Idealize.ShloMosaic.Lib.Pipeline.ValueKit
public import Idealize.ShloMosaic.Lib.Claim
public import Idealize.ShloMosaic.Lib.StableHlo.Run

/-!
  The long convolution's filters: a small network of the position with two hidden layers, times a window that decays
  along the sequence. What the kernel writes for a layer is the reference's, over the extended reals.
-/

@[expose] public section

set_option maxRecDepth 16384

noncomputable section
namespace Cert.Proof.Filters
open Idealize.ShloMosaic Idealize.ShloMosaic.TcCoe Idealize.SL.Sem

/-- A hidden layer: a product and a bias, by a frequency, through the sine. -/
def hidden {n k : Nat} (x : Fin n → EReal) (w : Fin n → Fin k → EReal) (b f : Fin k → EReal) (j : Fin k) : EReal :=
  Ideal.sin (f j * ((∑ i, x i * w i j) + b j))

/-- The network: two hidden layers and a product. -/
def net {n : Nat} (x : Fin n → EReal) (w1 : Fin n → Fin 64 → EReal) (b1 f1 : Fin 64 → EReal) (w2 : Fin 64 → Fin 64 → EReal) (b2 f2 : Fin 64 → EReal)
    (w3 : Fin 64 → Fin 1024 → EReal) (c : Fin 1024) : EReal :=
  ∑ i, hidden (hidden x w1 b1 f1) w2 b2 f2 i * w3 i c

/-- The forward filter from the network's channels and the window. -/
def fwdAt (y : Fin 1024 → EReal) (e : EReal) (q : Fin 512) : EReal := y ⟨q.val, by omega⟩ * e

/-- The backward filter from the network's channels and the window: zero at lag zero. -/
def bwdAt (t : Fin 2064) (y : Fin 1024 → EReal) (e : EReal) (q : Fin 512) : EReal :=
  Scalar.select (IntOp.cmpi .eq (BitVec.ofNat 32 t.val) 0#32) 0 (y ⟨512 + q.val, by omega⟩ * e)

/-- A sum over 128 of which only the first 33 count. -/
theorem sum_pad (a : Fin 33 → EReal) : ∑ k : Fin 128, (if h : k.val < 33 then a ⟨k.val, h⟩ else 0) = ∑ k, a k := by
  refine (Fin.sum_univ_add (a := 33) (b := 95) _).trans ?_
  rw [Finset.sum_eq_zero (s := (Finset.univ : Finset (Fin 95))) fun k _ => dif_neg (by simp), add_zero]
  exact Finset.sum_congr rfl fun k _ => dif_pos k.isLt

section Ref
open Cert.ReferenceFIdeal Cert.ReferenceFIdeal.Gen

/-- The first hidden layer. -/
def hid1 (z : FVec Ideal S2064x33 .f32) (w : FVec Ideal S4x33x64 .f32) (b : FVec Ideal S4x64 .f32) (f : FVec Ideal S4x2x64 .f32) : FVec Ideal S4x2064x64 .f32 :=
  Host.sin (mulf (broadcastInDim S4x2064x64 ![0, 1, 2] bcast_S4x1x64_S4x2064x64_0_1_2 (broadcastInDim S4x1x64 ![0, 2] bcast_S4x64_S4x1x64_0_2 (shapeCast S4x64 (extractStridedSlice S4x1x64 ![0, 0, 0] f slices_S4x2x64_S4x1x64_0_0_0) shapeCasts_S4x1x64_S4x64))) (addf (transpose S4x2064x64 [0, 2, 1] (Host.dotGeneral dot_S4x33x64_S2064x33_S4x64x2064_1_1_02_0_n_n none w z) transposes_S4x64x2064_S4x2064x64_0_2_1) (broadcastInDim S4x2064x64 ![0, 1, 2] bcast_S4x1x64_S4x2064x64_0_1_2 (broadcastInDim S4x1x64 ![0, 2] bcast_S4x64_S4x1x64_0_2 b))))

/-- The second hidden layer. -/
def hid2 (h : FVec Ideal S4x2064x64 .f32) (w : FVec Ideal S4x64x64 .f32) (b : FVec Ideal S4x64 .f32) (f : FVec Ideal S4x2x64 .f32) : FVec Ideal S4x2064x64 .f32 :=
  Host.sin (mulf (broadcastInDim S4x2064x64 ![0, 1, 2] bcast_S4x1x64_S4x2064x64_0_1_2 (broadcastInDim S4x1x64 ![0, 2] bcast_S4x64_S4x1x64_0_2 (shapeCast S4x64 (extractStridedSlice S4x1x64 ![0, 1, 0] f slices_S4x2x64_S4x1x64_0_1_0) shapeCasts_S4x1x64_S4x64))) (addf (Host.dotGeneral dot_S4x2064x64_S4x64x64_S4x2064x64_2_1_1_2_0_0 none h w) (broadcastInDim S4x2064x64 ![0, 1, 2] bcast_S4x1x64_S4x2064x64_0_1_2 (broadcastInDim S4x1x64 ![0, 2] bcast_S4x64_S4x1x64_0_2 b))))

/-- The window along the sequence. -/
def window (z : FVec Ideal S2064x33 .f32) (r : FVec Ideal S512 .f32) : FVec Ideal S2064x512 .f32 :=
  Host.exp (mulf (broadcastInDim S2064x512 ![0, 1] bcast_S2064x1_S2064x512_0_1 (Host.negf (extractStridedSlice S2064x1 ![0, 0] z slices_S2064x33_S2064x1_0_0))) (broadcastInDim S2064x512 ![0, 1] bcast_S1x512_S2064x512_0_1 (broadcastInDim S1x512 ![1] bcast_S512_S1x512_1 r)))

/-- Both filters. -/
def both (h : FVec Ideal S4x2064x64 .f32) (w : FVec Ideal S4x64x1024 .f32) (v : FVec Ideal S2064x512 .f32) : FVec Ideal S4x2064x2x512 .f32 :=
  mulf (shapeCast S4x2064x2x512 (Host.dotGeneral dot_S4x2064x64_S4x64x1024_S4x2064x1024_2_1_1_2_0_0 none h w) shapeCasts_S4x2064x1024_S4x2064x2x512) (broadcastInDim S4x2064x2x512 ![0, 1, 2, 3] bcast_S1x2064x1x512_S4x2064x2x512_0_1_2_3 (broadcastInDim S1x2064x1x512 ![1, 3] bcast_S2064x512_S1x2064x1x512_1_3 v))

/-- The forward filter. -/
def fwd (y : FVec Ideal S4x2064x2x512 .f32) : FVec Ideal S4x2064x512 .f32 :=
  shapeCast S4x2064x512 (extractStridedSlice S4x2064x1x512 ![0, 0, 0, 0] y slices_S4x2064x2x512_S4x2064x1x512_0_0_0_0) shapeCasts_S4x2064x1x512_S4x2064x512

/-- The backward filter, without its lag zero. -/
def bwd (y : FVec Ideal S4x2064x2x512 .f32) : FVec Ideal S4x2064x512 .f32 :=
  select (broadcastInDim S4x2064x512 ![0, 1, 2] bcast_S1x2064x1_S4x2064x512_0_1_2 (cmpi .eq (broadcastInDim S1x2064x1 ![1] bcast_S2064_S1x2064x1_1 (iotaInDim S2064 32 0)) (broadcastInDim S1x2064x1 ![] bcast_S_S1x2064x1 (constantI S_ 32 0#32)))) (broadcastInDim S4x2064x512 ![] bcast_S_S4x2064x512 (id (constant (F := Ideal) S_ .f32 0x00000000#32))) (shapeCast S4x2064x512 (extractStridedSlice S4x2064x1x512 ![0, 0, 1, 0] y slices_S4x2064x2x512_S4x2064x1x512_0_0_1_0) shapeCasts_S4x2064x1x512_S4x2064x512)

/-- The first hidden layer at a layer, a position and a unit. -/
theorem hid1_apply (z : FVec Ideal S2064x33 .f32) (w : FVec Ideal S4x33x64 .f32) (b : FVec Ideal S4x64 .f32) (f : FVec Ideal S4x2x64 .f32) (l : Fin 4) (t : Fin 2064) (j : Fin 64) :
    hid1 z w b f (ix3 l t j) = hidden (fun k => z (ix2 t k)) (fun k j => w (ix3 l k j)) (fun j => b (ix2 l j)) (fun j => f (ix3 l (0 : Fin 2) j)) j := by
  pointwise [hid1]
  unfold hidden
  simp only [mul_comm (w _)]

/-- The second hidden layer at a layer, a position and a unit. -/
theorem hid2_apply (h : FVec Ideal S4x2064x64 .f32) (w : FVec Ideal S4x64x64 .f32) (b : FVec Ideal S4x64 .f32) (f : FVec Ideal S4x2x64 .f32) (l : Fin 4) (t : Fin 2064) (j : Fin 64) :
    hid2 h w b f (ix3 l t j) = hidden (fun k => h (ix3 l t k)) (fun k j => w (ix3 l k j)) (fun j => b (ix2 l j)) (fun j => f (ix3 l (1 : Fin 2) j)) j := by
  pointwise [hid2]
  rfl

/-- The window at a position and a channel. -/
theorem window_apply (z : FVec Ideal S2064x33 .f32) (r : FVec Ideal S512 .f32) (t : Fin 2064) (q : Fin 512) :
    window z r (ix2 t q) = Ideal.exp (-z (ix2 t (0 : Fin 33)) * r (ix1 q)) := by
  pointwise [window]

/-- The forward filter at a layer, a position and a channel. -/
theorem fwd_apply (h : FVec Ideal S4x2064x64 .f32) (w : FVec Ideal S4x64x1024 .f32) (v : FVec Ideal S2064x512 .f32) (l : Fin 4) (t : Fin 2064) (q : Fin 512) :
    fwd (both h w v) (ix3 l t q) = fwdAt (fun c => ∑ k : Fin 64, h (ix3 l t k) * w (ix3 l k c)) (v (ix2 t q)) q := by
  pointwise [fwd, both]
  rfl

/-- The backward filter at a layer, a position and a channel. -/
theorem bwd_apply (h : FVec Ideal S4x2064x64 .f32) (w : FVec Ideal S4x64x1024 .f32) (v : FVec Ideal S2064x512 .f32) (l : Fin 4) (t : Fin 2064) (q : Fin 512) :
    bwd (both h w v) (ix3 l t q) = bwdAt t (fun c => ∑ k : Fin 64, h (ix3 l t k) * w (ix3 l k c)) (v (ix2 t q)) q := by
  pointwise [bwd, both]
  exact congrArg (fun x => Scalar.select _ x _) Ideal.ofBits_zero_f32

/-- Both filters of the arguments. -/
def filters (z : FVec Ideal S2064x33 .f32) (r : FVec Ideal S512 .f32) (w1 : FVec Ideal S4x33x64 .f32) (b1 : FVec Ideal S4x64 .f32) (f : FVec Ideal S4x2x64 .f32)
    (w2 : FVec Ideal S4x64x64 .f32) (b2 : FVec Ideal S4x64 .f32) (w3 : FVec Ideal S4x64x1024 .f32) : FVec Ideal S4x2064x2x512 .f32 :=
  both (hid2 (hid1 z w1 b1 f) w2 b2 f) w3 (window z r)

/-- The network's channels at a layer and a position. -/
def chan (z : FVec Ideal S2064x33 .f32) (w1 : FVec Ideal S4x33x64 .f32) (b1 : FVec Ideal S4x64 .f32) (f : FVec Ideal S4x2x64 .f32)
    (w2 : FVec Ideal S4x64x64 .f32) (b2 : FVec Ideal S4x64 .f32) (w3 : FVec Ideal S4x64x1024 .f32) (l : Fin 4) (t : Fin 2064) : Fin 1024 → EReal :=
  net (fun k => z (ix2 t k)) (fun k j => w1 (ix3 l k j)) (fun j => b1 (ix2 l j)) (fun j => f (ix3 l (0 : Fin 2) j)) (fun k j => w2 (ix3 l k j)) (fun j => b2 (ix2 l j))
    (fun j => f (ix3 l (1 : Fin 2) j)) (fun k c => w3 (ix3 l k c))

/-- The two filters of the arguments at a layer, a position and a channel. -/
theorem filters_apply (z : FVec Ideal S2064x33 .f32) (r : FVec Ideal S512 .f32) (w1 : FVec Ideal S4x33x64 .f32) (b1 : FVec Ideal S4x64 .f32) (f : FVec Ideal S4x2x64 .f32)
    (w2 : FVec Ideal S4x64x64 .f32) (b2 : FVec Ideal S4x64 .f32) (w3 : FVec Ideal S4x64x1024 .f32) (l : Fin 4) (t : Fin 2064) (q : Fin 512) :
    fwd (filters z r w1 b1 f w2 b2 w3) (ix3 l t q) = fwdAt (chan z w1 b1 f w2 b2 w3 l t) (Ideal.exp (-z (ix2 t (0 : Fin 33)) * r (ix1 q))) q
      ∧ bwd (filters z r w1 b1 f w2 b2 w3) (ix3 l t q) = bwdAt t (chan z w1 b1 f w2 b2 w3 l t) (Ideal.exp (-z (ix2 t (0 : Fin 33)) * r (ix1 q))) q := by
  unfold filters
  rw [fwd_apply, bwd_apply, window_apply]
  simp only [hid2_apply, hid1_apply]
  exact ⟨rfl, rfl⟩

end Ref

section Kernel
open Cert.KernelFIdeal Cert.KernelFIdeal.Gen

/-- The kernel's channels at a position. -/
theorem pay7_apply (v0 : Vec Ideal S2064x128 .f32) (v2 : Vec Ideal S1x1x64 .f32) (v4 : Vec Ideal S1x128x64 .f32) (v7 v14 : Vec Ideal S1x1x64 .f32) (v16 : Vec Ideal S1x64x64 .f32)
    (v19 : Vec Ideal S1x1x64 .f32) (v26 : Vec Ideal S1x64x1024 .f32) (t : Fin 2064) (c : Fin 1024) :
    k0_pay7 (F := Ideal) v0 v2 v4 v7 v14 v16 v19 v26 (ix2 t c) = net (fun k => v0 (ix2 t k)) (fun k j => v4 (ix3 (0 : Fin 1) k j)) (fun j => v7 (ix3 (0 : Fin 1) (0 : Fin 1) j))
      (fun j => v2 (ix3 (0 : Fin 1) (0 : Fin 1) j)) (fun k j => v16 (ix3 (0 : Fin 1) k j)) (fun j => v19 (ix3 (0 : Fin 1) (0 : Fin 1) j))
      (fun j => v14 (ix3 (0 : Fin 1) (0 : Fin 1) j)) (fun k c => v26 (ix3 (0 : Fin 1) k c)) c := by
  pointwise [k0_pay7, k0_pay6]
  rfl

/-- The kernel's negated first column. -/
theorem pay8_apply (v0 : Vec Ideal S2064x128 .f32) (t : Fin 2064) : k0_pay8 (F := Ideal) v0 (ix2 t (0 : Fin 1)) = -v0 (ix2 t (0 : Fin 128)) := by
  pointwise [k0_pay8, k0_pay6]
  exact zero_sub _

/-- The kernel's forward filter. -/
theorem pay2_apply (v28 : FVec Ideal S2064x1024 .f32) (v31 : FVec Ideal S2064x1 .f32) (v32 : Vec Ideal S1x512 .f32) (t : Fin 2064) (q : Fin 512) :
    k0_pay2 (F := Ideal) v28 v31 v32 (ix2 t q) = fwdAt (fun c => v28 (ix2 t c)) (Ideal.exp (v31 (ix2 t (0 : Fin 1)) * v32 (ix2 (0 : Fin 1) q))) q := by
  pointwise [k0_pay2, k0_pay1]
  rfl

/-- The kernel's backward filter. -/
theorem pay3_apply (v28 : FVec Ideal S2064x1024 .f32) (v31 : FVec Ideal S2064x1 .f32) (v32 : Vec Ideal S1x512 .f32) (t : Fin 2064) (q : Fin 512) :
    k0_pay3 (F := Ideal) v28 v31 v32 (ix2 t q) = bwdAt t (fun c => v28 (ix2 t c)) (Ideal.exp (v31 (ix2 t (0 : Fin 1)) * v32 (ix2 (0 : Fin 1) q))) q := by
  pointwise [k0_pay3, k0_pay1]
  rfl

/-- The stored sum. -/
theorem pay4_apply (v28 : FVec Ideal S2064x1024 .f32) (v31 : FVec Ideal S2064x1 .f32) (v32 : Vec Ideal S1x512 .f32) (t : Fin 2064) (q : Fin 512) :
    k0_pay4 (F := Ideal) v28 v31 v32 (ix3 (0 : Fin 1) t q) = k0_pay2 v28 v31 v32 (ix2 t q) + k0_pay3 v28 v31 v32 (ix2 t q) := by
  pointwise [k0_pay4]

/-- The stored difference. -/
theorem pay5_apply (v28 : FVec Ideal S2064x1024 .f32) (v31 : FVec Ideal S2064x1 .f32) (v32 : Vec Ideal S1x512 .f32) (t : Fin 2064) (q : Fin 512) :
    k0_pay5 (F := Ideal) v28 v31 v32 (ix3 (0 : Fin 1) t q) = k0_pay3 v28 v31 v32 (ix2 t q) - k0_pay2 v28 v31 v32 (ix2 t q) := by
  pointwise [k0_pay5]

/-- An array of three axes with its first rows of the second axis set. -/
theorem scatter_rows (x : FVec Ideal S4x128x64 .f32) (ix : IVec S1 32) (hix : (ix (ValueIdx.ix1 0)).toInt = 0) (v : FVec Ideal S4x33x64 .f32) (l : Fin 4) (k : Fin 128) (j : Fin 64) :
    Host.scatter scatter_S4x128x64_S1_S4x33x64_012_n_1_0 (fun _ b => b) x ix v (ValueIdx.ix3 l k j) = if h : k.val < 33 then v (ValueIdx.ix3 l ⟨k.val, h⟩ j) else x (ValueIdx.ix3 l k j) := by
  have st : ∀ y a, scatter_S4x128x64_S1_S4x33x64_012_n_1_0.start y ix a = 0 := by
    intro y a
    unfold ScatterDims.start
    split
    · refine (congrArg (fun i => (ix i).toInt) (funext fun b => ?_)).trans hix
      match b with
      | ⟨0, _⟩ => exact Subsingleton.elim (α := Fin 1) _ _
    · rfl
  have lands : ∀ y, scatter_S4x128x64_S1_S4x33x64_012_n_1_0.resultIdx? y ix = some (ValueIdx.ix3 l k j) ↔ (y 0).val = l.val ∧ (y 1).val = k.val ∧ (y 2).val = j.val := by
    intro y
    rw [Routing.resultIdx?_eq_some]
    simp only [st, zero_add, Int.natCast_inj]
    exact ⟨fun h => ⟨h 0, h 1, h 2⟩, fun h a => match a with | ⟨0, _⟩ => h.1 | ⟨1, _⟩ => h.2.1 | ⟨2, _⟩ => h.2.2⟩
  by_cases h : k.val < 33
  · rw [dif_pos h]
    refine Routing.scatter_set_hit _ x ix v _ _ (fun y hy => ?_) (ValueIdx.ix3 l ⟨k.val, h⟩ j) ((lands _).2 ⟨rfl, rfl, rfl⟩)
    obtain ⟨a, b, d⟩ := (lands y).1 hy
    refine congrArg v (funext fun a' => ?_)
    match a' with
    | ⟨0, _⟩ => exact Fin.ext a
    | ⟨1, _⟩ => exact Fin.ext b
    | ⟨2, _⟩ => exact Fin.ext d
  · rw [dif_neg h]
    refine Routing.scatter_set_miss _ x ix v _ fun y hy => h ?_
    obtain ⟨_, b, _⟩ := (lands y).1 hy
    have hy1 : (y 1).val < 33 := (y 1).isLt
    omega

/-- The positions' table as the kernel receives it. -/
def table (z : FVec Ideal S2064x33 .f32) : FVec Ideal S2064x128 .f32 :=
  Host.scatter scatter_S2064x128_S1_S2064x33_01_n_1_0 (fun _ b => b) (broadcastInDim S2064x128 ![] bcast_S_S2064x128 (constant (F := Ideal) S_ .f32 0x00000000#32))
    (broadcastInDim S1 ![] bcast_S_S1 (constantI S_ 32 0#32)) z

/-- The first layer's weights as the kernel receives them. -/
def weights (w : FVec Ideal S4x33x64 .f32) : FVec Ideal S4x128x64 .f32 :=
  Host.scatter scatter_S4x128x64_S1_S4x33x64_012_n_1_0 (fun _ b => b) (broadcastInDim S4x128x64 ![] bcast_S_S4x128x64 (constant (F := Ideal) S_ .f32 0x00000000#32))
    (broadcastInDim S1 ![] bcast_S_S1 (constantI S_ 32 0#32)) w

/-- The index of both writes is zero. -/
theorem at_zero : ((broadcastInDim S1 ![] bcast_S_S1 (constantI S_ 32 0#32) : IVec S1 32) (ValueIdx.ix1 (0 : Fin 1))).toInt = ((0 : Nat) : Int) := by
  rw [← ix1_eq_valueIdx]
  pointwise
  rfl

/-- The table the kernel receives is the positions' table, then zeros. -/
theorem table_apply (z : FVec Ideal S2064x33 .f32) (t : Fin 2064) (k : Fin 128) : table z (ix2 t k) = if h : k.val < 33 then z (ix2 t ⟨k.val, h⟩) else 0 := by
  unfold table
  simp only [ix2_eq_valueIdx]
  refine (OutProj.scatter_cols scatter_S2064x128_S1_S2064x33_01_n_1_0 rfl rfl rfl _ 0 at_zero _ _ t k).trans ?_
  by_cases h : k.val < 33
  · rw [dif_pos (by omega), dif_pos h]
    rfl
  · rw [dif_neg (by omega), dif_neg h]
    exact Ideal.ofBits_zero_f32

/-- The weights the kernel receives are the first layer's, then zeros. -/
theorem weights_apply (w : FVec Ideal S4x33x64 .f32) (l : Fin 4) (k : Fin 128) (j : Fin 64) :
    weights w (ix3 l k j) = if h : k.val < 33 then w (ix3 l ⟨k.val, h⟩ j) else 0 := by
  unfold weights
  simp only [ix3_eq_valueIdx]
  refine (scatter_rows _ _ at_zero w l k j).trans ?_
  by_cases h : k.val < 33
  · rw [dif_pos h, dif_pos h]
  · rw [dif_neg h, dif_neg h]
    exact Ideal.ofBits_zero_f32

/-- The negated first column of the table the kernel receives. -/
theorem neg_col (z : FVec Ideal S2064x33 .f32) (t : Fin 2064) : k0_pay8 (F := Ideal) (table z) (ix2 t (0 : Fin 1)) = -z (ix2 t (0 : Fin 33)) := by
  refine (pay8_apply _ t).trans ?_
  rw [table_apply]
  rfl

/-- The kernel's window, from the table and the rates. -/
theorem window_point (z : FVec Ideal S2064x33 .f32) (r : FVec Ideal S512 .f32) (x : Vec Ideal S1x512 .f32) (hx : ∀ q, x (ix2 (0 : Fin 1) q) = r (ix1 q)) (t : Fin 2064) (q : Fin 512) :
    Ideal.exp (k0_pay8 (F := Ideal) (table z) (ix2 t (0 : Fin 1)) * x (ix2 (0 : Fin 1) q)) = Ideal.exp (-z (ix2 t (0 : Fin 33)) * r (ix1 q)) := by
  rw [neg_col, hx]

/-- The zeros add nothing to the first hidden layer. -/
theorem hidden_pad (z : FVec Ideal S2064x33 .f32) (w : FVec Ideal S4x33x64 .f32) (l : Fin 4) (t : Fin 2064) (b f : Fin 64 → EReal) :
    hidden (fun k => table z (ix2 t k)) (fun k j => weights w (ix3 l k j)) b f = hidden (fun k => z (ix2 t k)) (fun k j => w (ix3 l k j)) b f := by
  funext j
  unfold hidden
  rw [← sum_pad]
  refine congrArg (fun s => Ideal.sin (f j * (s + b j))) (Finset.sum_congr rfl fun k _ => ?_)
  show table z (ix2 t k) * weights w (ix3 l k j) = _
  rw [table_apply, weights_apply]
  by_cases h : k.val < 33
  · rw [dif_pos h, dif_pos h, dif_pos h]
  · rw [dif_neg h, dif_neg h, dif_neg h, mul_zero]

/-- Which block of each array a grid point takes. -/
theorem idx : ∀ t : Fin cfg0.N, win0_0.index t = ![0, 0] ∧ win0_1.index t = ![0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val, 0, 0]
    ∧ win0_8.index t = ![t.val, 0, 0] ∧ win0_9.index t = ![t.val, 0, 0] :=
  (by decide +kernel : ∀ t : Fin grid0.N, _)

variable (m : (ℓ : Loc nD τ sig) → Buf (Elt Ideal) ℓ)

/-- The padded table is what the call receives. -/
theorem V_z (c : Dev nD) : V m c main_v2 = table (m ((c : Thread nD τ).loc main_arg0)) := by
  show StableHlo.after hostOps0 (fun b => m (c, b)) _ = _
  after_results <;> rfl
/-- The window's rates are what the call receives. -/
theorem V_r (c : Dev nD) : V m c main_v6 = shapeCast S1x512 (m ((c : Thread nD τ).loc main_arg1)) shapeCasts_S512_S1x512 := by
  show StableHlo.after hostOps0 (fun b => m (c, b)) _ = _
  after_results <;> rfl
/-- The padded weights are what the call receives. -/
theorem V_w (c : Dev nD) : V m c main_v5 = weights (m ((c : Thread nD τ).loc main_arg2)) := by
  show StableHlo.after hostOps0 (fun b => m (c, b)) _ = _
  after_results <;> rfl
/-- The first layer's biases are what the call receives. -/
theorem V_b1 (c : Dev nD) : V m c main_v7 = shapeCast S4x1x64 (m ((c : Thread nD τ).loc main_arg3)) shapeCasts_S4x64_S4x1x64 := by
  show StableHlo.after hostOps0 (fun b => m (c, b)) _ = _
  after_results <;> rfl
/-- The second layer's biases are what the call receives. -/
theorem V_b2 (c : Dev nD) : V m c main_v8 = shapeCast S4x1x64 (m ((c : Thread nD τ).loc main_arg6)) shapeCasts_S4x64_S4x1x64 := by
  show StableHlo.after hostOps0 (fun b => m (c, b)) _ = _
  after_results <;> rfl

/-- Every grid point takes the table whole. -/
theorem iblk_z (c : Dev nD) (t : Fin cfg0.N) : iblk m c 0 t = table (m ((c : Thread nD τ).loc main_arg0)) := by
  rw [← V_z]
  have h : ∀ W : Vec Ideal S2064x128 .f32, ((cfg0.win 0).blk t).view.read (Elt Ideal) W = W := fun W => by blk_ext! [idx t]
  exact h _
/-- Every grid point takes the rates whole. -/
theorem iblk_r (c : Dev nD) (t : Fin cfg0.N) (q : Fin 512) : (iblk m c 1 t : S1x512.Idx → EReal) (ix2 (0 : Fin 1) q) = (m ((c : Thread nD τ).loc main_arg1) : S512.Idx → EReal) (ix1 q) := by
  have h : ∀ W : Vec Ideal S1x512 .f32, ((cfg0.win 1).blk t).view.read (Elt Ideal) W = W := fun W => by blk_ext! [idx t]
  refine (congrFun ((h _).trans (V_r m c)) _).trans ?_
  generalize m ((c : Thread nD τ).loc main_arg1) = u
  pointwise
/-- A grid point takes its layer's first weights. -/
theorem iblk_w (c : Dev nD) (t : Fin cfg0.N) (l : Fin 4) (hl : l.val = t.val) (k : Fin 128) (j : Fin 64) :
    (iblk m c 2 t : S1x128x64.Idx → EReal) (ix3 (0 : Fin 1) k j) = weights (m ((c : Thread nD τ).loc main_arg2)) (ix3 l k j) := by
  rw [← V_w]
  have h : ∀ W : Vec Ideal S4x128x64 .f32, ((cfg0.win 2).blk t).view.read (Elt Ideal) W (ix3 (0 : Fin 1) k j) = W (ix3 l k j) := fun W => by blk_ext [idx t]
  exact h _
/-- A grid point takes its layer's first biases. -/
theorem iblk_b1 (c : Dev nD) (t : Fin cfg0.N) (l : Fin 4) (hl : l.val = t.val) (j : Fin 64) :
    (iblk m c 3 t : S1x1x64.Idx → EReal) (ix3 (0 : Fin 1) (0 : Fin 1) j) = (m ((c : Thread nD τ).loc main_arg3) : S4x64.Idx → EReal) (ix2 l j) := by
  have h : ∀ W : Vec Ideal S4x1x64 .f32, ((cfg0.win 3).blk t).view.read (Elt Ideal) W (ix3 (0 : Fin 1) (0 : Fin 1) j) = W (ix3 l (0 : Fin 1) j) := fun W => by blk_ext [idx t]
  refine (h _).trans ((congrFun (V_b1 m c) _).trans ?_)
  generalize m ((c : Thread nD τ).loc main_arg3) = u
  pointwise
/-- A grid point takes its layer's frequencies. -/
theorem iblk_f (c : Dev nD) (t : Fin cfg0.N) (l : Fin 4) (hl : l.val = t.val) (k : Fin 2) (j : Fin 64) :
    (iblk m c 4 t : S1x2x64.Idx → EReal) (ix3 (0 : Fin 1) k j) = (m ((c : Thread nD τ).loc main_arg4) : S4x2x64.Idx → EReal) (ix3 l k j) := by
  blk_ext [iblk, V, idx t]
/-- A grid point takes its layer's second weights. -/
theorem iblk_w2 (c : Dev nD) (t : Fin cfg0.N) (l : Fin 4) (hl : l.val = t.val) (k j : Fin 64) :
    (iblk m c 5 t : S1x64x64.Idx → EReal) (ix3 (0 : Fin 1) k j) = (m ((c : Thread nD τ).loc main_arg5) : S4x64x64.Idx → EReal) (ix3 l k j) := by
  blk_ext [iblk, V, idx t]
/-- A grid point takes its layer's second biases. -/
theorem iblk_b2 (c : Dev nD) (t : Fin cfg0.N) (l : Fin 4) (hl : l.val = t.val) (j : Fin 64) :
    (iblk m c 6 t : S1x1x64.Idx → EReal) (ix3 (0 : Fin 1) (0 : Fin 1) j) = (m ((c : Thread nD τ).loc main_arg6) : S4x64.Idx → EReal) (ix2 l j) := by
  have h : ∀ W : Vec Ideal S4x1x64 .f32, ((cfg0.win 6).blk t).view.read (Elt Ideal) W (ix3 (0 : Fin 1) (0 : Fin 1) j) = W (ix3 l (0 : Fin 1) j) := fun W => by blk_ext [idx t]
  refine (h _).trans ((congrFun (V_b2 m c) _).trans ?_)
  generalize m ((c : Thread nD τ).loc main_arg6) = u
  pointwise
/-- A grid point takes its layer's last weights. -/
theorem iblk_w3 (c : Dev nD) (t : Fin cfg0.N) (l : Fin 4) (hl : l.val = t.val) (k : Fin 64) (j : Fin 1024) :
    (iblk m c 7 t : S1x64x1024.Idx → EReal) (ix3 (0 : Fin 1) k j) = (m ((c : Thread nD τ).loc main_arg7) : S4x64x1024.Idx → EReal) (ix3 l k j) := by
  blk_ext [iblk, V, idx t]

/-- The loads of whole blocks leave the blocks. -/
theorem pays (x0 : Vec Ideal S2064x128 .f32) (x1 : Vec Ideal S1x512 .f32) (x2 : Vec Ideal S1x128x64 .f32) (x3 : Vec Ideal S1x1x64 .f32) (x4 : Vec Ideal S1x2x64 .f32)
    (x5 : Vec Ideal S1x64x64 .f32) (x6 : Vec Ideal S1x1x64 .f32) (x7 : Vec Ideal S1x64x1024 .f32) :
    k0_pay9 (F := Ideal) x0 x1 x2 x3 x4 x5 x6 x7 = k0_pay7 x0 (View.ld x4 r0_1) x2 x3 (View.ld x4 r0_4) x5 x6 x7 ∧ k0_pay10 (F := Ideal) x0 x1 x2 x3 x4 x5 x6 x7 = k0_pay8 x0 := by
  unfold k0_pay9 k0_pay10
  rw [View.ld_unit_lit _ x0 (by decide), View.ld_unit_lit _ x2 (by decide), View.ld_unit_lit _ x3 (by decide), View.ld_unit_lit _ x5 (by decide),
    View.ld_unit_lit _ x6 (by decide), View.ld_unit_lit _ x7 (by decide)]
  exact ⟨rfl, rfl⟩

/-- A layer's frequencies loaded, at a unit. -/
theorem ld_freq (x : Vec Ideal S1x2x64 .f32) (j : Fin 64) :
    (View.ld x r0_1 : S1x1x64.Idx → EReal) (ix3 (0 : Fin 1) (0 : Fin 1) j) = x (ix3 (0 : Fin 1) (0 : Fin 2) j)
      ∧ (View.ld x r0_4 : S1x1x64.Idx → EReal) (ix3 (0 : Fin 1) (0 : Fin 1) j) = x (ix3 (0 : Fin 1) (1 : Fin 2) j) := by
  constructor
  · pointwise
  · pointwise

/-- Both filters of the arguments in memory. -/
def outF (c : Dev nD) : FVec Ideal Cert.ReferenceFIdeal.S4x2064x2x512 .f32 :=
  filters (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- What a grid point computes of the two filters is the reference's, at its layer. -/
theorem point (c : Dev nD) (t : Fin cfg0.N) (l : Fin 4) (hl : l.val = t.val) (p : Fin 2064) (q : Fin 512) :
    k0_pay2 (F := Ideal) (k0_pay9 (iblk m c 0 t) (iblk m c 1 t) (iblk m c 2 t) (iblk m c 3 t) (iblk m c 4 t) (iblk m c 5 t) (iblk m c 6 t) (iblk m c 7 t))
        (k0_pay10 (iblk m c 0 t) (iblk m c 1 t) (iblk m c 2 t) (iblk m c 3 t) (iblk m c 4 t) (iblk m c 5 t) (iblk m c 6 t) (iblk m c 7 t)) (iblk m c 1 t) (ix2 p q)
      = fwd (outF m c) (ix3 l p q)
    ∧ k0_pay3 (F := Ideal) (k0_pay9 (iblk m c 0 t) (iblk m c 1 t) (iblk m c 2 t) (iblk m c 3 t) (iblk m c 4 t) (iblk m c 5 t) (iblk m c 6 t) (iblk m c 7 t))
        (k0_pay10 (iblk m c 0 t) (iblk m c 1 t) (iblk m c 2 t) (iblk m c 3 t) (iblk m c 4 t) (iblk m c 5 t) (iblk m c 6 t) (iblk m c 7 t)) (iblk m c 1 t) (ix2 p q)
      = bwd (outF m c) (ix3 l p q) := by
  obtain ⟨h9, h10⟩ := pays (iblk m c 0 t) (iblk m c 1 t) (iblk m c 2 t) (iblk m c 3 t) (iblk m c 4 t) (iblk m c 5 t) (iblk m c 6 t) (iblk m c 7 t)
  obtain ⟨hf, hb⟩ := filters_apply (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) l p q
  unfold outF
  rw [h9, h10, hf, hb]
  have hy : (fun x => k0_pay7 (F := Ideal) (iblk m c 0 t) (View.ld (iblk m c 4 t) r0_1) (iblk m c 2 t) (iblk m c 3 t) (View.ld (iblk m c 4 t) r0_4) (iblk m c 5 t) (iblk m c 6 t) (iblk m c 7 t) (ix2 p x))
      = chan (m ((c : Thread nD τ).loc main_arg0)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) l p := by
    funext x
    refine (pay7_apply _ _ _ _ _ _ _ _ p x).trans ?_
    unfold chan net
    rw [← hidden_pad]
    simp only [fun j => (ld_freq (iblk m c 4 t) j).1, fun j => (ld_freq (iblk m c 4 t) j).2, iblk_z, iblk_w m c t l hl, iblk_b1 m c t l hl, iblk_f m c t l hl,
      iblk_w2 m c t l hl, iblk_b2 m c t l hl, iblk_w3 m c t l hl]
  have he := (congrArg (fun v : Vec Ideal S2064x128 .f32 => Ideal.exp (k0_pay8 (F := Ideal) v (ix2 p (0 : Fin 1)) * (iblk m c 1 t : S1x512.Idx → EReal) (ix2 (0 : Fin 1) q))) (iblk_z m c t)).trans
    (window_point _ _ _ (iblk_r m c t) p q)
  exact ⟨(pay2_apply _ _ _ p q).trans (congrArg₂ (fun y e => fwdAt y e q) hy he), (pay3_apply _ _ _ p q).trans (congrArg₂ (fun y e => bwdAt p y e q) hy he)⟩

/-- The first result after the run: the sum of the two filters. -/
theorem final8 (c : Dev nD) : (dats m 0 c).arrAt 8 (cfgs 0).N = addf (fwd (outF m c)) (bwd (outF m c)) := by
  refine (dats m 0 c).arrAt_eq_of_covers 8 _ (by decide +kernel) fun t _ y => ?_
  blk_simp
  rw [after0_8]; frame_out
  obtain ⟨p, q, rfl⟩ : ∃ (p : Fin 2064) (q : Fin 512), y = ix3 (0 : Fin 1) p q := ⟨y 1, y 2, (eq_ix3 y).trans (congrArg (fun a => ix3 a (y 1) (y 2)) (Subsingleton.elim (α := Fin 1) _ _))⟩
  have he : ((cfg0.win 8).blk t).view.emb (ix3 (0 : Fin 1) p q) = ix3 (⟨t.val, t.isLt⟩ : Fin 4) p q := by
    blk_ext [idx t]
  obtain ⟨h2, h3⟩ := point m c t ⟨t.val, t.isLt⟩ rfl p q
  refine (pay4_apply _ _ _ p q).trans (Eq.trans ?_ (congrArg (addf (fwd (outF m c)) (bwd (outF m c))) he.symm))
  exact congrArg₂ (fun a b : EReal => a + b) h2 h3

/-- The second result after the run: the difference of the two filters. -/
theorem final9 (c : Dev nD) : (dats m 0 c).arrAt 9 (cfgs 0).N = subf (bwd (outF m c)) (fwd (outF m c)) := by
  refine (dats m 0 c).arrAt_eq_of_covers 9 _ (by decide +kernel) fun t _ y => ?_
  blk_simp
  rw [after0_9]; frame_out
  obtain ⟨p, q, rfl⟩ : ∃ (p : Fin 2064) (q : Fin 512), y = ix3 (0 : Fin 1) p q := ⟨y 1, y 2, (eq_ix3 y).trans (congrArg (fun a => ix3 a (y 1) (y 2)) (Subsingleton.elim (α := Fin 1) _ _))⟩
  have he : ((cfg0.win 9).blk t).view.emb (ix3 (0 : Fin 1) p q) = ix3 (⟨t.val, t.isLt⟩ : Fin 4) p q := by
    blk_ext [idx t]
  obtain ⟨h2, h3⟩ := point m c t ⟨t.val, t.isLt⟩ rfl p q
  refine (pay5_apply _ _ _ p q).trans (Eq.trans ?_ (congrArg (subf (bwd (outF m c)) (fwd (outF m c))) he.symm))
  exact congrArg₂ (fun a b : EReal => a - b) h3 h2

/-- The value claim of the filters. -/
theorem algebraic : Cert.algebraic_KernelFIdeal_ReferenceFIdeal := by
  intro m g m' g' _ hag
  refine ⟨fun c => addf (fwd (outF m c)) (bwd (outF m c)), fun c => subf (bwd (outF m c)) (fwd (outF m c)),
    (θ_run _ _ _).mono (fun r k c => ⟨(k c).1.trans (final8 m c), (k c).2.1.trans (final9 m c), (k c).2.2⟩)
      (Cert.KernelFIdeal.Value.run_blocks m g), ?_⟩
  refine (θ_run Cert.ReferenceFIdeal.defs _ _).mono (fun r k c => ⟨(k c).1.trans ?_, (k c).2.1.trans ?_, (k c).2.2⟩)
    (Cert.ReferenceFIdeal.Value.run m' g')
  all_goals
    obtain ⟨h0, h1, h2, h3, h4, h5, h6, h7⟩ := hag c
    unfold outF
    simp only [← h0, ← h1, ← h2, ← h3, ← h4, ← h5, ← h6, ← h7]
    rfl

end Kernel

end Cert.Proof.Filters
end
-- ==== Proof.lean ====
/-
  The claims about the experts' feed-forward, the three calls of the input projection, the output projection, the
  combination of the experts' rows, the norm of the embedded tokens, the routing and the long convolution's filters: the
  kernel programs and the references run, keep their arguments and end quiet, and over the extended reals a kernel's
  results are its reference's.

  The projections' claims are in Proof/InProjA.lean, InProjB.lean and InProjC.lean, and in Proof/OutProj.lean; that of
  the tokens' norm is in Proof/EmbedLn.lean, that of the filters in Proof/Filters.lean.

  The routing's claim is in Proof/Route.lean. Pick.lean says what the two greatest of four are; RouteRow.lean reads the
  kernel's row of the table from a token's logits, RouteRef.lean the reference's, and RouteSoft.lean has what a softmax
  of real numbers comes to.

  The experts' run is put together in Proof/Gather.lean (the row copies of one tile, issued and waited for in two
  loops), Closed.lean and Issue.lean (when a tile's copies are issued), Body.lean (the body at one grid point),
  Inv.lean (what is handed from a point to the next), Launch.lean (the run) and Value.lean (the result as a function
  of the arguments). Proof/Pre.lean reads the precondition and gives the frames; Ref.lean reads the reference at a row
  and a column; Algebraic.lean compares the two.

  The combination's run has the same parts, in Proof/CombGather.lean, CombIssue.lean, CombBody.lean, CombLaunch.lean
  and CombValue.lean, then CombPre.lean, CombRef.lean and CombAlgebraic.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ranges
public import proofs.«01_k».proof.Proof.Gen.KernelA.Frame
public import proofs.«01_k».proof.Proof.Gen.KernelAIdeal.Frame
public import proofs.«01_k».proof.Proof.Gen.KernelAIdeal.Value
public import proofs.«01_k».proof.Proof.Gen.ReferenceAIdeal
public import proofs.«01_k».proof.Proof.Gen.ReferenceAIdeal.Run
public import proofs.«01_k».proof.Proof.Gen.KernelB.Frame
public import proofs.«01_k».proof.Proof.Gen.KernelBIdeal.Frame
public import proofs.«01_k».proof.Proof.Gen.KernelBIdeal.Value
public import proofs.«01_k».proof.Proof.Gen.ReferenceBIdeal
public import proofs.«01_k».proof.Proof.Gen.ReferenceBIdeal.Run
public import proofs.«01_k».proof.Proof.Gen.KernelC.Frame
public import proofs.«01_k».proof.Proof.Gen.KernelCIdeal.Frame
public import proofs.«01_k».proof.Proof.Gen.KernelCIdeal.Value
public import proofs.«01_k».proof.Proof.Gen.ReferenceCIdeal
public import proofs.«01_k».proof.Proof.Gen.ReferenceCIdeal.Run
public import proofs.«01_k».proof.Proof.Gen.KernelO.Frame
public import proofs.«01_k».proof.Proof.Gen.KernelOIdeal.Frame
public import proofs.«01_k».proof.Proof.Gen.KernelOIdeal.Value
public import proofs.«01_k».proof.Proof.Gen.ReferenceOIdeal
public import proofs.«01_k».proof.Proof.Gen.ReferenceOIdeal.Run
public import proofs.«01_k».proof.Proof.Gen.KernelM
public import proofs.«01_k».proof.Proof.Gen.KernelMIdeal
public import proofs.«01_k».proof.Proof.Gen.KernelMIdeal.Launch
public import proofs.«01_k».proof.Proof.Gen.KernelMIdeal.Loops
public import proofs.«01_k».proof.Proof.Gen.ReferenceMIdeal
public import proofs.«01_k».proof.Proof.Gen.ReferenceMIdeal.Run
public import proofs.«01_k».proof.Proof.Gen.KernelN.Frame
public import proofs.«01_k».proof.Proof.Gen.KernelNIdeal.Frame
public import proofs.«01_k».proof.Proof.Gen.KernelNIdeal.Value
public import proofs.«01_k».proof.Proof.Gen.ReferenceNIdeal
public import proofs.«01_k».proof.Proof.Gen.ReferenceNIdeal.Run
public import proofs.«01_k».proof.Proof.Gen.KernelR.Frame
public import proofs.«01_k».proof.Proof.Gen.KernelRIdeal.Frame
public import proofs.«01_k».proof.Proof.Gen.KernelRIdeal.Value
public import proofs.«01_k».proof.Proof.Gen.ReferenceRIdeal
public import proofs.«01_k».proof.Proof.Gen.ReferenceRIdeal.Run
public import proofs.«01_k».proof.Proof.Gen.KernelF.Frame
public import proofs.«01_k».proof.Proof.Gen.KernelFIdeal.Frame
public import proofs.«01_k».proof.Proof.Gen.KernelFIdeal.Value
public import proofs.«01_k».proof.Proof.Gen.ReferenceFIdeal
public import proofs.«01_k».proof.Proof.Gen.ReferenceFIdeal.Run
public import proofs.«01_k».proof.Proof.Gen.Pre_places
public import proofs.«01_k».proof.Proof.Gen.Pre_finite
public import proofs.«01_k».proof.Proof.InProjA
public import proofs.«01_k».proof.Proof.InProjB
public import proofs.«01_k».proof.Proof.InProjC
public import proofs.«01_k».proof.Proof.OutProj
public import proofs.«01_k».proof.Proof.Algebraic
public import proofs.«01_k».proof.Proof.CombAlgebraic
public import proofs.«01_k».proof.Proof.EmbedLn
public import proofs.«01_k».proof.Proof.Route
public import proofs.«01_k».proof.Proof.Filters
public import Idealize.ShloMosaic.Adequacy
public import Idealize.ShloMosaic.Init

@[expose] public section

namespace Cert.Proof

open Idealize.ShloMosaic Idealize.SL.Sem

/-- The kernel at bits runs, keeps its arguments and ends with every counter at zero. -/
theorem frame_kernel : Cert.quiescent_Kernel := fun m g h => frame_bits m g h

/-- The same of the idealized kernel. -/
theorem frame_ideal : Cert.quiescent_KernelIdeal := fun m g h => frame_any (F := Ideal) m g h

/-- The reference is a straight-line host program and declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference of the first part of the input projection runs, keeps its arguments and ends quiet. -/
theorem frame_referenceA : Cert.quiescent_ReferenceAIdeal := fun m g _ =>
  (θ_run Cert.ReferenceAIdeal.defs _ _).mono (fun r h => ⟨fun c => (h c).2, sem_eq_zero_of_no_sems (by decide) r.2⟩)
    (Cert.ReferenceAIdeal.Value.run (F := Ideal) m g)

/-- The reference of the second part runs, keeps its arguments and ends quiet. -/
theorem frame_referenceB : Cert.quiescent_ReferenceBIdeal := fun m g _ =>
  (θ_run Cert.ReferenceBIdeal.defs _ _).mono (fun r h => ⟨fun c => (h c).2, sem_eq_zero_of_no_sems (by decide) r.2⟩)
    (Cert.ReferenceBIdeal.Value.run (F := Ideal) m g)

/-- The reference of the third part runs, keeps its arguments and ends quiet. -/
theorem frame_referenceC : Cert.quiescent_ReferenceCIdeal := fun m g _ =>
  (θ_run Cert.ReferenceCIdeal.defs _ _).mono (fun r h => ⟨fun c => (h c).2, sem_eq_zero_of_no_sems (by decide) r.2⟩)
    (Cert.ReferenceCIdeal.Value.run (F := Ideal) m g)

/-- The reference of the output projection runs, keeps its arguments and ends quiet. -/
theorem frame_referenceO : Cert.quiescent_ReferenceOIdeal := fun m g _ =>
  (θ_run Cert.ReferenceOIdeal.defs _ _).mono (fun r h => ⟨fun c => (h c).2.2.2, sem_eq_zero_of_no_sems (by decide) r.2⟩)
    (Cert.ReferenceOIdeal.Value.run (F := Ideal) m g)

/-- The combination at bits runs, keeps its arguments and ends with every counter at zero. -/
theorem frame_kernelM : Cert.quiescent_KernelM := fun m g h => Comb.frame_bits m g h

/-- The same of the idealized combination. -/
theorem frame_idealM : Cert.quiescent_KernelMIdeal := fun m g h => Comb.frame_any (F := Ideal) m g h

/-- The reference of the combination runs, keeps its arguments and ends quiet. -/
theorem frame_referenceM : Cert.quiescent_ReferenceMIdeal := fun m g _ =>
  (θ_run Cert.ReferenceMIdeal.defs _ _).mono (fun r h => ⟨fun c => (h c).2.2, sem_eq_zero_of_no_sems (by decide) r.2⟩)
    (Cert.ReferenceMIdeal.Value.run (F := Ideal) m g)

/-- The reference of the norm of the tokens runs, keeps its arguments and ends quiet. -/
theorem frame_referenceN : Cert.quiescent_ReferenceNIdeal := fun m g _ =>
  (θ_run Cert.ReferenceNIdeal.defs _ _).mono (fun r h => ⟨fun c => (h c).2.2, sem_eq_zero_of_no_sems (by decide) r.2⟩)
    (Cert.ReferenceNIdeal.Value.run (F := Ideal) m g)

/-- The reference of the routing runs, keeps its arguments and ends quiet. -/
theorem frame_referenceR : Cert.quiescent_ReferenceRIdeal := fun m g _ =>
  (θ_run Cert.ReferenceRIdeal.defs _ _).mono (fun r h => ⟨fun c => (h c).2, sem_eq_zero_of_no_sems (by decide) r.2⟩)
    (Cert.ReferenceRIdeal.Value.run (F := Ideal) m g)

/-- The reference of the filters runs, keeps its arguments and ends quiet. -/
theorem frame_referenceF : Cert.quiescent_ReferenceFIdeal := fun m g _ =>
  (θ_run Cert.ReferenceFIdeal.defs _ _).mono (fun r h => ⟨fun c => (h c).2.2, sem_eq_zero_of_no_sems (by decide) r.2⟩)
    (Cert.ReferenceFIdeal.Value.run (F := Ideal) m g)

/-- All the claims, with the programs' stated facts. -/
theorem claim : Cert.Claim := ⟨Cert.Kernel.Gen.facts, Cert.KernelIdeal.Gen.facts, Cert.ReferenceIdeal.Gen.facts,
  Cert.KernelA.Gen.facts, Cert.KernelAIdeal.Gen.facts, Cert.ReferenceAIdeal.Gen.facts,
  Cert.KernelB.Gen.facts, Cert.KernelBIdeal.Gen.facts, Cert.ReferenceBIdeal.Gen.facts,
  Cert.KernelC.Gen.facts, Cert.KernelCIdeal.Gen.facts, Cert.ReferenceCIdeal.Gen.facts,
  Cert.KernelO.Gen.facts, Cert.KernelOIdeal.Gen.facts, Cert.ReferenceOIdeal.Gen.facts,
  Cert.KernelM.Gen.facts, Cert.KernelMIdeal.Gen.facts, Cert.ReferenceMIdeal.Gen.facts,
  Cert.KernelN.Gen.facts, Cert.KernelNIdeal.Gen.facts, Cert.ReferenceNIdeal.Gen.facts,
  Cert.KernelR.Gen.facts, Cert.KernelRIdeal.Gen.facts, Cert.ReferenceRIdeal.Gen.facts,
  Cert.KernelF.Gen.facts, Cert.KernelFIdeal.Gen.facts, Cert.ReferenceFIdeal.Gen.facts,
  Cert.Pre_ranges.Gen.facts, Cert.Pre_places.Gen.facts, Cert.Pre_finite.Gen.facts,
  frame_kernel, frame_ideal, frame_reference, fun m g _ => frame_reference m g trivial,
  fun m g _ => Cert.KernelA.Gen.frame m g, fun m g _ => Cert.KernelAIdeal.Gen.frame m g, frame_referenceA,
  fun m g _ => Cert.KernelB.Gen.frame m g, fun m g _ => Cert.KernelBIdeal.Gen.frame m g, frame_referenceB,
  fun m g _ => Cert.KernelC.Gen.frame m g, fun m g _ => Cert.KernelCIdeal.Gen.frame m g, frame_referenceC,
  fun m g _ => Cert.KernelO.Gen.frame m g, fun m g _ => Cert.KernelOIdeal.Gen.frame m g, frame_referenceO,
  frame_kernelM, frame_idealM, frame_referenceM, fun m g _ => frame_referenceM m g trivial,
  fun m g _ => Cert.KernelN.Gen.frame m g, fun m g _ => Cert.KernelNIdeal.Gen.frame m g, frame_referenceN,
  fun m g _ => Cert.KernelR.Gen.frame m g, fun m g _ => Cert.KernelRIdeal.Gen.frame m g, fun m g _ => Cert.KernelRIdeal.Gen.frame m g,
  frame_referenceR, fun m g _ => frame_referenceR m g trivial,
  fun m g _ => Cert.KernelF.Gen.frame m g, fun m g _ => Cert.KernelFIdeal.Gen.frame m g, frame_referenceF,
  trivial, algebraic, trivial, InProjA.algebraic, trivial, InProjB.algebraic, trivial, InProjC.algebraic, trivial, OutProj.algebraic,
  trivial, Comb.algebraic, trivial, EmbedLn.algebraic,
  IdealRules.named_const.statement Cert.KernelRIdeal.κ "mask" .f32 0xF149F2CA#32 ⊥ rfl, Route.algebraic,
  trivial, Filters.algebraic⟩

end Cert.Proof

end
